-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def Pre_GdnSample (m : (ℓ : Loc Cert.GdnSample.nD Cert.GdnSample.τ Cert.GdnSample.sig) → Buf (Elt Bits) ℓ) : Prop :=
  True

def Pre_GdnSampleIdeal (m : (ℓ : Loc Cert.GdnSampleIdeal.nD Cert.GdnSampleIdeal.τ Cert.GdnSampleIdeal.sig) → Buf (Elt Ideal) ℓ) : Prop :=
  True

def Pre_GdnSampleReferenceIdeal (m : (ℓ : Loc Cert.GdnSampleReferenceIdeal.nD Cert.GdnSampleReferenceIdeal.τ Cert.GdnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4)
      ∧ r.2.mem ((c.tc : Thread Cert.InprojSample.nD Cert.InprojSample.τ).loc Cert.InprojSample.main_arg5) = m ((c.tc : Thread Cert.InprojSample.nD Cert.InprojSample.τ).loc Cert.InprojSample.main_arg5)
      ∧ r.2.mem ((c.tc : Thread Cert.InprojSample.nD Cert.InprojSample.τ).loc Cert.InprojSample.main_arg6) = m ((c.tc : Thread Cert.InprojSample.nD Cert.InprojSample.τ).loc Cert.InprojSample.main_arg6))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
      ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
      ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4)
      ∧ r.2.mem ((c.tc : Thread Cert.InprojSampleReferenceIdeal.nD Cert.InprojSampleReferenceIdeal.τ).loc Cert.InprojSampleReferenceIdeal.main_arg5) = m ((c.tc : Thread Cert.InprojSampleReferenceIdeal.nD Cert.InprojSampleReferenceIdeal.τ).loc Cert.InprojSampleReferenceIdeal.main_arg5)
      ∧ r.2.mem ((c.tc : Thread Cert.InprojSampleReferenceIdeal.nD Cert.InprojSampleReferenceIdeal.τ).loc Cert.InprojSampleReferenceIdeal.main_arg6) = m ((c.tc : Thread Cert.InprojSampleReferenceIdeal.nD Cert.InprojSampleReferenceIdeal.τ).loc Cert.InprojSampleReferenceIdeal.main_arg6))
      ∧ r.2.sem = fun _ => 0)

def quiescent_GdnSample [hGdnSample : Cert.GdnSample.Facts] : Prop :=
  ∀ (m : (ℓ : Loc Cert.GdnSample.nD Cert.GdnSample.τ Cert.GdnSample.sig) → Buf (Elt Bits) ℓ) (g : Dev Cert.GdnSample.nD → PrngReg), Pre_GdnSample m →
    θ_run (Cert.GdnSample.defs (F := Bits)) (onTc (τ := Cert.GdnSample.τ) (Cert.GdnSample.main (F := Bits))) ⟨m, fun _ => 0, g⟩ (fun r => (∀ c : Dev Cert.GdnSample.nD,
      r.2.mem ((c.tc : Thread Cert.GdnSample.nD Cert.GdnSample.τ).loc Cert.GdnSample.main_arg0) = m ((c.tc : Thread Cert.GdnSample.nD Cert.GdnSample.τ).loc Cert.GdnSample.main_arg0)
      ∧ r.2.mem ((c.tc : Thread Cert.GdnSample.nD Cert.GdnSample.τ).loc Cert.GdnSample.main_arg1) = m ((c.tc : Thread Cert.GdnSample.nD Cert.GdnSample.τ).loc Cert.GdnSample.main_arg1)
      ∧ r.2.mem ((c.tc : Thread Cert.GdnSample.nD Cert.GdnSample.τ).loc Cert.GdnSample.main_arg2) = m ((c.tc : Thread Cert.GdnSample.nD Cert.GdnSample.τ).loc Cert.GdnSample.main_arg2)
      ∧ r.2.mem ((c.tc : Thread Cert.GdnSample.nD Cert.GdnSample.τ).loc Cert.GdnSample.main_arg3) = m ((c.tc : Thread Cert.GdnSample.nD Cert.GdnSample.τ).loc Cert.GdnSample.main_arg3)
      ∧ r.2.mem ((c.tc : Thread Cert.GdnSample.nD Cert.GdnSample.τ).loc Cert.GdnSample.main_arg4) = m ((c.tc : Thread Cert.GdnSample.nD Cert.GdnSample.τ).loc Cert.GdnSample.main_arg4)
      ∧ r.2.mem ((c.tc : Thread Cert.GdnSample.nD Cert.GdnSample.τ).loc Cert.GdnSample.main_arg5) = m ((c.tc : Thread Cert.GdnSample.nD Cert.GdnSample.τ).loc Cert.GdnSample.main_arg5)
      ∧ r.2.mem ((c.tc : Thread Cert.GdnSample.nD Cert.GdnSample.τ).loc Cert.GdnSample.main_arg6) = m ((c.tc : Thread Cert.GdnSample.nD Cert.GdnSample.τ).loc Cert.GdnSample.main_arg6)
      ∧ r.2.mem ((c.tc : Thread Cert.GdnSample.nD Cert.GdnSample.τ).loc Cert.GdnSample.main_arg7) = m ((c.tc : Thread Cert.GdnSample.nD Cert.GdnSample.τ).loc Cert.GdnSample.main_arg7)
      ∧ r.2.mem ((c.tc : Thread Cert.GdnSample.nD Cert.GdnSample.τ).loc Cert.GdnSample.main_arg8) = m ((c.tc : Thread Cert.GdnSample.nD Cert.GdnSample.τ).loc Cert.GdnSample.main_arg8))
      ∧ r.2.sem = fun _ => 0)

def quiescent_GdnSampleIdeal [hGdnSampleIdeal : Cert.GdnSampleIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg), Pre_GdnSampleIdeal m →
    θ_run (Cert.GdnSampleIdeal.defs (F := Ideal)) (onTc (τ := Cert.GdnSampleIdeal.τ) (Cert.GdnSampleIdeal.main (F := Ideal))) ⟨m, fun _ => 0, g⟩ (fun r => (∀ c : Dev Cert.GdnSampleIdeal.nD,
      r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
      ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
      ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2)
      ∧ r.2.mem ((c.tc : Thread Cert.GdnSampleIdeal.nD Cert.GdnSampleIdeal.τ).loc Cert.GdnSampleIdeal.main_arg3) = m ((c.tc : Thread Cert.GdnSampleIdeal.nD Cert.GdnSampleIdeal.τ).loc Cert.GdnSampleIdeal.main_arg3)
      ∧ r.2.mem ((c.tc : Thread Cert.GdnSampleIdeal.nD Cert.GdnSampleIdeal.τ).loc Cert.GdnSampleIdeal.main_arg4) = m ((c.tc : Thread Cert.GdnSampleIdeal.nD Cert.GdnSampleIdeal.τ).loc Cert.GdnSampleIdeal.main_arg4)
      ∧ r.2.mem ((c.tc : Thread Cert.GdnSampleIdeal.nD Cert.GdnSampleIdeal.τ).loc Cert.GdnSampleIdeal.main_arg5) = m ((c.tc : Thread Cert.GdnSampleIdeal.nD Cert.GdnSampleIdeal.τ).loc Cert.GdnSampleIdeal.main_arg5)
      ∧ r.2.mem ((c.tc : Thread Cert.GdnSampleIdeal.nD Cert.GdnSampleIdeal.τ).loc Cert.GdnSampleIdeal.main_arg6) = m ((c.tc : Thread Cert.GdnSampleIdeal.nD Cert.GdnSampleIdeal.τ).loc Cert.GdnSampleIdeal.main_arg6)
      ∧ r.2.mem ((c.tc : Thread Cert.GdnSampleIdeal.nD Cert.GdnSampleIdeal.τ).loc Cert.GdnSampleIdeal.main_arg7) = m ((c.tc : Thread Cert.GdnSampleIdeal.nD Cert.GdnSampleIdeal.τ).loc Cert.GdnSampleIdeal.main_arg7)
      ∧ r.2.mem ((c.tc : Thread Cert.GdnSampleIdeal.nD Cert.GdnSampleIdeal.τ).loc Cert.GdnSampleIdeal.main_arg8) = m ((c.tc : Thread Cert.GdnSampleIdeal.nD Cert.GdnSampleIdeal.τ).loc Cert.GdnSampleIdeal.main_arg8))
      ∧ r.2.sem = fun _ => 0)

def quiescent_GdnSampleReferenceIdeal [hGdnSampleReferenceIdeal : Cert.GdnSampleReferenceIdeal.Facts] : Prop :=
  ∀ (m : (ℓ : Loc Cert.GdnSampleReferenceIdeal.nD Cert.GdnSampleReferenceIdeal.τ Cert.GdnSampleReferenceIdeal.sig) → Buf (Elt Ideal) ℓ) (g : Dev Cert.GdnSampleReferenceIdeal.nD → PrngReg), Pre_GdnSampleReferenceIdeal m →
    θ_run (Cert.GdnSampleReferenceIdeal.defs (F := Ideal)) (onTc (τ := Cert.GdnSampleReferenceIdeal.τ) (Cert.GdnSampleReferenceIdeal.main (F := Ideal))) ⟨m, fun _ => 0, g⟩ (fun r => (∀ c : Dev Cert.GdnSampleReferenceIdeal.nD,
      r.2.mem ((c.tc : Thread Cert.GdnSampleReferenceIdeal.nD Cert.GdnSampleReferenceIdeal.τ).loc Cert.GdnSampleReferenceIdeal.main_arg0) = m ((c.tc : Thread Cert.GdnSampleReferenceIdeal.nD Cert.GdnSampleReferenceIdeal.τ).loc Cert.GdnSampleReferenceIdeal.main_arg0)
      ∧ r.2.mem ((c.tc : Thread Cert.GdnSampleReferenceIdeal.nD Cert.GdnSampleReferenceIdeal.τ).loc Cert.GdnSampleReferenceIdeal.main_arg1) = m ((c.tc : Thread Cert.GdnSampleReferenceIdeal.nD Cert.GdnSampleReferenceIdeal.τ).loc Cert.GdnSampleReferenceIdeal.main_arg1)
      ∧ r.2.mem ((c.tc : Thread Cert.GdnSampleReferenceIdeal.nD Cert.GdnSampleReferenceIdeal.τ).loc Cert.GdnSampleReferenceIdeal.main_arg2) = m ((c.tc : Thread Cert.GdnSampleReferenceIdeal.nD Cert.GdnSampleReferenceIdeal.τ).loc Cert.GdnSampleReferenceIdeal.main_arg2)
      ∧ r.2.mem ((c.tc : Thread Cert.GdnSampleReferenceIdeal.nD Cert.GdnSampleReferenceIdeal.τ).loc Cert.GdnSampleReferenceIdeal.main_arg3) = m ((c.tc : Thread Cert.GdnSampleReferenceIdeal.nD Cert.GdnSampleReferenceIdeal.τ).loc Cert.GdnSampleReferenceIdeal.main_arg3)
      ∧ r.2.mem ((c.tc : Thread Cert.GdnSampleReferenceIdeal.nD Cert.GdnSampleReferenceIdeal.τ).loc Cert.GdnSampleReferenceIdeal.main_arg4) = m ((c.tc : Thread Cert.GdnSampleReferenceIdeal.nD Cert.GdnSampleReferenceIdeal.τ).loc Cert.GdnSampleReferenceIdeal.main_arg4)
      ∧ r.2.mem ((c.tc : Thread Cert.GdnSampleReferenceIdeal.nD Cert.GdnSampleReferenceIdeal.τ).loc Cert.GdnSampleReferenceIdeal.main_arg5) = m ((c.tc : Thread Cert.GdnSampleReferenceIdeal.nD Cert.GdnSampleReferenceIdeal.τ).loc Cert.GdnSampleReferenceIdeal.main_arg5)
      ∧ r.2.mem ((c.tc : Thread Cert.GdnSampleReferenceIdeal.nD Cert.GdnSampleReferenceIdeal.τ).loc Cert.GdnSampleReferenceIdeal.main_arg6) = m ((c.tc : Thread Cert.GdnSampleReferenceIdeal.nD Cert.GdnSampleReferenceIdeal.τ).loc Cert.GdnSampleReferenceIdeal.main_arg6)
      ∧ r.2.mem ((c.tc : Thread Cert.GdnSampleReferenceIdeal.nD Cert.GdnSampleReferenceIdeal.τ).loc Cert.GdnSampleReferenceIdeal.main_arg7) = m ((c.tc : Thread Cert.GdnSampleReferenceIdeal.nD Cert.GdnSampleReferenceIdeal.τ).loc Cert.GdnSampleReferenceIdeal.main_arg7)
      ∧ r.2.mem ((c.tc : Thread Cert.GdnSampleReferenceIdeal.nD Cert.GdnSampleReferenceIdeal.τ).loc Cert.GdnSampleReferenceIdeal.main_arg8) = m ((c.tc : Thread Cert.GdnSampleReferenceIdeal.nD Cert.GdnSampleReferenceIdeal.τ).loc Cert.GdnSampleReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v18_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)) (v6 : (c : Dev Cert.InprojIdeal.nD) → Buf (Elt Ideal) ((c.tc : Thread Cert.InprojIdeal.nD Cert.InprojIdeal.τ).loc Cert.InprojIdeal.main_v0_6)) (v7 : (c : Dev Cert.InprojIdeal.nD) → Buf (Elt Ideal) ((c.tc : Thread Cert.InprojIdeal.nD Cert.InprojIdeal.τ).loc Cert.InprojIdeal.main_v0_7)) (v8 : (c : Dev Cert.InprojIdeal.nD) → Buf (Elt Ideal) ((c.tc : Thread Cert.InprojIdeal.nD Cert.InprojIdeal.τ).loc Cert.InprojIdeal.main_v0_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_v0_6) = v6 c
          ∧ r.2.mem ((c.tc : Thread Cert.InprojIdeal.nD Cert.InprojIdeal.τ).loc Cert.InprojIdeal.main_v0_7) = v7 c
          ∧ r.2.mem ((c.tc : Thread Cert.InprojIdeal.nD Cert.InprojIdeal.τ).loc Cert.InprojIdeal.main_v0_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v86) = v0 c
          ∧ r.2.mem ((c.tc : Thread Cert.InprojReferenceIdeal.nD Cert.InprojReferenceIdeal.τ).loc Cert.InprojReferenceIdeal.main_v87) = v1 c
          ∧ r.2.mem ((c.tc : Thread Cert.InprojReferenceIdeal.nD Cert.InprojReferenceIdeal.τ).loc Cert.InprojReferenceIdeal.main_v88) = v2 c
          ∧ r.2.mem ((c.tc : Thread Cert.InprojReferenceIdeal.nD Cert.InprojReferenceIdeal.τ).loc Cert.InprojReferenceIdeal.main_v89) = v3 c
          ∧ r.2.mem ((c.tc : Thread Cert.InprojReferenceIdeal.nD Cert.InprojReferenceIdeal.τ).loc Cert.InprojReferenceIdeal.main_v90) = v4 c
          ∧ r.2.mem ((c.tc : Thread Cert.InprojReferenceIdeal.nD Cert.InprojReferenceIdeal.τ).loc Cert.InprojReferenceIdeal.main_v92) = v5 c
          ∧ r.2.mem ((c.tc : Thread Cert.InprojReferenceIdeal.nD Cert.InprojReferenceIdeal.τ).loc Cert.InprojReferenceIdeal.main_v27) = v6 c
          ∧ r.2.mem ((c.tc : Thread Cert.InprojReferenceIdeal.nD Cert.InprojReferenceIdeal.τ).loc Cert.InprojReferenceIdeal.main_v25) = v7 c
          ∧ r.2.mem ((c.tc : Thread Cert.InprojReferenceIdeal.nD Cert.InprojReferenceIdeal.τ).loc Cert.InprojReferenceIdeal.main_v26) = v8 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v19) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)
      ∧ m' ((c.tc : Thread Cert.MemReferenceIdeal.nD Cert.MemReferenceIdeal.τ).loc Cert.MemReferenceIdeal.main_arg4) = m ((c.tc : Thread Cert.MemIdeal.nD Cert.MemIdeal.τ).loc Cert.MemIdeal.main_arg4)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v59) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v17) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)) →
    ∃ (v0 : (c : Dev Cert.FfnSampleIdeal.nD) → Buf (Elt Ideal) ((c.tc : Thread Cert.FfnSampleIdeal.nD Cert.FfnSampleIdeal.τ).loc Cert.FfnSampleIdeal.main_v0)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v0) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v42) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3))

def preserves_InprojSample_InprojSampleIdeal : Prop :=
  True

def algebraic_InprojSampleIdeal_InprojSampleReferenceIdeal [hInprojSampleIdeal : Cert.InprojSampleIdeal.Facts] [hInprojSampleReferenceIdeal : Cert.InprojSampleReferenceIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)
      ∧ m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)
      ∧ m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)
      ∧ m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)
      ∧ m' ((c.tc : Thread Cert.InprojSampleReferenceIdeal.nD Cert.InprojSampleReferenceIdeal.τ).loc Cert.InprojSampleReferenceIdeal.main_arg6) = m ((c.tc : Thread Cert.InprojSampleIdeal.nD Cert.InprojSampleIdeal.τ).loc Cert.InprojSampleIdeal.main_arg6)) →
    ∃ (v0 : (c : Dev Cert.InprojSampleIdeal.nD) → Buf (Elt Ideal) ((c.tc : Thread Cert.InprojSampleIdeal.nD Cert.InprojSampleIdeal.τ).loc Cert.InprojSampleIdeal.main_v0_0)) (v1 : (c : Dev Cert.InprojSampleIdeal.nD) → Buf (Elt Ideal) ((c.tc : Thread Cert.InprojSampleIdeal.nD Cert.InprojSampleIdeal.τ).loc Cert.InprojSampleIdeal.main_v0_1)) (v2 : (c : Dev Cert.InprojSampleIdeal.nD) → Buf (Elt Ideal) ((c.tc : Thread Cert.InprojSampleIdeal.nD Cert.InprojSampleIdeal.τ).loc Cert.InprojSampleIdeal.main_v0_2)) (v3 : (c : Dev Cert.InprojSampleIdeal.nD) → Buf (Elt Ideal) ((c.tc : Thread Cert.InprojSampleIdeal.nD Cert.InprojSampleIdeal.τ).loc Cert.InprojSampleIdeal.main_v0_3)) (v4 : (c : Dev Cert.InprojSampleIdeal.nD) → Buf (Elt Ideal) ((c.tc : Thread Cert.InprojSampleIdeal.nD Cert.InprojSampleIdeal.τ).loc Cert.InprojSampleIdeal.main_v0_4)) (v5 : (c : Dev Cert.InprojSampleIdeal.nD) → Buf (Elt Ideal) ((c.tc : Thread Cert.InprojSampleIdeal.nD Cert.InprojSampleIdeal.τ).loc Cert.InprojSampleIdeal.main_v0_5)) (v6 : (c : Dev Cert.InprojSampleIdeal.nD) → Buf (Elt Ideal) ((c.tc : Thread Cert.InprojSampleIdeal.nD Cert.InprojSampleIdeal.τ).loc Cert.InprojSampleIdeal.main_v0_6)) (v7 : (c : Dev Cert.InprojSampleIdeal.nD) → Buf (Elt Ideal) ((c.tc : Thread Cert.InprojSampleIdeal.nD Cert.InprojSampleIdeal.τ).loc Cert.InprojSampleIdeal.main_v0_7)) (v8 : (c : Dev Cert.InprojSampleIdeal.nD) → Buf (Elt Ideal) ((c.tc : Thread Cert.InprojSampleIdeal.nD Cert.InprojSampleIdeal.τ).loc Cert.InprojSampleIdeal.main_v0_8)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v0_0) = v0 c
          ∧ r.2.mem ((c.tc : Thread Cert.InprojSampleIdeal.nD Cert.InprojSampleIdeal.τ).loc Cert.InprojSampleIdeal.main_v0_1) = v1 c
          ∧ r.2.mem ((c.tc : Thread Cert.InprojSampleIdeal.nD Cert.InprojSampleIdeal.τ).loc Cert.InprojSampleIdeal.main_v0_2) = v2 c
          ∧ r.2.mem ((c.tc : Thread Cert.InprojSampleIdeal.nD Cert.InprojSampleIdeal.τ).loc Cert.InprojSampleIdeal.main_v0_3) = v3 c
          ∧ r.2.mem ((c.tc : Thread Cert.InprojSampleIdeal.nD Cert.InprojSampleIdeal.τ).loc Cert.InprojSampleIdeal.main_v0_4) = v4 c
          ∧ r.2.mem ((c.tc : Thread Cert.InprojSampleIdeal.nD Cert.InprojSampleIdeal.τ).loc Cert.InprojSampleIdeal.main_v0_5) = v5 c
          ∧ r.2.mem ((c.tc : Thread Cert.InprojSampleIdeal.nD Cert.InprojSampleIdeal.τ).loc Cert.InprojSampleIdeal.main_v0_6) = v6 c
          ∧ r.2.mem ((c.tc : Thread Cert.InprojSampleIdeal.nD Cert.InprojSampleIdeal.τ).loc Cert.InprojSampleIdeal.main_v0_7) = v7 c
          ∧ r.2.mem ((c.tc : Thread Cert.InprojSampleIdeal.nD Cert.InprojSampleIdeal.τ).loc Cert.InprojSampleIdeal.main_v0_8) = v8 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
          ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
          ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v86) = v0 c
          ∧ r.2.mem ((c.tc : Thread Cert.InprojSampleReferenceIdeal.nD Cert.InprojSampleReferenceIdeal.τ).loc Cert.InprojSampleReferenceIdeal.main_v87) = v1 c
          ∧ r.2.mem ((c.tc : Thread Cert.InprojSampleReferenceIdeal.nD Cert.InprojSampleReferenceIdeal.τ).loc Cert.InprojSampleReferenceIdeal.main_v88) = v2 c
          ∧ r.2.mem ((c.tc : Thread Cert.InprojSampleReferenceIdeal.nD Cert.InprojSampleReferenceIdeal.τ).loc Cert.InprojSampleReferenceIdeal.main_v89) = v3 c
          ∧ r.2.mem ((c.tc : Thread Cert.InprojSampleReferenceIdeal.nD Cert.InprojSampleReferenceIdeal.τ).loc Cert.InprojSampleReferenceIdeal.main_v90) = v4 c
          ∧ r.2.mem ((c.tc : Thread Cert.InprojSampleReferenceIdeal.nD Cert.InprojSampleReferenceIdeal.τ).loc Cert.InprojSampleReferenceIdeal.main_v92) = v5 c
          ∧ r.2.mem ((c.tc : Thread Cert.InprojSampleReferenceIdeal.nD Cert.InprojSampleReferenceIdeal.τ).loc Cert.InprojSampleReferenceIdeal.main_v27) = v6 c
          ∧ r.2.mem ((c.tc : Thread Cert.InprojSampleReferenceIdeal.nD Cert.InprojSampleReferenceIdeal.τ).loc Cert.InprojSampleReferenceIdeal.main_v25) = v7 c
          ∧ r.2.mem ((c.tc : Thread Cert.InprojSampleReferenceIdeal.nD Cert.InprojSampleReferenceIdeal.τ).loc Cert.InprojSampleReferenceIdeal.main_v26) = v8 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2)
          ∧ r.2.mem ((c.tc : Thread Cert.InprojSampleReferenceIdeal.nD Cert.InprojSampleReferenceIdeal.τ).loc Cert.InprojSampleReferenceIdeal.main_arg3) = m' ((c.tc : Thread Cert.InprojSampleReferenceIdeal.nD Cert.InprojSampleReferenceIdeal.τ).loc Cert.InprojSampleReferenceIdeal.main_arg3)
          ∧ r.2.mem ((c.tc : Thread Cert.InprojSampleReferenceIdeal.nD Cert.InprojSampleReferenceIdeal.τ).loc Cert.InprojSampleReferenceIdeal.main_arg4) = m' ((c.tc : Thread Cert.InprojSampleReferenceIdeal.nD Cert.InprojSampleReferenceIdeal.τ).loc Cert.InprojSampleReferenceIdeal.main_arg4)
          ∧ r.2.mem ((c.tc : Thread Cert.InprojSampleReferenceIdeal.nD Cert.InprojSampleReferenceIdeal.τ).loc Cert.InprojSampleReferenceIdeal.main_arg5) = m' ((c.tc : Thread Cert.InprojSampleReferenceIdeal.nD Cert.InprojSampleReferenceIdeal.τ).loc Cert.InprojSampleReferenceIdeal.main_arg5)
          ∧ r.2.mem ((c.tc : Thread Cert.InprojSampleReferenceIdeal.nD Cert.InprojSampleReferenceIdeal.τ).loc Cert.InprojSampleReferenceIdeal.main_arg6) = m' ((c.tc : Thread Cert.InprojSampleReferenceIdeal.nD Cert.InprojSampleReferenceIdeal.τ).loc Cert.InprojSampleReferenceIdeal.main_arg6))

def preserves_GdnSample_GdnSampleIdeal : Prop :=
  True

def algebraic_GdnSampleIdeal_GdnSampleReferenceIdeal [hGdnSampleIdeal : Cert.GdnSampleIdeal.Facts] [hGdnSampleReferenceIdeal : Cert.GdnSampleReferenceIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg)
    (m' : (ℓ : Loc Cert.GdnSampleReferenceIdeal.nD Cert.GdnSampleReferenceIdeal.τ Cert.GdnSampleReferenceIdeal.sig) → Buf (Elt Ideal) ℓ) (g' : Dev Cert.GdnSampleReferenceIdeal.nD → PrngReg), Pre_GdnSampleIdeal m →
    (∀ c : Dev Cert.GdnSampleIdeal.nD,
      m' ((c.tc : Thread Cert.GdnSampleReferenceIdeal.nD Cert.GdnSampleReferenceIdeal.τ).loc Cert.GdnSampleReferenceIdeal.main_arg0) = m ((c.tc : Thread Cert.GdnSampleIdeal.nD Cert.GdnSampleIdeal.τ).loc Cert.GdnSampleIdeal.main_arg0)
      ∧ m' ((c.tc : Thread Cert.GdnSampleReferenceIdeal.nD Cert.GdnSampleReferenceIdeal.τ).loc Cert.GdnSampleReferenceIdeal.main_arg1) = m ((c.tc : Thread Cert.GdnSampleIdeal.nD Cert.GdnSampleIdeal.τ).loc Cert.GdnSampleIdeal.main_arg1)
      ∧ m' ((c.tc : Thread Cert.GdnSampleReferenceIdeal.nD Cert.GdnSampleReferenceIdeal.τ).loc Cert.GdnSampleReferenceIdeal.main_arg2) = m ((c.tc : Thread Cert.GdnSampleIdeal.nD Cert.GdnSampleIdeal.τ).loc Cert.GdnSampleIdeal.main_arg2)
      ∧ m' ((c.tc : Thread Cert.GdnSampleReferenceIdeal.nD Cert.GdnSampleReferenceIdeal.τ).loc Cert.GdnSampleReferenceIdeal.main_arg3) = m ((c.tc : Thread Cert.GdnSampleIdeal.nD Cert.GdnSampleIdeal.τ).loc Cert.GdnSampleIdeal.main_arg3)
      ∧ m' ((c.tc : Thread Cert.GdnSampleReferenceIdeal.nD Cert.GdnSampleReferenceIdeal.τ).loc Cert.GdnSampleReferenceIdeal.main_arg4) = m ((c.tc : Thread Cert.GdnSampleIdeal.nD Cert.GdnSampleIdeal.τ).loc Cert.GdnSampleIdeal.main_arg4)
      ∧ m' ((c.tc : Thread Cert.GdnSampleReferenceIdeal.nD Cert.GdnSampleReferenceIdeal.τ).loc Cert.GdnSampleReferenceIdeal.main_arg5) = m ((c.tc : Thread Cert.GdnSampleIdeal.nD Cert.GdnSampleIdeal.τ).loc Cert.GdnSampleIdeal.main_arg5)
      ∧ m' ((c.tc : Thread Cert.GdnSampleReferenceIdeal.nD Cert.GdnSampleReferenceIdeal.τ).loc Cert.GdnSampleReferenceIdeal.main_arg6) = m ((c.tc : Thread Cert.GdnSampleIdeal.nD Cert.GdnSampleIdeal.τ).loc Cert.GdnSampleIdeal.main_arg6)
      ∧ m' ((c.tc : Thread Cert.GdnSampleReferenceIdeal.nD Cert.GdnSampleReferenceIdeal.τ).loc Cert.GdnSampleReferenceIdeal.main_arg7) = m ((c.tc : Thread Cert.GdnSampleIdeal.nD Cert.GdnSampleIdeal.τ).loc Cert.GdnSampleIdeal.main_arg7)
      ∧ m' ((c.tc : Thread Cert.GdnSampleReferenceIdeal.nD Cert.GdnSampleReferenceIdeal.τ).loc Cert.GdnSampleReferenceIdeal.main_arg8) = m ((c.tc : Thread Cert.GdnSampleIdeal.nD Cert.GdnSampleIdeal.τ).loc Cert.GdnSampleIdeal.main_arg8)) →
    ∃ (v0 : (c : Dev Cert.GdnSampleIdeal.nD) → Buf (Elt Ideal) ((c.tc : Thread Cert.GdnSampleIdeal.nD Cert.GdnSampleIdeal.τ).loc Cert.GdnSampleIdeal.main_v0_0)) (v1 : (c : Dev Cert.GdnSampleIdeal.nD) → Buf (Elt Ideal) ((c.tc : Thread Cert.GdnSampleIdeal.nD Cert.GdnSampleIdeal.τ).loc Cert.GdnSampleIdeal.main_v0_1)),
      θ_run (Cert.GdnSampleIdeal.defs (F := Ideal)) (onTc (τ := Cert.GdnSampleIdeal.τ) (Cert.GdnSampleIdeal.main (F := Ideal))) ⟨m, fun _ => 0, g⟩ (fun r => ∀ c : Dev Cert.GdnSampleIdeal.nD,
          r.2.mem ((c.tc : Thread Cert.GdnSampleIdeal.nD Cert.GdnSampleIdeal.τ).loc Cert.GdnSampleIdeal.main_v0_0) = v0 c
          ∧ r.2.mem ((c.tc : Thread Cert.GdnSampleIdeal.nD Cert.GdnSampleIdeal.τ).loc Cert.GdnSampleIdeal.main_v0_1) = v1 c
          ∧ r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
          ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
          ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2)
          ∧ r.2.mem ((c.tc : Thread Cert.GdnSampleIdeal.nD Cert.GdnSampleIdeal.τ).loc Cert.GdnSampleIdeal.main_arg3) = m ((c.tc : Thread Cert.GdnSampleIdeal.nD Cert.GdnSampleIdeal.τ).loc Cert.GdnSampleIdeal.main_arg3)
          ∧ r.2.mem ((c.tc : Thread Cert.GdnSampleIdeal.nD Cert.GdnSampleIdeal.τ).loc Cert.GdnSampleIdeal.main_arg4) = m ((c.tc : Thread Cert.GdnSampleIdeal.nD Cert.GdnSampleIdeal.τ).loc Cert.GdnSampleIdeal.main_arg4)
          ∧ r.2.mem ((c.tc : Thread Cert.GdnSampleIdeal.nD Cert.GdnSampleIdeal.τ).loc Cert.GdnSampleIdeal.main_arg5) = m ((c.tc : Thread Cert.GdnSampleIdeal.nD Cert.GdnSampleIdeal.τ).loc Cert.GdnSampleIdeal.main_arg5)
          ∧ r.2.mem ((c.tc : Thread Cert.GdnSampleIdeal.nD Cert.GdnSampleIdeal.τ).loc Cert.GdnSampleIdeal.main_arg6) = m ((c.tc : Thread Cert.GdnSampleIdeal.nD Cert.GdnSampleIdeal.τ).loc Cert.GdnSampleIdeal.main_arg6)
          ∧ r.2.mem ((c.tc : Thread Cert.GdnSampleIdeal.nD Cert.GdnSampleIdeal.τ).loc Cert.GdnSampleIdeal.main_arg7) = m ((c.tc : Thread Cert.GdnSampleIdeal.nD Cert.GdnSampleIdeal.τ).loc Cert.GdnSampleIdeal.main_arg7)
          ∧ r.2.mem ((c.tc : Thread Cert.GdnSampleIdeal.nD Cert.GdnSampleIdeal.τ).loc Cert.GdnSampleIdeal.main_arg8) = m ((c.tc : Thread Cert.GdnSampleIdeal.nD Cert.GdnSampleIdeal.τ).loc Cert.GdnSampleIdeal.main_arg8))
      ∧ θ_run (Cert.GdnSampleReferenceIdeal.defs (F := Ideal)) (onTc (τ := Cert.GdnSampleReferenceIdeal.τ) (Cert.GdnSampleReferenceIdeal.main (F := Ideal))) ⟨m', fun _ => 0, g'⟩ (fun r => ∀ c : Dev Cert.GdnSampleReferenceIdeal.nD,
          r.2.mem ((c.tc : Thread Cert.GdnSampleReferenceIdeal.nD Cert.GdnSampleReferenceIdeal.τ).loc Cert.GdnSampleReferenceIdeal.main_v133) = v0 c
          ∧ r.2.mem ((c.tc : Thread Cert.GdnSampleReferenceIdeal.nD Cert.GdnSampleReferenceIdeal.τ).loc Cert.GdnSampleReferenceIdeal.main_v114) = v1 c
          ∧ r.2.mem ((c.tc : Thread Cert.GdnSampleReferenceIdeal.nD Cert.GdnSampleReferenceIdeal.τ).loc Cert.GdnSampleReferenceIdeal.main_arg0) = m' ((c.tc : Thread Cert.GdnSampleReferenceIdeal.nD Cert.GdnSampleReferenceIdeal.τ).loc Cert.GdnSampleReferenceIdeal.main_arg0)
          ∧ r.2.mem ((c.tc : Thread Cert.GdnSampleReferenceIdeal.nD Cert.GdnSampleReferenceIdeal.τ).loc Cert.GdnSampleReferenceIdeal.main_arg1) = m' ((c.tc : Thread Cert.GdnSampleReferenceIdeal.nD Cert.GdnSampleReferenceIdeal.τ).loc Cert.GdnSampleReferenceIdeal.main_arg1)
          ∧ r.2.mem ((c.tc : Thread Cert.GdnSampleReferenceIdeal.nD Cert.GdnSampleReferenceIdeal.τ).loc Cert.GdnSampleReferenceIdeal.main_arg2) = m' ((c.tc : Thread Cert.GdnSampleReferenceIdeal.nD Cert.GdnSampleReferenceIdeal.τ).loc Cert.GdnSampleReferenceIdeal.main_arg2)
          ∧ r.2.mem ((c.tc : Thread Cert.GdnSampleReferenceIdeal.nD Cert.GdnSampleReferenceIdeal.τ).loc Cert.GdnSampleReferenceIdeal.main_arg3) = m' ((c.tc : Thread Cert.GdnSampleReferenceIdeal.nD Cert.GdnSampleReferenceIdeal.τ).loc Cert.GdnSampleReferenceIdeal.main_arg3)
          ∧ r.2.mem ((c.tc : Thread Cert.GdnSampleReferenceIdeal.nD Cert.GdnSampleReferenceIdeal.τ).loc Cert.GdnSampleReferenceIdeal.main_arg4) = m' ((c.tc : Thread Cert.GdnSampleReferenceIdeal.nD Cert.GdnSampleReferenceIdeal.τ).loc Cert.GdnSampleReferenceIdeal.main_arg4)
          ∧ r.2.mem ((c.tc : Thread Cert.GdnSampleReferenceIdeal.nD Cert.GdnSampleReferenceIdeal.τ).loc Cert.GdnSampleReferenceIdeal.main_arg5) = m' ((c.tc : Thread Cert.GdnSampleReferenceIdeal.nD Cert.GdnSampleReferenceIdeal.τ).loc Cert.GdnSampleReferenceIdeal.main_arg5)
          ∧ r.2.mem ((c.tc : Thread Cert.GdnSampleReferenceIdeal.nD Cert.GdnSampleReferenceIdeal.τ).loc Cert.GdnSampleReferenceIdeal.main_arg6) = m' ((c.tc : Thread Cert.GdnSampleReferenceIdeal.nD Cert.GdnSampleReferenceIdeal.τ).loc Cert.GdnSampleReferenceIdeal.main_arg6)
          ∧ r.2.mem ((c.tc : Thread Cert.GdnSampleReferenceIdeal.nD Cert.GdnSampleReferenceIdeal.τ).loc Cert.GdnSampleReferenceIdeal.main_arg7) = m' ((c.tc : Thread Cert.GdnSampleReferenceIdeal.nD Cert.GdnSampleReferenceIdeal.τ).loc Cert.GdnSampleReferenceIdeal.main_arg7)
          ∧ r.2.mem ((c.tc : Thread Cert.GdnSampleReferenceIdeal.nD Cert.GdnSampleReferenceIdeal.τ).loc Cert.GdnSampleReferenceIdeal.main_arg8) = m' ((c.tc : Thread Cert.GdnSampleReferenceIdeal.nD Cert.GdnSampleReferenceIdeal.τ).loc Cert.GdnSampleReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hMem : Cert.Mem.Facts) (hMemIdeal : Cert.MemIdeal.Facts) (hMemReferenceIdeal : Cert.MemReferenceIdeal.Facts) (hMemKv : Cert.MemKv.Facts) (hMemKvIdeal : Cert.MemKvIdeal.Facts) (hMemKvReferenceIdeal : Cert.MemKvReferenceIdeal.Facts) (hFfnSample : Cert.FfnSample.Facts) (hFfnSampleIdeal : Cert.FfnSampleIdeal.Facts) (hFfnSampleReferenceIdeal : Cert.FfnSampleReferenceIdeal.Facts) (hInprojSample : Cert.InprojSample.Facts) (hInprojSampleIdeal : Cert.InprojSampleIdeal.Facts) (hInprojSampleReferenceIdeal : Cert.InprojSampleReferenceIdeal.Facts) (hGdnSample : Cert.GdnSample.Facts) (hGdnSampleIdeal : Cert.GdnSampleIdeal.Facts) (hGdnSampleReferenceIdeal : Cert.GdnSampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Mem (hMem := hMem)
    ∧ quiescent_MemIdeal (hMemIdeal := hMemIdeal)
    ∧ quiescent_MemReferenceIdeal (hMemReferenceIdeal := hMemReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_InprojSample (hInprojSample := hInprojSample)
    ∧ quiescent_InprojSampleIdeal (hInprojSampleIdeal := hInprojSampleIdeal)
    ∧ quiescent_InprojSampleReferenceIdeal (hInprojSampleReferenceIdeal := hInprojSampleReferenceIdeal)
    ∧ quiescent_GdnSample (hGdnSample := hGdnSample)
    ∧ quiescent_GdnSampleIdeal (hGdnSampleIdeal := hGdnSampleIdeal)
    ∧ quiescent_GdnSampleReferenceIdeal (hGdnSampleReferenceIdeal := hGdnSampleReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Mem_MemIdeal
    ∧ algebraic_MemIdeal_MemReferenceIdeal (hMemIdeal := hMemIdeal) (hMemReferenceIdeal := hMemReferenceIdeal)
    ∧ preserves_MemKv_MemKvIdeal
    ∧ algebraic_MemKvIdeal_MemKvReferenceIdeal (hMemKvIdeal := hMemKvIdeal) (hMemKvReferenceIdeal := hMemKvReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_InprojSample_InprojSampleIdeal
    ∧ algebraic_InprojSampleIdeal_InprojSampleReferenceIdeal (hInprojSampleIdeal := hInprojSampleIdeal) (hInprojSampleReferenceIdeal := hInprojSampleReferenceIdeal)
    ∧ preserves_GdnSample_GdnSampleIdeal
    ∧ algebraic_GdnSampleIdeal_GdnSampleReferenceIdeal (hGdnSampleIdeal := hGdnSampleIdeal) (hGdnSampleReferenceIdeal := hGdnSampleReferenceIdeal)
-- ==== Kernel.lean ====
abbrev S16384x512 : Shape := ⟨2, ![16384, 512]⟩
abbrev S16384x256 : Shape := ⟨2, ![16384, 256]⟩
abbrev S256x1x512 : Shape := ⟨3, ![256, 1, 512]⟩
abbrev S4x1x128 : Shape := ⟨3, ![4, 1, 128]⟩
abbrev S4x4x128x128 : Shape := ⟨4, ![4, 4, 128, 128]⟩
abbrev S512x512 : Shape := ⟨2, ![512, 512]⟩
abbrev S512x256 : Shape := ⟨2, ![512, 256]⟩
abbrev S8x1x512 : Shape := ⟨3, ![8, 1, 512]⟩
abbrev S1x1x128 : Shape := ⟨3, ![1, 1, 128]⟩
abbrev S1x4x128x128 : Shape := ⟨4, ![1, 4, 128, 128]⟩
abbrev S4x128x128 : Shape := ⟨3, ![4, 128, 128]⟩
abbrev S1x128 : Shape := ⟨2, ![1, 128]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩

abbrev nBuf : Space → Nat
  | .hbm => 10
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x256, .bf16⟩
  | .hbm, ⟨5, _⟩ => ⟨S256x1x512, .f32⟩
  | .hbm, ⟨6, _⟩ => ⟨S16384x512, .f32⟩
  | .hbm, ⟨7, _⟩ => ⟨S4x1x128, .f32⟩
  | .hbm, ⟨8, _⟩ => ⟨S16384x512, .f32⟩
  | .hbm, ⟨9, _⟩ => ⟨S4x4x128x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x256, .bf16⟩
  | .local _ .vmem, ⟨9, _⟩ => ⟨S512x256, .bf16⟩
  | .local _ .vmem, ⟨10, _⟩ => ⟨S8x1x512, .f32⟩
  | .local _ .vmem, ⟨11, _⟩ => ⟨S8x1x512, .f32⟩
  | .local _ .vmem, ⟨12, _⟩ => ⟨S512x512, .f32⟩
  | .local _ .vmem, ⟨13, _⟩ => ⟨S512x512, .f32⟩
  | .local _ .vmem, ⟨14, _⟩ => ⟨S1x1x128, .f32⟩
  | .local _ .vmem, ⟨15, _⟩ => ⟨S512x512, .f32⟩
  | .local _ .vmem, ⟨16, _⟩ => ⟨S512x512, .f32⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_5 : BitVec 32 := 0#32
  let c8_i32 : BitVec 32 := 8#32
  let v7 : BitVec 32 := Scalar.addi c0_i32_5 c8_i32
  let c1_i32 : BitVec 32 := 1#32
  ⟨c0_i32_5, v7, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  v11
def k0_off1 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v25 : Index := Scalar.indexCast v12
  let c0_17 : Index := 0#32
  ![v25.toNat, 0]
def k0_off2 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v31 : Index := Scalar.indexCast v12
  let c128 : Index := 128#32
  ![v31.toNat, 128]
def k0_off3 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v37 : Index := Scalar.indexCast v12
  let c256 : Index := 256#32
  ![v37.toNat, 256]
def k0_off4 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v43 : Index := Scalar.indexCast v12
  let c384 : Index := 384#32
  ![v43.toNat, 384]
def k0_off5 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v69 : Index := Scalar.indexCast v12
  let c0_30 : Index := 0#32
  ![v69.toNat, 0]
def k0_off6 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v72 : Index := Scalar.indexCast v12
  let c64 : Index := 64#32
  ![v72.toNat, 64]
def k0_off7 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v75 : Index := Scalar.indexCast v12
  let c128_33 : Index := 128#32
  ![v75.toNat, 128]
def k0_off8 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32 : BitVec 32 := 64#32
  let v11 : BitVec 32 := Scalar.muli arg13 c64_i32
  let v12 : BitVec 32 := v11
  let v78 : Index := Scalar.indexCast v12
  let c192 : Index := 192#32
  ![v78.toNat, 192]
def k0_off9 (k0_t1 : Fin k0_t1_loop.trips) : Fin 3 → Nat :=
  let c0_i32_5 : BitVec 32 := 0#32
  let c1_i32 : BitVec 32 := 1#32
  let arg13 : BitVec 32 := Scf.iv c0_i32_5 c1_i32 k0_t1
  let v93 : Index := Scalar.indexCast arg13
  let c0_44 : Index := 0#32
  let c0_45 : Index := 0#32
  ![v93.toNat, 0, 0]
def k0_off10 (k0_t1 : Fin k0_t1_loop.trips) : Fin 3 → Nat :=
  let c0_i32_5 : BitVec 32 := 0#32
  let c1_i32 : BitVec 32 := 1#32
  let arg13 : BitVec 32 := Scf.iv c0_i32_5 c1_i32 k0_t1
  let v123 : Index := Scalar.indexCast arg13
  let c0_54 : Index := 0#32
  let c128_55 : Index := 128#32
  ![v123.toNat, 0, 128]
def k0_off11 (k0_t1 : Fin k0_t1_loop.trips) : Fin 3 → Nat :=
  let c0_i32_5 : BitVec 32 := 0#32
  let c1_i32 : BitVec 32 := 1#32
  let arg13 : BitVec 32 := Scf.iv c0_i32_5 c1_i32 k0_t1
  let v153 : Index := Scalar.indexCast arg13
  let c0_64 : Index := 0#32
  let c256_65 : Index := 256#32
  ![v153.toNat, 0, 256]
def k0_off12 (k0_t1 : Fin k0_t1_loop.trips) : Fin 3 → Nat :=
  let c0_i32_5 : BitVec 32 := 0#32
  let c1_i32 : BitVec 32 := 1#32
  let arg13 : BitVec 32 := Scf.iv c0_i32_5 c1_i32 k0_t1
  let v183 : Index := Scalar.indexCast arg13
  let c0_74 : Index := 0#32
  let c384_75 : Index := 384#32
  ![v183.toNat, 0, 384]
def k0_cond2 (i : grid0.Coords) : BitVec 1 :=
  let arg1 : BitVec 32 := BitVec.ofNat 32 (i 1).val
  let c7_i32 : BitVec 32 := 7#32
  let v8 : BitVec 1 := Scalar.cmpi .eq arg1 c7_i32
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16384x512 : Shape := ⟨2, ![16384, 512]⟩
abbrev S16384x256 : Shape := ⟨2, ![16384, 256]⟩
abbrev S256x1x512 : Shape := ⟨3, ![256, 1, 512]⟩
abbrev S4x1x128 : Shape := ⟨3, ![4, 1, 128]⟩
abbrev S4x64x4x128 : Shape := ⟨4, ![4, 64, 4, 128]⟩
abbrev S64x4x4x128 : Shape := ⟨4, ![64, 4, 4, 128]⟩
abbrev S_ : Shape := ⟨0, ![]⟩
abbrev S4x4x128x128 : Shape := ⟨4, ![4, 4, 128, 128]⟩
abbrev S4x64x64x4x128 : Shape := ⟨5, ![4, 64, 64, 4, 128]⟩
abbrev S64x4x4x64x128 : Shape := ⟨5, ![64, 4, 4, 64, 128]⟩
abbrev S4x64x64x4x64 : Shape := ⟨5, ![4, 64, 64, 4, 64]⟩
abbrev S64x4x4x64x64 : Shape := ⟨5, ![64, 4, 4, 64, 64]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x128 : Shape := ⟨4, ![1, 4, 4, 128]⟩
abbrev S4x4x128 : Shape := ⟨3, ![4, 4, 128]⟩
abbrev S4x4x1x128 : Shape := ⟨4, ![4, 4, 1, 128]⟩
abbrev S4x64x64x4 : Shape := ⟨4, ![4, 64, 64, 4]⟩
abbrev S4x64x64x4x1 : Shape := ⟨5, ![4, 64, 64, 4, 1]⟩
abbrev S1x1x128 : Shape := ⟨3, ![1, 1, 128]⟩
abbrev S128 : Shape := ⟨1, ![128]⟩
abbrev S1x1x1x1x128 : Shape := ⟨5, ![1, 1, 1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x256, .bf16⟩
  | .hbm, ⟨5, _⟩ => ⟨S256x1x512, .f32⟩
  | .hbm, ⟨6, _⟩ => ⟨S16384x512, .f32⟩
  | .hbm, ⟨7, _⟩ => ⟨S4x1x128, .f32⟩
  | .hbm, ⟨8, _⟩ => ⟨S4x64x4x128, .f32⟩
  | .hbm, ⟨9, _⟩ => ⟨S64x4x4x128, .f32⟩
  | .hbm, ⟨10, _⟩ => ⟨S_, .f32⟩
  | .hbm, ⟨11, _⟩ => ⟨S4x4x128x128, .f32⟩
  | .hbm, ⟨12, _⟩ => ⟨S16384x512, .f32⟩
  | .hbm, ⟨13, _⟩ => ⟨S4x64x64x4x128, .f32⟩
  | .hbm, ⟨14, _⟩ => ⟨S64x4x4x64x128, .f32⟩
  | .hbm, ⟨15, _⟩ => ⟨S16384x512, .f32⟩
  | .hbm, ⟨16, _⟩ => ⟨S4x64x64x4x128, .f32⟩
  | .hbm, ⟨17, _⟩ => ⟨S64x4x4x64x128, .f32⟩
  | .hbm, ⟨18, _⟩ => ⟨S4x64x64x4x128, .f32⟩
  | .hbm, ⟨19, _⟩ => ⟨S64x4x4x64x128, .f32⟩
  | .hbm, ⟨20, _⟩ => ⟨S16384x512, .f32⟩
  | .hbm, ⟨21, _⟩ => ⟨S4x64x64x4x128, .f32⟩
  | .hbm, ⟨22, _⟩ => ⟨S64x4x4x64x128, .f32⟩
  | .hbm, ⟨23, _⟩ => ⟨S16384x256, .f32⟩
  | .hbm, ⟨24, _⟩ => ⟨S4x64x64x4x64, .f32⟩
  | .hbm, ⟨25, _⟩ => ⟨S64x4x4x64x64, .f32⟩
  | .hbm, ⟨26, _⟩ => ⟨S_, .f32⟩
  | .hbm, ⟨27, _⟩ => ⟨S64x4x4x64x128, .f32⟩
  | .hbm, ⟨28, _⟩ => ⟨S_, .i32⟩
  | .hbm, ⟨29, _⟩ => ⟨S64x4x4x64x128, .f32⟩
  | .hbm, ⟨30, _⟩ => ⟨S64x4x4x64x128, .f32⟩
  | .hbm, ⟨31, _⟩ => ⟨S64x4x4x64x128, .f32⟩
  | .hbm, ⟨32, _⟩ => ⟨S64x4x4x64x128, .f32⟩
  | .hbm, ⟨33, _⟩ => ⟨S64x4x4x64x64, .f32⟩
  | .hbm, ⟨34, _⟩ => ⟨S64x4x4x128, .f32⟩
  | .hbm, ⟨35, _⟩ => ⟨S_, .i32⟩
  | .hbm, ⟨36, _⟩ => ⟨S4x4x128x128, .f32⟩
  | .hbm, ⟨37, _⟩ => ⟨S64x4x4x64x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x4x64x128, .f32⟩
  | .hbm, ⟨45, _⟩ => ⟨S4x4x64x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x4x4x64x128, .f32⟩
  | .hbm, ⟨51, _⟩ => ⟨S4x4x64x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x4x4x64x128, .f32⟩
  | .hbm, ⟨57, _⟩ => ⟨S4x4x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x4x64x128, .f32⟩
  | .hbm, ⟨63, _⟩ => ⟨S4x4x64x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x4x4x64x64, .f32⟩
  | .hbm, ⟨69, _⟩ => ⟨S4x4x64x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x4x4x128, .f32⟩
  | .hbm, ⟨74, _⟩ => ⟨S4x4x128, .f32⟩
  | .hbm, ⟨75, _⟩ => ⟨S4x4x64x128, .f32⟩
  | .hbm, ⟨76, _⟩ => ⟨S4x4x64x128, .f32⟩
  | .hbm, ⟨77, _⟩ => ⟨S4x4x64x128, .f32⟩
  | .hbm, ⟨78, _⟩ => ⟨S4x4x64x128, .f32⟩
  | .hbm, ⟨79, _⟩ => ⟨S4x4x64x128, .f32⟩
  | .hbm, ⟨80, _⟩ => ⟨S4x4x1x128, .f32⟩
  | .hbm, ⟨81, _⟩ => ⟨S4x4x128x128, .f32⟩
  | .hbm, ⟨82, _⟩ => ⟨S4x4x128x128, .f32⟩
  | .hbm, ⟨83, _⟩ => ⟨S4x4x128x128, .f32⟩
  | .hbm, ⟨84, _⟩ => ⟨S4x4x128x128, .f32⟩
  | .hbm, ⟨85, _⟩ => ⟨S1x4x4x64x128, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S64x4x4x64x128, .f32⟩
  | .hbm, ⟨91, _⟩ => ⟨S_, .i32⟩
  | .hbm, ⟨92, _⟩ => ⟨S_, .i32⟩
  | .hbm, ⟨93, _⟩ => ⟨S4x64x64x4x128, .f32⟩
  | .hbm, ⟨94, _⟩ => ⟨S4x64x64x4x128, .f32⟩
  | .hbm, ⟨95, _⟩ => ⟨S_, .f32⟩
  | .hbm, ⟨96, _⟩ => ⟨S4x64x64x4, .f32⟩
  | .hbm, ⟨97, _⟩ => ⟨S4x64x64x4x1, .f32⟩
  | .hbm, ⟨98, _⟩ => ⟨S_, .f32⟩
  | .hbm, ⟨99, _⟩ => ⟨S4x64x64x4x1, .f32⟩
  | .hbm, ⟨100, _⟩ => ⟨S4x64x64x4x1, .f32⟩
  | .hbm, ⟨101, _⟩ => ⟨S_, .f32⟩
  | .hbm, ⟨102, _⟩ => ⟨S4x64x64x4x1, .f32⟩
  | .hbm, ⟨103, _⟩ => ⟨S4x64x64x4x1, .f32⟩
  | .hbm, ⟨104, _⟩ => ⟨S4x64x64x4x1, .f32⟩
  | .hbm, ⟨105, _⟩ => ⟨S4x64x64x4x128, .f32⟩
  | .hbm, ⟨106, _⟩ => ⟨S4x64x64x4x128, .f32⟩
  | .hbm, ⟨107, _⟩ => ⟨S1x1x128, .f32⟩
  | .hbm, ⟨108, _⟩ => ⟨S128, .f32⟩
  | .hbm, ⟨109, _⟩ => ⟨S1x1x1x1x128, .f32⟩
  | .hbm, ⟨110, _⟩ => ⟨S4x64x64x4x128, .f32⟩
  | .hbm, ⟨111, _⟩ => ⟨S4x64x64x4x128, .f32⟩
  | .hbm, ⟨112, _⟩ => ⟨S16384x512, .f32⟩
  | .hbm, ⟨113, _⟩ => ⟨S16384x512, .f32⟩
  | .hbm, ⟨114, _⟩ => ⟨S_, .f32⟩
  | .hbm, ⟨115, _⟩ => ⟨S16384x512, .f32⟩
  | .hbm, ⟨116, _⟩ => ⟨S16384x512, .f32⟩
  | .hbm, ⟨117, _⟩ => ⟨S_, .f32⟩
  | .hbm, ⟨118, _⟩ => ⟨S16384x512, .f32⟩
  | .hbm, ⟨119, _⟩ => ⟨S16384x512, .f32⟩
  | .hbm, ⟨120, _⟩ => ⟨S16384x512, .f32⟩
  | .hbm, ⟨121, _⟩ => ⟨S4x64x64x4x128, .f32⟩
  | .hbm, ⟨122, _⟩ => ⟨S4x64x64x4x128, .f32⟩
  | .hbm, ⟨123, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_c : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_while0c_c_12 : Ref sig .tc := ⟨.hbm, 38, rfl⟩
abbrev main_while0c_v39 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v39 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v40 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v41 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_c_2 : Ref sig .tc := ⟨.hbm, 61, rfl⟩
abbrev main_while0b_call3_v0 : Ref sig .tc := ⟨.hbm, 62, rfl⟩
abbrev main_while0b_v42 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_c_2 : Ref sig .tc := ⟨.hbm, 67, rfl⟩
abbrev main_while0b_call4_v0 : Ref sig .tc := ⟨.hbm, 68, rfl⟩
abbrev main_while0b_v43 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_v0 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_call6_v0 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_c_2 : Ref sig .tc := ⟨.hbm, 89, rfl⟩
abbrev main_while0b_v55 : Ref sig .tc := ⟨.hbm, 90, rfl⟩
abbrev main_while0b_c_12 : Ref sig .tc := ⟨.hbm, 91, rfl⟩
abbrev main_while0b_v56 : Ref sig .tc := ⟨.hbm, 92, rfl⟩
abbrev main_v19 : Ref sig .tc := ⟨.hbm, 93, rfl⟩
abbrev main_v20 : Ref sig .tc := ⟨.hbm, 94, rfl⟩
abbrev main_cst_1 : Ref sig .tc := ⟨.hbm, 95, rfl⟩
abbrev main_v21 : Ref sig .tc := ⟨.hbm, 96, rfl⟩
abbrev main_v22 : Ref sig .tc := ⟨.hbm, 97, rfl⟩
abbrev main_cst_2 : Ref sig .tc := ⟨.hbm, 98, rfl⟩
abbrev main_v23 : Ref sig .tc := ⟨.hbm, 99, rfl⟩
abbrev main_v24 : Ref sig .tc := ⟨.hbm, 100, rfl⟩
abbrev main_cst_3 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_call7_v0 : Ref sig .tc := ⟨.hbm, 112, rfl⟩
abbrev main_call7_v1 : Ref sig .tc := ⟨.hbm, 113, rfl⟩
abbrev main_call7_cst : Ref sig .tc := ⟨.hbm, 114, rfl⟩
abbrev main_call7_v2 : Ref sig .tc := ⟨.hbm, 115, rfl⟩
abbrev main_call7_v3 : Ref sig .tc := ⟨.hbm, 116, rfl⟩
abbrev main_call7_cst_0 : Ref sig .tc := ⟨.hbm, 117, rfl⟩
abbrev main_call7_v4 : Ref sig .tc := ⟨.hbm, 118, rfl⟩
abbrev main_call7_v5 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x1024 : Shape := ⟨2, ![16384, 1024]⟩
abbrev S4x8x1x1024 : Shape := ⟨4, ![4, 8, 1, 1024]⟩
abbrev S4x2x1024x5632 : Shape := ⟨4, ![4, 2, 1024, 5632]⟩
abbrev S4x2x2816x1024 : Shape := ⟨4, ![4, 2, 2816, 1024]⟩
abbrev S512x1024 : Shape := ⟨2, ![512, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x2x1024x5632, .bf16⟩
  | .hbm, ⟨3, _⟩ => ⟨S4x2x2816x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1024x5632, .bf16⟩
  | .local _ .vmem, ⟨5, _⟩ => ⟨S1x1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c6_i32 : BitVec 32 := 6#32
  let c0_i32 : BitVec 32 := 0#32
  let c0_i32_0 : BitVec 32 := 0#32
  let c0_i32_1 : BitVec 32 := 0#32
  ![c3_i32.toNat, c6_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c7_i32 : BitVec 32 := 7#32
  let c0_i32 : BitVec 32 := 0#32
  let c0_i32_0 : BitVec 32 := 0#32
  let c0_i32_1 : BitVec 32 := 0#32
  ![c3_i32.toNat, c7_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S4x8x1x1024 : Shape := ⟨4, ![4, 8, 1, 1024]⟩
abbrev S4x2x1024x5632 : Shape := ⟨4, ![4, 2, 1024, 5632]⟩
abbrev S4x2x2816x1024 : Shape := ⟨4, ![4, 2, 2816, 1024]⟩
abbrev S1x1x1x1024 : Shape := ⟨4, ![1, 1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1x1024x5632 : Shape := ⟨4, ![1, 1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x1x2816x1024 : Shape := ⟨4, ![1, 1, 2816, 1024]⟩
abbrev S2816x1024 : Shape := ⟨2, ![2816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x2x1024x5632, .bf16⟩
  | .hbm, ⟨3, _⟩ => ⟨S4x2x2816x1024, .bf16⟩
  | .hbm, ⟨4, _⟩ => ⟨S1x1x1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x1x1024x5632, .bf16⟩
  | .hbm, ⟨22, _⟩ => ⟨S1024x5632, .bf16⟩
  | .hbm, ⟨23, _⟩ => ⟨S1024x5632, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S1x1x2816x1024, .bf16⟩
  | .hbm, ⟨38, _⟩ => ⟨S2816x1024, .bf16⟩
  | .hbm, ⟨39, _⟩ => ⟨S2816x1024, .f32⟩
  | .hbm, ⟨40, _⟩ => ⟨S16384x1024, .f32⟩
  | .hbm, ⟨41, _⟩ => ⟨S1x1x1x1024, .f32⟩
  | .hbm, ⟨42, _⟩ => ⟨S1x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Inproj.lean ====
abbrev S16384x1024 : Shape := ⟨2, ![16384, 1024]⟩
abbrev S4x8x1x1024 : Shape := ⟨4, ![4, 8, 1, 1024]⟩
abbrev S4x1024x3968 : Shape := ⟨3, ![4, 1024, 3968]⟩
abbrev S4096x128 : Shape := ⟨2, ![4096, 128]⟩
abbrev S16384x512 : Shape := ⟨2, ![16384, 512]⟩
abbrev S16384x256 : Shape := ⟨2, ![16384, 256]⟩
abbrev S16384x128 : Shape := ⟨2, ![16384, 128]⟩
abbrev S16384x1536 : Shape := ⟨2, ![16384, 1536]⟩
abbrev S512x1024 : Shape := ⟨2, ![512, 1024]⟩
abbrev S1x1x1x1024 : Shape := ⟨4, ![1, 1, 1, 1024]⟩
abbrev S1x1024x3968 : Shape := ⟨3, ![1, 1024, 3968]⟩
abbrev S512x128 : Shape := ⟨2, ![512, 128]⟩
abbrev S512x512 : Shape := ⟨2, ![512, 512]⟩
abbrev S512x256 : Shape := ⟨2, ![512, 256]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩

abbrev nBuf : Space → Nat
  | .hbm => 16
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x1024x3968, .bf16⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S16384x1024, .bf16⟩
  | .hbm, ⟨8, _⟩ => ⟨S16384x512, .f32⟩
  | .hbm, ⟨9, _⟩ => ⟨S16384x256, .f32⟩
  | .hbm, ⟨10, _⟩ => ⟨S16384x256, .bf16⟩
  | .hbm, ⟨11, _⟩ => ⟨S16384x128, .bf16⟩
  | .hbm, ⟨12, _⟩ => ⟨S16384x256, .bf16⟩
  | .hbm, ⟨13, _⟩ => ⟨S16384x128, .f32⟩
  | .hbm, ⟨14, _⟩ => ⟨S16384x1536, .f32⟩
  | .hbm, ⟨15, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1024x3968, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x256, .bf16⟩
  | .local _ .vmem, ⟨23, _⟩ => ⟨S512x256, .bf16⟩
  | .local _ .vmem, ⟨24, _⟩ => ⟨S512x128, .f32⟩
  | .local _ .vmem, ⟨25, _⟩ => ⟨S512x128, .f32⟩
  | .local _ .vmem, ⟨26, _⟩ => ⟨S512x1536, .f32⟩
  | .local _ .vmem, ⟨27, _⟩ => ⟨S512x1536, .f32⟩
  | .local _ .vmem, ⟨28, _⟩ => ⟨S512x512, .f32⟩
  | .local _ .vmem, ⟨29, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojReferenceIdeal.lean ====
abbrev S16384x1024 : Shape := ⟨2, ![16384, 1024]⟩
abbrev S4x8x1x1024 : Shape := ⟨4, ![4, 8, 1, 1024]⟩
abbrev S4x1024x3968 : Shape := ⟨3, ![4, 1024, 3968]⟩
abbrev S4096x128 : Shape := ⟨2, ![4096, 128]⟩
abbrev S1x1x1x1024 : Shape := ⟨4, ![1, 1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x3968 : Shape := ⟨3, ![1, 1024, 3968]⟩
abbrev S1024x3968 : Shape := ⟨2, ![1024, 3968]⟩
abbrev S16384x3968 : Shape := ⟨2, ![16384, 3968]⟩
abbrev S16384x128 : Shape := ⟨2, ![16384, 128]⟩
abbrev S16384x1536 : Shape := ⟨2, ![16384, 1536]⟩
abbrev S16384x512 : Shape := ⟨2, ![16384, 512]⟩
abbrev S1x4096x1x128 : Shape := ⟨4, ![1, 4096, 1, 128]⟩
abbrev S4x4096x1x128 : Shape := ⟨4, ![4, 4096, 1, 128]⟩
abbrev S16384x120 : Shape := ⟨2, ![16384, 120]⟩
abbrev S16384x8 : Shape := ⟨2, ![16384, 8]⟩
abbrev S16384x64 : Shape := ⟨2, ![16384, 64]⟩
abbrev S16384x256 : Shape := ⟨2, ![16384, 256]⟩
abbrev S4x4096x8x128 : Shape := ⟨4, ![4, 4096, 8, 128]⟩
abbrev S16384x1016 : Shape := ⟨2, ![16384, 1016]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x1024x3968, .bf16⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S1x1x1x1024, .f32⟩
  | .hbm, ⟨8, _⟩ => ⟨S1x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024x3968, .bf16⟩
  | .hbm, ⟨25, _⟩ => ⟨S1024x3968, .bf16⟩
  | .hbm, ⟨26, _⟩ => ⟨S1024x3968, .f32⟩
  | .hbm, ⟨27, _⟩ => ⟨S16384x3968, .f32⟩
  | .hbm, ⟨28, _⟩ => ⟨S16384x1024, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x1536, .f32⟩
  | .hbm, ⟨36, _⟩ => ⟨S16384x512, .f32⟩
  | .hbm, ⟨37, _⟩ => ⟨S16384x128, .f32⟩
  | .hbm, ⟨38, _⟩ => ⟨S1x4096x1x128, .f32⟩
  | .hbm, ⟨39, _⟩ => ⟨S4x4096x1x128, .f32⟩
  | .hbm, ⟨40, _⟩ => ⟨S16384x128, .f32⟩
  | .hbm, ⟨41, _⟩ => ⟨S16384x128, .f32⟩
  | .hbm, ⟨42, _⟩ => ⟨S16384x120, .f32⟩
  | .hbm, ⟨43, _⟩ => ⟨S16384x8, .f32⟩
  | .hbm, ⟨44, _⟩ => ⟨S16384x128, .f32⟩
  | .hbm, ⟨45, _⟩ => ⟨S1x4096x1x128, .f32⟩
  | .hbm, ⟨46, _⟩ => ⟨S4x4096x1x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x8, .f32⟩
  | .hbm, ⟨51, _⟩ => ⟨S16384x120, .f32⟩
  | .hbm, ⟨52, _⟩ => ⟨S16384x128, .f32⟩
  | .hbm, ⟨53, _⟩ => ⟨S1x4096x1x128, .f32⟩
  | .hbm, ⟨54, _⟩ => ⟨S4x4096x1x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S1x4096x1x128, .f32⟩
  | .hbm, ⟨59, _⟩ => ⟨S4x4096x1x128, .f32⟩
  | .hbm, ⟨60, _⟩ => ⟨S16384x128, .f32⟩
  | .hbm, ⟨61, _⟩ => ⟨S16384x128, .f32⟩
  | .hbm, ⟨62, _⟩ => ⟨S16384x120, .f32⟩
  | .hbm, ⟨63, _⟩ => ⟨S16384x8, .f32⟩
  | .hbm, ⟨64, _⟩ => ⟨S16384x128, .f32⟩
  | .hbm, ⟨65, _⟩ => ⟨S1x4096x1x128, .f32⟩
  | .hbm, ⟨66, _⟩ => ⟨S4x4096x1x128, .f32⟩
  | .hbm, ⟨67, _⟩ => ⟨S16384x128, .f32⟩
  | .hbm, ⟨68, _⟩ => ⟨S16384x128, .f32⟩
  | .hbm, ⟨69, _⟩ => ⟨S16384x128, .f32⟩
  | .hbm, ⟨70, _⟩ => ⟨S16384x8, .f32⟩
  | .hbm, ⟨71, _⟩ => ⟨S16384x120, .f32⟩
  | .hbm, ⟨72, _⟩ => ⟨S16384x128, .f32⟩
  | .hbm, ⟨73, _⟩ => ⟨S1x4096x1x128, .f32⟩
  | .hbm, ⟨74, _⟩ => ⟨S4x4096x1x128, .f32⟩
  | .hbm, ⟨75, _⟩ => ⟨S16384x128, .f32⟩
  | .hbm, ⟨76, _⟩ => ⟨S16384x128, .f32⟩
  | .hbm, ⟨77, _⟩ => ⟨S16384x128, .f32⟩
  | .hbm, ⟨78, _⟩ => ⟨S1x4096x1x128, .f32⟩
  | .hbm, ⟨79, _⟩ => ⟨S4x4096x1x128, .f32⟩
  | .hbm, ⟨80, _⟩ => ⟨S16384x128, .f32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16384x256, .f32⟩
  | .hbm, ⟨86, _⟩ => ⟨S1x4096x1x128, .f32⟩
  | .hbm, ⟨87, _⟩ => ⟨S4x4096x8x128, .f32⟩
  | .hbm, ⟨88, _⟩ => ⟨S16384x1024, .f32⟩
  | .hbm, ⟨89, _⟩ => ⟨S16384x1024, .f32⟩
  | .hbm, ⟨90, _⟩ => ⟨S16384x1016, .f32⟩
  | .hbm, ⟨91, _⟩ => ⟨S16384x8, .f32⟩
  | .hbm, ⟨92, _⟩ => ⟨S16384x1024, .f32⟩
  | .hbm, ⟨93, _⟩ => ⟨S1x4096x1x128, .f32⟩
  | .hbm, ⟨94, _⟩ => ⟨S4x4096x8x128, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x8, .f32⟩
  | .hbm, ⟨99, _⟩ => ⟨S16384x1016, .f32⟩
  | .hbm, ⟨100, _⟩ => ⟨S16384x1024, .f32⟩
  | .hbm, ⟨101, _⟩ => ⟨S1x4096x1x128, .f32⟩
  | .hbm, ⟨102, _⟩ => ⟨S4x4096x8x128, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S16384x1024, .f32⟩
  | .hbm, ⟨108, _⟩ => ⟨S16384x1024, .f32⟩
  | .hbm, ⟨109, _⟩ => ⟨S16384x1024, .bf16⟩
  | .hbm, ⟨110, _⟩ => ⟨S16384x512, .f32⟩
  | .hbm, ⟨111, _⟩ => ⟨S16384x256, .f32⟩
  | .hbm, ⟨112, _⟩ => ⟨S16384x256, .bf16⟩
  | .hbm, ⟨113, _⟩ => ⟨S16384x128, .bf16⟩
  | .hbm, ⟨114, _⟩ => ⟨S16384x256, .f32⟩
  | .hbm, ⟨115, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call1_v0 : Ref sig .tc := ⟨.hbm, 50, rfl⟩
abbrev main_call1_v1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call2_v0 : Ref sig .tc := ⟨.hbm, 62, rfl⟩
abbrev main_call2_v1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call3_v0 : Ref sig .tc := ⟨.hbm, 70, rfl⟩
abbrev main_call3_v1 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call4_v0 : Ref sig .tc := ⟨.hbm, 90, rfl⟩
abbrev main_call4_v1 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call5_v0 : Ref sig .tc := ⟨.hbm, 98, rfl⟩
abbrev main_call5_v1 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_2 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]
-- ==== Outproj.lean ====
abbrev S16384x1024 : Shape := ⟨2, ![16384, 1024]⟩
abbrev S16384x512 : Shape := ⟨2, ![16384, 512]⟩
abbrev S4x1024x1024 : Shape := ⟨3, ![4, 1024, 1024]⟩
abbrev S4x8x1x1024 : Shape := ⟨4, ![4, 8, 1, 1024]⟩
abbrev S512x1024 : Shape := ⟨2, ![512, 1024]⟩
abbrev S512x512 : Shape := ⟨2, ![512, 512]⟩
abbrev S1x1024x1024 : Shape := ⟨3, ![1, 1024, 1024]⟩
abbrev S1x1x1x1024 : Shape := ⟨4, ![1, 1, 1, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x1024x1024, .bf16⟩
  | .hbm, ⟨4, _⟩ => ⟨S4x8x1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x1024, .bf16⟩
  | .local _ .vmem, ⟨7, _⟩ => ⟨S1x1x1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, c3_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojReferenceIdeal.lean ====
abbrev S16384x1024 : Shape := ⟨2, ![16384, 1024]⟩
abbrev S16384x512 : Shape := ⟨2, ![16384, 512]⟩
abbrev S4x1024x1024 : Shape := ⟨3, ![4, 1024, 1024]⟩
abbrev S4x8x1x1024 : Shape := ⟨4, ![4, 8, 1, 1024]⟩
abbrev S1x1024x1024 : Shape := ⟨3, ![1, 1024, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x1024x1024, .bf16⟩
  | .hbm, ⟨4, _⟩ => ⟨S4x8x1x1024, .f32⟩
  | .hbm, ⟨5, _⟩ => ⟨S16384x1024, .f32⟩
  | .hbm, ⟨6, _⟩ => ⟨S1x1024x1024, .bf16⟩
  | .hbm, ⟨7, _⟩ => ⟨S1024x1024, .bf16⟩
  | .hbm, ⟨8, _⟩ => ⟨S1024x1024, .f32⟩
  | .hbm, ⟨9, _⟩ => ⟨S16384x1024, .f32⟩
  | .hbm, ⟨10, _⟩ => ⟨S1x1x1x1024, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Mem.lean ====
abbrev S16384x1024 : Shape := ⟨2, ![16384, 1024]⟩
abbrev S4x8x1x1024 : Shape := ⟨4, ![4, 8, 1, 1024]⟩
abbrev S4x1024x256 : Shape := ⟨3, ![4, 1024, 256]⟩
abbrev S4x256x1024 : Shape := ⟨3, ![4, 256, 1024]⟩
abbrev S1024x512 : Shape := ⟨2, ![1024, 512]⟩
abbrev S512x1024 : Shape := ⟨2, ![512, 1024]⟩
abbrev S1x1x1x1024 : Shape := ⟨4, ![1, 1, 1, 1024]⟩
abbrev S1x1024x256 : Shape := ⟨3, ![1, 1024, 256]⟩
abbrev S1x256x1024 : Shape := ⟨3, ![1, 256, 1024]⟩
abbrev S256x512 : Shape := ⟨2, ![256, 512]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x64 : Shape := ⟨2, ![512, 64]⟩
abbrev S256x64 : Shape := ⟨2, ![256, 64]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x1024x256, .bf16⟩
  | .hbm, ⟨3, _⟩ => ⟨S4x256x1024, .bf16⟩
  | .hbm, ⟨4, _⟩ => ⟨S1024x512, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1024x256, .bf16⟩
  | .local _ .vmem, ⟨5, _⟩ => ⟨S1x256x1024, .bf16⟩
  | .local _ .vmem, ⟨6, _⟩ => ⟨S256x512, .f32⟩
  | .local _ .vmem, ⟨7, _⟩ => ⟨S256x512, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, c4_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, c5_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemReferenceIdeal.lean ====
abbrev S16384x1024 : Shape := ⟨2, ![16384, 1024]⟩
abbrev S4x8x1x1024 : Shape := ⟨4, ![4, 8, 1, 1024]⟩
abbrev S4x1024x256 : Shape := ⟨3, ![4, 1024, 256]⟩
abbrev S4x256x1024 : Shape := ⟨3, ![4, 256, 1024]⟩
abbrev S1024x512 : Shape := ⟨2, ![1024, 512]⟩
abbrev S1x1x1x1024 : Shape := ⟨4, ![1, 1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x256 : Shape := ⟨3, ![1, 1024, 256]⟩
abbrev S1024x256 : Shape := ⟨2, ![1024, 256]⟩
abbrev S16384x256 : Shape := ⟨2, ![16384, 256]⟩
abbrev S4x4096x4x64 : Shape := ⟨4, ![4, 4096, 4, 64]⟩
abbrev S4x256x2x4x64 : Shape := ⟨5, ![4, 256, 2, 4, 64]⟩
abbrev S4x256x1x4x64 : Shape := ⟨5, ![4, 256, 1, 4, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S1x256x1024 : Shape := ⟨3, ![1, 256, 1024]⟩
abbrev S256x1024 : Shape := ⟨2, ![256, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x1x1024, .f32⟩
  | .hbm, ⟨2, _⟩ => ⟨S4x1024x256, .bf16⟩
  | .hbm, ⟨3, _⟩ => ⟨S4x256x1024, .bf16⟩
  | .hbm, ⟨4, _⟩ => ⟨S1024x512, .f32⟩
  | .hbm, ⟨5, _⟩ => ⟨S1x1x1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024x256, .bf16⟩
  | .hbm, ⟨23, _⟩ => ⟨S1024x256, .bf16⟩
  | .hbm, ⟨24, _⟩ => ⟨S1024x256, .f32⟩
  | .hbm, ⟨25, _⟩ => ⟨S16384x256, .f32⟩
  | .hbm, ⟨26, _⟩ => ⟨S4x4096x4x64, .f32⟩
  | .hbm, ⟨27, _⟩ => ⟨S4x256x2x4x64, .f32⟩
  | .hbm, ⟨28, _⟩ => ⟨S4x256x1x4x64, .f32⟩
  | .hbm, ⟨29, _⟩ => ⟨S4x256x4x64, .f32⟩
  | .hbm, ⟨30, _⟩ => ⟨S4x4x4096x256, .f32⟩
  | .hbm, ⟨31, _⟩ => ⟨S_, .f32⟩
  | .hbm, ⟨32, _⟩ => ⟨S4x4x4096x256, .f32⟩
  | .hbm, ⟨33, _⟩ => ⟨S4x4x4096x256, .f32⟩
  | .hbm, ⟨34, _⟩ => ⟨S_, .f32⟩
  | .hbm, ⟨35, _⟩ => ⟨S4x4x4096, .f32⟩
  | .hbm, ⟨36, _⟩ => ⟨S_, .f32⟩
  | .hbm, ⟨37, _⟩ => ⟨S4x4x4096, .f32⟩
  | .hbm, ⟨38, _⟩ => ⟨S4x4x4096, .f32⟩
  | .hbm, ⟨39, _⟩ => ⟨S4x4x4096x1, .f32⟩
  | .hbm, ⟨40, _⟩ => ⟨S4x4x4096x256, .f32⟩
  | .hbm, ⟨41, _⟩ => ⟨S4x4x4096x256, .f32⟩
  | .hbm, ⟨42, _⟩ => ⟨S4x4x4096x256, .f32⟩
  | .hbm, ⟨43, _⟩ => ⟨S_, .f32⟩
  | .hbm, ⟨44, _⟩ => ⟨S4x4x4096, .f32⟩
  | .hbm, ⟨45, _⟩ => ⟨S4x4x4096x1, .f32⟩
  | .hbm, ⟨46, _⟩ => ⟨S4x4x4096x256, .f32⟩
  | .hbm, ⟨47, _⟩ => ⟨S4x4x4096x256, .f32⟩
  | .hbm, ⟨48, _⟩ => ⟨S4x256x1x4x64, .f32⟩
  | .hbm, ⟨49, _⟩ => ⟨S4x256x4x64, .f32⟩
  | .hbm, ⟨50, _⟩ => ⟨S4x4x64x4096, .f32⟩
  | .hbm, ⟨51, _⟩ => ⟨S4x4096x4x64, .f32⟩
  | .hbm, ⟨52, _⟩ => ⟨S16384x256, .f32⟩
  | .hbm, ⟨53, _⟩ => ⟨S1x256x1024, .bf16⟩
  | .hbm, ⟨54, _⟩ => ⟨S256x1024, .bf16⟩
  | .hbm, ⟨55, _⟩ => ⟨S256x1024, .f32⟩
  | .hbm, ⟨56, _⟩ => ⟨S16384x1024, .f32⟩
  | .hbm, ⟨57, _⟩ => ⟨S1x1x1x1024, .f32⟩
  | .hbm, ⟨58, _⟩ => ⟨S1x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== MemKv.lean ====
abbrev S1024x1024 : Shape := ⟨2, ![1024, 1024]⟩
abbrev S4x1x1024 : Shape := ⟨3, ![4, 1, 1024]⟩
abbrev S4x1024x512 : Shape := ⟨3, ![4, 1024, 512]⟩
abbrev S1024x512 : Shape := ⟨2, ![1024, 512]⟩
abbrev S256x1024 : Shape := ⟨2, ![256, 1024]⟩
abbrev S1x1x1024 : Shape := ⟨3, ![1, 1, 1024]⟩
abbrev S1x1024x512 : Shape := ⟨3, ![1, 1024, 512]⟩
abbrev S256x512 : Shape := ⟨2, ![256, 512]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4x1x1024, .f32⟩
  | .hbm, ⟨2, _⟩ => ⟨S4x1024x512, .bf16⟩
  | .hbm, ⟨3, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1024x512, .bf16⟩
  | .local _ .vmem, ⟨4, _⟩ => ⟨S256x512, .f32⟩
  | .local _ .vmem, ⟨5, _⟩ => ⟨S256x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvReferenceIdeal.lean ====
abbrev S1024x1024 : Shape := ⟨2, ![1024, 1024]⟩
abbrev S4x1x1024 : Shape := ⟨3, ![4, 1, 1024]⟩
abbrev S4x1024x512 : Shape := ⟨3, ![4, 1024, 512]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4x1x1024, .f32⟩
  | .hbm, ⟨2, _⟩ => ⟨S4x1024x512, .bf16⟩
  | .hbm, ⟨3, _⟩ => ⟨S1x1x1024, .f32⟩
  | .hbm, ⟨4, _⟩ => ⟨S1x1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1x1024x512, .bf16⟩
  | .hbm, ⟨21, _⟩ => ⟨S1024x512, .bf16⟩
  | .hbm, ⟨22, _⟩ => ⟨S1024x512, .f32⟩
  | .hbm, ⟨23, _⟩ => ⟨S1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FfnSample.lean ====
abbrev S128x1024 : Shape := ⟨2, ![128, 1024]⟩
abbrev S4x8x1x1024 : Shape := ⟨4, ![4, 8, 1, 1024]⟩
abbrev S4x2x1024x5632 : Shape := ⟨4, ![4, 2, 1024, 5632]⟩
abbrev S4x2x2816x1024 : Shape := ⟨4, ![4, 2, 2816, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S128 : Shape := ⟨1, ![128]⟩
abbrev S128x1 : Shape := ⟨2, ![128, 1]⟩
abbrev S1x1x1024x256 : Shape := ⟨4, ![1, 1, 1024, 256]⟩
abbrev S1024x256 : Shape := ⟨2, ![1024, 256]⟩
abbrev S128x256 : Shape := ⟨2, ![128, 256]⟩
abbrev S1x1x256x1024 : Shape := ⟨4, ![1, 1, 256, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S4x8x1x1024, .f32⟩
  | .hbm, ⟨2, _⟩ => ⟨S4x2x1024x5632, .bf16⟩
  | .hbm, ⟨3, _⟩ => ⟨S4x2x2816x1024, .bf16⟩
  | .hbm, ⟨4, _⟩ => ⟨S128x1024, .f32⟩
  | .local _ .vmem, ⟨0, _⟩ => ⟨S128x1024, .f32⟩
  | .local _ .vmem, ⟨1, _⟩ => ⟨S1x1x1x1024, .f32⟩
  | .local _ .vmem, ⟨2, _⟩ => ⟨S1x1x1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c6_i32 : BitVec 32 := 6#32
  let c0_i32 : BitVec 32 := 0#32
  let c0_i32_0 : BitVec 32 := 0#32
  let c0_i32_1 : BitVec 32 := 0#32
  ![c3_i32.toNat, c6_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c7_i32 : BitVec 32 := 7#32
  let c0_i32 : BitVec 32 := 0#32
  let c0_i32_0 : BitVec 32 := 0#32
  let c0_i32_1 : BitVec 32 := 0#32
  ![c3_i32.toNat, c7_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSampleReferenceIdeal.lean ====
abbrev S128x1024 : Shape := ⟨2, ![128, 1024]⟩
abbrev S4x8x1x1024 : Shape := ⟨4, ![4, 8, 1, 1024]⟩
abbrev S4x2x1024x5632 : Shape := ⟨4, ![4, 2, 1024, 5632]⟩
abbrev S4x2x2816x1024 : Shape := ⟨4, ![4, 2, 2816, 1024]⟩
abbrev S1x1x1x1024 : Shape := ⟨4, ![1, 1, 1, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1x1x1024x5632 : Shape := ⟨4, ![1, 1, 1024, 5632]⟩
abbrev S1024x5632 : Shape := ⟨2, ![1024, 5632]⟩
abbrev S128x5632 : Shape := ⟨2, ![128, 5632]⟩
abbrev S128x2816 : Shape := ⟨2, ![128, 2816]⟩
abbrev S1x1x2816x1024 : Shape := ⟨4, ![1, 1, 2816, 1024]⟩
abbrev S2816x1024 : Shape := ⟨2, ![2816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x8x1x1024, .f32⟩
  | .hbm, ⟨2, _⟩ => ⟨S4x2x1024x5632, .bf16⟩
  | .hbm, ⟨3, _⟩ => ⟨S4x2x2816x1024, .bf16⟩
  | .hbm, ⟨4, _⟩ => ⟨S1x1x1x1024, .f32⟩
  | .hbm, ⟨5, _⟩ => ⟨S1x1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S1x1x1024x5632, .bf16⟩
  | .hbm, ⟨22, _⟩ => ⟨S1024x5632, .bf16⟩
  | .hbm, ⟨23, _⟩ => ⟨S1024x5632, .f32⟩
  | .hbm, ⟨24, _⟩ => ⟨S128x5632, .f32⟩
  | .hbm, ⟨25, _⟩ => ⟨S128x2816, .f32⟩
  | .hbm, ⟨26, _⟩ => ⟨S128x2816, .f32⟩
  | .hbm, ⟨27, _⟩ => ⟨S128x2816, .f32⟩
  | .hbm, ⟨28, _⟩ => ⟨S128x2816, .f32⟩
  | .hbm, ⟨29, _⟩ => ⟨S_, .f32⟩
  | .hbm, ⟨30, _⟩ => ⟨S128x2816, .f32⟩
  | .hbm, ⟨31, _⟩ => ⟨S128x2816, .f32⟩
  | .hbm, ⟨32, _⟩ => ⟨S_, .f32⟩
  | .hbm, ⟨33, _⟩ => ⟨S128x2816, .f32⟩
  | .hbm, ⟨34, _⟩ => ⟨S128x2816, .f32⟩
  | .hbm, ⟨35, _⟩ => ⟨S128x2816, .f32⟩
  | .hbm, ⟨36, _⟩ => ⟨S128x2816, .f32⟩
  | .hbm, ⟨37, _⟩ => ⟨S1x1x2816x1024, .bf16⟩
  | .hbm, ⟨38, _⟩ => ⟨S2816x1024, .bf16⟩
  | .hbm, ⟨39, _⟩ => ⟨S2816x1024, .f32⟩
  | .hbm, ⟨40, _⟩ => ⟨S128x1024, .f32⟩
  | .hbm, ⟨41, _⟩ => ⟨S1x1x1x1024, .f32⟩
  | .hbm, ⟨42, _⟩ => ⟨S1x1024, .f32⟩
  | .hbm, ⟨43, _⟩ => ⟨S128x1024, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S128x1, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== InprojSample.lean ====
abbrev S128x1024 : Shape := ⟨2, ![128, 1024]⟩
abbrev S4x8x1x1024 : Shape := ⟨4, ![4, 8, 1, 1024]⟩
abbrev S4x1024x3968 : Shape := ⟨3, ![4, 1024, 3968]⟩
abbrev S128x128 : Shape := ⟨2, ![128, 128]⟩
abbrev S128x512 : Shape := ⟨2, ![128, 512]⟩
abbrev S128x256 : Shape := ⟨2, ![128, 256]⟩
abbrev S128x1536 : Shape := ⟨2, ![128, 1536]⟩
abbrev S1x1x1x1024 : Shape := ⟨4, ![1, 1, 1, 1024]⟩
abbrev S1x1024x3968 : Shape := ⟨3, ![1, 1024, 3968]⟩
abbrev S1x1024 : Shape := ⟨2, ![1, 1024]⟩
abbrev S128 : Shape := ⟨1, ![128]⟩
abbrev S128x1 : Shape := ⟨2, ![128, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S128x768 : Shape := ⟨2, ![128, 768]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩

abbrev nBuf : Space → Nat
  | .hbm => 16
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S4x8x1x1024, .f32⟩
  | .hbm, ⟨2, _⟩ => ⟨S4x1024x3968, .bf16⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x1024, .bf16⟩
  | .hbm, ⟨8, _⟩ => ⟨S128x512, .f32⟩
  | .hbm, ⟨9, _⟩ => ⟨S128x256, .f32⟩
  | .hbm, ⟨10, _⟩ => ⟨S128x256, .bf16⟩
  | .hbm, ⟨11, _⟩ => ⟨S128x128, .bf16⟩
  | .hbm, ⟨12, _⟩ => ⟨S128x256, .bf16⟩
  | .hbm, ⟨13, _⟩ => ⟨S128x128, .f32⟩
  | .hbm, ⟨14, _⟩ => ⟨S128x1536, .f32⟩
  | .hbm, ⟨15, _⟩ => ⟨S128x512, .f32⟩
  | .local _ .vmem, ⟨0, _⟩ => ⟨S128x1024, .f32⟩
  | .local _ .vmem, ⟨1, _⟩ => ⟨S1x1x1x1024, .f32⟩
  | .local _ .vmem, ⟨2, _⟩ => ⟨S1x1024x3968, .bf16⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x1024, .bf16⟩
  | .local _ .vmem, ⟨8, _⟩ => ⟨S128x512, .f32⟩
  | .local _ .vmem, ⟨9, _⟩ => ⟨S128x256, .f32⟩
  | .local _ .vmem, ⟨10, _⟩ => ⟨S128x256, .bf16⟩
  | .local _ .vmem, ⟨11, _⟩ => ⟨S128x128, .bf16⟩
  | .local _ .vmem, ⟨12, _⟩ => ⟨S128x256, .bf16⟩
  | .local _ .vmem, ⟨13, _⟩ => ⟨S128x128, .f32⟩
  | .local _ .vmem, ⟨14, _⟩ => ⟨S128x1536, .f32⟩
  | .local _ .vmem, ⟨15, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== InprojSampleReferenceIdeal.lean ====
abbrev S128x1024 : Shape := ⟨2, ![128, 1024]⟩
abbrev S4x8x1x1024 : Shape := ⟨4, ![4, 8, 1, 1024]⟩
abbrev S4x1024x3968 : Shape := ⟨3, ![4, 1024, 3968]⟩
abbrev S128x128 : Shape := ⟨2, ![128, 128]⟩
abbrev S1x1x1x1024 : Shape := ⟨4, ![1, 1, 1, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1x1024x3968 : Shape := ⟨3, ![1, 1024, 3968]⟩
abbrev S1024x3968 : Shape := ⟨2, ![1024, 3968]⟩
abbrev S128x3968 : Shape := ⟨2, ![128, 3968]⟩
abbrev S128x1536 : Shape := ⟨2, ![128, 1536]⟩
abbrev S128x512 : Shape := ⟨2, ![128, 512]⟩
abbrev S1x128x1x128 : Shape := ⟨4, ![1, 128, 1, 128]⟩
abbrev S128x120 : Shape := ⟨2, ![128, 120]⟩
abbrev S128x8 : Shape := ⟨2, ![128, 8]⟩
abbrev S128x64 : Shape := ⟨2, ![128, 64]⟩
abbrev S128x256 : Shape := ⟨2, ![128, 256]⟩
abbrev S1x128x8x128 : Shape := ⟨4, ![1, 128, 8, 128]⟩
abbrev S128x1016 : Shape := ⟨2, ![128, 1016]⟩

abbrev nBuf : Space → Nat
  | .hbm => 116
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x8x1x1024, .f32⟩
  | .hbm, ⟨2, _⟩ => ⟨S4x1024x3968, .bf16⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x1x1x1024, .f32⟩
  | .hbm, ⟨8, _⟩ => ⟨S1x1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S1x1024x3968, .bf16⟩
  | .hbm, ⟨25, _⟩ => ⟨S1024x3968, .bf16⟩
  | .hbm, ⟨26, _⟩ => ⟨S1024x3968, .f32⟩
  | .hbm, ⟨27, _⟩ => ⟨S128x3968, .f32⟩
  | .hbm, ⟨28, _⟩ => ⟨S128x1024, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x1536, .f32⟩
  | .hbm, ⟨36, _⟩ => ⟨S128x512, .f32⟩
  | .hbm, ⟨37, _⟩ => ⟨S128x128, .f32⟩
  | .hbm, ⟨38, _⟩ => ⟨S1x128x1x128, .f32⟩
  | .hbm, ⟨39, _⟩ => ⟨S1x128x1x128, .f32⟩
  | .hbm, ⟨40, _⟩ => ⟨S128x128, .f32⟩
  | .hbm, ⟨41, _⟩ => ⟨S128x128, .f32⟩
  | .hbm, ⟨42, _⟩ => ⟨S128x120, .f32⟩
  | .hbm, ⟨43, _⟩ => ⟨S128x8, .f32⟩
  | .hbm, ⟨44, _⟩ => ⟨S128x128, .f32⟩
  | .hbm, ⟨45, _⟩ => ⟨S1x128x1x128, .f32⟩
  | .hbm, ⟨46, _⟩ => ⟨S1x128x1x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x8, .f32⟩
  | .hbm, ⟨51, _⟩ => ⟨S128x120, .f32⟩
  | .hbm, ⟨52, _⟩ => ⟨S128x128, .f32⟩
  | .hbm, ⟨53, _⟩ => ⟨S1x128x1x128, .f32⟩
  | .hbm, ⟨54, _⟩ => ⟨S1x128x1x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S1x128x1x128, .f32⟩
  | .hbm, ⟨59, _⟩ => ⟨S1x128x1x128, .f32⟩
  | .hbm, ⟨60, _⟩ => ⟨S128x128, .f32⟩
  | .hbm, ⟨61, _⟩ => ⟨S128x128, .f32⟩
  | .hbm, ⟨62, _⟩ => ⟨S128x120, .f32⟩
  | .hbm, ⟨63, _⟩ => ⟨S128x8, .f32⟩
  | .hbm, ⟨64, _⟩ => ⟨S128x128, .f32⟩
  | .hbm, ⟨65, _⟩ => ⟨S1x128x1x128, .f32⟩
  | .hbm, ⟨66, _⟩ => ⟨S1x128x1x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x8, .f32⟩
  | .hbm, ⟨71, _⟩ => ⟨S128x120, .f32⟩
  | .hbm, ⟨72, _⟩ => ⟨S128x128, .f32⟩
  | .hbm, ⟨73, _⟩ => ⟨S1x128x1x128, .f32⟩
  | .hbm, ⟨74, _⟩ => ⟨S1x128x1x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S1x128x1x128, .f32⟩
  | .hbm, ⟨79, _⟩ => ⟨S1x128x1x128, .f32⟩
  | .hbm, ⟨80, _⟩ => ⟨S128x128, .f32⟩
  | .hbm, ⟨81, _⟩ => ⟨S128x64, .f32⟩
  | .hbm, ⟨82, _⟩ => ⟨S128x64, .f32⟩
  | .hbm, ⟨83, _⟩ => ⟨S128x64, .f32⟩
  | .hbm, ⟨84, _⟩ => ⟨S128x64, .f32⟩
  | .hbm, ⟨85, _⟩ => ⟨S128x256, .f32⟩
  | .hbm, ⟨86, _⟩ => ⟨S1x128x1x128, .f32⟩
  | .hbm, ⟨87, _⟩ => ⟨S1x128x8x128, .f32⟩
  | .hbm, ⟨88, _⟩ => ⟨S128x1024, .f32⟩
  | .hbm, ⟨89, _⟩ => ⟨S128x1024, .f32⟩
  | .hbm, ⟨90, _⟩ => ⟨S128x1016, .f32⟩
  | .hbm, ⟨91, _⟩ => ⟨S128x8, .f32⟩
  | .hbm, ⟨92, _⟩ => ⟨S128x1024, .f32⟩
  | .hbm, ⟨93, _⟩ => ⟨S1x128x1x128, .f32⟩
  | .hbm, ⟨94, _⟩ => ⟨S1x128x8x128, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S128x8, .f32⟩
  | .hbm, ⟨99, _⟩ => ⟨S128x1016, .f32⟩
  | .hbm, ⟨100, _⟩ => ⟨S128x1024, .f32⟩
  | .hbm, ⟨101, _⟩ => ⟨S1x128x1x128, .f32⟩
  | .hbm, ⟨102, _⟩ => ⟨S1x128x8x128, .f32⟩
  | .hbm, ⟨103, _⟩ => ⟨S128x1024, .f32⟩
  | .hbm, ⟨104, _⟩ => ⟨S128x1024, .f32⟩
  | .hbm, ⟨105, _⟩ => ⟨S128x1024, .f32⟩
  | .hbm, ⟨106, _⟩ => ⟨S_, .f32⟩
  | .hbm, ⟨107, _⟩ => ⟨S128x1024, .f32⟩
  | .hbm, ⟨108, _⟩ => ⟨S128x1024, .f32⟩
  | .hbm, ⟨109, _⟩ => ⟨S128x1024, .bf16⟩
  | .hbm, ⟨110, _⟩ => ⟨S128x512, .f32⟩
  | .hbm, ⟨111, _⟩ => ⟨S128x256, .f32⟩
  | .hbm, ⟨112, _⟩ => ⟨S128x256, .bf16⟩
  | .hbm, ⟨113, _⟩ => ⟨S128x128, .bf16⟩
  | .hbm, ⟨114, _⟩ => ⟨S128x256, .f32⟩
  | .hbm, ⟨115, _⟩ => ⟨S128x256, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call1_v0 : Ref sig .tc := ⟨.hbm, 50, rfl⟩
abbrev main_call1_v1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call2_v0 : Ref sig .tc := ⟨.hbm, 62, rfl⟩
abbrev main_call2_v1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call3_v0 : Ref sig .tc := ⟨.hbm, 70, rfl⟩
abbrev main_call3_v1 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call4_v0 : Ref sig .tc := ⟨.hbm, 90, rfl⟩
abbrev main_call4_v1 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call5_v0 : Ref sig .tc := ⟨.hbm, 98, rfl⟩
abbrev main_call5_v1 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_2 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]
-- ==== GdnSample.lean ====
abbrev S128x1536 : Shape := ⟨2, ![128, 1536]⟩
abbrev S4x128x4608 : Shape := ⟨3, ![4, 128, 4608]⟩
abbrev S128x128 : Shape := ⟨2, ![128, 128]⟩
abbrev S128x512 : Shape := ⟨2, ![128, 512]⟩
abbrev S4x128x4x128x128 : Shape := ⟨5, ![4, 128, 4, 128, 128]⟩
abbrev S4x4x1536 : Shape := ⟨3, ![4, 4, 1536]⟩
abbrev S4x1x128 : Shape := ⟨3, ![4, 1, 128]⟩
abbrev S128x4x128x128 : Shape := ⟨4, ![128, 4, 128, 128]⟩
abbrev S8x1536 : Shape := ⟨2, ![8, 1536]⟩
abbrev S1x8x4608 : Shape := ⟨3, ![1, 8, 4608]⟩
abbrev S8x128 : Shape := ⟨2, ![8, 128]⟩
abbrev S8x512 : Shape := ⟨2, ![8, 512]⟩
abbrev S1x8x4x128x128 : Shape := ⟨5, ![1, 8, 4, 128, 128]⟩
abbrev S1x4x1536 : Shape := ⟨3, ![1, 4, 1536]⟩
abbrev S1x1x128 : Shape := ⟨3, ![1, 1, 128]⟩
abbrev S8x4x128x128 : Shape := ⟨4, ![8, 4, 128, 128]⟩
abbrev S1x1x1536 : Shape := ⟨3, ![1, 1, 1536]⟩
abbrev S1x1536 : Shape := ⟨2, ![1, 1536]⟩
abbrev S1x8x1536 : Shape := ⟨3, ![1, 8, 1536]⟩
abbrev S1x128 : Shape := ⟨2, ![1, 128]⟩
abbrev S8 : Shape := ⟨1, ![8]⟩
abbrev S8x1 : Shape := ⟨2, ![8, 1]⟩
abbrev S128x8 : Shape := ⟨2, ![128, 8]⟩
abbrev S1x1x1x128x128 : Shape := ⟨5, ![1, 1, 1, 128, 128]⟩
abbrev S128x1 : Shape := ⟨2, ![128, 1]⟩
abbrev S128 : Shape := ⟨1, ![128]⟩
abbrev S1x1 : Shape := ⟨2, ![1, 1]⟩
abbrev S1x1x128x128 : Shape := ⟨4, ![1, 1, 128, 128]⟩
abbrev S1 : Shape := ⟨1, ![1]⟩

abbrev nBuf : Space → Nat
  | .hbm => 11
  | .vmem => 18
  | .smem => 0
  | _ => 0

abbrev bufTy : (tb : Table) → Fin (tcTables nBuf tb) → BufTy
  | .hbm, ⟨0, _⟩ => ⟨S128x1536, .f32⟩
  | .hbm, ⟨1, _⟩ => ⟨S4x128x4608, .f32⟩
  | .hbm, ⟨2, _⟩ => ⟨S128x128, .f32⟩
  | .hbm, ⟨3, _⟩ => ⟨S128x512, .f32⟩
  | .hbm, ⟨4, _⟩ => ⟨S4x128x4x128x128, .f32⟩
  | .hbm, ⟨5, _⟩ => ⟨S4x4x1536, .f32⟩
  | .hbm, ⟨6, _⟩ => ⟨S4x1x128, .f32⟩
  | .hbm, ⟨7, _⟩ => ⟨S4x1x128, .f32⟩
  | .hbm, ⟨8, _⟩ => ⟨S4x1x128, .f32⟩
  | .hbm, ⟨9, _⟩ => ⟨S128x512, .f32⟩
  | .hbm, ⟨10, _⟩ => ⟨S128x4x128x128, .f32⟩
  | .local _ .vmem, ⟨0, _⟩ => ⟨S8x1536, .f32⟩
  | .local _ .vmem, ⟨1, _⟩ => ⟨S8x1536, .f32⟩
  | .local _ .vmem, ⟨2, _⟩ => ⟨S1x8x4608, .f32⟩
  | .local _ .vmem, ⟨3, _⟩ => ⟨S1x8x4608, .f32⟩
  | .local _ .vmem, ⟨4, _⟩ => ⟨S8x128, .f32⟩
  | .local _ .vmem, ⟨5, _⟩ => ⟨S8x128, .f32⟩
  | .local _ .vmem, ⟨6, _⟩ => ⟨S8x512, .f32⟩
  | .local _ .vmem, ⟨7, _⟩ => ⟨S8x512, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S1x4x1536, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S8x512, .f32⟩
  | .local _ .vmem, ⟨15, _⟩ => ⟨S8x512, .f32⟩
  | .local _ .vmem, ⟨16, _⟩ => ⟨S8x4x128x128, .f32⟩
  | .local _ .vmem, ⟨17, _⟩ => ⟨S8x4x128x128, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GdnSampleReferenceIdeal.lean ====
abbrev S128x1536 : Shape := ⟨2, ![128, 1536]⟩
abbrev S4x128x4608 : Shape := ⟨3, ![4, 128, 4608]⟩
abbrev S128x128 : Shape := ⟨2, ![128, 128]⟩
abbrev S128x512 : Shape := ⟨2, ![128, 512]⟩
abbrev S4x128x4x128x128 : Shape := ⟨5, ![4, 128, 4, 128, 128]⟩
abbrev S4x4x1536 : Shape := ⟨3, ![4, 4, 1536]⟩
abbrev S4x1x128 : Shape := ⟨3, ![4, 1, 128]⟩
abbrev S1x128x4608 : Shape := ⟨3, ![1, 128, 4608]⟩
abbrev S128x4608 : Shape := ⟨2, ![128, 4608]⟩
abbrev S128x3x1536 : Shape := ⟨3, ![128, 3, 1536]⟩
abbrev S128x1x1536 : Shape := ⟨3, ![128, 1, 1536]⟩
abbrev S128x4x1536 : Shape := ⟨3, ![128, 4, 1536]⟩
abbrev S1x1x1536 : Shape := ⟨3, ![1, 1, 1536]⟩
abbrev S1536 : Shape := ⟨1, ![1536]⟩
abbrev S1x1536 : Shape := ⟨2, ![1, 1536]⟩
abbrev S_ : Shape := ⟨0, ![]⟩
abbrev S128x12x128 : Shape := ⟨3, ![128, 12, 128]⟩
abbrev S128x4x128 : Shape := ⟨3, ![128, 4, 128]⟩
abbrev S128x4 : Shape := ⟨2, ![128, 4]⟩
abbrev S128x4x1 : Shape := ⟨3, ![128, 4, 1]⟩
abbrev S1x1x4 : Shape := ⟨3, ![1, 1, 4]⟩
abbrev S4 : Shape := ⟨1, ![4]⟩
abbrev S1x4 : Shape := ⟨2, ![1, 4]⟩
abbrev S1x128x4x128x128 : Shape := ⟨5, ![1, 128, 4, 128, 128]⟩
abbrev S128x4x128x128 : Shape := ⟨4, ![128, 4, 128, 128]⟩
abbrev S128x4x1x1 : Shape := ⟨4, ![128, 4, 1, 1]⟩
abbrev S128x4x128x1 : Shape := ⟨4, ![128, 4, 128, 1]⟩
abbrev S128x4x1x128 : Shape := ⟨4, ![128, 4, 1, 128]⟩
abbrev S1x1x128 : Shape := ⟨3, ![1, 1, 128]⟩
abbrev S128 : Shape := ⟨1, ![128]⟩

abbrev nBuf : Space → Nat
  | .hbm => 183
  | .vmem => 0
  | .smem => 0
  | _ => 0

abbrev hbmTy0_0 (i : Nat) : BufTy := match i % 128 with
  | 0 => ⟨S128x1536, .f32⟩
  | 1 => ⟨S4x128x4608, .f32⟩
  | 2 => ⟨S128x128, .f32⟩
  | 3 => ⟨S128x512, .f32⟩
  | 4 => ⟨S4x128x4x128x128, .f32⟩
  | 5 => ⟨S4x4x1536, .f32⟩
  | 6 => ⟨S4x1x128, .f32⟩
  | 7 => ⟨S4x1x128, .f32⟩
  | 8 => ⟨S4x1x128, .f32⟩
  | 9 => ⟨S1x128x4608, .f32⟩
  | 10 => ⟨S128x4608, .f32⟩
  | 11 => ⟨S128x3x1536, .f32⟩
  | 12 => ⟨S128x1x1536, .f32⟩
  | 13 => ⟨S128x4x1536, .f32⟩
  | 14 => ⟨S128x1x1536, .f32⟩
  | 15 => ⟨S128x1536, .f32⟩
  | 16 => ⟨S1x1x1536, .f32⟩
  | 17 => ⟨S1536, .f32⟩
  | 18 => ⟨S1x1536, .f32⟩
  | 19 => ⟨S128x1536, .f32⟩
  | 20 => ⟨S128x1536, .f32⟩
  | 21 => ⟨S128x1x1536, .f32⟩
  | 22 => ⟨S128x1536, .f32⟩
  | 23 => ⟨S1x1x1536, .f32⟩
  | 24 => ⟨S1536, .f32⟩
  | 25 => ⟨S1x1536, .f32⟩
  | 26 => ⟨S128x1536, .f32⟩
  | 27 => ⟨S128x1536, .f32⟩
  | 28 => ⟨S128x1536, .f32⟩
  | 29 => ⟨S128x1x1536, .f32⟩
  | 30 => ⟨S128x1536, .f32⟩
  | 31 => ⟨S1x1x1536, .f32⟩
  | 32 => ⟨S1536, .f32⟩
  | 33 => ⟨S1x1536, .f32⟩
  | 34 => ⟨S128x1536, .f32⟩
  | 35 => ⟨S128x1536, .f32⟩
  | 36 => ⟨S128x1536, .f32⟩
  | 37 => ⟨S128x1x1536, .f32⟩
  | 38 => ⟨S128x1536, .f32⟩
  | 39 => ⟨S1x1x1536, .f32⟩
  | 40 => ⟨S1536, .f32⟩
  | 41 => ⟨S1x1536, .f32⟩
  | 42 => ⟨S128x1536, .f32⟩
  | 43 => ⟨S128x1536, .f32⟩
  | 44 => ⟨S128x1536, .f32⟩
  | 45 => ⟨S128x1536, .f32⟩
  | 46 => ⟨S128x1536, .f32⟩
  | 47 => ⟨S_, .f32⟩
  | 48 => ⟨S128x1536, .f32⟩
  | 49 => ⟨S128x1536, .f32⟩
  | 50 => ⟨S_, .f32⟩
  | 51 => ⟨S128x1536, .f32⟩
  | 52 => ⟨S128x1536, .f32⟩
  | 53 => ⟨S128x1536, .f32⟩
  | 54 => ⟨S128x12x128, .f32⟩
  | 55 => ⟨S128x4x128, .f32⟩
  | 56 => ⟨S128x4x128, .f32⟩
  | 57 => ⟨S128x4x128, .f32⟩
  | 58 => ⟨S128x4x128, .f32⟩
  | 59 => ⟨S_, .f32⟩
  | 60 => ⟨S128x4, .f32⟩
  | 61 => ⟨S128x4x1, .f32⟩
  | 62 => ⟨S_, .f32⟩
  | 63 => ⟨S128x4x1, .f32⟩
  | 64 => ⟨S128x4x1, .f32⟩
  | 65 => ⟨S128x4x1, .f32⟩
  | 66 => ⟨S128x4x128, .f32⟩
  | 67 => ⟨S128x4x128, .f32⟩
  | 68 => ⟨S_, .f32⟩
  | 69 => ⟨S128x4x128, .f32⟩
  | 70 => ⟨S128x4x128, .f32⟩
  | 71 => ⟨S128x4x128, .f32⟩
  | 72 => ⟨S_, .f32⟩
  | 73 => ⟨S128x4, .f32⟩
  | 74 => ⟨S128x4x1, .f32⟩
  | 75 => ⟨S_, .f32⟩
  | 76 => ⟨S128x4x1, .f32⟩
  | 77 => ⟨S128x4x1, .f32⟩
  | 78 => ⟨S128x4x1, .f32⟩
  | 79 => ⟨S128x4x128, .f32⟩
  | 80 => ⟨S128x4x128, .f32⟩
  | 81 => ⟨S1x1x4, .f32⟩
  | 82 => ⟨S4, .f32⟩
  | 83 => ⟨S4, .f32⟩
  | 84 => ⟨S4, .f32⟩
  | 85 => ⟨S128x4, .f32⟩
  | 86 => ⟨S1x1x4, .f32⟩
  | 87 => ⟨S4, .f32⟩
  | 88 => ⟨S1x4, .f32⟩
  | 89 => ⟨S128x4, .f32⟩
  | 90 => ⟨S128x4, .f32⟩
  | 91 => ⟨S_, .f32⟩
  | 92 => ⟨S128x4, .f32⟩
  | 93 => ⟨S128x4, .f32⟩
  | 94 => ⟨S128x4, .f32⟩
  | 95 => ⟨S128x4, .f32⟩
  | 96 => ⟨S128x4, .i1⟩
  | 97 => ⟨S128x4, .f32⟩
  | 98 => ⟨S128x4, .f32⟩
  | 99 => ⟨S128x4, .f32⟩
  | 100 => ⟨S128x4, .f32⟩
  | 101 => ⟨S128x4, .f32⟩
  | 102 => ⟨S128x4, .f32⟩
  | 103 => ⟨S128x4, .f32⟩
  | 104 => ⟨S128x4, .f32⟩
  | 105 => ⟨S1x4, .f32⟩
  | 106 => ⟨S128x4, .f32⟩
  | 107 => ⟨S128x4, .f32⟩
  | 108 => ⟨S128x4, .f32⟩
  | 109 => ⟨S128x4x1, .f32⟩
  | 110 => ⟨S128x4, .f32⟩
  | 111 => ⟨S128x4, .f32⟩
  | 112 => ⟨S128x4, .f32⟩
  | 113 => ⟨S_, .f32⟩
  | 114 => ⟨S128x4, .f32⟩
  | 115 => ⟨S128x4, .f32⟩
  | 116 => ⟨S_, .f32⟩
  | 117 => ⟨S128x4, .f32⟩
  | 118 => ⟨S128x4, .f32⟩
  | 119 => ⟨S128x4x1, .f32⟩
  | 120 => ⟨S128x4x128, .f32⟩
  | 121 => ⟨S128x4x128, .f32⟩
  | 122 => ⟨S128x4x128, .f32⟩
  | 123 => ⟨S128x4x128, .f32⟩
  | 124 => ⟨S128x4x128, .f32⟩
  | 125 => ⟨S128x4x128, .f32⟩
  | 126 => ⟨S1x128x4x128x128, .f32⟩
  | 127 => ⟨S128x4x128x128, .f32⟩
  | _ => ⟨S128x1536, .f32⟩

abbrev hbmTy0_1 (i : Nat) : BufTy := match i % 128 with
  | 0 => ⟨S128x4x128, .f32⟩
  | 1 => ⟨S128x4x128, .f32⟩
  | 2 => ⟨S128x4x128, .f32⟩
  | 3 => ⟨S128x4x128, .f32⟩
  | 4 => ⟨S1x128x4x128x128, .f32⟩
  | 5 => ⟨S128x4x128x128, .f32⟩
  | 6 => ⟨S128x4x128, .f32⟩
  | 7 => ⟨S128x4x128, .f32⟩
  | 8 => ⟨S_, .f32⟩
  | 9 => ⟨S128x4, .f32⟩
  | 10 => ⟨S128x4x1, .f32⟩
  | 11 => ⟨S128x4x128, .f32⟩
  | 12 => ⟨S128x4x128, .f32⟩
  | 13 => ⟨S128x4x128, .f32⟩
  | 14 => ⟨S1x128x4x128x128, .f32⟩
  | 15 => ⟨S128x4x128x128, .f32⟩
  | 16 => ⟨S128x4x1x1, .f32⟩
  | 17 => ⟨S128x4x128x128, .f32⟩
  | 18 => ⟨S128x4x128x128, .f32⟩
  | 19 => ⟨S128x4x128x1, .f32⟩
  | 20 => ⟨S128x4x1x128, .f32⟩
  | 21 => ⟨S128x4x128x128, .f32⟩
  | 22 => ⟨S128x4x128x128, .f32⟩
  | 23 => ⟨S128x4x128x128, .f32⟩
  | 24 => ⟨S128x4x128x128, .f32⟩
  | 25 => ⟨S1x1x128, .f32⟩
  | 26 => ⟨S128, .f32⟩
  | 27 => ⟨S128x4x128, .f32⟩
  | 28 => ⟨S_, .f32⟩
  | 29 => ⟨S128x4, .f32⟩
  | 30 => ⟨S128x4x1, .f32⟩
  | 31 => ⟨S_, .f32⟩
  | 32 => ⟨S128x4x1, .f32⟩
  | 33 => ⟨S128x4x1, .f32⟩
  | 34 => ⟨S_, .f32⟩
  | 35 => ⟨S128x4x1, .f32⟩
  | 36 => ⟨S128x4x1, .f32⟩
  | 37 => ⟨S128x4x1, .f32⟩
  | 38 => ⟨S128x4x128, .f32⟩
  | 39 => ⟨S128x4x128, .f32⟩
  | 40 => ⟨S1x1x128, .f32⟩
  | 41 => ⟨S128x4x128, .f32⟩
  | 42 => ⟨S128x4x128, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S_, .f32⟩
  | 49 => ⟨S128x512, .f32⟩
  | 50 => ⟨S128x512, .f32⟩
  | 51 => ⟨S128x512, .f32⟩
  | 52 => ⟨S128x4x128, .f32⟩
  | 53 => ⟨S128x4x128, .f32⟩
  | 54 => ⟨S128x512, .f32⟩
  | _ => ⟨S128x1536, .f32⟩

abbrev hbmTy (i : Nat) : BufTy := match i / 128 with
  | 0 => hbmTy0_0 i
  | 1 => hbmTy0_1 i
  | _ => ⟨S128x1536, .f32⟩

abbrev bufTy : (tb : Table) → Fin (tcTables nBuf tb) → BufTy
  | .hbm, ⟨i, _⟩ => hbmTy i
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_1 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_2 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_4 : Ref sig .tc := ⟨.hbm, 113, rfl⟩
abbrev main_v78 : Ref sig .tc := ⟨.hbm, 114, rfl⟩
abbrev main_v79 : Ref sig .tc := ⟨.hbm, 115, rfl⟩
abbrev main_cst_5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_6 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_7 : Ref sig .tc := ⟨.hbm, 156, rfl⟩
abbrev main_v118 : Ref sig .tc := ⟨.hbm, 157, rfl⟩
abbrev main_v119 : Ref sig .tc := ⟨.hbm, 158, rfl⟩
abbrev main_cst_8 : Ref sig .tc := ⟨.hbm, 159, rfl⟩
abbrev main_v120 : Ref sig .tc := ⟨.hbm, 160, rfl⟩
abbrev main_v121 : Ref sig .tc := ⟨.hbm, 161, rfl⟩
abbrev main_cst_9 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_call2_v0 : Ref sig .tc := ⟨.hbm, 171, rfl⟩
abbrev main_call2_v1 : Ref sig .tc := ⟨.hbm, 172, rfl⟩
abbrev main_call2_cst : Ref sig .tc := ⟨.hbm, 173, rfl⟩
abbrev main_call2_v2 : Ref sig .tc := ⟨.hbm, 174, rfl⟩
abbrev main_call2_v3 : Ref sig .tc := ⟨.hbm, 175, rfl⟩
abbrev main_call2_cst_0 : Ref sig .tc := ⟨.hbm, 176, rfl⟩
abbrev main_call2_v4 : Ref sig .tc := ⟨.hbm, 177, rfl⟩
abbrev main_call2_v5 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]
-- ==== Proof.GdnMath.lean ====
/-
  The gated delta rule, chunk by chunk, over the extended reals: one chunk's corrected values, the next
  state and the chunk's output, and the state before every chunk by recursion. Arrays are read at natural
  row and column numbers (zero outside), so that a chunk is an offset.
-/
module

public import Idealize.ShloMosaic.Lib.Pipeline.ValueKit

@[expose] public section

noncomputable section

namespace Cert.Gdn

open Idealize.ShloMosaic

/-- A matrix read at natural coordinates: its entry inside, zero outside. -/
def rd2 {m n : ℕ} (A : (⟨2, ![m, n]⟩ : Shape).Idx → EReal) (r c : ℕ) : EReal :=
  if h : r < m ∧ c < n then A (ix2 ⟨r, h.1⟩ ⟨c, h.2⟩) else 0

/-- Inside its bounds a matrix is read at the index. -/
theorem rd2_of {m n : ℕ} (A : (⟨2, ![m, n]⟩ : Shape).Idx → EReal) {r c : ℕ} (hr : r < m) (hc : c < n) :
    rd2 A r c = A (ix2 ⟨r, hr⟩ ⟨c, hc⟩) := dif_pos ⟨hr, hc⟩

/-- A table of row vectors read at natural coordinates: its entry inside, zero outside. -/
def rd3 {m n : ℕ} (A : (⟨3, ![m, 1, n]⟩ : Shape).Idx → EReal) (r c : ℕ) : EReal :=
  if h : r < m ∧ c < n then A (ix3 ⟨r, h.1⟩ 0 ⟨c, h.2⟩) else 0

/-- Inside its bounds a table of row vectors is read at the index. -/
theorem rd3_of {m n : ℕ} (A : (⟨3, ![m, 1, n]⟩ : Shape).Idx → EReal) {r c : ℕ} (hr : r < m) (hc : c < n) :
    rd3 A r c = A (ix3 ⟨r, hr⟩ 0 ⟨c, hc⟩) := dif_pos ⟨hr, hc⟩

/-- An entry of a matrix is its read at natural coordinates. -/
theorem rd2_at {m n : ℕ} (A : (⟨2, ![m, n]⟩ : Shape).Idx → EReal) {r c : ℕ} (hr : r < m) (hc : c < n) :
    A (ix2 ⟨r, hr⟩ ⟨c, hc⟩) = rd2 A r c := (rd2_of A hr hc).symm

/-- An entry of a table of row vectors is its read at natural coordinates. -/
theorem rd3_at {m n : ℕ} (A : (⟨3, ![m, 1, n]⟩ : Shape).Idx → EReal) {r c : ℕ} (hr : r < m) (z : Fin 1) (hc : c < n) :
    A (ix3 ⟨r, hr⟩ z ⟨c, hc⟩) = rd3 A r c := by
  rw [rd3_of A hr hc, Subsingleton.elim z 0]

/-- One chunk's corrected values: the values less what the state already answers, of the chunk whose rows
    start at `r0` and the head whose columns start at `c0`. -/
def vnew (S : Fin 128 → Fin 128 → EReal) (W U : ℕ → ℕ → EReal) (r0 c0 : ℕ) (c : Fin 64) (v : Fin 128) : EReal :=
  U (r0 + c) (c0 + v) - ∑ k : Fin 128, W (r0 + c) (c0 + k) * S k v

/-- The state after a chunk: the old one decayed by `d` plus the keys against the corrected values. -/
def snext (S : Fin 128 → Fin 128 → EReal) (W U K : ℕ → ℕ → EReal) (d : Fin 128 → EReal) (r0 c0 : ℕ)
    (k v : Fin 128) : EReal :=
  S k v * d v + ∑ c : Fin 64, K (r0 + c) (c0 + k) * vnew S W U r0 c0 c v

/-- A chunk's output: the queries on the state, and the chunk's own scores on the corrected values. -/
def oval (S : Fin 128 → Fin 128 → EReal) (Q W U A : ℕ → ℕ → EReal) (r0 c0 a0 : ℕ) (c : Fin 64) (v : Fin 128) : EReal :=
  (∑ k : Fin 128, Q (r0 + c) (c0 + k) * S k v) + ∑ j : Fin 64, A (r0 + c) (a0 + j) * vnew S W U r0 c0 j v

/-- An output row scaled to unit mean square, weighted by `g`, gated by `z` times the logistic of `z`. -/
def gate (o : Fin 128 → EReal) (g z : EReal) (v : Fin 128) : EReal :=
  o v * Ideal.rsqrt (Ideal.div (∑ x : Fin 128, o x * o x) (Ideal.ofBits .f32 0x43000000#32) + Ideal.ofBits .f32 0x358637BD#32) * g
    * (z * Ideal.logistic z)

/-- The corrected values depend on the reads of the chunk alone. -/
theorem vnew_congr {S S' : Fin 128 → Fin 128 → EReal} {W W' U U' : ℕ → ℕ → EReal} {r0 r0' c0 c0' : ℕ}
    (hS : ∀ k v, S k v = S' k v)
    (hW : ∀ (c : Fin 64) (k : Fin 128), W (r0 + c) (c0 + k) = W' (r0' + c) (c0' + k))
    (hU : ∀ (c : Fin 64) (k : Fin 128), U (r0 + c) (c0 + k) = U' (r0' + c) (c0' + k)) (c : Fin 64) (v : Fin 128) :
    vnew S W U r0 c0 c v = vnew S' W' U' r0' c0' c v := by
  unfold vnew
  rw [hU]
  simp only [hW, hS]

/-- The next state depends on the reads of the chunk alone. -/
theorem snext_congr {S S' : Fin 128 → Fin 128 → EReal} {W W' U U' K K' : ℕ → ℕ → EReal} {d d' : Fin 128 → EReal}
    {r0 r0' c0 c0' : ℕ} (hS : ∀ k v, S k v = S' k v)
    (hW : ∀ (c : Fin 64) (k : Fin 128), W (r0 + c) (c0 + k) = W' (r0' + c) (c0' + k))
    (hU : ∀ (c : Fin 64) (k : Fin 128), U (r0 + c) (c0 + k) = U' (r0' + c) (c0' + k))
    (hK : ∀ (c : Fin 64) (k : Fin 128), K (r0 + c) (c0 + k) = K' (r0' + c) (c0' + k))
    (hd : ∀ v, d v = d' v) (k v : Fin 128) :
    snext S W U K d r0 c0 k v = snext S' W' U' K' d' r0' c0' k v := by
  unfold snext
  simp only [hS, hd, hK, vnew_congr hS hW hU]

/-- A chunk's output depends on the reads of the chunk alone. -/
theorem oval_congr {S S' : Fin 128 → Fin 128 → EReal} {Q Q' W W' U U' A A' : ℕ → ℕ → EReal}
    {r0 r0' c0 c0' a0 a0' : ℕ} (hS : ∀ k v, S k v = S' k v)
    (hQ : ∀ (c : Fin 64) (k : Fin 128), Q (r0 + c) (c0 + k) = Q' (r0' + c) (c0' + k))
    (hW : ∀ (c : Fin 64) (k : Fin 128), W (r0 + c) (c0 + k) = W' (r0' + c) (c0' + k))
    (hU : ∀ (c : Fin 64) (k : Fin 128), U (r0 + c) (c0 + k) = U' (r0' + c) (c0' + k))
    (hA : ∀ (c j : Fin 64), A (r0 + c) (a0 + j) = A' (r0' + c) (a0' + j)) (c : Fin 64) (v : Fin 128) :
    oval S Q W U A r0 c0 a0 c v = oval S' Q' W' U' A' r0' c0' a0' c v := by
  unfold oval
  simp only [hQ, hS, hA, vnew_congr hS hW hU]

/-- The state of head `h` before chunk `n`, from `S0`, of the run of rows starting at `R` (64 rows per chunk, decays from row `C`). -/
def st (S0 : Fin 128 → Fin 128 → EReal) (W U K D : ℕ → ℕ → EReal) (R C h : ℕ) : ℕ → Fin 128 → Fin 128 → EReal
  | 0 => S0
  | n + 1 => snext (st S0 W U K D R C h n) W U K (fun v => D (C + n) (128 * h + v)) (R + 64 * n) (128 * h)

/-- Running `n` chunks and then `m` more from where they end is running `n + m`. -/
theorem st_add (S0 : Fin 128 → Fin 128 → EReal) (W U K D : ℕ → ℕ → EReal) (R C h n : ℕ) : ∀ m : ℕ,
    st (st S0 W U K D R C h n) W U K D (R + 64 * n) (C + n) h m = st S0 W U K D R C h (n + m)
  | 0 => rfl
  | m + 1 => by
    show snext (st (st S0 W U K D R C h n) W U K D (R + 64 * n) (C + n) h m) W U K _ _ _ = snext (st S0 W U K D R C h (n + m)) W U K _ _ _
    rw [st_add S0 W U K D R C h n m, show R + 64 * n + 64 * m = R + 64 * (n + m) by ring, Nat.add_assoc]
    rfl

/-- The state depends on the reads of its chunks alone. -/
theorem st_congr {S0 S0' : Fin 128 → Fin 128 → EReal} {W W' U U' K K' D D' : ℕ → ℕ → EReal} {R R' C C' h N : ℕ}
    (hS : ∀ k v, S0 k v = S0' k v) (hh : h < 4)
    (hW : ∀ r c, r < 64 * N → c < 512 → W (R + r) c = W' (R' + r) c)
    (hU : ∀ r c, r < 64 * N → c < 512 → U (R + r) c = U' (R' + r) c)
    (hK : ∀ r c, r < 64 * N → c < 512 → K (R + r) c = K' (R' + r) c)
    (hD : ∀ r c, r < N → c < 512 → D (C + r) c = D' (C' + r) c) :
    ∀ n, n ≤ N → ∀ k v, st S0 W U K D R C h n k v = st S0' W' U' K' D' R' C' h n k v
  | 0, _ => hS
  | n + 1, hn => fun k v => snext_congr (st_congr hS hh hW hU hK hD n (by omega))
      (fun c k => by rw [Nat.add_assoc, Nat.add_assoc]; exact hW _ _ (by omega) (by omega))
      (fun c k => by rw [Nat.add_assoc, Nat.add_assoc]; exact hU _ _ (by omega) (by omega))
      (fun c k => by rw [Nat.add_assoc, Nat.add_assoc]; exact hK _ _ (by omega) (by omega))
      (fun v => hD _ _ (by omega) (by omega)) k v

end Cert.Gdn

end
-- ==== Proof.GdnTrip.lean ====
/-
  One trip of the kernel's loop over the chunks of a tile, read off the pieces it writes: the state buffer is
  left at the next state of every head, the output rows of the chunk at the gated output.
-/
module

public import proofs.«01_k».proof.Proof.Gen.KernelIdeal.Loops
public import proofs.«01_k».proof.Proof.GdnMath
public import Idealize.ShloMosaic.Lib.VecWindow
public import Idealize.ShloMosaic.Lib.Pipeline.ValueKit

@[expose] public section

set_option maxRecDepth 16384

noncomputable section

namespace Cert.KernelIdeal.Gdn

open Cert.KernelIdeal Cert.KernelIdeal.Gen Idealize.ShloMosaic Idealize.ShloMosaic.TcCoe Idealize.SL.Sem Cert.Gdn

/-- Head 3: its row of the state buffer after the trip is the next state. -/
theorem trip_state_3 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (x y : Fin 128) :
    arg12.view.read (Elt Ideal) (arg12.view.writes (Elt Ideal) f_arg12 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).2) (ix3 3 x y)
      = snext (fun x y => arg12.view.read (Elt Ideal) f_arg12 (ix3 3 x y)) (rd2 (arg4.view.read (Elt Ideal) X_arg4))
        (rd2 (arg5.view.read (Elt Ideal) X_arg5)) (rd2 (arg3.view.read (Elt Ideal) X_arg3))
        (fun v => rd3 (arg7.view.read (Elt Ideal) X_arg7) k (128 * 3 + v)) (64 * k) (128 * 3) x y := by
  have hk : k.val < 8 := Nat.lt_of_lt_of_le k.isLt k0_t1_abs.2.1
  unfold tripL_k0_t1 trip_k0_t1
  dsimp only
  refine (View.read_writes_cons_unit_of_mem _ _ _ _ _ (ix3 3 x y) (ix3 (0 : Fin 1) x y) rfl (by intro a; match a with | ⟨0, _⟩ => rfl | ⟨1, _⟩ => exact (Nat.zero_add _).symm | ⟨2, _⟩ => exact (Nat.zero_add _).symm)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA3 : arg3.view.read (Elt Ideal) X_arg3 = A3
  generalize hA4 : arg4.view.read (Elt Ideal) X_arg4 = A4
  generalize hA5 : arg5.view.read (Elt Ideal) X_arg5 = A5
  generalize hA7 : arg7.view.read (Elt Ideal) X_arg7 = A7
  generalize hA12 : arg12.view.read (Elt Ideal) f_arg12 = A12

  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A3, rd2_at A4, rd2_at A5, rd3_at A7, k0_off4_eq, k0_off12_eq, snext, vnew]
  rfl

/-- Head 2: its row of the state buffer after the trip is the next state. -/
theorem trip_state_2 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (x y : Fin 128) :
    arg12.view.read (Elt Ideal) (arg12.view.writes (Elt Ideal) f_arg12 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).2) (ix3 2 x y)
      = snext (fun x y => arg12.view.read (Elt Ideal) f_arg12 (ix3 2 x y)) (rd2 (arg4.view.read (Elt Ideal) X_arg4))
        (rd2 (arg5.view.read (Elt Ideal) X_arg5)) (rd2 (arg3.view.read (Elt Ideal) X_arg3))
        (fun v => rd3 (arg7.view.read (Elt Ideal) X_arg7) k (128 * 2 + v)) (64 * k) (128 * 2) x y := by
  have hk : k.val < 8 := Nat.lt_of_lt_of_le k.isLt k0_t1_abs.2.1
  unfold tripL_k0_t1 trip_k0_t1
  dsimp only
  refine (View.read_writes_cons_unit_of_not_mem _ _ _ _ _ (ix3 2 x y) rfl (0 : Fin 3) (Or.inl (show (2 : ℕ) < 3 by decide))).trans ?_
  refine (View.read_writes_cons_unit_of_mem _ _ _ _ _ (ix3 2 x y) (ix3 (0 : Fin 1) x y) rfl (by intro a; match a with | ⟨0, _⟩ => rfl | ⟨1, _⟩ => exact (Nat.zero_add _).symm | ⟨2, _⟩ => exact (Nat.zero_add _).symm)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA3 : arg3.view.read (Elt Ideal) X_arg3 = A3
  generalize hA4 : arg4.view.read (Elt Ideal) X_arg4 = A4
  generalize hA5 : arg5.view.read (Elt Ideal) X_arg5 = A5
  generalize hA7 : arg7.view.read (Elt Ideal) X_arg7 = A7
  generalize hA12 : arg12.view.read (Elt Ideal) f_arg12 = A12

  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A3, rd2_at A4, rd2_at A5, rd3_at A7, k0_off3_eq, k0_off11_eq, snext, vnew]
  rfl

/-- Head 1: its row of the state buffer after the trip is the next state. -/
theorem trip_state_1 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (x y : Fin 128) :
    arg12.view.read (Elt Ideal) (arg12.view.writes (Elt Ideal) f_arg12 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).2) (ix3 1 x y)
      = snext (fun x y => arg12.view.read (Elt Ideal) f_arg12 (ix3 1 x y)) (rd2 (arg4.view.read (Elt Ideal) X_arg4))
        (rd2 (arg5.view.read (Elt Ideal) X_arg5)) (rd2 (arg3.view.read (Elt Ideal) X_arg3))
        (fun v => rd3 (arg7.view.read (Elt Ideal) X_arg7) k (128 * 1 + v)) (64 * k) (128 * 1) x y := by
  have hk : k.val < 8 := Nat.lt_of_lt_of_le k.isLt k0_t1_abs.2.1
  unfold tripL_k0_t1 trip_k0_t1
  dsimp only
  refine (View.read_writes_cons_unit_of_not_mem _ _ _ _ _ (ix3 1 x y) rfl (0 : Fin 3) (Or.inl (show (1 : ℕ) < 3 by decide))).trans ?_
  refine (View.read_writes_cons_unit_of_not_mem _ _ _ _ _ (ix3 1 x y) rfl (0 : Fin 3) (Or.inl (show (1 : ℕ) < 2 by decide))).trans ?_
  refine (View.read_writes_cons_unit_of_mem _ _ _ _ _ (ix3 1 x y) (ix3 (0 : Fin 1) x y) rfl (by intro a; match a with | ⟨0, _⟩ => rfl | ⟨1, _⟩ => exact (Nat.zero_add _).symm | ⟨2, _⟩ => exact (Nat.zero_add _).symm)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA3 : arg3.view.read (Elt Ideal) X_arg3 = A3
  generalize hA4 : arg4.view.read (Elt Ideal) X_arg4 = A4
  generalize hA5 : arg5.view.read (Elt Ideal) X_arg5 = A5
  generalize hA7 : arg7.view.read (Elt Ideal) X_arg7 = A7
  generalize hA12 : arg12.view.read (Elt Ideal) f_arg12 = A12

  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A3, rd2_at A4, rd2_at A5, rd3_at A7, k0_off2_eq, k0_off10_eq, snext, vnew]
  rfl

/-- Head 0: its row of the state buffer after the trip is the next state. -/
theorem trip_state_0 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (x y : Fin 128) :
    arg12.view.read (Elt Ideal) (arg12.view.writes (Elt Ideal) f_arg12 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).2) (ix3 0 x y)
      = snext (fun x y => arg12.view.read (Elt Ideal) f_arg12 (ix3 0 x y)) (rd2 (arg4.view.read (Elt Ideal) X_arg4))
        (rd2 (arg5.view.read (Elt Ideal) X_arg5)) (rd2 (arg3.view.read (Elt Ideal) X_arg3))
        (fun v => rd3 (arg7.view.read (Elt Ideal) X_arg7) k (128 * 0 + v)) (64 * k) (128 * 0) x y := by
  have hk : k.val < 8 := Nat.lt_of_lt_of_le k.isLt k0_t1_abs.2.1
  unfold tripL_k0_t1 trip_k0_t1
  dsimp only
  refine (View.read_writes_cons_unit_of_not_mem _ _ _ _ _ (ix3 0 x y) rfl (0 : Fin 3) (Or.inl (show (0 : ℕ) < 3 by decide))).trans ?_
  refine (View.read_writes_cons_unit_of_not_mem _ _ _ _ _ (ix3 0 x y) rfl (0 : Fin 3) (Or.inl (show (0 : ℕ) < 2 by decide))).trans ?_
  refine (View.read_writes_cons_unit_of_not_mem _ _ _ _ _ (ix3 0 x y) rfl (0 : Fin 3) (Or.inl (show (0 : ℕ) < 1 by decide))).trans ?_
  refine (View.read_writes_cons_unit_of_mem _ _ _ _ _ (ix3 0 x y) (ix3 (0 : Fin 1) x y) rfl (by intro a; match a with | ⟨0, _⟩ => rfl | ⟨1, _⟩ => exact (Nat.zero_add _).symm | ⟨2, _⟩ => exact (Nat.zero_add _).symm)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA3 : arg3.view.read (Elt Ideal) X_arg3 = A3
  generalize hA4 : arg4.view.read (Elt Ideal) X_arg4 = A4
  generalize hA5 : arg5.view.read (Elt Ideal) X_arg5 = A5
  generalize hA7 : arg7.view.read (Elt Ideal) X_arg7 = A7
  generalize hA12 : arg12.view.read (Elt Ideal) f_arg12 = A12

  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A3, rd2_at A4, rd2_at A5, rd3_at A7, k0_off1_eq, k0_off9_eq, snext, vnew]
  simp only [Matrix.cons_val, Nat.zero_add]

/-- Head 3: its columns of the chunk's output rows after the trip are the gated output. -/
theorem trip_out_3 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (p : Fin 64) (v : Fin 128) (hr : 64 * k.val + p.val < 512) (hv : 128 * 3 + v.val < 512) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 ⟨64 * k + p, hr⟩ ⟨128 * 3 + v, hv⟩)
      = gate (oval (fun x y => arg12.view.read (Elt Ideal) f_arg12 (ix3 3 x y)) (rd2 (arg2.view.read (Elt Ideal) X_arg2))
          (rd2 (arg4.view.read (Elt Ideal) X_arg4)) (rd2 (arg5.view.read (Elt Ideal) X_arg5)) (rd2 (arg6.view.read (Elt Ideal) X_arg6))
          (64 * k) (128 * 3) (64 * 3) p)
        (v5 (ix3 0 0 v)) (rd2 (arg8.view.read (Elt Ideal) X_arg8) (64 * k + p) (128 * 3 + v)) v := by
  have hk : k.val < 8 := Nat.lt_of_lt_of_le k.isLt k0_t1_abs.2.1
  unfold tripL_k0_t1 trip_k0_t1
  dsimp only
  refine (View.read_writes_cons_unit_of_mem _ _ _ _ _ (ix2 ⟨64 * k + p, hr⟩ ⟨128 * 3 + v, hv⟩) (ix2 p v) (k0_off4_eq k) (by intro a; match a with | ⟨0, _⟩ => rfl | ⟨1, _⟩ => rfl)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA4 : arg4.view.read (Elt Ideal) X_arg4 = A4
  generalize hA5 : arg5.view.read (Elt Ideal) X_arg5 = A5
  generalize hA6 : arg6.view.read (Elt Ideal) X_arg6 = A6
  generalize hA8 : arg8.view.read (Elt Ideal) X_arg8 = A8
  generalize hA12 : arg12.view.read (Elt Ideal) f_arg12 = A12
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A4, rd2_at A5, rd2_at A6, rd2_at A8, k0_off4_eq, k0_off8_eq, gate, oval, vnew]
  rfl

/-- Head 2: its columns of the chunk's output rows after the trip are the gated output. -/
theorem trip_out_2 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (p : Fin 64) (v : Fin 128) (hr : 64 * k.val + p.val < 512) (hv : 128 * 2 + v.val < 512) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 ⟨64 * k + p, hr⟩ ⟨128 * 2 + v, hv⟩)
      = gate (oval (fun x y => arg12.view.read (Elt Ideal) f_arg12 (ix3 2 x y)) (rd2 (arg2.view.read (Elt Ideal) X_arg2))
          (rd2 (arg4.view.read (Elt Ideal) X_arg4)) (rd2 (arg5.view.read (Elt Ideal) X_arg5)) (rd2 (arg6.view.read (Elt Ideal) X_arg6))
          (64 * k) (128 * 2) (64 * 2) p)
        (v5 (ix3 0 0 v)) (rd2 (arg8.view.read (Elt Ideal) X_arg8) (64 * k + p) (128 * 2 + v)) v := by
  have hk : k.val < 8 := Nat.lt_of_lt_of_le k.isLt k0_t1_abs.2.1
  unfold tripL_k0_t1 trip_k0_t1
  dsimp only
  refine (View.read_writes_cons_unit_of_not_mem _ _ _ _ _ (ix2 ⟨64 * k + p, hr⟩ ⟨128 * 2 + v, hv⟩) (k0_off4_eq k) (1 : Fin 2) (Or.inl (show 128 * 2 + v.val < 384 by omega))).trans ?_
  refine (View.read_writes_cons_unit_of_mem _ _ _ _ _ (ix2 ⟨64 * k + p, hr⟩ ⟨128 * 2 + v, hv⟩) (ix2 p v) (k0_off3_eq k) (by intro a; match a with | ⟨0, _⟩ => rfl | ⟨1, _⟩ => rfl)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA4 : arg4.view.read (Elt Ideal) X_arg4 = A4
  generalize hA5 : arg5.view.read (Elt Ideal) X_arg5 = A5
  generalize hA6 : arg6.view.read (Elt Ideal) X_arg6 = A6
  generalize hA8 : arg8.view.read (Elt Ideal) X_arg8 = A8
  generalize hA12 : arg12.view.read (Elt Ideal) f_arg12 = A12
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A4, rd2_at A5, rd2_at A6, rd2_at A8, k0_off3_eq, k0_off7_eq, gate, oval, vnew]
  rfl

/-- Head 1: its columns of the chunk's output rows after the trip are the gated output. -/
theorem trip_out_1 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (p : Fin 64) (v : Fin 128) (hr : 64 * k.val + p.val < 512) (hv : 128 * 1 + v.val < 512) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 ⟨64 * k + p, hr⟩ ⟨128 * 1 + v, hv⟩)
      = gate (oval (fun x y => arg12.view.read (Elt Ideal) f_arg12 (ix3 1 x y)) (rd2 (arg2.view.read (Elt Ideal) X_arg2))
          (rd2 (arg4.view.read (Elt Ideal) X_arg4)) (rd2 (arg5.view.read (Elt Ideal) X_arg5)) (rd2 (arg6.view.read (Elt Ideal) X_arg6))
          (64 * k) (128 * 1) (64 * 1) p)
        (v5 (ix3 0 0 v)) (rd2 (arg8.view.read (Elt Ideal) X_arg8) (64 * k + p) (128 * 1 + v)) v := by
  have hk : k.val < 8 := Nat.lt_of_lt_of_le k.isLt k0_t1_abs.2.1
  unfold tripL_k0_t1 trip_k0_t1
  dsimp only
  refine (View.read_writes_cons_unit_of_not_mem _ _ _ _ _ (ix2 ⟨64 * k + p, hr⟩ ⟨128 * 1 + v, hv⟩) (k0_off4_eq k) (1 : Fin 2) (Or.inl (show 128 * 1 + v.val < 384 by omega))).trans ?_
  refine (View.read_writes_cons_unit_of_not_mem _ _ _ _ _ (ix2 ⟨64 * k + p, hr⟩ ⟨128 * 1 + v, hv⟩) (k0_off3_eq k) (1 : Fin 2) (Or.inl (show 128 * 1 + v.val < 256 by omega))).trans ?_
  refine (View.read_writes_cons_unit_of_mem _ _ _ _ _ (ix2 ⟨64 * k + p, hr⟩ ⟨128 * 1 + v, hv⟩) (ix2 p v) (k0_off2_eq k) (by intro a; match a with | ⟨0, _⟩ => rfl | ⟨1, _⟩ => rfl)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA4 : arg4.view.read (Elt Ideal) X_arg4 = A4
  generalize hA5 : arg5.view.read (Elt Ideal) X_arg5 = A5
  generalize hA6 : arg6.view.read (Elt Ideal) X_arg6 = A6
  generalize hA8 : arg8.view.read (Elt Ideal) X_arg8 = A8
  generalize hA12 : arg12.view.read (Elt Ideal) f_arg12 = A12
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A4, rd2_at A5, rd2_at A6, rd2_at A8, k0_off2_eq, k0_off6_eq, gate, oval, vnew]
  rfl

/-- Head 0: its columns of the chunk's output rows after the trip are the gated output. -/
theorem trip_out_0 (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (p : Fin 64) (v : Fin 128) (hr : 64 * k.val + p.val < 512) (hv : 128 * 0 + v.val < 512) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 ⟨64 * k + p, hr⟩ ⟨128 * 0 + v, hv⟩)
      = gate (oval (fun x y => arg12.view.read (Elt Ideal) f_arg12 (ix3 0 x y)) (rd2 (arg2.view.read (Elt Ideal) X_arg2))
          (rd2 (arg4.view.read (Elt Ideal) X_arg4)) (rd2 (arg5.view.read (Elt Ideal) X_arg5)) (rd2 (arg6.view.read (Elt Ideal) X_arg6))
          (64 * k) (128 * 0) (64 * 0) p)
        (v5 (ix3 0 0 v)) (rd2 (arg8.view.read (Elt Ideal) X_arg8) (64 * k + p) (128 * 0 + v)) v := by
  have hk : k.val < 8 := Nat.lt_of_lt_of_le k.isLt k0_t1_abs.2.1
  unfold tripL_k0_t1 trip_k0_t1
  dsimp only
  refine (View.read_writes_cons_unit_of_not_mem _ _ _ _ _ (ix2 ⟨64 * k + p, hr⟩ ⟨128 * 0 + v, hv⟩) (k0_off4_eq k) (1 : Fin 2) (Or.inl (show 128 * 0 + v.val < 384 by omega))).trans ?_
  refine (View.read_writes_cons_unit_of_not_mem _ _ _ _ _ (ix2 ⟨64 * k + p, hr⟩ ⟨128 * 0 + v, hv⟩) (k0_off3_eq k) (1 : Fin 2) (Or.inl (show 128 * 0 + v.val < 256 by omega))).trans ?_
  refine (View.read_writes_cons_unit_of_not_mem _ _ _ _ _ (ix2 ⟨64 * k + p, hr⟩ ⟨128 * 0 + v, hv⟩) (k0_off2_eq k) (1 : Fin 2) (Or.inl (show 128 * 0 + v.val < 128 by omega))).trans ?_
  refine (View.read_writes_cons_unit_of_mem _ _ _ _ _ (ix2 ⟨64 * k + p, hr⟩ ⟨128 * 0 + v, hv⟩) (ix2 p v) (k0_off1_eq k) (by intro a; match a with | ⟨0, _⟩ => rfl | ⟨1, _⟩ => rfl)).trans ?_
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, View.readAt_eq_ld]
  generalize hA2 : arg2.view.read (Elt Ideal) X_arg2 = A2
  generalize hA4 : arg4.view.read (Elt Ideal) X_arg4 = A4
  generalize hA5 : arg5.view.read (Elt Ideal) X_arg5 = A5
  generalize hA6 : arg6.view.read (Elt Ideal) X_arg6 = A6
  generalize hA8 : arg8.view.read (Elt Ideal) X_arg8 = A8
  generalize hA12 : arg12.view.read (Elt Ideal) f_arg12 = A12
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [rd2_at A2, rd2_at A4, rd2_at A5, rd2_at A6, rd2_at A8, k0_off1_eq, k0_off5_eq, gate, oval, vnew]
  simp only [Matrix.cons_val, Nat.zero_add]

/-- A row outside the chunk keeps what it held. -/
theorem trip_out_old (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (r q : Fin 512) (hr : r.val < 64 * k.val ∨ 64 * k.val + 64 ≤ r.val) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 r q)
      = arg10.view.read (Elt Ideal) f_arg10 (ix2 r q) := by
  unfold tripL_k0_t1 trip_k0_t1
  dsimp only
  refine (View.read_writes_cons_unit_of_not_mem _ _ _ _ _ (ix2 r q) (k0_off4_eq k) (0 : Fin 2) (by exact hr)).trans ?_
  refine (View.read_writes_cons_unit_of_not_mem _ _ _ _ _ (ix2 r q) (k0_off3_eq k) (0 : Fin 2) (by exact hr)).trans ?_
  refine (View.read_writes_cons_unit_of_not_mem _ _ _ _ _ (ix2 r q) (k0_off2_eq k) (0 : Fin 2) (by exact hr)).trans ?_
  exact View.read_writes_cons_unit_of_not_mem _ _ _ _ _ (ix2 r q) (k0_off1_eq k) (0 : Fin 2) (by exact hr)

end Cert.KernelIdeal.Gdn

end
-- ==== Proof.GdnTile.lean ====
/-
  The whole loop over a tile's eight chunks: by induction on the trips, the state buffer holds the recursion's state
  and the chunks passed hold their gated output.
-/
module

public import proofs.«01_k».proof.Proof.GdnTrip

@[expose] public section

set_option maxRecDepth 16384

noncomputable section

namespace Cert.KernelIdeal.Gdn

open Cert.KernelIdeal Cert.KernelIdeal.Gen Idealize.ShloMosaic Idealize.ShloMosaic.TcCoe Idealize.SL.Sem Cert.Gdn

/-- Every head's row of the state buffer after a trip is the next state. -/
theorem trip_state (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (h : Fin 4) (x y : Fin 128) :
    arg12.view.read (Elt Ideal) (arg12.view.writes (Elt Ideal) f_arg12 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).2) (ix3 h x y)
      = snext (fun x y => arg12.view.read (Elt Ideal) f_arg12 (ix3 h x y)) (rd2 (arg4.view.read (Elt Ideal) X_arg4))
        (rd2 (arg5.view.read (Elt Ideal) X_arg5)) (rd2 (arg3.view.read (Elt Ideal) X_arg3))
        (fun v => rd3 (arg7.view.read (Elt Ideal) X_arg7) k (128 * h + v)) (64 * k) (128 * h) x y :=
  match h with
  | 0 => trip_state_0 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 x y
  | 1 => trip_state_1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 x y
  | 2 => trip_state_2 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 x y
  | 3 => trip_state_3 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 x y

/-- Every head's columns of the chunk's output rows after a trip are the gated output. -/
theorem trip_out (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f_arg10 : BufTy.Contents (Elt Ideal) arg10.view.ty) (f_arg12 : BufTy.Contents (Elt Ideal) arg12.view.ty) (h : Fin 4) (p : Fin 64) (v : Fin 128) (hr : 64 * k.val + p.val < 512) (hv : 128 * h.val + v.val < 512) :
    arg10.view.read (Elt Ideal) (arg10.view.writes (Elt Ideal) f_arg10 (tripL_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12).1) (ix2 ⟨64 * k + p, hr⟩ ⟨128 * h + v, hv⟩)
      = gate (oval (fun x y => arg12.view.read (Elt Ideal) f_arg12 (ix3 h x y)) (rd2 (arg2.view.read (Elt Ideal) X_arg2))
          (rd2 (arg4.view.read (Elt Ideal) X_arg4)) (rd2 (arg5.view.read (Elt Ideal) X_arg5)) (rd2 (arg6.view.read (Elt Ideal) X_arg6))
          (64 * k) (128 * h) (64 * h) p)
        (v5 (ix3 0 0 v)) (rd2 (arg8.view.read (Elt Ideal) X_arg8) (64 * k + p) (128 * h + v)) v :=
  match h with
  | 0 => trip_out_0 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 p v hr hv
  | 1 => trip_out_1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 p v hr hv
  | 2 => trip_out_2 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 p v hr hv
  | 3 => trip_out_3 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 k f_arg10 f_arg12 p v hr hv

/-- After `n` trips the state buffer holds the recursion's state from what it held at the loop's entry. -/
theorem tile_state (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (G_arg10 : BufTy.Contents (Elt Ideal) arg10.view.ty) (G_arg12 : BufTy.Contents (Elt Ideal) arg12.view.ty) : ∀ n, n ≤ k0_t1_loop.trips → ∀ (h : Fin 4) (x y : Fin 128),
    arg12.view.read (Elt Ideal) (arg12.view.writes (Elt Ideal) G_arg12 (pb_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 n).2) (ix3 h x y)
      = st (fun x y => arg12.view.read (Elt Ideal) G_arg12 (ix3 h x y)) (rd2 (arg4.view.read (Elt Ideal) X_arg4)) (rd2 (arg5.view.read (Elt Ideal) X_arg5)) (rd2 (arg3.view.read (Elt Ideal) X_arg3)) (rd3 (arg7.view.read (Elt Ideal) X_arg7)) 0 0 h n x y
  | 0, _, _, _, _ => rfl
  | n + 1, hn, h, x, y => by
    rw [pb_k0_t1_succ 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 ⟨n, hn⟩]
    dsimp only
    rw [View.writes_append]
    refine (trip_state 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 ⟨n, hn⟩ _ _ h x y).trans ?_
    refine snext_congr (fun k v => tile_state 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 n (Nat.le_of_succ_le hn) h k v) ?_ ?_ ?_ ?_ x y
    · intro c k; rw [Nat.zero_add]
    · intro c k; rw [Nat.zero_add]
    · intro c k; rw [Nat.zero_add]
    · intro v; rw [Nat.zero_add]

/-- After `n` trips the rows of every chunk `j` passed hold its gated output. -/
theorem tile_out (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (v5 : Vec Ideal S1x1x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (G_arg10 : BufTy.Contents (Elt Ideal) arg10.view.ty) (G_arg12 : BufTy.Contents (Elt Ideal) arg12.view.ty) : ∀ n, n ≤ k0_t1_loop.trips → ∀ j, j < n → ∀ (h : Fin 4) (p : Fin 64) (v : Fin 128) (hr : 64 * j + p.val < 512) (hv : 128 * h.val + v.val < 512),
    arg10.view.read (Elt Ideal) (arg10.view.writes (Elt Ideal) G_arg10 (pb_k0_t1 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 n).1) (ix2 ⟨64 * j + p, hr⟩ ⟨128 * h + v, hv⟩)
      = gate (oval (st (fun x y => arg12.view.read (Elt Ideal) G_arg12 (ix3 h x y)) (rd2 (arg4.view.read (Elt Ideal) X_arg4)) (rd2 (arg5.view.read (Elt Ideal) X_arg5)) (rd2 (arg3.view.read (Elt Ideal) X_arg3)) (rd3 (arg7.view.read (Elt Ideal) X_arg7)) 0 0 h j) (rd2 (arg2.view.read (Elt Ideal) X_arg2))
          (rd2 (arg4.view.read (Elt Ideal) X_arg4)) (rd2 (arg5.view.read (Elt Ideal) X_arg5)) (rd2 (arg6.view.read (Elt Ideal) X_arg6))
          (64 * j) (128 * h) (64 * h) p)
        (v5 (ix3 0 0 v)) (rd2 (arg8.view.read (Elt Ideal) X_arg8) (64 * j + p) (128 * h + v)) v
  | 0, _, j, hj, _, _, _, _, _ => absurd hj (Nat.not_lt_zero j)
  | n + 1, hn, j, hj, h, p, v, hr, hv => by
    rw [pb_k0_t1_succ 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 ⟨n, hn⟩]
    dsimp only
    rw [View.writes_append]
    by_cases e : j = n
    · subst e
      refine (trip_out 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 ⟨j, hn⟩ _ _ h p v hr hv).trans ?_
      exact congrArg (fun o => gate o _ _ v) (funext fun q => oval_congr (fun k v => tile_state 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 j (Nat.le_of_succ_le hn) h k v)
        (fun _ _ => rfl) (fun _ _ => rfl) (fun _ _ => rfl) (fun _ _ => rfl) p q)
    · refine (trip_out_old 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 ⟨n, hn⟩ _ _ _ _ (Or.inl ?_)).trans
        (tile_out 𝒱 c bd i arg2 harg2 arg3 harg3 arg4 harg4 arg5 harg5 arg6 harg6 arg7 harg7 arg8 harg8 arg9 harg9 arg10 harg10 arg11 harg11 arg12 harg12 v5 X_arg2 X_arg3 X_arg4 X_arg5 X_arg6 X_arg7 X_arg8 G_arg10 G_arg12 n (Nat.le_of_succ_le hn) j (by omega) h p v hr hv)
      show 64 * j + p.val < 64 * n
      have := p.isLt
      omega

end Cert.KernelIdeal.Gdn

end
-- ==== Proof.GdnPoint.lean ====
/-
  What each kind of grid point leaves, from the loop over its tile: the output block is the gated output of its eight
  chunks, the state buffer (and, at the last tile, the block of final states) the recursion's state after them.
-/
module

public import proofs.«01_k».proof.Proof.GdnTile
public import proofs.«01_k».proof.Proof.Gen.KernelIdeal.Frame

@[expose] public section

set_option maxRecDepth 16384

noncomputable section

namespace Cert.KernelIdeal.Gdn

open Cert.KernelIdeal Cert.KernelIdeal.Gen Idealize.ShloMosaic Idealize.ShloMosaic.TcCoe Idealize.SL.Sem Cert.Gdn

/-- The loop makes eight trips. -/
theorem trips_eq : k0_t1_loop.trips = 8 := by decide +kernel

/-- The state buffer after its zeroing fill reads zero. -/
theorem zero_state (arg12 : Memref sig .tc .vmem S4x128x128 .f32) (h : Fin 4) (x y : Fin 128) :
    arg12.view.read (Elt Ideal) (arg12.view.writes (Elt Ideal) arg12.view.junk (kernelRun0_A.sl.HS0_1 (F := Ideal))) (ix3 h x y) = 0 := by
  unfold kernelRun0_A.sl.HS0_1
  refine (View.read_writes_cons_unit_of_mem _ _ _ _ _ (ix3 h x y) (ix3 h x y) rfl (by intro a; match a with | ⟨0, _⟩ => exact (Nat.zero_add _).symm | ⟨1, _⟩ => exact (Nat.zero_add _).symm | ⟨2, _⟩ => exact (Nat.zero_add _).symm)).trans ?_
  pointwise [k0_pay1]

/-- The norm's weight as the kernel loads it. -/
theorem load_gain (arg9 : Memref sig .tc .vmem S1x1x128 .f32) (harg9 : arg9.IsWhole) (x7 : Vec Ideal S1x1x128 .f32) :
    @Eq (Vec Ideal S1x1x128 .f32) (View.readAt (Elt Ideal) arg9.view (Rect.unit (s := S1x1x128) ![0, 0, 0] S1x1x128.size inb_S1x1x128_S1x1x128_0_0_0).toLoadRect (harg9.unread x7)) x7 := by
  rw [View.readAt_eq_ld, harg9.read_unread]
  funext i
  idx_vars i
  rw [Subsingleton.elim i0 0, Subsingleton.elim i1 0]
  pointwise

/-- Loading the whole state buffer reads it entry by entry. -/
theorem load_state (arg12 : Memref sig .tc .vmem S4x128x128 .f32) (G : BufTy.Contents (Elt Ideal) arg12.view.ty) (h : Fin 4) (x y : Fin 128) :
    (View.readAt (Elt Ideal) arg12.view (Rect.unit (s := S4x128x128) ![0, 0, 0] S4x128x128.size inb_S4x128x128_S4x128x128_0_0_0).toLoadRect G : Vec Ideal S4x128x128 .f32) (ix3 h x y)
      = arg12.view.read (Elt Ideal) G (ix3 h x y) := by
  rw [View.readAt_eq_ld]
  pointwise

/-- Case A: the output block at chunk `j`, head `h` is the gated output of the state before that chunk. -/
theorem out_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : cond0_0 i) (hc1 : ¬cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (j : ℕ) (hj : j < 8) (h : Fin 4) (p : Fin 64) (v : Fin 128) (hr : 64 * j + p.val < 512) (hv : 128 * h.val + v.val < 512) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 ⟨64 * j + p, hr⟩ ⟨128 * h + v, hv⟩)
      = gate (oval (st (fun _ _ => 0) (rd2 x2) (rd2 x3) (rd2 x1) (rd3 x5) 0 0 h j) (rd2 x0) (rd2 x2) (rd2 x3) (rd2 x4) (64 * j) (128 * h) (64 * h) p)
        (x7 (ix3 0 0 v)) (rd2 x6 (64 * j + p) (128 * h + v)) v := by
  unfold out0_A_8
  rw [View.read_writes_of_cover VO0_8 _ arg10.view arg10.view.junk _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  rw [View.writes_append]
  refine (tile_out _ _ _ _ _ _ _ _ _ _ _ _ _ _ _ _ _ _ _ _ _ _ _ _ _ _ _ _ _ _ _ _ _ _ _ _ k0_t1_loop.trips le_rfl j (hj.trans_eq trips_eq.symm) h p v hr hv).trans ?_
  rw [load_gain]
  simp only [harg2.read_unread, harg3.read_unread, harg4.read_unread, harg5.read_unread, harg6.read_unread, harg7.read_unread, harg8.read_unread]
  refine congrArg (fun o => gate o _ _ v) (funext fun q => oval_congr (fun k v => ?_) (fun _ _ => rfl) (fun _ _ => rfl) (fun _ _ => rfl) (fun _ _ => rfl) p q)
  exact st_congr (N := 8) (fun k v => zero_state arg12 h k v) h.isLt (fun _ _ _ _ => rfl) (fun _ _ _ _ => rfl) (fun _ _ _ _ => rfl) (fun _ _ _ _ => rfl) j hj.le k v

/-- Case A: the state buffer after the tile is the state after its eight chunks. -/
theorem sout_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : cond0_0 i) (hc1 : ¬cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (h : Fin 4) (x y : Fin 128) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 h x y) = st (fun _ _ => 0) (rd2 x2) (rd2 x3) (rd2 x1) (rd3 x5) 0 0 h 8 x y := by
  unfold sout0_A_0
  rw [View.read_writes_of_cover VS0_0 _ arg12.view arg12.view.junk _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  rw [View.writes_append]
  refine (tile_state _ _ _ _ _ _ _ _ _ _ _ _ _ _ _ _ _ _ _ _ _ _ _ _ _ _ _ _ _ _ _ _ _ _ _ _ k0_t1_loop.trips le_rfl h x y).trans ?_
  simp only [harg2.read_unread, harg3.read_unread, harg4.read_unread, harg5.read_unread, harg6.read_unread, harg7.read_unread, harg8.read_unread]
  rw [trips_eq]
  exact st_congr (N := 8) (fun k v => zero_state arg12 h k v) h.isLt (fun _ _ _ _ => rfl) (fun _ _ _ _ => rfl) (fun _ _ _ _ => rfl) (fun _ _ _ _ => rfl) 8 le_rfl x y

/-- Case B: the output block at chunk `j`, head `h` is the gated output of the state before that chunk. -/
theorem out_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : ¬cond0_0 i) (hc1 : ¬cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (xs0 : Vec Ideal S4x128x128 .f32) (j : ℕ) (hj : j < 8) (h : Fin 4) (p : Fin 64) (v : Fin 128) (hr : 64 * j + p.val < 512) (hv : 128 * h.val + v.val < 512) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix2 ⟨64 * j + p, hr⟩ ⟨128 * h + v, hv⟩)
      = gate (oval (st (fun x y => xs0 (ix3 h x y)) (rd2 x2) (rd2 x3) (rd2 x1) (rd3 x5) 0 0 h j) (rd2 x0) (rd2 x2) (rd2 x3) (rd2 x4) (64 * j) (128 * h) (64 * h) p)
        (x7 (ix3 0 0 v)) (rd2 x6 (64 * j + p) (128 * h + v)) v := by
  unfold out0_B_8
  rw [View.read_writes_of_cover VO0_8 _ arg10.view arg10.view.junk _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  rw [View.writes_append]
  refine (tile_out _ _ _ _ _ _ _ _ _ _ _ _ _ _ _ _ _ _ _ _ _ _ _ _ _ _ _ _ _ _ _ _ _ _ _ _ k0_t1_loop.trips le_rfl j (hj.trans_eq trips_eq.symm) h p v hr hv).trans ?_
  rw [load_gain]
  simp only [harg2.read_unread, harg3.read_unread, harg4.read_unread, harg5.read_unread, harg6.read_unread, harg7.read_unread, harg8.read_unread]
  refine congrArg (fun o => gate o _ _ v) (funext fun q => oval_congr (fun k v => ?_) (fun _ _ => rfl) (fun _ _ => rfl) (fun _ _ => rfl) (fun _ _ => rfl) p q)
  exact st_congr (N := 8) (fun k v => congrFun (harg12.read_unread xs0) (ix3 h k v)) h.isLt (fun _ _ _ _ => rfl) (fun _ _ _ _ => rfl) (fun _ _ _ _ => rfl) (fun _ _ _ _ => rfl) j hj.le k v

/-- Case B: the state buffer after the tile is the state after its eight chunks. -/
theorem sout_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : ¬cond0_0 i) (hc1 : ¬cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (xs0 : Vec Ideal S4x128x128 .f32) (h : Fin 4) (x y : Fin 128) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 h x y) = st (fun x y => xs0 (ix3 h x y)) (rd2 x2) (rd2 x3) (rd2 x1) (rd3 x5) 0 0 h 8 x y := by
  unfold sout0_B_0
  rw [View.read_writes_of_cover VS0_0 _ arg12.view (harg12.unread xs0) _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  refine (tile_state _ _ _ _ _ _ _ _ _ _ _ _ _ _ _ _ _ _ _ _ _ _ _ _ _ _ _ _ _ _ _ _ _ _ _ _ k0_t1_loop.trips le_rfl h x y).trans ?_
  simp only [harg2.read_unread, harg3.read_unread, harg4.read_unread, harg5.read_unread, harg6.read_unread, harg7.read_unread, harg8.read_unread]
  rw [trips_eq]
  exact st_congr (N := 8) (fun k v => congrFun (harg12.read_unread xs0) (ix3 h k v)) h.isLt (fun _ _ _ _ => rfl) (fun _ _ _ _ => rfl) (fun _ _ _ _ => rfl) (fun _ _ _ _ => rfl) 8 le_rfl x y

/-- Case C: the output block at chunk `j`, head `h` is the gated output of the state before that chunk. -/
theorem out_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : ¬cond0_0 i) (hc1 : cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (xs0 : Vec Ideal S4x128x128 .f32) (j : ℕ) (hj : j < 8) (h : Fin 4) (p : Fin 64) (v : Fin 128) (hr : 64 * j + p.val < 512) (hv : 128 * h.val + v.val < 512) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix2 ⟨64 * j + p, hr⟩ ⟨128 * h + v, hv⟩)
      = gate (oval (st (fun x y => xs0 (ix3 h x y)) (rd2 x2) (rd2 x3) (rd2 x1) (rd3 x5) 0 0 h j) (rd2 x0) (rd2 x2) (rd2 x3) (rd2 x4) (64 * j) (128 * h) (64 * h) p)
        (x7 (ix3 0 0 v)) (rd2 x6 (64 * j + p) (128 * h + v)) v := by
  unfold out0_C_8
  rw [View.read_writes_of_cover VO0_8 _ arg10.view arg10.view.junk _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  rw [View.writes_append]
  refine (tile_out _ _ _ _ _ _ _ _ _ _ _ _ _ _ _ _ _ _ _ _ _ _ _ _ _ _ _ _ _ _ _ _ _ _ _ _ k0_t1_loop.trips le_rfl j (hj.trans_eq trips_eq.symm) h p v hr hv).trans ?_
  rw [load_gain]
  simp only [harg2.read_unread, harg3.read_unread, harg4.read_unread, harg5.read_unread, harg6.read_unread, harg7.read_unread, harg8.read_unread]
  refine congrArg (fun o => gate o _ _ v) (funext fun q => oval_congr (fun k v => ?_) (fun _ _ => rfl) (fun _ _ => rfl) (fun _ _ => rfl) (fun _ _ => rfl) p q)
  exact st_congr (N := 8) (fun k v => congrFun (harg12.read_unread xs0) (ix3 h k v)) h.isLt (fun _ _ _ _ => rfl) (fun _ _ _ _ => rfl) (fun _ _ _ _ => rfl) (fun _ _ _ _ => rfl) j hj.le k v

/-- Case C: the state buffer after the tile is the state after its eight chunks. -/
theorem sout_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : ¬cond0_0 i) (hc1 : cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (xs0 : Vec Ideal S4x128x128 .f32) (h : Fin 4) (x y : Fin 128) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix3 h x y) = st (fun x y => xs0 (ix3 h x y)) (rd2 x2) (rd2 x3) (rd2 x1) (rd3 x5) 0 0 h 8 x y := by
  unfold sout0_C_0
  rw [View.read_writes_of_cover VS0_0 _ arg12.view (harg12.unread xs0) _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  refine (tile_state _ _ _ _ _ _ _ _ _ _ _ _ _ _ _ _ _ _ _ _ _ _ _ _ _ _ _ _ _ _ _ _ _ _ _ _ k0_t1_loop.trips le_rfl h x y).trans ?_
  simp only [harg2.read_unread, harg3.read_unread, harg4.read_unread, harg5.read_unread, harg6.read_unread, harg7.read_unread, harg8.read_unread]
  rw [trips_eq]
  exact st_congr (N := 8) (fun k v => congrFun (harg12.read_unread xs0) (ix3 h k v)) h.isLt (fun _ _ _ _ => rfl) (fun _ _ _ _ => rfl) (fun _ _ _ _ => rfl) (fun _ _ _ _ => rfl) 8 le_rfl x y

/-- Case C: the block of final states is the state buffer's. -/
theorem fin_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S512x256 .bf16) (harg6 : arg6.IsWhole) (arg7 : Memref sig .tc .vmem S8x1x512 .f32) (harg7 : arg7.IsWhole) (arg8 : Memref sig .tc .vmem S512x512 .f32) (harg8 : arg8.IsWhole) (arg9 : Memref sig .tc .vmem S1x1x128 .f32) (harg9 : arg9.IsWhole) (arg10 : Memref sig .tc .vmem S512x512 .f32) (harg10 : arg10.IsWhole) (arg11 : Memref sig .tc .vmem S1x4x128x128 .f32) (harg11 : arg11.IsWhole) (arg12 : Memref sig .tc .vmem S4x128x128 .f32) (harg12 : arg12.IsWhole) (hc0 : ¬cond0_0 i) (hc1 : cond0_1 i) (x0 : Vec Ideal S512x512 .bf16) (x1 : Vec Ideal S512x512 .bf16) (x2 : Vec Ideal S512x512 .bf16) (x3 : Vec Ideal S512x512 .f32) (x4 : Vec Ideal S512x256 .bf16) (x5 : Vec Ideal S8x1x512 .f32) (x6 : Vec Ideal S512x512 .f32) (x7 : Vec Ideal S1x1x128 .f32) (xs0 : Vec Ideal S4x128x128 .f32) (h : Fin 4) (x y : Fin 128) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 (ix4 0 h x y) = st (fun x y => xs0 (ix3 h x y)) (rd2 x2) (rd2 x3) (rd2 x1) (rd3 x5) 0 0 h 8 x y := by
  unfold out0_C_9
  unfold kernelRun0_C
  dsimp only
  refine (View.read_writes_cons_unit_of_mem _ _ _ _ _ (ix4 0 h x y) (ix4 (0 : Fin 1) h x y) rfl (by intro a; match a with | ⟨0, _⟩ => exact (Nat.zero_add _).symm | ⟨1, _⟩ => exact (Nat.zero_add _).symm | ⟨2, _⟩ => exact (Nat.zero_add _).symm | ⟨3, _⟩ => exact (Nat.zero_add _).symm)).trans ?_
  unfold kernelRun0_C.sl.v11
  pointwise [k0_pay4]
  refine (load_state _ _ h x y).trans ?_
  refine (tile_state _ _ _ _ _ _ _ _ _ _ _ _ _ _ _ _ _ _ _ _ _ _ _ _ _ _ _ _ _ _ _ _ _ _ _ _ k0_t1_loop.trips le_rfl h x y).trans ?_
  simp only [harg2.read_unread, harg3.read_unread, harg4.read_unread, harg5.read_unread, harg6.read_unread, harg7.read_unread, harg8.read_unread]
  rw [trips_eq]
  exact st_congr (N := 8) (fun k v => congrFun (harg12.read_unread xs0) (ix3 h k v)) h.isLt (fun _ _ _ _ => rfl) (fun _ _ _ _ => rfl) (fun _ _ _ _ => rfl) (fun _ _ _ _ => rfl) 8 le_rfl x y

end Cert.KernelIdeal.Gdn

end
-- ==== Proof.GdnValue.lean ====
/-
  The scan over a batch row's tiles: the state buffer after a tile is the recursion's state after all chunks so far of its
  batch row, and so the two arrays after the run are the recursion's outputs and final states.
-/
module

public import proofs.«01_k».proof.Proof.GdnPoint
public import proofs.«01_k».proof.Proof.Gen.KernelIdeal.Value

@[expose] public section

set_option maxRecDepth 16384

noncomputable section

namespace Cert.KernelIdeal.Gdn

open Cert.KernelIdeal Cert.KernelIdeal.Gen Idealize.ShloMosaic Idealize.ShloMosaic.TcCoe Idealize.SL.Sem Cert.Gdn

variable (m : (ℓ : Loc nD τ sig) → Buf (Elt Ideal) ℓ)

/-- The whole array of queries, read at natural coordinates. -/
abbrev gQ (c : Dev nD) : ℕ → ℕ → EReal := rd2 (m := 16384) (n := 512) (m ((c : Thread nD τ).loc main_arg0))

/-- The whole array of keys, read at natural coordinates. -/
abbrev gK (c : Dev nD) : ℕ → ℕ → EReal := rd2 (m := 16384) (n := 512) (m ((c : Thread nD τ).loc main_arg1))

/-- The whole array of state-reading keys, read at natural coordinates. -/
abbrev gW (c : Dev nD) : ℕ → ℕ → EReal := rd2 (m := 16384) (n := 512) (m ((c : Thread nD τ).loc main_arg2))

/-- The whole array of values, read at natural coordinates. -/
abbrev gU (c : Dev nD) : ℕ → ℕ → EReal := rd2 (m := 16384) (n := 512) (m ((c : Thread nD τ).loc main_arg3))

/-- The whole array of scores, read at natural coordinates. -/
abbrev gA (c : Dev nD) : ℕ → ℕ → EReal := rd2 (m := 16384) (n := 256) (m ((c : Thread nD τ).loc main_arg4))

/-- The whole array of decays, read at natural coordinates. -/
abbrev gD (c : Dev nD) : ℕ → ℕ → EReal := rd3 (m := 256) (n := 512) (m ((c : Thread nD τ).loc main_arg5))

/-- The whole array of gates, read at natural coordinates. -/
abbrev gZ (c : Dev nD) : ℕ → ℕ → EReal := rd2 (m := 16384) (n := 512) (m ((c : Thread nD τ).loc main_arg6))

/-- The windows' block numbers at every point: tile `t` of each array, block zero of the norm's weight. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0, 0] ∧ win0_6.index t = ![t.val, 0] ∧ win0_7.index t = ![0, 0, 0] :=
  (by decide +kernel : ∀ t : Fin grid0.N, _)

/-- A tile of queries reads the array at the tile's rows. -/
theorem blkQ (c : Dev nD) (t : Fin cfg0.N) (r q : ℕ) (hr : r < 512) (hq : q < 512) :
    rd2 (m := 512) (n := 512) (iblk m c 0 t) r q = gQ m c (512 * t.val + r) q := by
  have ht : t.val < 32 := lt_of_lt_of_eq t.isLt (show cfg0.N = 32 from N_0)
  refine (rd2_of _ hr hq).trans (Eq.trans ?_ (rd2_of (m := 16384) (n := 512) _ (by omega) hq).symm)
  blk_ext [iblk, V, idx t]

/-- A tile of keys reads the array at the tile's rows. -/
theorem blkK (c : Dev nD) (t : Fin cfg0.N) (r q : ℕ) (hr : r < 512) (hq : q < 512) :
    rd2 (m := 512) (n := 512) (iblk m c 1 t) r q = gK m c (512 * t.val + r) q := by
  have ht : t.val < 32 := lt_of_lt_of_eq t.isLt (show cfg0.N = 32 from N_0)
  refine (rd2_of _ hr hq).trans (Eq.trans ?_ (rd2_of (m := 16384) (n := 512) _ (by omega) hq).symm)
  blk_ext [iblk, V, idx t]

/-- A tile of state-reading keys reads the array at the tile's rows. -/
theorem blkW (c : Dev nD) (t : Fin cfg0.N) (r q : ℕ) (hr : r < 512) (hq : q < 512) :
    rd2 (m := 512) (n := 512) (iblk m c 2 t) r q = gW m c (512 * t.val + r) q := by
  have ht : t.val < 32 := lt_of_lt_of_eq t.isLt (show cfg0.N = 32 from N_0)
  refine (rd2_of _ hr hq).trans (Eq.trans ?_ (rd2_of (m := 16384) (n := 512) _ (by omega) hq).symm)
  blk_ext [iblk, V, idx t]

/-- A tile of values reads the array at the tile's rows. -/
theorem blkU (c : Dev nD) (t : Fin cfg0.N) (r q : ℕ) (hr : r < 512) (hq : q < 512) :
    rd2 (m := 512) (n := 512) (iblk m c 3 t) r q = gU m c (512 * t.val + r) q := by
  have ht : t.val < 32 := lt_of_lt_of_eq t.isLt (show cfg0.N = 32 from N_0)
  refine (rd2_of _ hr hq).trans (Eq.trans ?_ (rd2_of (m := 16384) (n := 512) _ (by omega) hq).symm)
  blk_ext [iblk, V, idx t]

/-- A tile of scores reads the array at the tile's rows. -/
theorem blkA (c : Dev nD) (t : Fin cfg0.N) (r q : ℕ) (hr : r < 512) (hq : q < 256) :
    rd2 (m := 512) (n := 256) (iblk m c 4 t) r q = gA m c (512 * t.val + r) q := by
  have ht : t.val < 32 := lt_of_lt_of_eq t.isLt (show cfg0.N = 32 from N_0)
  refine (rd2_of _ hr hq).trans (Eq.trans ?_ (rd2_of (m := 16384) (n := 256) _ (by omega) hq).symm)
  blk_ext [iblk, V, idx t]

/-- A tile of decays reads the array at the tile's rows. -/
theorem blkD (c : Dev nD) (t : Fin cfg0.N) (r q : ℕ) (hr : r < 8) (hq : q < 512) :
    rd3 (m := 8) (n := 512) (iblk m c 5 t) r q = gD m c (8 * t.val + r) q := by
  have ht : t.val < 32 := lt_of_lt_of_eq t.isLt (show cfg0.N = 32 from N_0)
  refine (rd3_of _ hr hq).trans (Eq.trans ?_ (rd3_of (m := 256) (n := 512) _ (by omega) hq).symm)
  blk_ext [iblk, V, idx t]

/-- A tile of gates reads the array at the tile's rows. -/
theorem blkZ (c : Dev nD) (t : Fin cfg0.N) (r q : ℕ) (hr : r < 512) (hq : q < 512) :
    rd2 (m := 512) (n := 512) (iblk m c 6 t) r q = gZ m c (512 * t.val + r) q := by
  have ht : t.val < 32 := lt_of_lt_of_eq t.isLt (show cfg0.N = 32 from N_0)
  refine (rd2_of _ hr hq).trans (Eq.trans ?_ (rd2_of (m := 16384) (n := 512) _ (by omega) hq).symm)
  blk_ext [iblk, V, idx t]

/-- The norm's weight block reads the array. -/
theorem blkG (c : Dev nD) (t : Fin cfg0.N) (v : Fin 128) :
    iblk m c 7 t (ix3 0 0 v) = m ((c : Thread nD τ).loc main_arg7) (ix3 0 0 v) := by
  blk_ext [iblk, V, idx t]

/-- The state of batch row `b`, head `h` before its chunk `n`. -/
abbrev S (c : Dev nD) (b h n : ℕ) : Fin 128 → Fin 128 → EReal :=
  st (fun _ _ => 0) (gW m c) (gU m c) (gK m c) (gD m c) (4096 * b) (64 * b) h n

/-- The first `j` chunks of a tile, from a state that the recursion has reached at chunk `n`, reach chunk `n + j`. -/
theorem st_tile (c : Dev nD) (t : Fin cfg0.N) (b n : ℕ) (h : Fin 4) (S0 : Fin 128 → Fin 128 → EReal) (hn : 64 * b + n = 8 * t.val)
    (hS : ∀ x y, S0 x y = S m c b h n x y) (j : ℕ) (hj : j ≤ 8) (x y : Fin 128) :
    st S0 (rd2 (m := 512) (n := 512) (iblk m c 2 t)) (rd2 (m := 512) (n := 512) (iblk m c 3 t)) (rd2 (m := 512) (n := 512) (iblk m c 1 t))
      (rd3 (m := 8) (n := 512) (iblk m c 5 t)) 0 0 h j x y = S m c b h (n + j) x y := by
  unfold S
  rw [← st_add]
  refine st_congr (N := 8) hS h.isLt (fun r q hr hq => ?_) (fun r q hr hq => ?_) (fun r q hr hq => ?_) (fun r q hr hq => ?_) j hj x y
  · rw [Nat.zero_add, blkW m c t r q (by omega) hq]; congr 1; omega
  · rw [Nat.zero_add, blkU m c t r q (by omega) hq]; congr 1; omega
  · rw [Nat.zero_add, blkK m c t r q (by omega) hq]; congr 1; omega
  · rw [Nat.zero_add, blkD m c t r q (by omega) hq]; congr 1; omega

/-- The state buffer after point `n` is the state after the chunks of the points of its batch row up to `n`. -/
theorem state_at (c : Dev nD) (h : Fin 4) : ∀ (n : ℕ) (hn : n < cfg0.N) (x y : Fin 128),
    (outsAt0 m c n hn).2.2 (ix3 h x y) = S m c (n / 8) h (8 * (n % 8 + 1)) x y := by
  intro n
  induction n using Nat.strong_induction_on with
  | _ n ih =>
    intro hn x y
    have hN := lt_of_lt_of_eq hn (show cfg0.N = 32 from N_0)
    by_cases h0 : n % 8 = 0
    · have h1 : ¬ n % 8 = 7 := by omega
      rw [outsAt0_A m c ⟨n, hn⟩ h0 h1]
      refine (sout_A _ _ _ _ _ _ _ _ _ _ _ _ _ _ _ _ _ _ _ _ _ _ _ _ _ _ _ _ _ _ _ _ _ _ h x y).trans ?_
      rw [st_tile m c ⟨n, hn⟩ (n / 8) 0 h (fun _ _ => 0) (by dsimp only; omega) (fun _ _ => rfl) 8 le_rfl x y, show 0 + 8 = 8 * (n % 8 + 1) by omega]
    · have ihp := fun x y => ih (n - 1) (by omega) (by omega) x y
      rw [show (n - 1) / 8 = n / 8 by omega] at ihp
      by_cases h1 : n % 8 = 7
      · rw [outsAt0_C m c ⟨n, hn⟩ h0 h1]
        refine (sout_C _ _ _ _ _ _ _ _ _ _ _ _ _ _ _ _ _ _ _ _ _ _ _ _ _ _ _ _ _ _ _ _ _ _ _ h x y).trans ?_
        rw [st_tile m c ⟨n, hn⟩ (n / 8) (8 * ((n - 1) % 8 + 1)) h _ (by dsimp only; omega) ihp 8 le_rfl x y, show 8 * ((n - 1) % 8 + 1) + 8 = 8 * (n % 8 + 1) by omega]
      · rw [outsAt0_B m c ⟨n, hn⟩ h0 h1]
        refine (sout_B _ _ _ _ _ _ _ _ _ _ _ _ _ _ _ _ _ _ _ _ _ _ _ _ _ _ _ _ _ _ _ _ _ _ _ h x y).trans ?_
        rw [st_tile m c ⟨n, hn⟩ (n / 8) (8 * ((n - 1) % 8 + 1)) h _ (by dsimp only; omega) ihp 8 le_rfl x y, show 8 * ((n - 1) % 8 + 1) + 8 = 8 * (n % 8 + 1) by omega]

/-- The recursion's output at row `r` of batch row `b`'s chunk `n`, head `h`, gated. -/
abbrev Y (c : Dev nD) (b n h : ℕ) (p : Fin 64) (v : Fin 128) : EReal :=
  gate (oval (S m c b h n) (gQ m c) (gW m c) (gU m c) (gA m c) (4096 * b + 64 * n) (128 * h) (64 * h) p)
    (m ((c : Thread nD τ).loc main_arg7) (ix3 0 0 v)) (gZ m c (4096 * b + 64 * n + p) (128 * h + v)) v

/-- A tile's gated output over its blocks is the recursion's over the arrays. -/
theorem out_tile (c : Dev nD) (t : Fin cfg0.N) (b n : ℕ) (h : Fin 4) (S0 : Fin 128 → Fin 128 → EReal) (hn : 64 * b + n = 8 * t.val)
    (hS : ∀ x y, S0 x y = S m c b h n x y) (j : ℕ) (hj : j < 8) (p : Fin 64) (v : Fin 128) :
    gate (oval (st S0 (rd2 (m := 512) (n := 512) (iblk m c 2 t)) (rd2 (m := 512) (n := 512) (iblk m c 3 t)) (rd2 (m := 512) (n := 512) (iblk m c 1 t))
        (rd3 (m := 8) (n := 512) (iblk m c 5 t)) 0 0 h j)
        (rd2 (m := 512) (n := 512) (iblk m c 0 t)) (rd2 (m := 512) (n := 512) (iblk m c 2 t)) (rd2 (m := 512) (n := 512) (iblk m c 3 t))
        (rd2 (m := 512) (n := 256) (iblk m c 4 t)) (64 * j) (128 * h) (64 * h) p)
      (iblk m c 7 t (ix3 0 0 v)) (rd2 (m := 512) (n := 512) (iblk m c 6 t) (64 * j + p) (128 * h + v)) v = Y m c b (n + j) h p v := by
  rw [blkG m c t v, blkZ m c t _ _ (by omega) (by omega)]
  unfold Y
  rw [show 512 * t.val + (64 * j + p.val) = 4096 * b + 64 * (n + j) + p.val by omega]
  refine congrArg (fun o => gate o _ _ v) (funext fun q => oval_congr (fun k v => st_tile m c t b n h S0 hn hS j hj.le k v)
    (fun r k => ?_) (fun r k => ?_) (fun r k => ?_) (fun r k => ?_) p q)
  · rw [blkQ m c t _ _ (by omega) (by omega)]; congr 1; omega
  · rw [blkW m c t _ _ (by omega) (by omega)]; congr 1; omega
  · rw [blkU m c t _ _ (by omega) (by omega)]; congr 1; omega
  · rw [blkA m c t _ _ (by omega) (by omega)]; congr 1; omega

/-- The output block after point `n`, at its chunk `j` and head `h`. -/
theorem out_at (c : Dev nD) (n : ℕ) (hn : n < cfg0.N) (j : ℕ) (hj : j < 8) (h : Fin 4) (p : Fin 64) (v : Fin 128)
    (hr : 64 * j + p.val < 512) (hv : 128 * h.val + v.val < 512) :
    (outsAt0 m c n hn).1 (ix2 ⟨64 * j + p, hr⟩ ⟨128 * h + v, hv⟩) = Y m c (n / 8) (8 * (n % 8) + j) h p v := by
  have hN := lt_of_lt_of_eq hn (show cfg0.N = 32 from N_0)
  by_cases h0 : n % 8 = 0
  · have h1 : ¬ n % 8 = 7 := by omega
    rw [outsAt0_A m c ⟨n, hn⟩ h0 h1]
    refine (out_A _ _ _ _ _ _ _ _ _ _ _ _ _ _ _ _ _ _ _ _ _ _ _ _ _ _ _ _ _ _ _ _ _ _ j hj h p v hr hv).trans ?_
    exact out_tile m c ⟨n, hn⟩ (n / 8) (8 * (n % 8)) h _ (by dsimp only; omega) (fun x y => by rw [h0]; rfl) j hj p v
  · have ihp := fun x y => state_at m c h (n - 1) (by omega) x y
    rw [show (n - 1) / 8 = n / 8 by omega, show 8 * ((n - 1) % 8 + 1) = 8 * (n % 8) by omega] at ihp
    by_cases h1 : n % 8 = 7
    · rw [outsAt0_C m c ⟨n, hn⟩ h0 h1]
      refine (out_C _ _ _ _ _ _ _ _ _ _ _ _ _ _ _ _ _ _ _ _ _ _ _ _ _ _ _ _ _ _ _ _ _ _ _ j hj h p v hr hv).trans ?_
      exact out_tile m c ⟨n, hn⟩ (n / 8) (8 * (n % 8)) h _ (by dsimp only; omega) ihp j hj p v
    · rw [outsAt0_B m c ⟨n, hn⟩ h0 h1]
      refine (out_B _ _ _ _ _ _ _ _ _ _ _ _ _ _ _ _ _ _ _ _ _ _ _ _ _ _ _ _ _ _ _ _ _ _ _ j hj h p v hr hv).trans ?_
      exact out_tile m c ⟨n, hn⟩ (n / 8) (8 * (n % 8)) h _ (by dsimp only; omega) ihp j hj p v

/-- The block of final states after a batch row's last point. -/
theorem fin_at (c : Dev nD) (n : ℕ) (hn : n < cfg0.N) (h1 : n % 8 = 7) (h : Fin 4) (x y : Fin 128) :
    (outsAt0 m c n hn).2.1 (ix4 0 h x y) = S m c (n / 8) h (8 * (n % 8 + 1)) x y := by
  have h0 : ¬ n % 8 = 0 := by omega
  have ihp := fun x y => state_at m c h (n - 1) (by omega) x y
  rw [show (n - 1) / 8 = n / 8 by omega, show 8 * ((n - 1) % 8 + 1) = 8 * (n % 8) by omega] at ihp
  rw [outsAt0_C m c ⟨n, hn⟩ h0 h1]
  dsimp only
  refine (fin_C _ _ _ _ _ _ _ _ _ _ _ _ _ _ _ _ _ _ _ _ _ _ _ _ _ _ _ _ _ _ _ _ _ _ _ h x y).trans ?_
  rw [st_tile m c ⟨n, hn⟩ (n / 8) (8 * (n % 8)) h _ (by dsimp only; omega) ihp 8 le_rfl x y, show 8 * (n % 8) + 8 = 8 * (n % 8 + 1) by omega]

/-- The output array after the run at chunk `n` of batch row `b`, head `h`. -/
theorem final8_at (c : Dev nD) (b : Fin 4) (n : Fin 64) (p : Fin 64) (h : Fin 4) (v : Fin 128)
    (hr : 4096 * b.val + 64 * n.val + p.val < 16384) (hv : 128 * h.val + v.val < 512) :
    Value.G8 m c (ix2 ⟨4096 * b + 64 * n + p, hr⟩ ⟨128 * h + v, hv⟩) = Y m c b n h p v := by
  have hN : (8 * b.val + n.val / 8) < cfg0.N := lt_of_lt_of_eq (by omega) (show 32 = cfg0.N from N_0.symm)
  have e := out_at m c (8 * b.val + n.val / 8) hN (n.val % 8) (by omega) h p v (by omega) hv
  rw [show (8 * b.val + n.val / 8) / 8 = b.val by omega, show 8 * ((8 * b.val + n.val / 8) % 8) + n.val % 8 = n.val by omega] at e
  rw [← e, Value.outsAt0_sweep]
  have hp : Value.pt8Of (ix2 ⟨4096 * b.val + 64 * n.val + p.val, hr⟩ ⟨128 * h.val + v.val, hv⟩) = 8 * b.val + n.val / 8 := by
    show 1 * ((4096 * b.val + 64 * n.val + p.val) / 512 - 0) + 1 * ((128 * h.val + v.val) / 512 - 0) = _
    omega
  unfold Value.G8
  rw [dif_pos (by rw [hp]; exact hN)]
  have hl : Value.loc8Of (ix2 ⟨4096 * b.val + 64 * n.val + p.val, hr⟩ ⟨128 * h.val + v.val, hv⟩)
      = (ix2 ⟨64 * (n.val % 8) + p.val, by omega⟩ ⟨128 * h.val + v.val, hv⟩ : S512x512.Idx) := by
    funext a
    match a with
    | ⟨0, _⟩ => exact (by exact Fin.ext (by show (4096 * b.val + 64 * n.val + p.val) % 512 = 64 * (n.val % 8) + p.val; omega))
    | ⟨1, _⟩ => exact (by exact Fin.ext (by show (128 * h.val + v.val) % 512 = 128 * h.val + v.val; omega))
  rw [hl]
  rw [Value.fold0_congr m c _ _ _ (by omega) hp]

/-- The array of final states after the run. -/
theorem final9_at (c : Dev nD) (b h : Fin 4) (x y : Fin 128) : Value.G9 m c (ix4 b h x y) = S m c b h 64 x y := by
  have hN : 8 * b.val + 7 < cfg0.N := lt_of_lt_of_eq (by omega) (show 32 = cfg0.N from N_0.symm)
  have e := fin_at m c (8 * b.val + 7) hN (by omega) h x y
  rw [show (8 * b.val + 7) / 8 = b.val by omega, show 8 * ((8 * b.val + 7) % 8 + 1) = 64 by omega] at e
  rw [← e, Value.outsAt0_sweep]
  have hp : Value.pt9Of (ix4 b h x y) = 8 * b.val + 7 := by
    show 8 * (1 * (b.val / 1 - 0) + 1 * (h.val / 4 - 0) + 1 * (x.val / 128 - 0) + 1 * (y.val / 128 - 0)) + 7 = _
    omega
  unfold Value.G9
  rw [dif_pos (by rw [hp]; exact hN)]
  have hl : Value.loc9Of (ix4 b h x y) = (ix4 (0 : Fin 1) h x y : S1x4x128x128.Idx) := by
    funext a
    match a with
    | ⟨0, _⟩ => exact Fin.ext (Nat.mod_one _)
    | ⟨1, _⟩ => exact Fin.ext (Nat.mod_eq_of_lt h.isLt)
    | ⟨2, _⟩ => exact Fin.ext (Nat.mod_eq_of_lt x.isLt)
    | ⟨3, _⟩ => exact Fin.ext (Nat.mod_eq_of_lt y.isLt)
  rw [hl, Value.fold0_congr m c _ _ _ (by omega) hp]

end Cert.KernelIdeal.Gdn

end
-- ==== Proof.GdnRef.lean ====
/-
  The reference's loop over the chunks: what every trip finds in the carried arrays, entry by entry, and so the two arrays
  it returns.
-/
module

public import proofs.«01_k».proof.Proof.GdnMath
public import proofs.«01_k».proof.Proof.Gen.ReferenceIdeal.Run
public import proofs.«01_k».proof.Proof.Gen.ReferenceIdeal.Step
public import Idealize.ShloMosaic.Lib.Pipeline.ValueKit
public import Idealize.ShloMosaic.Lib.DynamicIndex

@[expose] public section

set_option maxRecDepth 16384

noncomputable section

namespace Cert.ReferenceIdeal.Gdn

open Idealize.ShloMosaic Idealize.ShloMosaic.TcCoe Idealize.SL.Sem Idealize.ShloMosaic.StableHlo
open Cert.ReferenceIdeal Cert.ReferenceIdeal.Gen Cert.ReferenceIdeal.Value Cert.Gdn
open Cert.ReferenceIdeal.Step (State)

/-- A trip's number as the loop's word, read signed. -/
theorem word_int (n : ℕ) (hn : n < 64) : (BitVec.ofNat 32 n).toInt = (n : ℤ) := by
  rw [BitVec.toInt_eq_toNat_of_lt (by rw [BitVec.toNat_ofNat]; omega), BitVec.toNat_ofNat]
  omega

/-- The chunk of a chunked array that a trip slices off. -/
theorem slice_rows (X : Vec Ideal S64x4x4x64x128 .f32) (n : Fin 64) (a : Fin 5 → ℤ) (ha : ∀ k, a k = ((![n.val, 0, 0, 0, 0] : Fin 5 → ℕ) k : ℤ))
    (h : S64x4x4x64x128.Slices (fun _ => 0) S1x4x4x64x128) (b q : Fin 4) (r : Fin 64) (v : Fin 128) :
    Host.dynamicSlice S1x4x4x64x128 X a h (ix5 0 b q r v) = X (ix5 n b q r v) := by
  have hs : S64x4x4x64x128.Slices (![n.val, 0, 0, 0, 0] : Fin 5 → ℕ) S1x4x4x64x128 :=
    ⟨rfl, fun k => by fin_cases k <;> simp [S64x4x4x64x128, S1x4x4x64x128] <;> omega⟩
  rw [Host.dynamicSlice_eq_extractStridedSlice _ X a _ h hs ha]
  pointwise

/-- The chunk of the chunked scores that a trip slices off. -/
theorem slice_scores (X : Vec Ideal S64x4x4x64x64 .f32) (n : Fin 64) (a : Fin 5 → ℤ) (ha : ∀ k, a k = ((![n.val, 0, 0, 0, 0] : Fin 5 → ℕ) k : ℤ))
    (h : S64x4x4x64x64.Slices (fun _ => 0) S1x4x4x64x64) (b q : Fin 4) (r v : Fin 64) :
    Host.dynamicSlice S1x4x4x64x64 X a h (ix5 0 b q r v) = X (ix5 n b q r v) := by
  have hs : S64x4x4x64x64.Slices (![n.val, 0, 0, 0, 0] : Fin 5 → ℕ) S1x4x4x64x64 :=
    ⟨rfl, fun k => by fin_cases k <;> simp [S64x4x4x64x64, S1x4x4x64x64] <;> omega⟩
  rw [Host.dynamicSlice_eq_extractStridedSlice _ X a _ h hs ha]
  pointwise

/-- The chunk's decays that a trip slices off. -/
theorem slice_decay (X : Vec Ideal S64x4x4x128 .f32) (n : Fin 64) (a : Fin 4 → ℤ) (ha : ∀ k, a k = ((![n.val, 0, 0, 0] : Fin 4 → ℕ) k : ℤ))
    (h : S64x4x4x128.Slices (fun _ => 0) S1x4x4x128) (b q : Fin 4) (v : Fin 128) :
    Host.dynamicSlice S1x4x4x128 X a h (ix4 0 b q v) = X (ix4 n b q v) := by
  have hs : S64x4x4x128.Slices (![n.val, 0, 0, 0] : Fin 4 → ℕ) S1x4x4x128 :=
    ⟨rfl, fun k => by fin_cases k <;> simp [S64x4x4x128, S1x4x4x128] <;> omega⟩
  rw [Host.dynamicSlice_eq_extractStridedSlice _ X a _ h hs ha]
  pointwise

section trip
variable (s : State Ideal) (n : Fin 64) (b q : Fin 4)

/-- The chunk's queries in a trip. -/
theorem trip_q (r : Fin 64) (v : Fin 128) : Step.b5 n s (ix4 b q r v) = s.main_v18_0 (ix5 n b q r v) := by
  pointwise [Step.b5]
  refine slice_rows _ n _ (fun k => ?_) _ b q r v
  fin_cases k <;> first | exact word_int _ n.isLt | rfl

/-- The chunk's keys in a trip. -/
theorem trip_k (r : Fin 64) (v : Fin 128) : Step.b11 n s (ix4 b q r v) = s.main_v18_1 (ix5 n b q r v) := by
  pointwise [Step.b11]
  refine slice_rows _ n _ (fun k => ?_) _ b q r v
  fin_cases k <;> first | exact word_int _ n.isLt | rfl

/-- The chunk's values in a trip. -/
theorem trip_u (r : Fin 64) (v : Fin 128) : Step.b17 n s (ix4 b q r v) = s.main_v18_2 (ix5 n b q r v) := by
  pointwise [Step.b17]
  refine slice_rows _ n _ (fun k => ?_) _ b q r v
  fin_cases k <;> first | exact word_int _ n.isLt | rfl

/-- The chunk's state-reading keys in a trip. -/
theorem trip_w (r : Fin 64) (v : Fin 128) : Step.b23 n s (ix4 b q r v) = s.main_v18_3 (ix5 n b q r v) := by
  pointwise [Step.b23]
  refine slice_rows _ n _ (fun k => ?_) _ b q r v
  fin_cases k <;> first | exact word_int _ n.isLt | rfl

/-- The chunk's scores in a trip. -/
theorem trip_a (r v : Fin 64) : Step.b29 n s (ix4 b q r v) = s.main_v18_4 (ix5 n b q r v) := by
  pointwise [Step.b29]
  refine slice_scores _ n _ (fun k => ?_) _ b q r v
  fin_cases k <;> first | exact word_int _ n.isLt | rfl

/-- The chunk's decays in a trip. -/
theorem trip_d (v : Fin 128) : Step.b34 n s (ix3 b q v) = s.main_v18_5 (ix4 n b q v) := by
  pointwise [Step.b34]
  refine slice_decay _ n _ (fun k => ?_) _ b q v
  fin_cases k <;> first | exact word_int _ n.isLt | rfl

/-- The corrected values of a trip. -/
theorem trip_vnew (r : Fin 64) (v : Fin 128) : Step.b36 n s (ix4 b q r v)
    = s.main_v18_2 (ix5 n b q r v) - ∑ k : Fin 128, s.main_v18_3 (ix5 n b q r k) * s.main_v18_7 (ix4 b q k v) := by
  pointwise [Step.b36, Step.b35]
  simp only [trip_u, trip_w]

/-- The state a trip leaves. -/
theorem trip_state (x v : Fin 128) : Step.b44 n s (ix4 b q x v)
    = s.main_v18_7 (ix4 b q x v) * s.main_v18_5 (ix4 n b q v) + ∑ r : Fin 64, s.main_v18_1 (ix5 n b q r x)
      * (s.main_v18_2 (ix5 n b q r v) - ∑ k : Fin 128, s.main_v18_3 (ix5 n b q r k) * s.main_v18_7 (ix4 b q k v)) := by
  pointwise [Step.b44, Step.b42, Step.b41, Step.b40, Step.b43]
  simp only [trip_d, trip_k, trip_vnew]

/-- The chunk's output that a trip computes. -/
theorem trip_out (r : Fin 64) (v : Fin 128) : Step.b39 n s (ix4 b q r v)
    = (∑ k : Fin 128, s.main_v18_0 (ix5 n b q r k) * s.main_v18_7 (ix4 b q k v)) + ∑ j : Fin 64, s.main_v18_4 (ix5 n b q r j)
      * (s.main_v18_2 (ix5 n b q j v) - ∑ k : Fin 128, s.main_v18_3 (ix5 n b q j k) * s.main_v18_7 (ix4 b q k v)) := by
  pointwise [Step.b39, Step.b37, Step.b38]
  simp only [trip_q, trip_a, trip_vnew]

/-- The outputs after a trip: its own chunk's row of blocks is new, the others are kept. -/
theorem trip_rows (j : Fin 64) (r : Fin 64) (v : Fin 128) : Step.b50 n s (ix5 j b q r v)
    = if j = n then Step.b39 n s (ix4 b q r v) else s.main_v18_8 (ix5 j b q r v) := by
  have hs : S64x4x4x64x128.Slices (![n.val, 0, 0, 0, 0] : Fin 5 → ℕ) S1x4x4x64x128 :=
    ⟨rfl, fun k => by fin_cases k <;> simp [S64x4x4x64x128, S1x4x4x64x128] <;> omega⟩
  unfold Step.b50
  rw [Host.dynamicUpdateSlice_eq_updateSlice _ _ _ _ (![n.val, 0, 0, 0, 0] : Fin 5 → ℕ) (fun k => by
    fin_cases k
    · show (min (max (BitVec.ofNat 32 n.val).toInt 0) 63).toNat = n.val
      rw [word_int _ n.isLt]; omega
    all_goals rfl) hs]
  pointwise [Step.b45]
  by_cases e : j = n
  · rw [if_pos e, dif_pos (by subst e; omega)]
  · rw [if_neg e, dif_neg (by have := Fin.val_ne_of_ne e; omega)]

end trip

/-- What the carried arrays hold before trip `n`: the chunked arguments, the recursion's state, and the outputs of the chunks
    before `n`. -/
structure Reads (Q K U W A D : ℕ → ℕ → EReal) (s : State Ideal) (n : ℕ) : Prop where
  q : ∀ (k : Fin 64) (b h : Fin 4) (r : Fin 64) (v : Fin 128), s.main_v18_0 (ix5 k b h r v) = Q (4096 * b + 64 * k + r) (128 * h + v)
  k : ∀ (k : Fin 64) (b h : Fin 4) (r : Fin 64) (v : Fin 128), s.main_v18_1 (ix5 k b h r v) = K (4096 * b + 64 * k + r) (128 * h + v)
  u : ∀ (k : Fin 64) (b h : Fin 4) (r : Fin 64) (v : Fin 128), s.main_v18_2 (ix5 k b h r v) = U (4096 * b + 64 * k + r) (128 * h + v)
  w : ∀ (k : Fin 64) (b h : Fin 4) (r : Fin 64) (v : Fin 128), s.main_v18_3 (ix5 k b h r v) = W (4096 * b + 64 * k + r) (128 * h + v)
  a : ∀ (k : Fin 64) (b h : Fin 4) (r v : Fin 64), s.main_v18_4 (ix5 k b h r v) = A (4096 * b + 64 * k + r) (64 * h + v)
  d : ∀ (k : Fin 64) (b h : Fin 4) (v : Fin 128), s.main_v18_5 (ix4 k b h v) = D (64 * b + k) (128 * h + v)
  S : ∀ (b h : Fin 4) (x v : Fin 128), s.main_v18_7 (ix4 b h x v) = st (fun _ _ => 0) W U K D (4096 * b) (64 * b) h n x v
  o : ∀ (k : Fin 64) (b h : Fin 4) (r : Fin 64) (v : Fin 128), k.val < n → s.main_v18_8 (ix5 k b h r v)
    = oval (st (fun _ _ => 0) W U K D (4096 * b) (64 * b) h k) Q W U A (4096 * b + 64 * k) (128 * h) (64 * h) r v

/-- A trip keeps what the carried arrays hold. -/
theorem Reads.next {Q K U W A D : ℕ → ℕ → EReal} {s : State Ideal} {n : ℕ} (hs : Reads Q K U W A D s n) (hn : n < 64) :
    Reads Q K U W A D (Step.step n s) (n + 1) where
  q := hs.q
  k := hs.k
  u := hs.u
  w := hs.w
  a := hs.a
  d := hs.d
  S := fun b h x v => by
    refine (trip_state s ⟨n, hn⟩ b h x v).trans ?_
    simp only [hs.S, hs.d, hs.k, hs.u, hs.w]
    rfl
  o := fun k b h r v hk => by
    refine (trip_rows s ⟨n, hn⟩ b h k r v).trans ?_
    by_cases e : k = ⟨n, hn⟩
    · rw [if_pos e, trip_out]
      subst e
      simp only [hs.S, hs.q, hs.a, hs.u, hs.w]
      rfl
    · rw [if_neg e]
      exact hs.o k b h r v (by have := Fin.val_ne_of_ne e; simp only at this; omega)

/-- The carried arrays in a valuation. -/
abbrev carried (V : Valuation τ sig (Elt Ideal)) : State Ideal where
  main_v18_7 := V (Proc.devRef .tc main_v18_7)
  main_v18_8 := V (Proc.devRef .tc main_v18_8)
  main_v18_0 := V (Proc.devRef .tc main_v18_0)
  main_v18_1 := V (Proc.devRef .tc main_v18_1)
  main_v18_2 := V (Proc.devRef .tc main_v18_2)
  main_v18_3 := V (Proc.devRef .tc main_v18_3)
  main_v18_4 := V (Proc.devRef .tc main_v18_4)
  main_v18_5 := V (Proc.devRef .tc main_v18_5)

/-- The trip's number in a valuation. -/
abbrev Number (V : Valuation τ sig (Elt Ideal)) (n : ℕ) : Prop :=
  V (Proc.devRef .tc main_v18_6) = constantI S_ 32 (BitVec.ofNat 32 n)

/-- A trip's state in a valuation. -/
theorem state_next (V : Valuation τ sig (Elt Ideal)) (n : ℕ) (hc : Number V n) : step_main_v18_7 V = Step.b44 n (carried V) := by
  unfold step_main_v18_7 res_main_while0b_v46
  rw [hc]
  rfl

/-- A trip's outputs in a valuation. -/
theorem rows_next (V : Valuation τ sig (Elt Ideal)) (n : ℕ) (hc : Number V n) : step_main_v18_8 V = Step.b50 n (carried V) := by
  unfold step_main_v18_8 res_main_while0b_v46
  rw [hc]
  rfl

/-- One trip on a valuation is one trip on its carried arrays. -/
theorem carried_next (V : Valuation τ sig (Elt Ideal)) (n : ℕ) (hc : Number V n) : carried (STEP V) = Step.step n (carried V) := by
  unfold carried
  rw [STEP_main_v18_7, STEP_main_v18_8, STEP_main_v18_0, STEP_main_v18_1, STEP_main_v18_2, STEP_main_v18_3, STEP_main_v18_4,
    STEP_main_v18_5, state_next V n hc, rows_next V n hc]
  rfl

/-- The next trip's number. -/
theorem number_next (V : Valuation τ sig (Elt Ideal)) (n : ℕ) (hc : Number V n) : Number (STEP V) (n + 1) := by
  refine (STEP_main_v18_6 V).trans ?_
  unfold step_main_v18_6
  rw [hc]
  exact funext fun _ => (BitVec.ofNat_add n 1).symm

end Cert.ReferenceIdeal.Gdn

end
-- ==== Proof.GdnRefRun.lean ====
/-
  The reference's run: the carried arrays before every trip from the arguments, and the two arrays it returns, entry by entry.
-/
module

public import proofs.«01_k».proof.Proof.GdnRef

@[expose] public section

set_option maxRecDepth 16384

noncomputable section

namespace Cert.ReferenceIdeal.Gdn

open Idealize.ShloMosaic Idealize.ShloMosaic.TcCoe Idealize.SL.Sem Idealize.ShloMosaic.StableHlo
open Cert.ReferenceIdeal Cert.ReferenceIdeal.Gen Cert.ReferenceIdeal.Value Cert.Gdn
open Cert.ReferenceIdeal.Step (State)

section start
variable (a0 a1 a2 : Vec Ideal S16384x512 .bf16) (a3 : Vec Ideal S16384x512 .f32) (a4 : Vec Ideal S16384x256 .bf16) (a5 : Vec Ideal S256x1x512 .f32)

/-- Before the first trip: the arguments chunked, a zero state, no outputs yet. -/
theorem reads_start : Reads (rd2 (m := 16384) (n := 512) a0) (rd2 (m := 16384) (n := 512) a1) (rd2 (m := 16384) (n := 512) a3) (rd2 (m := 16384) (n := 512) a2)
    (rd2 (m := 16384) (n := 256) a4) (rd3 (m := 256) (n := 512) a5) (Step.init a0 a1 a2 a3 a4 a5) 0 where
  q := fun k b h r v => by
    rw [rd2_of _ (by omega) (by omega)]
    show Step.A_main_v5 a0 a1 a2 a3 a4 a5 (ix5 k b h r v) = _
    pointwise [Step.A_main_v5, Step.A_main_v4, Step.A_main_v3]
    blk_ext
  k := fun k b h r v => by
    rw [rd2_of _ (by omega) (by omega)]
    show Step.A_main_v8 a0 a1 a2 a3 a4 a5 (ix5 k b h r v) = _
    pointwise [Step.A_main_v8, Step.A_main_v7, Step.A_main_v6]
    blk_ext
  u := fun k b h r v => by
    rw [rd2_of _ (by omega) (by omega)]
    show Step.A_main_v10 a0 a1 a2 a3 a4 a5 (ix5 k b h r v) = _
    pointwise [Step.A_main_v10, Step.A_main_v9]
    blk_ext
  w := fun k b h r v => by
    rw [rd2_of _ (by omega) (by omega)]
    show Step.A_main_v13 a0 a1 a2 a3 a4 a5 (ix5 k b h r v) = _
    pointwise [Step.A_main_v13, Step.A_main_v12, Step.A_main_v11]
    blk_ext
  a := fun k b h r v => by
    rw [rd2_of _ (by omega) (by omega)]
    show Step.A_main_v16 a0 a1 a2 a3 a4 a5 (ix5 k b h r v) = _
    pointwise [Step.A_main_v16, Step.A_main_v15, Step.A_main_v14]
    blk_ext
  d := fun k b h v => by
    rw [rd3_of _ (by omega) (by omega)]
    show Step.A_main_v1 a0 a1 a2 a3 a4 a5 (ix4 k b h v) = _
    pointwise [Step.A_main_v1, Step.A_main_v0]
    blk_ext
  S := fun b h x v => by
    show Step.K_main_v2 (F := Ideal) (ix4 b h x v) = 0
    pointwise [Step.K_main_v2, Step.K_main_cst]
  o := fun k b h r v hk => absurd hk (Nat.not_lt_zero _)

end start

/-- The norm, its weight and the gate after the loop, entry by entry. -/
theorem gated (s : State Ideal) (z : Vec Ideal S16384x512 .f32) (g : Vec Ideal S4x1x128 .f32) (b : Fin 4) (n : Fin 64) (p : Fin 64) (h : Fin 4) (v : Fin 128)
    (hr : 4096 * b.val + 64 * n.val + p.val < 16384) (hv : 128 * h.val + v.val < 512) :
    Step.R_main_v38 s z g (ix2 ⟨4096 * b + 64 * n + p, hr⟩ ⟨128 * h + v, hv⟩)
      = gate (fun v => s.main_v18_8 (ix5 n b h p v)) (g (ix3 0 0 v)) (z (ix2 ⟨4096 * b + 64 * n + p, hr⟩ ⟨128 * h + v, hv⟩)) v := by
  have hz : ∀ (hr' : b.val * 4096 + n.val * 64 + p.val < 16384) (hv' : h.val * 128 + v.val < 512),
      z (ix2 ⟨b * 4096 + n * 64 + p, hr'⟩ ⟨h * 128 + v, hv'⟩) = z (ix2 ⟨4096 * b + 64 * n + p, hr⟩ ⟨128 * h + v, hv⟩) := fun _ _ => by
    blk_ext
  pointwise [Step.R_main_v38]
  rw [hz]
  rfl

/-- The first result from the carried arrays, the gate's argument and the norm's weight. -/
theorem out_eq (V : Valuation τ sig (Elt Ideal)) :
    out_main_v38 V = Step.R_main_v38 (carried V) (V (Proc.devRef .tc main_arg6)) (V (Proc.devRef .tc main_arg7)) := rfl

/-- The first result at an entry, of any memory whose carried arrays read as they must after the last trip. -/
theorem out_of {Q K U W A D : ℕ → ℕ → EReal} {z : Vec Ideal S16384x512 .f32} {g : Vec Ideal S4x1x128 .f32} (V : Valuation τ sig (Elt Ideal))
    (hR : Reads Q K U W A D (carried V) 64) (hz : V (Proc.devRef .tc main_arg6) = z) (hg : V (Proc.devRef .tc main_arg7) = g)
    (b : Fin 4) (n p : Fin 64) (h : Fin 4) (v : Fin 128)
    (hr : 4096 * b.val + 64 * n.val + p.val < 16384) (hv : 128 * h.val + v.val < 512) :
    out_main_v38 V (ix2 ⟨4096 * b + 64 * n + p, hr⟩ ⟨128 * h + v, hv⟩)
      = gate (oval (st (fun _ _ => 0) W U K D (4096 * b) (64 * b) h n) Q W U A (4096 * b + 64 * n) (128 * h) (64 * h) p)
        (g (ix3 0 0 v)) (z (ix2 ⟨4096 * b + 64 * n + p, hr⟩ ⟨128 * h + v, hv⟩)) v := by
  rw [out_eq, hz, hg, gated, funext fun v => hR.o n b h p v n.isLt]

variable (m : (ℓ : Loc nD τ sig) → Buf (Elt Ideal) ℓ) (c : Dev nD)

set_option maxHeartbeats 1000000 in
/-- What the operations before the loop leave in the carried arrays. -/
theorem carried_start : carried (entryContents preI m c) = Step.init (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  unfold carried
  simp only [entryContents, afterL_cons, afterL_nil]
  after_reads_simp
  rfl

/-- Before the first trip its number is zero. -/
theorem number_start : Number (entryContents preI m c) 0 := (ctr_entry m c).trans rfl

/-- What the loop finds before trip `n`. -/
theorem reads_trip : ∀ n, n ≤ 64 → Number (STEP^[n] (entryContents preI m c)) n ∧
    Reads (rd2 (m := 16384) (n := 512) (m ((c.tc : Thread nD τ).loc main_arg0))) (rd2 (m := 16384) (n := 512) (m ((c.tc : Thread nD τ).loc main_arg1)))
      (rd2 (m := 16384) (n := 512) (m ((c.tc : Thread nD τ).loc main_arg3))) (rd2 (m := 16384) (n := 512) (m ((c.tc : Thread nD τ).loc main_arg2)))
      (rd2 (m := 16384) (n := 256) (m ((c.tc : Thread nD τ).loc main_arg4))) (rd3 (m := 256) (n := 512) (m ((c.tc : Thread nD τ).loc main_arg5)))
      (carried (STEP^[n] (entryContents preI m c))) n
  | 0, _ => ⟨number_start m c, by rw [Function.iterate_zero, id_eq, carried_start]; exact reads_start _ _ _ _ _ _⟩
  | n + 1, hn => by
    obtain ⟨hN, hR⟩ := reads_trip n (by omega)
    rw [Function.iterate_succ_apply']
    exact ⟨number_next _ n hN, by rw [carried_next _ n hN]; exact hR.next (by omega)⟩

section read
variable {m} {c} {a0 a1 a2 : Vec Ideal S16384x512 .bf16} {a3 : Vec Ideal S16384x512 .f32} {a4 : Vec Ideal S16384x256 .bf16} {a5 : Vec Ideal S256x1x512 .f32}
  {a6 : Vec Ideal S16384x512 .f32} {a7 : Vec Ideal S4x1x128 .f32}
  (h0 : m ((c.tc : Thread nD τ).loc main_arg0) = a0) (h1 : m ((c.tc : Thread nD τ).loc main_arg1) = a1)
  (h2 : m ((c.tc : Thread nD τ).loc main_arg2) = a2) (h3 : m ((c.tc : Thread nD τ).loc main_arg3) = a3)
  (h4 : m ((c.tc : Thread nD τ).loc main_arg4) = a4) (h5 : m ((c.tc : Thread nD τ).loc main_arg5) = a5)
  (h6 : m ((c.tc : Thread nD τ).loc main_arg6) = a6) (h7 : m ((c.tc : Thread nD τ).loc main_arg7) = a7)

include h0 h1 h2 h3 h4 h5

/-- What the loop leaves after its last trip. -/
theorem reads_end : Reads (rd2 (m := 16384) (n := 512) a0) (rd2 (m := 16384) (n := 512) a1) (rd2 (m := 16384) (n := 512) a3) (rd2 (m := 16384) (n := 512) a2)
    (rd2 (m := 16384) (n := 256) a4) (rd3 (m := 256) (n := 512) a5) (carried (STEP^[64] (entryContents preI m c))) 64 := by
  subst h0 h1 h2 h3 h4 h5
  exact (reads_trip m c 64 le_rfl).2

/-- The second result: the state after the last chunk. -/
theorem state_at (b h : Fin 4) (x y : Fin 128) : (STEP^[64] (entryContents preI m c)) (Proc.devRef .tc main_v18_7) (ix4 b h x y)
    = st (fun _ _ => 0) (rd2 (m := 16384) (n := 512) a2) (rd2 (m := 16384) (n := 512) a3) (rd2 (m := 16384) (n := 512) a1) (rd3 (m := 256) (n := 512) a5)
        (4096 * b) (64 * b) h 64 x y :=
  (reads_end h0 h1 h2 h3 h4 h5).S b h x y

include h6 h7

/-- The first result: each chunk's output, normed, weighted and gated. -/
theorem rows_at (b : Fin 4) (n p : Fin 64) (h : Fin 4) (v : Fin 128)
    (hr : 4096 * b.val + 64 * n.val + p.val < 16384) (hv : 128 * h.val + v.val < 512) :
    out_main_v38 (STEP^[64] (entryContents preI m c)) (ix2 ⟨4096 * b + 64 * n + p, hr⟩ ⟨128 * h + v, hv⟩)
      = gate (oval (st (fun _ _ => 0) (rd2 (m := 16384) (n := 512) a2) (rd2 (m := 16384) (n := 512) a3) (rd2 (m := 16384) (n := 512) a1)
          (rd3 (m := 256) (n := 512) a5) (4096 * b) (64 * b) h n)
          (rd2 (m := 16384) (n := 512) a0) (rd2 (m := 16384) (n := 512) a2) (rd2 (m := 16384) (n := 512) a3) (rd2 (m := 16384) (n := 256) a4)
          (4096 * b + 64 * n) (128 * h) (64 * h) p)
        (a7 (ix3 0 0 v)) (rd2 (m := 16384) (n := 512) a6 (4096 * b + 64 * n + p) (128 * h + v)) v := by
  rw [rd2_of _ hr hv]
  exact out_of _ (reads_end h0 h1 h2 h3 h4 h5) ((iter_main_arg6 m c 64).trans h6) ((iter_main_arg7 m c 64).trans h7) b n p h v hr hv

end read

end Cert.ReferenceIdeal.Gdn

end
-- ==== Proof.GdnPair.lean ====
/-
  The kernel's two arrays are the reference's, entry by entry.
-/
module

public import proofs.«01_k».proof.Proof.GdnValue
public import proofs.«01_k».proof.Proof.GdnRefRun

@[expose] public section

set_option maxRecDepth 16384

noncomputable section

namespace Cert.Gdn

open Idealize.ShloMosaic Idealize.ShloMosaic.TcCoe Idealize.SL.Sem Idealize.ShloMosaic.StableHlo

/-- A row of the 16384 is a row of a chunk of a sequence. -/
theorem split_row (r : Fin 16384) : ∃ (b : Fin 4) (n p : Fin 64) (hr : 4096 * b.val + 64 * n.val + p.val < 16384), r = ⟨4096 * b + 64 * n + p, hr⟩ :=
  ⟨⟨r / 4096, by omega⟩, ⟨r % 4096 / 64, by omega⟩, ⟨r % 64, by omega⟩, by simp only; omega, Fin.ext (by simp only; omega)⟩

/-- A column of the 512 is a column of a head. -/
theorem split_col (q : Fin 512) : ∃ (h : Fin 4) (v : Fin 128) (hv : 128 * h.val + v.val < 512), q = ⟨128 * h + v, hv⟩ :=
  ⟨⟨q / 128, by omega⟩, ⟨q % 128, by omega⟩, by simp only; omega, Fin.ext (by simp only; omega)⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include h0 h1 h2 h3 h4 h5

/-- The two state arrays are equal. -/
theorem states_eq : Cert.ReferenceIdeal.Value.STEP^[64] (entryContents Cert.ReferenceIdeal.Value.preI m' c) (Proc.devRef .tc Cert.ReferenceIdeal.main_v18_7)
    = Cert.KernelIdeal.Value.G9 m c :=
  funext fun i => by
    idx_vars i
    exact (Cert.ReferenceIdeal.Gdn.state_at h0 h1 h2 h3 h4 h5 i0 i1 i2 i3).trans (Cert.KernelIdeal.Gdn.final9_at m c i0 i1 i2 i3).symm

include h6 h7

/-- The two output arrays are equal. -/
theorem rows_eq : Cert.ReferenceIdeal.Value.out_main_v38 (Cert.ReferenceIdeal.Value.STEP^[64] (entryContents Cert.ReferenceIdeal.Value.preI m' c))
    = Cert.KernelIdeal.Value.G8 m c :=
  funext fun i => by
    idx_vars i
    obtain ⟨b, n, p, hr, rfl⟩ := split_row i0
    obtain ⟨h, v, hv, rfl⟩ := split_col i1
    exact (Cert.ReferenceIdeal.Gdn.rows_at h0 h1 h2 h3 h4 h5 h6 h7 b n p h v hr hv).trans (Cert.KernelIdeal.Gdn.final8_at m c b n p h v hr hv).symm

end Cert.Gdn

end
-- ==== Proof.Rows.lean ====
/-
  The row arithmetic that the layer's dense blocks share: the root-mean-square norm of a row of 1024 entries, the sigmoid
  gate, the gated feed-forward row, and a sum over 2816 columns taken as eleven sums over 256.
-/
module

public import Idealize.ShloMosaic.Lib.Pipeline.ValueKit

@[expose] public section

noncomputable section

namespace Cert.Rows

open Idealize.ShloMosaic

/-- The normed row: each entry times the reciprocal root of the row's mean square (plus the small constant), times the gain. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- `a` times its sigmoid. -/
def silu (a : EReal) : EReal := a * Ideal.div 1 (1 + Ideal.exp (-a))

/-- One gated hidden entry: the silu of the gate's dot product times the other half's dot product. -/
def gated (h a b : Fin 1024 → EReal) : EReal := silu (∑ k, h k * a k) * ∑ k, h k * b k

/-- Hidden entry `u` of a row, from the weight whose first 2816 columns are the gate's and whose last are the other half's. -/
def hid (h : Fin 1024 → EReal) (w : Fin 1024 → Fin 5632 → EReal) (u : Fin 2816) : EReal :=
  gated h (fun k => w k ⟨u.val, by omega⟩) (fun k => w k ⟨2816 + u.val, by omega⟩)

/-- The feed-forward row: the hidden row through the second weight. -/
def down (h : Fin 1024 → EReal) (w : Fin 1024 → Fin 5632 → EReal) (d : Fin 2816 → Fin 1024 → EReal) (n : Fin 1024) : EReal :=
  ∑ u, hid h w u * d u n

/-- The part of the feed-forward row that the hidden entries `o, …, o + 255` give; `p` is where their other half starts. -/
def part (h : Fin 1024 → EReal) (w : Fin 1024 → Fin 5632 → EReal) (d : Fin 2816 → Fin 1024 → EReal) (o p : ℕ) (hp : p = 2816 + o ∧ o + 256 ≤ 2816) (n : Fin 1024) : EReal :=
  ∑ u : Fin 256, gated h (fun k => w k ⟨o + u.val, by omega⟩) (fun k => w k ⟨p + u.val, by omega⟩) * d ⟨o + u.val, by omega⟩ n

/-- The feed-forward block's row: the row plus half the normed feed-forward row. -/
def ffn (x g0 g1 : Fin 1024 → EReal) (w : Fin 1024 → Fin 5632 → EReal) (d : Fin 2816 → Fin 1024 → EReal) (n : Fin 1024) : EReal :=
  x n + Ideal.ofBits .f32 0x3F000000#32 * rms (down (rms x g0) w d) g1 n

/-- A sum over 2816 entries is eleven sums over 256 added one after another. -/
theorem sum_parts (f : Fin 2816 → EReal) :
    ∑ u, f u = ∑ j : Fin 11, ∑ u : Fin 256, f ⟨256 * j.val + u.val, by omega⟩ := by
  rw [← (finProdFinEquiv (m := 11) (n := 256)).sum_comp f, Fintype.sum_prod_type]
  refine Finset.sum_congr rfl fun j _ => Finset.sum_congr rfl fun u _ => congrArg f (Fin.ext ?_)
  show u.val + 256 * j.val = 256 * j.val + u.val
  omega

/-- A sum of eleven terms, written out. -/
theorem sum_eleven (P : Fin 11 → EReal) :
    ∑ j, P j = P 0 + P 1 + P 2 + P 3 + P 4 + P 5 + P 6 + P 7 + P 8 + P 9 + P 10 := by
  simp only [Fin.sum_univ_succ, Fin.sum_univ_zero, add_zero, ← add_assoc]
  rfl

/-- A part is the sum of its hidden entries' products. -/
theorem part_eq (h : Fin 1024 → EReal) (w : Fin 1024 → Fin 5632 → EReal) (d : Fin 2816 → Fin 1024 → EReal) (o p : ℕ) (hp : p = 2816 + o ∧ o + 256 ≤ 2816) (n : Fin 1024) :
    part h w d o p hp n = ∑ u : Fin 256, hid h w ⟨o + u.val, by omega⟩ * d ⟨o + u.val, by omega⟩ n := by
  obtain ⟨rfl, ho⟩ := hp
  refine Finset.sum_congr rfl fun u _ => ?_
  unfold hid
  simp only [Nat.add_assoc]

/-- The feed-forward row as the eleven parts added in turn. -/
theorem down_eq (h : Fin 1024 → EReal) (w : Fin 1024 → Fin 5632 → EReal) (d : Fin 2816 → Fin 1024 → EReal) (n : Fin 1024) :
    down h w d n = part h w d 0 2816 (by omega) n + part h w d 256 3072 (by omega) n + part h w d 512 3328 (by omega) n + part h w d 768 3584 (by omega) n
      + part h w d 1024 3840 (by omega) n + part h w d 1280 4096 (by omega) n + part h w d 1536 4352 (by omega) n + part h w d 1792 4608 (by omega) n
      + part h w d 2048 4864 (by omega) n + part h w d 2304 5120 (by omega) n + part h w d 2560 5376 (by omega) n := by
  simp only [part_eq]
  exact ((sum_parts _).trans (sum_eleven _)).trans rfl

end Cert.Rows

end
-- ==== Proof.FfnPoint.lean ====
/-
  What the feed-forward kernel's body leaves in its output block: it keeps the second product's running sum in a scratch
  buffer, one chunk of 256 hidden columns after another, and each store is read back whole by the next chunk.
-/
module

public import proofs.«01_k».proof.Proof.Rows
public import proofs.«01_k».proof.Proof.Gen.FfnIdeal.Frame
public import Idealize.ShloMosaic.Lib.Pipeline.ValueKit
public import Idealize.ShloMosaic.Lib.WritesUnit

@[expose] public section

set_option maxRecDepth 16384

noncomputable section

namespace Cert.FfnIdeal.Ffn

open Cert.FfnIdeal Cert.FfnIdeal.Gen Idealize.ShloMosaic Idealize.ShloMosaic.TcCoe Idealize.SL.Sem Cert.Rows

section chunks

variable (c : Dev nD) (arg1 : Memref sig .tc .vmem S512x1024 .f32) (harg1 : arg1.IsWhole) (arg2 : Memref sig .tc .vmem S1x1x1x1024 .f32) (harg2 : arg2.IsWhole)
  (arg4 : Memref sig .tc .vmem S1x1x1024x5632 .bf16) (harg4 : arg4.IsWhole) (arg5 : Memref sig .tc .vmem S1x1x2816x1024 .bf16) (harg5 : arg5.IsWhole)
  (arg7 : Memref sig .tc .vmem S512x1024 .f32)
  (x0 : Vec Ideal S512x1024 .f32) (x1 : Vec Ideal S1x1x1x1024 .f32) (x3 : Vec Ideal S1x1x1024x5632 .bf16) (x4 : Vec Ideal S1x1x2816x1024 .bf16)

/-- The normed row of the input block. -/
abbrev hrow (r : Fin 512) : Fin 1024 → EReal := rms (fun k => x0 (ix2 r k)) (fun k => x1 (ix4 0 0 0 k))

/-- What the hidden columns `o, …, o + 255` add to row `r`, column `n`. -/
abbrev piece (r : Fin 512) (n : Fin 1024) (o p : ℕ) (hp : p = 2816 + o ∧ o + 256 ≤ 2816) : EReal :=
  part (hrow x0 x1 r) (fun k u => x3 (ix4 0 0 k u)) (fun u k => x4 (ix4 0 0 u k)) o p hp n

/-- The sum after the first chunk. -/
theorem chunk0 (r : Fin 512) (n : Fin 1024) :
    kernelRun0_A.sl.v45 (F := Ideal) c arg1 harg1 arg2 harg2 arg4 harg4 arg5 harg5 arg7 x0 x1 x3 x4 (ix2 r n) = piece x0 x1 x3 x4 r n 0 2816 (by omega) := by
  unfold kernelRun0_A.sl.v45 kernelRun0_A.sl.HS0_1
  rw [View.readCov_cons_toLoadRect]
  skip
  simp only [View.readAt_eq_ld, harg1.read_unread, harg2.read_unread, harg4.read_unread, harg5.read_unread]
  pointwise [k0_pay4, k0_pay3]
  rfl

/-- The sum after the second chunk is the sum before it and that chunk's part. -/
theorem chunk1 (r : Fin 512) (n : Fin 1024) :
    kernelRun0_A.sl.v63 (F := Ideal) c arg1 harg1 arg2 harg2 arg4 harg4 arg5 harg5 arg7 x0 x1 x3 x4 (ix2 r n) = kernelRun0_A.sl.v45 (F := Ideal) c arg1 harg1 arg2 harg2 arg4 harg4 arg5 harg5 arg7 x0 x1 x3 x4 (ix2 r n) + piece x0 x1 x3 x4 r n 256 3072 (by omega) := by
  unfold kernelRun0_A.sl.v63 kernelRun0_A.sl.HS0_2
  rw [View.readCov_cons_toLoadRect]
  unfold kernelRun0_A.sl.r_1
  simp only [View.readAt_eq_ld, harg1.read_unread, harg2.read_unread, harg4.read_unread, harg5.read_unread]
  pointwise [k0_pay5, k0_pay3]
  rfl

/-- The sum after the third chunk is the sum before it and that chunk's part. -/
theorem chunk2 (r : Fin 512) (n : Fin 1024) :
    kernelRun0_A.sl.v81 (F := Ideal) c arg1 harg1 arg2 harg2 arg4 harg4 arg5 harg5 arg7 x0 x1 x3 x4 (ix2 r n) = kernelRun0_A.sl.v63 (F := Ideal) c arg1 harg1 arg2 harg2 arg4 harg4 arg5 harg5 arg7 x0 x1 x3 x4 (ix2 r n) + piece x0 x1 x3 x4 r n 512 3328 (by omega) := by
  unfold kernelRun0_A.sl.v81 kernelRun0_A.sl.HS0_3
  rw [View.readCov_cons_toLoadRect]
  unfold kernelRun0_A.sl.r_2 kernelRun0_A.sl.r_1
  simp only [View.readAt_eq_ld, harg1.read_unread, harg2.read_unread, harg4.read_unread, harg5.read_unread]
  pointwise [k0_pay7, k0_pay6, k0_pay3]
  rfl

/-- The sum after the fourth chunk is the sum before it and that chunk's part. -/
theorem chunk3 (r : Fin 512) (n : Fin 1024) :
    kernelRun0_A.sl.v99 (F := Ideal) c arg1 harg1 arg2 harg2 arg4 harg4 arg5 harg5 arg7 x0 x1 x3 x4 (ix2 r n) = kernelRun0_A.sl.v81 (F := Ideal) c arg1 harg1 arg2 harg2 arg4 harg4 arg5 harg5 arg7 x0 x1 x3 x4 (ix2 r n) + piece x0 x1 x3 x4 r n 768 3584 (by omega) := by
  unfold kernelRun0_A.sl.v99 kernelRun0_A.sl.HS0_4
  rw [View.readCov_cons_toLoadRect]
  unfold kernelRun0_A.sl.r_1
  simp only [View.readAt_eq_ld, harg1.read_unread, harg2.read_unread, harg4.read_unread, harg5.read_unread]
  pointwise [k0_pay8, k0_pay3]
  rfl

/-- The sum after the fifth chunk is the sum before it and that chunk's part. -/
theorem chunk4 (r : Fin 512) (n : Fin 1024) :
    kernelRun0_A.sl.v117 (F := Ideal) c arg1 harg1 arg2 harg2 arg4 harg4 arg5 harg5 arg7 x0 x1 x3 x4 (ix2 r n) = kernelRun0_A.sl.v99 (F := Ideal) c arg1 harg1 arg2 harg2 arg4 harg4 arg5 harg5 arg7 x0 x1 x3 x4 (ix2 r n) + piece x0 x1 x3 x4 r n 1024 3840 (by omega) := by
  unfold kernelRun0_A.sl.v117 kernelRun0_A.sl.HS0_5
  rw [View.readCov_cons_toLoadRect]
  unfold kernelRun0_A.sl.r_3 kernelRun0_A.sl.r_1
  simp only [View.readAt_eq_ld, harg1.read_unread, harg2.read_unread, harg4.read_unread, harg5.read_unread]
  pointwise [k0_pay10, k0_pay9, k0_pay3]
  rfl

/-- The sum after the sixth chunk is the sum before it and that chunk's part. -/
theorem chunk5 (r : Fin 512) (n : Fin 1024) :
    kernelRun0_A.sl.v135 (F := Ideal) c arg1 harg1 arg2 harg2 arg4 harg4 arg5 harg5 arg7 x0 x1 x3 x4 (ix2 r n) = kernelRun0_A.sl.v117 (F := Ideal) c arg1 harg1 arg2 harg2 arg4 harg4 arg5 harg5 arg7 x0 x1 x3 x4 (ix2 r n) + piece x0 x1 x3 x4 r n 1280 4096 (by omega) := by
  unfold kernelRun0_A.sl.v135 kernelRun0_A.sl.HS0_6
  rw [View.readCov_cons_toLoadRect]
  unfold kernelRun0_A.sl.r_4 kernelRun0_A.sl.r_1
  simp only [View.readAt_eq_ld, harg1.read_unread, harg2.read_unread, harg4.read_unread, harg5.read_unread]
  pointwise [k0_pay12, k0_pay11, k0_pay3]
  rfl

/-- The sum after the seventh chunk is the sum before it and that chunk's part. -/
theorem chunk6 (r : Fin 512) (n : Fin 1024) :
    kernelRun0_A.sl.v153 (F := Ideal) c arg1 harg1 arg2 harg2 arg4 harg4 arg5 harg5 arg7 x0 x1 x3 x4 (ix2 r n) = kernelRun0_A.sl.v135 (F := Ideal) c arg1 harg1 arg2 harg2 arg4 harg4 arg5 harg5 arg7 x0 x1 x3 x4 (ix2 r n) + piece x0 x1 x3 x4 r n 1536 4352 (by omega) := by
  unfold kernelRun0_A.sl.v153 kernelRun0_A.sl.HS0_7
  rw [View.readCov_cons_toLoadRect]
  unfold kernelRun0_A.sl.r_1
  simp only [View.readAt_eq_ld, harg1.read_unread, harg2.read_unread, harg4.read_unread, harg5.read_unread]
  pointwise [k0_pay13, k0_pay3]
  rfl

/-- The sum after the eighth chunk is the sum before it and that chunk's part. -/
theorem chunk7 (r : Fin 512) (n : Fin 1024) :
    kernelRun0_A.sl.v171 (F := Ideal) c arg1 harg1 arg2 harg2 arg4 harg4 arg5 harg5 arg7 x0 x1 x3 x4 (ix2 r n) = kernelRun0_A.sl.v153 (F := Ideal) c arg1 harg1 arg2 harg2 arg4 harg4 arg5 harg5 arg7 x0 x1 x3 x4 (ix2 r n) + piece x0 x1 x3 x4 r n 1792 4608 (by omega) := by
  unfold kernelRun0_A.sl.v171 kernelRun0_A.sl.HS0_8
  rw [View.readCov_cons_toLoadRect]
  unfold kernelRun0_A.sl.r_5 kernelRun0_A.sl.r_1
  simp only [View.readAt_eq_ld, harg1.read_unread, harg2.read_unread, harg4.read_unread, harg5.read_unread]
  pointwise [k0_pay15, k0_pay14, k0_pay3]
  rfl

/-- The sum after the ninth chunk is the sum before it and that chunk's part. -/
theorem chunk8 (r : Fin 512) (n : Fin 1024) :
    kernelRun0_A.sl.v189 (F := Ideal) c arg1 harg1 arg2 harg2 arg4 harg4 arg5 harg5 arg7 x0 x1 x3 x4 (ix2 r n) = kernelRun0_A.sl.v171 (F := Ideal) c arg1 harg1 arg2 harg2 arg4 harg4 arg5 harg5 arg7 x0 x1 x3 x4 (ix2 r n) + piece x0 x1 x3 x4 r n 2048 4864 (by omega) := by
  unfold kernelRun0_A.sl.v189 kernelRun0_A.sl.HS0_9
  rw [View.readCov_cons_toLoadRect]
  unfold kernelRun0_A.sl.r_6 kernelRun0_A.sl.r_1
  simp only [View.readAt_eq_ld, harg1.read_unread, harg2.read_unread, harg4.read_unread, harg5.read_unread]
  pointwise [k0_pay17, k0_pay16, k0_pay3]
  rfl

/-- The sum after the tenth chunk is the sum before it and that chunk's part. -/
theorem chunk9 (r : Fin 512) (n : Fin 1024) :
    kernelRun0_A.sl.v207 (F := Ideal) c arg1 harg1 arg2 harg2 arg4 harg4 arg5 harg5 arg7 x0 x1 x3 x4 (ix2 r n) = kernelRun0_A.sl.v189 (F := Ideal) c arg1 harg1 arg2 harg2 arg4 harg4 arg5 harg5 arg7 x0 x1 x3 x4 (ix2 r n) + piece x0 x1 x3 x4 r n 2304 5120 (by omega) := by
  unfold kernelRun0_A.sl.v207 kernelRun0_A.sl.HS0_10
  rw [View.readCov_cons_toLoadRect]
  unfold kernelRun0_A.sl.r_1
  simp only [View.readAt_eq_ld, harg1.read_unread, harg2.read_unread, harg4.read_unread, harg5.read_unread]
  pointwise [k0_pay18, k0_pay3]
  rfl

/-- The sum after the last chunk is the sum before it and that chunk's part. -/
theorem chunk10 (r : Fin 512) (n : Fin 1024) :
    kernelRun0_A.sl.v212 (F := Ideal) c arg1 harg1 arg2 harg2 arg4 harg4 arg5 harg5 arg7 x0 x1 x3 x4 (ix2 r n) = kernelRun0_A.sl.v207 (F := Ideal) c arg1 harg1 arg2 harg2 arg4 harg4 arg5 harg5 arg7 x0 x1 x3 x4 (ix2 r n) + piece x0 x1 x3 x4 r n 2560 5376 (by omega) := by
  unfold kernelRun0_A.sl.v212 kernelRun0_A.sl.HS0_11
  rw [View.readCov_cons_toLoadRect]
  unfold kernelRun0_A.sl.r_7 kernelRun0_A.sl.r_8 kernelRun0_A.sl.v204 kernelRun0_A.sl.r_1
  simp only [View.readAt_eq_ld, harg1.read_unread, harg2.read_unread, harg4.read_unread, harg5.read_unread]
  pointwise [k0_pay1, k0_pay19, k0_pay20, k0_pay3]
  rfl

/-- The sum after all eleven chunks is the feed-forward row. -/
theorem total (r : Fin 512) (n : Fin 1024) :
    kernelRun0_A.sl.v212 (F := Ideal) c arg1 harg1 arg2 harg2 arg4 harg4 arg5 harg5 arg7 x0 x1 x3 x4 (ix2 r n)
      = down (hrow x0 x1 r) (fun k u => x3 (ix4 0 0 k u)) (fun u k => x4 (ix4 0 0 u k)) n := by
  rw [down_eq, chunk10, chunk9, chunk8, chunk7, chunk6, chunk5, chunk4, chunk3, chunk2, chunk1, chunk0]

end chunks

/-- The output block's entry is the feed-forward block's row of the input blocks. -/
theorem block (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1x1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S512x1024 .f32) (harg6 : arg6.IsWhole) (arg7 : Memref sig .tc .vmem S512x1024 .f32) (harg7 : arg7.IsWhole) (x0 : Vec Ideal S512x1024 .f32) (x1 : Vec Ideal S1x1x1x1024 .f32) (x2 : Vec Ideal S1x1x1x1024 .f32) (x3 : Vec Ideal S1x1x1024x5632 .bf16) (x4 : Vec Ideal S1x1x2816x1024 .bf16) (r : Fin 512) (n : Fin 1024) :
    out0_A_5 c i arg1 harg1 arg2 harg2 arg3 harg3 arg4 harg4 arg5 harg5 arg6 harg6 arg7 harg7 x0 x1 x2 x3 x4 (ix2 r n)
      = ffn (fun k => x0 (ix2 r k)) (fun k => x1 (ix4 0 0 0 k)) (fun k => x2 (ix4 0 0 0 k)) (fun k u => x3 (ix4 0 0 k u)) (fun u k => x4 (ix4 0 0 u k)) n := by
  unfold out0_A_5
  rw [View.read_writes_of_cover VO0_5 _ arg6.view arg6.view.junk _ (cover0_A_5 c i arg1 harg1 arg2 harg2 arg3 harg3 arg4 harg4 arg5 harg5 arg6 harg6 arg7 harg7 x0 x1 x2 x3 x4)]
  unfold kernelRun0_A
  dsimp only
  refine (View.read_writes_cons_unit_of_mem _ _ _ _ _ (ix2 r n) (ix2 r n) rfl (by intro a; match a with | ⟨0, _⟩ => exact (Nat.zero_add _).symm | ⟨1, _⟩ => exact (Nat.zero_add _).symm)).trans ?_
  unfold kernelRun0_A.sl.r kernelRun0_A.sl.v213
  simp only [View.readAt_eq_ld, harg1.read_unread, harg3.read_unread]
  pointwise [k0_pay2]
  simp only [total c arg1 harg1 arg2 harg2 arg4 harg4 arg5 harg5 arg7 x0 x1 x3 x4]
  rfl

end Cert.FfnIdeal.Ffn

end
-- ==== Proof.FfnRef.lean ====
/-
  The feed-forward reference's result, entry by entry.
-/
module

public import proofs.«01_k».proof.Proof.Rows
public import proofs.«01_k».proof.Proof.Gen.FfnReferenceIdeal.Run

@[expose] public section

set_option maxRecDepth 16384

noncomputable section

namespace Cert.FfnReferenceIdeal.Ffn

open Idealize.ShloMosaic Idealize.ShloMosaic.TcCoe Idealize.SL.Sem
open Cert.FfnReferenceIdeal Cert.FfnReferenceIdeal.Value Cert.Rows

variable (m : (ℓ : Loc nD τ sig) → Buf (Elt Ideal) ℓ)

/-- The reference's result at row `r`, column `n` is the feed-forward block's row of the arguments. -/
theorem result (c : Dev nD) (r : Fin 16384) (n : Fin 1024) :
    res_main_v42 m c (ix2 r n)
      = ffn (fun k => m ((c.tc : Thread nD τ).loc main_arg0) (ix2 r k)) (fun k => m ((c.tc : Thread nD τ).loc main_arg1) (ix4 3 6 0 k))
          (fun k => m ((c.tc : Thread nD τ).loc main_arg1) (ix4 3 7 0 k)) (fun k u => m ((c.tc : Thread nD τ).loc main_arg2) (ix4 3 1 k u))
          (fun u k => m ((c.tc : Thread nD τ).loc main_arg3) (ix4 3 1 u k)) n := by
  pointwise [res_main_v42]
  rfl

end Cert.FfnReferenceIdeal.Ffn

end
-- ==== Proof.FfnPair.lean ====
/-
  The feed-forward kernel's result array is the feed-forward block's row of its arguments at every row, and so, at equal
  arguments, the reference's result.
-/
module

public import proofs.«01_k».proof.Proof.FfnPoint
public import proofs.«01_k».proof.Proof.FfnRef
public import proofs.«01_k».proof.Proof.Gen.FfnIdeal.Value

@[expose] public section

set_option maxRecDepth 16384

noncomputable section

namespace Cert.FfnIdeal.Ffn

open Idealize.ShloMosaic Idealize.ShloMosaic.TcCoe Idealize.SL.Sem Cert.Rows
open Cert.FfnIdeal Cert.FfnIdeal.Gen

variable (m : (ℓ : Loc nD τ sig) → Buf (Elt Ideal) ℓ)

/-- Which block each window holds at grid point `t`: rows `512 t …` of the input and of the output, the two gains and the
    two weights of the one layer. -/
theorem idx : ∀ t : Fin cfg0.N, win0_0.index t = ![t.val, 0] ∧ win0_1.index t = ![3, 6, 0, 0] ∧ win0_2.index t = ![3, 7, 0, 0]
    ∧ win0_3.index t = ![3, 1, 0, 0] ∧ win0_4.index t = ![3, 1, 0, 0] ∧ win0_5.index t = ![t.val, 0] :=
  (by decide +kernel : ∀ t : Fin grid0.N, _)

/-- The result array as one function of the argument arrays. -/
def G (c : Dev nD) : S16384x1024.Idx → EReal := fun i =>
  ffn (fun k => m ((c.tc : Thread nD τ).loc main_arg0) (ix2 (i 0) k)) (fun k => m ((c.tc : Thread nD τ).loc main_arg1) (ix4 3 6 0 k))
    (fun k => m ((c.tc : Thread nD τ).loc main_arg1) (ix4 3 7 0 k)) (fun k u => m ((c.tc : Thread nD τ).loc main_arg2) (ix4 3 1 k u))
    (fun u k => m ((c.tc : Thread nD τ).loc main_arg3) (ix4 3 1 u k)) (i 1)

/-- The feed-forward row is determined by the entries it reads. -/
theorem ffn_congr {x x' g0 g0' g1 g1' : Fin 1024 → EReal} {w w' : Fin 1024 → Fin 5632 → EReal} {d d' : Fin 2816 → Fin 1024 → EReal} {n n' : Fin 1024}
    (hx : ∀ k, x k = x' k) (h0 : ∀ k, g0 k = g0' k) (h1 : ∀ k, g1 k = g1' k) (hw : ∀ k u, w k u = w' k u) (hd : ∀ u k, d u k = d' u k) (hn : n = n') :
    ffn x g0 g1 w d n = ffn x' g0' g1' w' d' n' := by
  rw [funext hx, funext h0, funext h1, (funext fun k => funext (hw k) : w = w'), (funext fun u => funext (hd u) : d = d'), hn]

/-- What grid point `t` leaves at an entry of its block is `G` at the place the entry has in the array. -/
theorem point (c : Dev nD) (t : Fin cfg0.N) (y : S512x1024.Idx) :
    outsAt0 m c t y = G m c (((cfg0.win 5).blk t).view.emb y) := by
  idx_vars y
  rw [outsAt0]
  refine (block c _ _ _ _ _ _ _ _ _ _ _ _ _ _ _ _ _ _ _ _ y0 y1).trans ?_
  unfold G
  refine ffn_congr (fun k => ?_) (fun k => ?_) (fun k => ?_) (fun k u => ?_) (fun u k => ?_) ?_
  · blk_ext [iblk, V, idx t]
  · blk_ext [iblk, V, idx t]
  · blk_ext [iblk, V, idx t]
  · blk_ext [iblk, V, idx t]
  · blk_ext [iblk, V, idx t]
  · refine Fin.ext ?_
    blk_simp [idx t]

/-- After the run the output array is `G`. -/
theorem final (c : Dev nD) : (dats m 0 c).arrAt 5 cfg0.N = G m c := by
  refine (dats m 0 c).arrAt_eq_of_covers 5 _ (by decide +kernel) fun t _ y => ?_
  blk_simp
  rw [after0_5]
  exact point m c t y

/-- At equal arguments the kernel's array is the reference's result. -/
theorem pair (m' : (ℓ : Loc Cert.FfnReferenceIdeal.nD Cert.FfnReferenceIdeal.τ Cert.FfnReferenceIdeal.sig) → Buf (Elt Ideal) ℓ) (c : Dev nD)
    (h0 : m' ((c.tc : Thread Cert.FfnReferenceIdeal.nD Cert.FfnReferenceIdeal.τ).loc Cert.FfnReferenceIdeal.main_arg0) = m ((c.tc : Thread nD τ).loc main_arg0))
    (h1 : m' ((c.tc : Thread Cert.FfnReferenceIdeal.nD Cert.FfnReferenceIdeal.τ).loc Cert.FfnReferenceIdeal.main_arg1) = m ((c.tc : Thread nD τ).loc main_arg1))
    (h2 : m' ((c.tc : Thread Cert.FfnReferenceIdeal.nD Cert.FfnReferenceIdeal.τ).loc Cert.FfnReferenceIdeal.main_arg2) = m ((c.tc : Thread nD τ).loc main_arg2))
    (h3 : m' ((c.tc : Thread Cert.FfnReferenceIdeal.nD Cert.FfnReferenceIdeal.τ).loc Cert.FfnReferenceIdeal.main_arg3) = m ((c.tc : Thread nD τ).loc main_arg3)) :
    Cert.FfnReferenceIdeal.Value.res_main_v42 m' c = (dats m 0 c).arrAt 5 cfg0.N := by
  rw [final]
  funext i
  idx_vars i
  refine (Cert.FfnReferenceIdeal.Ffn.result m' c i0 i1).trans ?_
  rw [h0, h1, h2, h3]
  rfl

end Cert.FfnIdeal.Ffn

end
-- ==== Proof.InprojRows.lean ====
/-
  The rows of the input projection: a normed row through the packed weight, the turned (rotated by position) columns, and
  how the nine results lay the columns out.
-/
module

public import proofs.«01_k».proof.Proof.Rows

@[expose] public section

noncomputable section

namespace Cert.InprojRows

open Idealize.ShloMosaic Cert.Rows

/-- Column `u` of the projected row: the normed row times that column of the weight. -/
def pr (x g : Fin 1024 → EReal) (w : Fin 1024 → Fin 3968 → EReal) (u : Fin 3968) : EReal := ∑ k, rms x g k * w k u

variable (p : Fin 3968 → EReal) (c s t e : Fin 128 → EReal)

/-- Entry `u` of the 128 columns from `o` on, turned: the entry times its cosine, plus the entries eight to the right and
    eight to the left (around the end of the 128) times theirs. -/
def turn (o : ℕ) (ho : o + 128 ≤ 3968) (u : Fin 128) : EReal :=
  p ⟨o + u.val, by omega⟩ * c u + p ⟨o + (u.val + 128 - 120) % 128, by omega⟩ * s u + p ⟨o + (u.val + 128 - 8) % 128, by omega⟩ * t u

/-- The query row: all 1024 columns turned with the tables repeated every 128, times one eighth. -/
def qrow (n : Fin 1024) : EReal :=
  (p ⟨n.val, by omega⟩ * c ⟨n.val % 128, by omega⟩ + p ⟨(n.val + 1024 - 1016) % 1024, by omega⟩ * s ⟨n.val % 128, by omega⟩
    + p ⟨(n.val + 1024 - 8) % 1024, by omega⟩ * t ⟨n.val % 128, by omega⟩) * Ideal.ofBits .f32 0x3E000000#32

/-- The cached row: the two compressed heads' columns as they are, the selected key turned, the selected value. -/
def rowsrow (n : Fin 512) : EReal :=
  if n.val < 256 then p ⟨1024 + n.val, by omega⟩
  else if h : n.val < 384 then turn p c s t 1280 (by omega) ⟨n.val - 256, by omega⟩
  else p ⟨1024 + n.val, by omega⟩

/-- The window row: the window key turned, then the window value. -/
def winrow (n : Fin 256) : EReal :=
  if h : n.val < 128 then turn p c s t 1536 (by omega) ⟨n.val, h⟩ else p ⟨1536 + n.val, by omega⟩

/-- The widened key row: each head's half of the turned selected key beside that half of the table's row which it does not
    cover. -/
def kaugrow (n : Fin 256) : EReal :=
  if h : n.val < 64 then turn p c s t 1280 (by omega) ⟨n.val, by omega⟩
  else if h : n.val < 128 then e ⟨n.val, h⟩
  else if h : n.val < 192 then e ⟨n.val - 128, by omega⟩
  else turn p c s t 1280 (by omega) ⟨n.val - 128, by omega⟩

end Cert.InprojRows

end
-- ==== Proof.InprojPoint.lean ====
/-
  What the input projection's body leaves in its nine output blocks.
-/
module

public import proofs.«01_k».proof.Proof.InprojRows
public import proofs.«01_k».proof.Proof.Gen.InprojIdeal.Frame
public import Idealize.ShloMosaic.Lib.Pipeline.ValueKit
public import Idealize.ShloMosaic.Lib.WritesUnit

@[expose] public section

set_option maxRecDepth 16384

noncomputable section

namespace Cert.InprojIdeal.Inproj

open Cert.InprojIdeal Cert.InprojIdeal.Gen Idealize.ShloMosaic Idealize.ShloMosaic.TcCoe Idealize.SL.Sem Cert.Rows Cert.InprojRows

/-- Eight copies of a table side by side, read at a place. -/
theorem eight (T : S512x128.Idx → EReal) :
    concatenate S512x1024 1 [⟨S512x128, T⟩, ⟨S512x128, T⟩, ⟨S512x128, T⟩, ⟨S512x128, T⟩, ⟨S512x128, T⟩, ⟨S512x128, T⟩, ⟨S512x128, T⟩, ⟨S512x128, T⟩] concatenates_S512x128_S512x128_S512x128_S512x128_S512x128_S512x128_S512x128_S512x128_S512x1024_d1
      = fun i => T (ix2 (i 0) ⟨(i 1).val % 128, Nat.mod_lt _ (by decide)⟩) := by
  funext i
  exact concatenate_replicate_apply 1 8 T concatenates_S512x128_S512x128_S512x128_S512x128_S512x128_S512x128_S512x128_S512x128_S512x1024_d1 rfl i (ix2 (i 0) ⟨(i 1).val % 128, Nat.mod_lt _ (by decide)⟩) rfl (fun b hb => match b, hb with
    | ⟨0, _⟩, _ => rfl
    | ⟨1, _⟩, hb => absurd rfl hb)

/-- The gates are their columns of the projected row. -/
theorem block13 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨3840 + n.val, by omega⟩ := by
  unfold out0_A_13
  rw [View.read_writes_of_cover VO0_13 _ arg14.view arg14.view.junk _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_11 kernelRun0_A.sl.r
  simp only [View.readAt_eq_ld, harg1.read_unread, harg2.read_unread, harg3.read_unread]
  pointwise [k0_pay18, k0_pay1]
  rfl

/-- The recurrence's gating columns, as they are. -/
theorem block15 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨3328 + n.val, by omega⟩ := by
  unfold out0_A_15
  rw [View.read_writes_of_cover VO0_15 _ arg16.view arg16.view.junk _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay17, k0_pay1]
  rfl

/-- The recurrence's query, key and value columns, as they are. -/
theorem block14 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 1536) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨1792 + n.val, by omega⟩ := by
  unfold out0_A_14
  rw [View.read_writes_of_cover VO0_14 _ arg15.view arg15.view.junk _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay16, k0_pay1]
  rfl

/-- The selected value, as it is. -/
theorem block11 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨1408 + n.val, by omega⟩ := by
  unfold out0_A_11
  rw [View.read_writes_of_cover VO0_11 _ arg12.view arg12.view.junk _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_6 kernelRun0_A.sl.r
  simp only [View.readAt_eq_ld, harg1.read_unread, harg2.read_unread, harg3.read_unread]
  pointwise [k0_pay13, k0_pay5, k0_pay3, k0_pay1]
  unfold pr rms
  simp only [← Nat.add_assoc, Nat.reduceAdd] <;> rfl

/-- The window row begins with the turned window key. -/
theorem block9a (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1536 (by omega) n := by
  unfold out0_A_9
  rw [View.read_writes_of_cover VO0_9 _ arg10.view arg10.view.junk _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay6, k0_pay3, k0_pay1]
  unfold turn
  unfold pr rms
  simp only [← Nat.add_assoc, Nat.reduceAdd] <;> rfl

/-- The window row ends with the window value. -/
theorem block9b (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = (pr (fun k => x0 (ix2 r k)) (fun k => x1 (ix4 0 0 0 k)) (fun k u => x2 (ix3 0 k u))) ⟨1664 + n.val, by omega⟩ := by
  unfold out0_A_9
  rw [View.read_writes_of_cover VO0_9 _ arg10.view arg10.view.junk _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r
  simp only [View.readAt_eq_ld, harg1.read_unread, harg2.read_unread, harg3.read_unread]
  pointwise [k0_pay7, k0_pay3, k0_pay1]
  unfold pr rms
  simp only [← Nat.add_assoc, Nat.reduceAdd] <;> rfl

/-- The rounded window row begins with the turned window key. -/
theorem block12a (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1536 (by omega) n := by
  unfold out0_A_12
  rw [View.read_writes_of_cover VO0_12 _ arg13.view arg13.view.junk _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_7 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay14, k0_pay6, k0_pay3, k0_pay1]
  unfold turn
  unfold pr rms
  simp only [← Nat.add_assoc, Nat.reduceAdd] <;> rfl

/-- The rounded window row ends with the window value. -/
theorem block12b (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = (pr (fun k => x0 (ix2 r k)) (fun k => x1 (ix4 0 0 0 k)) (fun k u => x2 (ix3 0 k u))) ⟨1664 + n.val, by omega⟩ := by
  unfold out0_A_12
  rw [View.read_writes_of_cover VO0_12 _ arg13.view arg13.view.junk _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r_8 kernelRun0_A.sl.r
  simp only [View.readAt_eq_ld, harg1.read_unread, harg2.read_unread, harg3.read_unread]
  pointwise [k0_pay15, k0_pay7, k0_pay3, k0_pay1]
  unfold pr rms
  simp only [← Nat.add_assoc, Nat.reduceAdd] <;> rfl

/-- The cached row begins with the two heads to compress. -/
theorem block8a (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 256) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = (pr (fun k => x0 (ix2 r k)) (fun k => x1 (ix4 0 0 0 k)) (fun k u => x2 (ix3 0 k u))) ⟨1024 + n.val, by omega⟩ := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 384 by omega))).trans ?_
  refine (View.read_writes_cons_unit_of_not_mem _ _ _ _ _ _ rfl 1 (Or.inl (show n.val < 256 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay8, k0_pay3, k0_pay1]
  unfold pr rms
  simp only [← Nat.add_assoc, Nat.reduceAdd] <;> rfl

/-- Then the turned selected key. -/
theorem block8b (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨256 + n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show 256 + n.val < 384 by omega))).trans ?_
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay4, k0_pay3, k0_pay1]
  unfold turn
  unfold pr rms
  simp only [← Nat.add_assoc, Nat.reduceAdd] <;> rfl

/-- Then the selected value. -/
theorem block8c (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨384 + n.val, by omega⟩) = (pr (fun k => x0 (ix2 r k)) (fun k => x1 (ix4 0 0 0 k)) (fun k u => x2 (ix3 0 k u))) ⟨1408 + n.val, by omega⟩ := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r
  simp only [View.readAt_eq_ld, harg1.read_unread, harg2.read_unread, harg3.read_unread]
  pointwise [k0_pay5, k0_pay3, k0_pay1]
  unfold pr rms
  simp only [← Nat.add_assoc, Nat.reduceAdd] <;> rfl

/-- The first half of the widened key row: the turned selected key below column 64, the table from there on. -/
theorem block10a (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = Scalar.select (IntOp.cmpi CmpIPredicate.slt (BitVec.ofNat 32 n.val) 64#32) (turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n) (x6 (ix2 r n)) := by
  unfold out0_A_10
  rw [View.read_writes_of_cover VO0_10 _ arg11.view arg11.view.junk _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_10 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread, harg7.read_unread]
  pointwise [k0_pay11, k0_pay10, k0_pay9, k0_pay4, k0_pay3, k0_pay1]
  unfold turn
  unfold pr rms
  simp only [← Nat.add_assoc, Nat.reduceAdd] <;> rfl

/-- The second half: the table below column 64, the turned selected key from there on. -/
theorem block10b (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = Scalar.select (IntOp.cmpi CmpIPredicate.slt (BitVec.ofNat 32 n.val) 64#32) (x6 (ix2 r n)) (turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n) := by
  unfold out0_A_10
  rw [View.read_writes_of_cover VO0_10 _ arg11.view arg11.view.junk _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r_5 kernelRun0_A.sl.r_9 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread, harg7.read_unread]
  pointwise [k0_pay12, k0_pay9, k0_pay4, k0_pay3, k0_pay1]
  unfold turn
  unfold pr rms
  simp only [← Nat.add_assoc, Nat.reduceAdd] <;> rfl

/-- The query row. -/
theorem block7 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 1024) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = qrow (pr (fun k => x0 (ix2 r k)) (fun k => x1 (ix4 0 0 0 k)) (fun k u => x2 (ix3 0 k u))) (fun u => x3 (ix2 r u)) (fun u => x4 (ix2 r u)) (fun u => x5 (ix2 r u)) n := by
  unfold out0_A_7
  rw [View.read_writes_of_cover VO0_7 _ arg8.view arg8.view.junk _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_4
  simp only [View.readAt_eq_ld, harg1.read_unread, harg2.read_unread, harg3.read_unread, harg4.read_unread, harg5.read_unread, harg6.read_unread]
  unfold k0_pay2
  dsimp only
  rw [eight, eight, eight]
  pointwise [k0_pay1]
  unfold qrow pr rms
  rfl

end Cert.InprojIdeal.Inproj

end
-- ==== Proof.InprojFinal.lean ====
/-
  The input projection's nine result arrays as functions of its argument arrays, on the kernel's side.
-/
module

public import proofs.«01_k».proof.Proof.InprojPoint
public import proofs.«01_k».proof.Proof.Gen.InprojIdeal.Value
public import Idealize.ShloMosaic.Lib.Pipeline.ValueKit

@[expose] public section

set_option maxRecDepth 16384

noncomputable section

namespace Cert.InprojIdeal.Inproj

open Cert.InprojIdeal Cert.InprojIdeal.Gen Idealize.ShloMosaic Idealize.ShloMosaic.TcCoe Idealize.SL.Sem Cert.Rows Cert.InprojRows

/-- The whole window row. -/
theorem block9 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 256) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = winrow (pr (fun k => x0 (ix2 r k)) (fun k => x1 (ix4 0 0 0 k)) (fun k u => x2 (ix3 0 k u))) (fun u => x3 (ix2 r u)) (fun u => x4 (ix2 r u)) (fun u => x5 (ix2 r u)) n := by
  unfold winrow
  by_cases h : n.val < 128
  · rw [dif_pos h]
    exact block9a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [dif_neg h]
    refine (congrArg (fun v => out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block9b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    exact congrArg _ (Fin.ext (by show 1664 + (n.val - 128) = 1536 + n.val; omega))

/-- The whole rounded window row. -/
theorem block12 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 256) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = winrow (pr (fun k => x0 (ix2 r k)) (fun k => x1 (ix4 0 0 0 k)) (fun k u => x2 (ix3 0 k u))) (fun u => x3 (ix2 r u)) (fun u => x4 (ix2 r u)) (fun u => x5 (ix2 r u)) n := by
  unfold winrow
  by_cases h : n.val < 128
  · rw [dif_pos h]
    exact block12a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [dif_neg h]
    refine (congrArg (fun v => out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block12b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    exact congrArg _ (Fin.ext (by show 1664 + (n.val - 128) = 1536 + n.val; omega))

/-- The whole cached row. -/
theorem block8 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 512) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = rowsrow (pr (fun k => x0 (ix2 r k)) (fun k => x1 (ix4 0 0 0 k)) (fun k u => x2 (ix3 0 k u))) (fun u => x3 (ix2 r u)) (fun u => x4 (ix2 r u)) (fun u => x5 (ix2 r u)) n := by
  unfold rowsrow
  by_cases h : n.val < 256
  · rw [if_pos h]
    exact block8a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [if_neg h]
    by_cases h' : n.val < 384
    · rw [dif_pos h']
      refine (congrArg (fun v => out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 256 + (n.val - 256); omega) : n = ⟨256 + (n.val - 256), by omega⟩)).trans ((block8b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 256, by omega⟩).trans ?_)
      rfl
    · rw [dif_neg h']
      refine (congrArg (fun v => out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 384 + (n.val - 384); omega) : n = ⟨384 + (n.val - 384), by omega⟩)).trans ((block8c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 384, by omega⟩).trans ?_)
      exact congrArg _ (Fin.ext (by show 1408 + (n.val - 384) = 1024 + n.val; omega))

/-- Below column 64 the first value, from there on the second. -/
theorem pick (n : Fin 128) (a b : EReal) :
    Scalar.select (IntOp.cmpi CmpIPredicate.slt (BitVec.ofNat 32 n.val) 64#32) a b = if n.val < 64 then a else b := by
  have h : ∀ n : Fin 128, IntOp.cmpi CmpIPredicate.slt (BitVec.ofNat 32 n.val) 64#32 = if n.val < 64 then 1#1 else 0#1 := by decide +kernel
  rw [h n]
  by_cases g : n.val < 64
  · rw [if_pos g, if_pos g]
    rfl
  · rw [if_neg g, if_neg g]
    rfl

/-- The whole widened key row. -/
theorem block10 (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x1536 .f32) (harg15 : arg15.IsWhole) (arg16 : Memref sig .tc .vmem S512x512 .f32) (harg16 : arg16.IsWhole) (x0 : Vec Ideal S512x1024 .f32) (x1 : Vec Ideal S1x1x1x1024 .f32) (x2 : Vec Ideal S1x1024x3968 .bf16) (x3 : Vec Ideal S512x128 .f32) (x4 : Vec Ideal S512x128 .f32) (x5 : Vec Ideal S512x128 .f32) (x6 : Vec Ideal S512x128 .f32) (r : Fin 512) (n : Fin 256) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = kaugrow (pr (fun k => x0 (ix2 r k)) (fun k => x1 (ix4 0 0 0 k)) (fun k u => x2 (ix3 0 k u))) (fun u => x3 (ix2 r u)) (fun u => x4 (ix2 r u)) (fun u => x5 (ix2 r u)) (fun u => x6 (ix2 r u)) n := by
  unfold kaugrow
  by_cases h : n.val < 128
  · refine (block10a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩).trans ((pick _ _ _).trans ?_)
    by_cases g : n.val < 64
    · rw [if_pos g, dif_pos g]
    · rw [if_neg g, dif_neg g, dif_pos h]
  · refine (congrArg (fun v => out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block10b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    refine (pick _ _ _).trans ?_
    rw [dif_neg (by omega), dif_neg h]
    by_cases g : n.val < 192
    · rw [if_pos (by show n.val - 128 < 64; omega), dif_pos g]
    · rw [if_neg (by show ¬ n.val - 128 < 64; omega), dif_neg g]

/-- The projected row `r` of the arguments. -/
def prow (X : S16384x1024.Idx → EReal) (D : S4x8x1x1024.Idx → EReal) (W : S4x1024x3968.Idx → EReal) (r : Fin 16384) : Fin 3968 → EReal :=
  pr (fun k => X (ix2 r k)) (fun k => D (ix4 3 2 0 k)) (fun k u => W (ix3 3 k u))

/-- A table's row at the position of row `r` in its sequence. -/
def tab (T : S4096x128.Idx → EReal) (r : Fin 16384) : Fin 128 → EReal := fun u => T (ix2 ⟨r.val % 4096, Nat.mod_lt _ (by decide)⟩ u)

section vals

variable (X : S16384x1024.Idx → EReal) (D : S4x8x1x1024.Idx → EReal) (W : S4x1024x3968.Idx → EReal) (C S T E : S4096x128.Idx → EReal)

/-- The queries. -/
def val7 : S16384x1024.Idx → EReal := fun i => qrow (prow X D W (i 0)) (tab C (i 0)) (tab S (i 0)) (tab T (i 0)) (i 1)

/-- The cached rows. -/
def val8 : S16384x512.Idx → EReal := fun i => rowsrow (prow X D W (i 0)) (tab C (i 0)) (tab S (i 0)) (tab T (i 0)) (i 1)

/-- The window rows. -/
def val9 : S16384x256.Idx → EReal := fun i => winrow (prow X D W (i 0)) (tab C (i 0)) (tab S (i 0)) (tab T (i 0)) (i 1)

/-- The widened keys. -/
def val10 : S16384x256.Idx → EReal := fun i => kaugrow (prow X D W (i 0)) (tab C (i 0)) (tab S (i 0)) (tab T (i 0)) (tab E (i 0)) (i 1)

/-- The selected values. -/
def val11 : S16384x128.Idx → EReal := fun i => prow X D W (i 0) ⟨1408 + (i 1).val, Nat.lt_of_lt_of_le (Nat.add_lt_add_left (i 1).isLt _) (by decide)⟩

/-- The window rows, rounded. -/
def val12 : S16384x256.Idx → EReal := fun i => winrow (prow X D W (i 0)) (tab C (i 0)) (tab S (i 0)) (tab T (i 0)) (i 1)

/-- The gates. -/
def val13 : S16384x128.Idx → EReal := fun i => prow X D W (i 0) ⟨3840 + (i 1).val, Nat.lt_of_lt_of_le (Nat.add_lt_add_left (i 1).isLt _) (by decide)⟩

/-- The recurrence's query, key and value columns. -/
def val14 : S16384x1536.Idx → EReal := fun i => prow X D W (i 0) ⟨1792 + (i 1).val, Nat.lt_of_lt_of_le (Nat.add_lt_add_left (i 1).isLt _) (by decide)⟩

/-- The recurrence's gating columns. -/
def val15 : S16384x512.Idx → EReal := fun i => prow X D W (i 0) ⟨3328 + (i 1).val, Nat.lt_of_lt_of_le (Nat.add_lt_add_left (i 1).isLt _) (by decide)⟩

end vals

variable (m : (ℓ : Loc nD τ sig) → Buf (Elt Ideal) ℓ)

/-- Which block each window holds at grid point `t`: rows `512 t …` of the input and the outputs, the layer's gain and
    weight, and the tables' rows at the positions of those rows in their sequence. -/
theorem idx : ∀ t : Fin cfg0.N, win0_0.index t = ![t.val, 0] ∧ win0_1.index t = ![3, 2, 0, 0] ∧ win0_2.index t = ![3, 0, 0]
    ∧ win0_3.index t = ![t.val % 8, 0] ∧ win0_4.index t = ![t.val % 8, 0] ∧ win0_5.index t = ![t.val % 8, 0] ∧ win0_6.index t = ![t.val % 8, 0]
    ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- Row `r` of block `t` in the arrays. -/
def row (t : Fin cfg0.N) (r : Fin 512) : Fin 16384 := ⟨512 * t.val + r.val, by have h : t.val < 32 := N_0 ▸ t.isLt; omega⟩

/-- The projected row of the blocks at point `t` is the arrays'. -/
theorem prow_blk (c : Dev nD) (t : Fin cfg0.N) (r : Fin 512) :
    pr (fun k => iblk m c 0 t (ix2 r k)) (fun k => iblk m c 1 t (ix4 0 0 0 k)) (fun k u => iblk m c 2 t (ix3 0 k u)) = prow (m ((c.tc : Thread nD τ).loc main_arg0)) (m ((c.tc : Thread nD τ).loc main_arg1)) (m ((c.tc : Thread nD τ).loc main_arg2)) (row t r) := by
  unfold prow
  refine congr (congr (congrArg pr (funext fun k => ?_)) (funext fun k => ?_)) (funext fun k => funext fun u => ?_)
  · unfold row
    blk_ext [iblk, V, idx t]
  · blk_ext [iblk, V, idx t]
  · blk_ext [iblk, V, idx t]

/-- A table's row of the block at point `t` is the array's at the row's position. -/
theorem tab_blk3 (c : Dev nD) (t : Fin cfg0.N) (r : Fin 512) : (fun u => iblk m c 3 t (ix2 r u)) = tab (m ((c.tc : Thread nD τ).loc main_arg3)) (row t r) := by
  funext u
  have e : (512 * t.val + r.val) % 4096 = 512 * (t.val % 8) + r.val := by omega
  have p : ∀ h, (ix2 ⟨(512 * t.val + r.val) % 4096, h⟩ u : S4096x128.Idx) = ix2 ⟨512 * (t.val % 8) + r.val, e ▸ h⟩ u := fun h => by congr 1; exact Fin.ext e
  unfold tab row
  rw [p]
  blk_ext [iblk, V, idx t]

/-- A table's row of the block at point `t` is the array's at the row's position. -/
theorem tab_blk4 (c : Dev nD) (t : Fin cfg0.N) (r : Fin 512) : (fun u => iblk m c 4 t (ix2 r u)) = tab (m ((c.tc : Thread nD τ).loc main_arg4)) (row t r) := by
  funext u
  have e : (512 * t.val + r.val) % 4096 = 512 * (t.val % 8) + r.val := by omega
  have p : ∀ h, (ix2 ⟨(512 * t.val + r.val) % 4096, h⟩ u : S4096x128.Idx) = ix2 ⟨512 * (t.val % 8) + r.val, e ▸ h⟩ u := fun h => by congr 1; exact Fin.ext e
  unfold tab row
  rw [p]
  blk_ext [iblk, V, idx t]

/-- A table's row of the block at point `t` is the array's at the row's position. -/
theorem tab_blk5 (c : Dev nD) (t : Fin cfg0.N) (r : Fin 512) : (fun u => iblk m c 5 t (ix2 r u)) = tab (m ((c.tc : Thread nD τ).loc main_arg5)) (row t r) := by
  funext u
  have e : (512 * t.val + r.val) % 4096 = 512 * (t.val % 8) + r.val := by omega
  have p : ∀ h, (ix2 ⟨(512 * t.val + r.val) % 4096, h⟩ u : S4096x128.Idx) = ix2 ⟨512 * (t.val % 8) + r.val, e ▸ h⟩ u := fun h => by congr 1; exact Fin.ext e
  unfold tab row
  rw [p]
  blk_ext [iblk, V, idx t]

/-- A table's row of the block at point `t` is the array's at the row's position. -/
theorem tab_blk6 (c : Dev nD) (t : Fin cfg0.N) (r : Fin 512) : (fun u => iblk m c 6 t (ix2 r u)) = tab (m ((c.tc : Thread nD τ).loc main_arg6)) (row t r) := by
  funext u
  have e : (512 * t.val + r.val) % 4096 = 512 * (t.val % 8) + r.val := by omega
  have p : ∀ h, (ix2 ⟨(512 * t.val + r.val) % 4096, h⟩ u : S4096x128.Idx) = ix2 ⟨512 * (t.val % 8) + r.val, e ▸ h⟩ u := fun h => by congr 1; exact Fin.ext e
  unfold tab row
  rw [p]
  blk_ext [iblk, V, idx t]

/-- What point `t` leaves at an entry of its block. -/
theorem point7 (c : Dev nD) (t : Fin cfg0.N) (y : S512x1024.Idx) :
    (outsAt0 m c t).1 y = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 7).blk t).view.emb y) := by
  idx_vars y
  have e : ((cfg0.win 7).blk t).view.emb (ix2 y0 y1) = ix2 (row t y0) y1 := by
    unfold row
    blk_ext [iblk, V, idx t]
  rw [e, outsAt0]
  dsimp only
  refine (block7 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final7 (c : Dev nD) : (dats m 0 c).arrAt 7 cfg0.N = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  blk_simp
  rw [after0_7]
  exact point7 m c t y

/-- What point `t` leaves at an entry of its block. -/
theorem point8 (c : Dev nD) (t : Fin cfg0.N) (y : S512x512.Idx) :
    (outsAt0 m c t).2.1 y = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 8).blk t).view.emb y) := by
  idx_vars y
  have e : ((cfg0.win 8).blk t).view.emb (ix2 y0 y1) = ix2 (row t y0) y1 := by
    unfold row
    blk_ext [iblk, V, idx t]
  rw [e, outsAt0]
  dsimp only
  refine (block8 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final8 (c : Dev nD) : (dats m 0 c).arrAt 8 cfg0.N = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t _ y => ?_
  blk_simp
  rw [after0_8]
  exact point8 m c t y

/-- What point `t` leaves at an entry of its block. -/
theorem point9 (c : Dev nD) (t : Fin cfg0.N) (y : S512x256.Idx) :
    (outsAt0 m c t).2.2.1 y = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 9).blk t).view.emb y) := by
  idx_vars y
  have e : ((cfg0.win 9).blk t).view.emb (ix2 y0 y1) = ix2 (row t y0) y1 := by
    unfold row
    blk_ext [iblk, V, idx t]
  rw [e, outsAt0]
  dsimp only
  refine (block9 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final9 (c : Dev nD) : (dats m 0 c).arrAt 9 cfg0.N = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t _ y => ?_
  blk_simp
  rw [after0_9]
  exact point9 m c t y

/-- What point `t` leaves at an entry of its block. -/
theorem point10 (c : Dev nD) (t : Fin cfg0.N) (y : S512x256.Idx) :
    (outsAt0 m c t).2.2.2.1 y = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 10).blk t).view.emb y) := by
  idx_vars y
  have e : ((cfg0.win 10).blk t).view.emb (ix2 y0 y1) = ix2 (row t y0) y1 := by
    unfold row
    blk_ext [iblk, V, idx t]
  rw [e, outsAt0]
  dsimp only
  refine (block10 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0, tab_blk6 m c t y0]
  rfl

/-- The array after the run. -/
theorem final10 (c : Dev nD) : (dats m 0 c).arrAt 10 cfg0.N = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t _ y => ?_
  blk_simp
  rw [after0_10]
  exact point10 m c t y

/-- What point `t` leaves at an entry of its block. -/
theorem point11 (c : Dev nD) (t : Fin cfg0.N) (y : S512x128.Idx) :
    (outsAt0 m c t).2.2.2.2.1 y = val11 (m ((c.tc : Thread nD τ).loc main_arg0)) (m ((c.tc : Thread nD τ).loc main_arg1)) (m ((c.tc : Thread nD τ).loc main_arg2)) (((cfg0.win 11).blk t).view.emb y) := by
  idx_vars y
  have e : ((cfg0.win 11).blk t).view.emb (ix2 y0 y1) = ix2 (row t y0) y1 := by
    unfold row
    blk_ext [iblk, V, idx t]
  rw [e, outsAt0]
  dsimp only
  refine (block11 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final11 (c : Dev nD) : (dats m 0 c).arrAt 11 cfg0.N = val11 (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  blk_simp
  rw [after0_11]
  exact point11 m c t y

/-- What point `t` leaves at an entry of its block. -/
theorem point12 (c : Dev nD) (t : Fin cfg0.N) (y : S512x256.Idx) :
    (outsAt0 m c t).2.2.2.2.2.1 y = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 12).blk t).view.emb y) := by
  idx_vars y
  have e : ((cfg0.win 12).blk t).view.emb (ix2 y0 y1) = ix2 (row t y0) y1 := by
    unfold row
    blk_ext [iblk, V, idx t]
  rw [e, outsAt0]
  dsimp only
  refine (block12 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final12 (c : Dev nD) : (dats m 0 c).arrAt 12 cfg0.N = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 12 _ (by decide +kernel) fun t _ y => ?_
  blk_simp
  rw [after0_12]
  exact point12 m c t y

/-- What point `t` leaves at an entry of its block. -/
theorem point13 (c : Dev nD) (t : Fin cfg0.N) (y : S512x128.Idx) :
    (outsAt0 m c t).2.2.2.2.2.2.1 y = val13 (m ((c.tc : Thread nD τ).loc main_arg0)) (m ((c.tc : Thread nD τ).loc main_arg1)) (m ((c.tc : Thread nD τ).loc main_arg2)) (((cfg0.win 13).blk t).view.emb y) := by
  idx_vars y
  have e : ((cfg0.win 13).blk t).view.emb (ix2 y0 y1) = ix2 (row t y0) y1 := by
    unfold row
    blk_ext [iblk, V, idx t]
  rw [e, outsAt0]
  dsimp only
  refine (block13 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final13 (c : Dev nD) : (dats m 0 c).arrAt 13 cfg0.N = val13 (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  exact point13 m c t y

/-- What point `t` leaves at an entry of its block. -/
theorem point14 (c : Dev nD) (t : Fin cfg0.N) (y : S512x1536.Idx) :
    (outsAt0 m c t).2.2.2.2.2.2.2.1 y = val14 (m ((c.tc : Thread nD τ).loc main_arg0)) (m ((c.tc : Thread nD τ).loc main_arg1)) (m ((c.tc : Thread nD τ).loc main_arg2)) (((cfg0.win 14).blk t).view.emb y) := by
  idx_vars y
  have e : ((cfg0.win 14).blk t).view.emb (ix2 y0 y1) = ix2 (row t y0) y1 := by
    unfold row
    blk_ext [iblk, V, idx t]
  rw [e, outsAt0]
  dsimp only
  refine (block14 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final14 (c : Dev nD) : (dats m 0 c).arrAt 14 cfg0.N = val14 (m ((c.tc : Thread nD τ).loc main_arg0)) (m ((c.tc : Thread nD τ).loc main_arg1)) (m ((c.tc : Thread nD τ).loc main_arg2)) := by
  refine (dats m 0 c).arrAt_eq_of_covers 14 _ (by decide +kernel) fun t _ y => ?_
  blk_simp
  rw [after0_14]
  exact point14 m c t y

/-- What point `t` leaves at an entry of its block. -/
theorem point15 (c : Dev nD) (t : Fin cfg0.N) (y : S512x512.Idx) :
    (outsAt0 m c t).2.2.2.2.2.2.2.2 y = val15 (m ((c.tc : Thread nD τ).loc main_arg0)) (m ((c.tc : Thread nD τ).loc main_arg1)) (m ((c.tc : Thread nD τ).loc main_arg2)) (((cfg0.win 15).blk t).view.emb y) := by
  idx_vars y
  have e : ((cfg0.win 15).blk t).view.emb (ix2 y0 y1) = ix2 (row t y0) y1 := by
    unfold row
    blk_ext [iblk, V, idx t]
  rw [e, outsAt0]
  dsimp only
  refine (block15 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final15 (c : Dev nD) : (dats m 0 c).arrAt 15 cfg0.N = val15 (m ((c.tc : Thread nD τ).loc main_arg0)) (m ((c.tc : Thread nD τ).loc main_arg1)) (m ((c.tc : Thread nD τ).loc main_arg2)) := by
  refine (dats m 0 c).arrAt_eq_of_covers 15 _ (by decide +kernel) fun t _ y => ?_
  blk_simp
  rw [after0_15]
  exact point15 m c t y

end Cert.InprojIdeal.Inproj

end
-- ==== Proof.InprojRef.lean ====
/-
  The reference input projection's nine results are the same functions of its arguments.
-/
module

public import proofs.«01_k».proof.Proof.InprojFinal
public import proofs.«01_k».proof.Proof.Gen.InprojReferenceIdeal.Run
public import Idealize.ShloMosaic.Lib.Pipeline.ValueKit

@[expose] public section

set_option maxRecDepth 16384

noncomputable section

namespace Cert.InprojReferenceIdeal.Inproj

open Cert.InprojReferenceIdeal Cert.InprojReferenceIdeal.Gen Cert.InprojReferenceIdeal.Value Idealize.ShloMosaic Idealize.ShloMosaic.TcCoe Idealize.SL.Sem Cert.Rows Cert.InprojRows
open Cert.InprojIdeal.Inproj (prow tab val7 val8 val9 val10 val11 val12 val13 val14 val15)

/-- The normed input times the weight, read at a place. -/
theorem proj (X : FVec Ideal S16384x1024 .f32) (D : FVec Ideal S4x8x1x1024 .f32) (W : FVec Ideal S4x1024x3968 .bf16) :
    (Host.dotGeneral (F := Ideal) dot_S16384x1024_S1024x3968_S16384x3968_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (shapeCast _ (extractStridedSlice S1x1x1x1024 ![3, 2, 0, 0] D slices_S4x8x1x1024_S1x1x1x1024_3_2_0_0) shapeCasts_S1x1x1x1024_S1x1024))) (extf .f32 (shapeCast _ (extractStridedSlice S1x1024x3968 ![3, 0, 0] W slices_S4x1024x3968_S1x1024x3968_3_0_0) shapeCasts_S1x1024x3968_S1024x3968) bitsLt_bf16_f32) : FVec Ideal S16384x3968 .f32)
      = fun i => prow X D W (i 0) (i 1) := by
  funext i
  idx_vars i
  unfold prow pr rms
  pointwise

/-- A table repeated for the four sequences and eight times along the row, read at a place. -/
theorem wide (T : FVec Ideal S4096x128 .f32) :
    shapeCast S16384x1024 (broadcastInDim S4x4096x8x128 ![0, 1, 2, 3] bcast_S1x4096x1x128_S4x4096x8x128_0_1_2_3 (shapeCast S1x4096x1x128 T shapeCasts_S4096x128_S1x4096x1x128)) shapeCasts_S4x4096x8x128_S16384x1024
      = fun i => T (ix2 ⟨(i 0).val % 4096, Nat.mod_lt _ (by decide)⟩ ⟨(i 1).val % 128, Nat.mod_lt _ (by decide)⟩) := by
  funext i
  idx_vars i
  pointwise

/-- A table repeated for the four sequences, read at a place. -/
theorem narrow (T : FVec Ideal S4096x128 .f32) :
    shapeCast S16384x128 (broadcastInDim S4x4096x1x128 ![0, 1, 2, 3] bcast_S1x4096x1x128_S4x4096x1x128_0_1_2_3 (shapeCast S1x4096x1x128 T shapeCasts_S4096x128_S1x4096x1x128)) shapeCasts_S4x4096x1x128_S16384x128
      = fun i => T (ix2 ⟨(i 0).val % 4096, Nat.mod_lt _ (by decide)⟩ (i 1)) := by
  funext i
  idx_vars i
  pointwise

/-- The row moved eight to the left, around its end. -/
theorem left1024 (V : FVec Ideal S16384x1024 .f32) :
    concatenate S16384x1024 1 [⟨S16384x1016, extractStridedSlice S16384x1016 ![0, 8] V slices_S16384x1024_S16384x1016_0_8⟩, ⟨S16384x8, extractStridedSlice S16384x8 ![0, 0] V slices_S16384x1024_S16384x8_0_0⟩] concatenates_S16384x1016_S16384x8_S16384x1024_d1
      = fun i => V (ix2 (i 0) ⟨((i 1).val + 1024 - 1016) % 1024, Nat.mod_lt _ (by decide)⟩) := by
  funext i
  idx_vars i
  pointwise
  split <;> exact congrArg V (congrArg (ix2 i0) (Fin.ext (by simp only []; omega)))

/-- The row moved eight to the right, around its end. -/
theorem right1024 (V : FVec Ideal S16384x1024 .f32) :
    concatenate S16384x1024 1 [⟨S16384x8, extractStridedSlice S16384x8 ![0, 1016] V slices_S16384x1024_S16384x8_0_1016⟩, ⟨S16384x1016, extractStridedSlice S16384x1016 ![0, 0] V slices_S16384x1024_S16384x1016_0_0⟩] concatenates_S16384x8_S16384x1016_S16384x1024_d1
      = fun i => V (ix2 (i 0) ⟨((i 1).val + 1024 - 8) % 1024, Nat.mod_lt _ (by decide)⟩) := by
  funext i
  idx_vars i
  pointwise
  split <;> exact congrArg V (congrArg (ix2 i0) (Fin.ext (by simp only []; omega)))

/-- The row moved eight to the left, around its end. -/
theorem left128 (V : FVec Ideal S16384x128 .f32) :
    concatenate S16384x128 1 [⟨S16384x120, extractStridedSlice S16384x120 ![0, 8] V slices_S16384x128_S16384x120_0_8⟩, ⟨S16384x8, extractStridedSlice S16384x8 ![0, 0] V slices_S16384x128_S16384x8_0_0⟩] concatenates_S16384x120_S16384x8_S16384x128_d1
      = fun i => V (ix2 (i 0) ⟨((i 1).val + 128 - 120) % 128, Nat.mod_lt _ (by decide)⟩) := by
  funext i
  idx_vars i
  pointwise
  split <;> exact congrArg V (congrArg (ix2 i0) (Fin.ext (by simp only []; omega)))

/-- The row moved eight to the right, around its end. -/
theorem right128 (V : FVec Ideal S16384x128 .f32) :
    concatenate S16384x128 1 [⟨S16384x8, extractStridedSlice S16384x8 ![0, 120] V slices_S16384x128_S16384x8_0_120⟩, ⟨S16384x120, extractStridedSlice S16384x120 ![0, 0] V slices_S16384x128_S16384x120_0_0⟩] concatenates_S16384x8_S16384x120_S16384x128_d1
      = fun i => V (ix2 (i 0) ⟨((i 1).val + 128 - 8) % 128, Nat.mod_lt _ (by decide)⟩) := by
  funext i
  idx_vars i
  pointwise
  split <;> exact congrArg V (congrArg (ix2 i0) (Fin.ext (by simp only []; omega)))

/-- The 128 columns from 1280 on, turned. -/
theorem turned1280 (P : FVec Ideal S16384x3968 .f32) (C S T : FVec Ideal S4096x128 .f32) :
    addf (addf (mulf (extractStridedSlice S16384x128 ![0, 1280] P slices_S16384x3968_S16384x128_0_1280) (shapeCast S16384x128 (broadcastInDim S4x4096x1x128 ![0, 1, 2, 3] bcast_S1x4096x1x128_S4x4096x1x128_0_1_2_3 (shapeCast S1x4096x1x128 C shapeCasts_S4096x128_S1x4096x1x128)) shapeCasts_S4x4096x1x128_S16384x128)) (mulf (concatenate S16384x128 1 [⟨S16384x120, extractStridedSlice S16384x120 ![0, 8] (extractStridedSlice S16384x128 ![0, 1280] P slices_S16384x3968_S16384x128_0_1280) slices_S16384x128_S16384x120_0_8⟩, ⟨S16384x8, extractStridedSlice S16384x8 ![0, 0] (extractStridedSlice S16384x128 ![0, 1280] P slices_S16384x3968_S16384x128_0_1280) slices_S16384x128_S16384x8_0_0⟩] concatenates_S16384x120_S16384x8_S16384x128_d1) (shapeCast S16384x128 (broadcastInDim S4x4096x1x128 ![0, 1, 2, 3] bcast_S1x4096x1x128_S4x4096x1x128_0_1_2_3 (shapeCast S1x4096x1x128 S shapeCasts_S4096x128_S1x4096x1x128)) shapeCasts_S4x4096x1x128_S16384x128))) (mulf (concatenate S16384x128 1 [⟨S16384x8, extractStridedSlice S16384x8 ![0, 120] (extractStridedSlice S16384x128 ![0, 1280] P slices_S16384x3968_S16384x128_0_1280) slices_S16384x128_S16384x8_0_120⟩, ⟨S16384x120, extractStridedSlice S16384x120 ![0, 0] (extractStridedSlice S16384x128 ![0, 1280] P slices_S16384x3968_S16384x128_0_1280) slices_S16384x128_S16384x120_0_0⟩] concatenates_S16384x8_S16384x120_S16384x128_d1) (shapeCast S16384x128 (broadcastInDim S4x4096x1x128 ![0, 1, 2, 3] bcast_S1x4096x1x128_S4x4096x1x128_0_1_2_3 (shapeCast S1x4096x1x128 T shapeCasts_S4096x128_S1x4096x1x128)) shapeCasts_S4x4096x1x128_S16384x128))
      = fun i => turn (fun u => P (ix2 (i 0) u)) (tab C (i 0)) (tab S (i 0)) (tab T (i 0)) 1280 (by omega) (i 1) := by
  rw [narrow, narrow, narrow, left128, right128]
  funext i
  idx_vars i
  unfold turn tab
  pointwise

/-- The 128 columns from 1536 on, turned. -/
theorem turned1536 (P : FVec Ideal S16384x3968 .f32) (C S T : FVec Ideal S4096x128 .f32) :
    addf (addf (mulf (extractStridedSlice S16384x128 ![0, 1536] P slices_S16384x3968_S16384x128_0_1536) (shapeCast S16384x128 (broadcastInDim S4x4096x1x128 ![0, 1, 2, 3] bcast_S1x4096x1x128_S4x4096x1x128_0_1_2_3 (shapeCast S1x4096x1x128 C shapeCasts_S4096x128_S1x4096x1x128)) shapeCasts_S4x4096x1x128_S16384x128)) (mulf (concatenate S16384x128 1 [⟨S16384x120, extractStridedSlice S16384x120 ![0, 8] (extractStridedSlice S16384x128 ![0, 1536] P slices_S16384x3968_S16384x128_0_1536) slices_S16384x128_S16384x120_0_8⟩, ⟨S16384x8, extractStridedSlice S16384x8 ![0, 0] (extractStridedSlice S16384x128 ![0, 1536] P slices_S16384x3968_S16384x128_0_1536) slices_S16384x128_S16384x8_0_0⟩] concatenates_S16384x120_S16384x8_S16384x128_d1) (shapeCast S16384x128 (broadcastInDim S4x4096x1x128 ![0, 1, 2, 3] bcast_S1x4096x1x128_S4x4096x1x128_0_1_2_3 (shapeCast S1x4096x1x128 S shapeCasts_S4096x128_S1x4096x1x128)) shapeCasts_S4x4096x1x128_S16384x128))) (mulf (concatenate S16384x128 1 [⟨S16384x8, extractStridedSlice S16384x8 ![0, 120] (extractStridedSlice S16384x128 ![0, 1536] P slices_S16384x3968_S16384x128_0_1536) slices_S16384x128_S16384x8_0_120⟩, ⟨S16384x120, extractStridedSlice S16384x120 ![0, 0] (extractStridedSlice S16384x128 ![0, 1536] P slices_S16384x3968_S16384x128_0_1536) slices_S16384x128_S16384x120_0_0⟩] concatenates_S16384x8_S16384x120_S16384x128_d1) (shapeCast S16384x128 (broadcastInDim S4x4096x1x128 ![0, 1, 2, 3] bcast_S1x4096x1x128_S4x4096x1x128_0_1_2_3 (shapeCast S1x4096x1x128 T shapeCasts_S4096x128_S1x4096x1x128)) shapeCasts_S4x4096x1x128_S16384x128))
      = fun i => turn (fun u => P (ix2 (i 0) u)) (tab C (i 0)) (tab S (i 0)) (tab T (i 0)) 1536 (by omega) (i 1) := by
  rw [narrow, narrow, narrow, left128, right128]
  funext i
  idx_vars i
  unfold turn tab
  pointwise

/-- The query columns, turned and scaled. -/
theorem turnedq (P : FVec Ideal S16384x3968 .f32) (C S T : FVec Ideal S4096x128 .f32) :
    truncf .bf16 (mulf (addf (addf (mulf (extractStridedSlice S16384x1024 ![0, 0] P slices_S16384x3968_S16384x1024_0_0) (shapeCast S16384x1024 (broadcastInDim S4x4096x8x128 ![0, 1, 2, 3] bcast_S1x4096x1x128_S4x4096x8x128_0_1_2_3 (shapeCast S1x4096x1x128 C shapeCasts_S4096x128_S1x4096x1x128)) shapeCasts_S4x4096x8x128_S16384x1024)) (mulf (concatenate S16384x1024 1 [⟨S16384x1016, extractStridedSlice S16384x1016 ![0, 8] (extractStridedSlice S16384x1024 ![0, 0] P slices_S16384x3968_S16384x1024_0_0) slices_S16384x1024_S16384x1016_0_8⟩, ⟨S16384x8, extractStridedSlice S16384x8 ![0, 0] (extractStridedSlice S16384x1024 ![0, 0] P slices_S16384x3968_S16384x1024_0_0) slices_S16384x1024_S16384x8_0_0⟩] concatenates_S16384x1016_S16384x8_S16384x1024_d1) (shapeCast S16384x1024 (broadcastInDim S4x4096x8x128 ![0, 1, 2, 3] bcast_S1x4096x1x128_S4x4096x8x128_0_1_2_3 (shapeCast S1x4096x1x128 S shapeCasts_S4096x128_S1x4096x1x128)) shapeCasts_S4x4096x8x128_S16384x1024))) (mulf (concatenate S16384x1024 1 [⟨S16384x8, extractStridedSlice S16384x8 ![0, 1016] (extractStridedSlice S16384x1024 ![0, 0] P slices_S16384x3968_S16384x1024_0_0) slices_S16384x1024_S16384x8_0_1016⟩, ⟨S16384x1016, extractStridedSlice S16384x1016 ![0, 0] (extractStridedSlice S16384x1024 ![0, 0] P slices_S16384x3968_S16384x1024_0_0) slices_S16384x1024_S16384x1016_0_0⟩] concatenates_S16384x8_S16384x1016_S16384x1024_d1) (shapeCast S16384x1024 (broadcastInDim S4x4096x8x128 ![0, 1, 2, 3] bcast_S1x4096x1x128_S4x4096x8x128_0_1_2_3 (shapeCast S1x4096x1x128 T shapeCasts_S4096x128_S1x4096x1x128)) shapeCasts_S4x4096x8x128_S16384x1024))) (broadcastInDim S16384x1024 ![] bcast_S_S16384x1024 (constant S_ .f32 0x3E000000#32))) bitsLt_bf16_f32
      = fun i => qrow (fun u => P (ix2 (i 0) u)) (tab C (i 0)) (tab S (i 0)) (tab T (i 0)) (i 1) := by
  rw [wide, wide, wide, left1024, right1024]
  funext i
  idx_vars i
  unfold qrow tab
  pointwise

/-- The queries. -/
theorem result7 (m : (ℓ : Loc nD τ sig) → Buf (Elt Ideal) ℓ) (c : Dev nD) : res_main_v86 m c = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v86
  rw [proj]
  exact turnedq (fun i => prow (m ((c.tc : Thread nD τ).loc main_arg0)) (m ((c.tc : Thread nD τ).loc main_arg1)) (m ((c.tc : Thread nD τ).loc main_arg2)) (i 0) (i 1)) (m ((c.tc : Thread nD τ).loc main_arg3)) (m ((c.tc : Thread nD τ).loc main_arg4)) (m ((c.tc : Thread nD τ).loc main_arg5))

/-- The cached rows. -/
theorem result8 (m : (ℓ : Loc nD τ sig) → Buf (Elt Ideal) ℓ) (c : Dev nD) : res_main_v87 m c = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v87
  rw [proj, turned1280]
  funext i
  idx_vars i
  unfold val8 rowsrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, if_pos (show i1.val < 256 by omega)]
  · rw [dif_neg a]
    by_cases b : i1.val - 128 < 128
    · rw [dif_pos b, if_pos (show i1.val < 256 by omega)]
      exact congrArg p (Fin.ext (by (try simp only []); omega))
    · rw [dif_neg b, if_neg (show ¬ i1.val < 256 by omega)]
      by_cases d : i1.val - 128 - 128 < 128
      · rw [dif_pos d, dif_pos (show i1.val < 384 by omega)]
        exact congrArg (turn p _ _ _ _ _) (Fin.ext (by (try simp only []); omega))
      · rw [dif_neg d, dif_neg (show ¬ i1.val < 384 by omega)]
        exact congrArg p (Fin.ext (by (try simp only []); omega))

/-- The window rows. -/
theorem result9 (m : (ℓ : Loc nD τ sig) → Buf (Elt Ideal) ℓ) (c : Dev nD) : res_main_v88 m c = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v88
  rw [proj, turned1536]
  funext i
  idx_vars i
  unfold val9 winrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, dif_pos a]
  · rw [dif_neg a, dif_neg a]
    exact congrArg p (Fin.ext (by (try simp only []); omega))

/-- The window rows, rounded. -/
theorem result12 (m : (ℓ : Loc nD τ sig) → Buf (Elt Ideal) ℓ) (c : Dev nD) : res_main_v92 m c = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v92
  rw [proj, turned1536]
  funext i
  idx_vars i
  unfold val12 winrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, dif_pos a]
  · rw [dif_neg a, dif_neg a]
    exact congrArg p (Fin.ext (by (try simp only []); omega))

/-- The block table repeated for the four sequences is its row at each row's position. -/
theorem table (T : FVec Ideal S4096x128 .f32) :
    shapeCast S16384x128 (broadcastInDim S4x4096x1x128 ![0, 1, 2, 3] bcast_S1x4096x1x128_S4x4096x1x128_0_1_2_3 (shapeCast S1x4096x1x128 T shapeCasts_S4096x128_S1x4096x1x128)) shapeCasts_S4x4096x1x128_S16384x128 = fun i => tab T (i 0) (i 1) := narrow T

set_option maxHeartbeats 1000000 in
/-- The widened keys. -/
theorem result10 (m : (ℓ : Loc nD τ sig) → Buf (Elt Ideal) ℓ) (c : Dev nD) : res_main_v89 m c = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v89
  rw [proj, turned1280, table]
  funext i
  idx_vars i
  unfold val10 kaugrow
  pointwise
  generalize prow (m ((c.tc : Thread nD τ).loc main_arg0)) (m ((c.tc : Thread nD τ).loc main_arg1)) (m ((c.tc : Thread nD τ).loc main_arg2)) i0 = p
  by_cases a : i1.val < 64
  · rw [dif_pos a, dif_pos a]
  · rw [dif_neg a, dif_neg a]
    by_cases b : i1.val - 64 < 64
    · rw [dif_pos b, dif_pos (show i1.val < 128 by omega)]
      exact congrArg (fun v => tab (m ((c.tc : Thread nD τ).loc main_arg6)) i0 v) (Fin.ext (by (try simp only []); omega))
    · rw [dif_neg b, dif_neg (show ¬ i1.val < 128 by omega)]
      by_cases d : i1.val - 64 - 64 < 64
      · rw [dif_pos d, dif_pos (show i1.val < 192 by omega)]
        exact congrArg (fun v => tab (m ((c.tc : Thread nD τ).loc main_arg6)) i0 v) (Fin.ext (by (try simp only []); omega))
      · rw [dif_neg d, dif_neg (show ¬ i1.val < 192 by omega)]
        exact congrArg (turn p _ _ _ _ _) (Fin.ext (by (try simp only []); omega))

/-- The reference's run leaves these functions of its arguments, and its arguments as they were. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v86) = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v87) = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v88) = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v89) = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v90) = val11 (m ((c.tc : Thread nD τ).loc main_arg0)) (m ((c.tc : Thread nD τ).loc main_arg1)) (m ((c.tc : Thread nD τ).loc main_arg2))
      ∧ r.2.mem ((c.tc : Thread nD τ).loc main_v92) = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v27) = val13 (m ((c.tc : Thread nD τ).loc main_arg0)) (m ((c.tc : Thread nD τ).loc main_arg1)) (m ((c.tc : Thread nD τ).loc main_arg2))
      ∧ r.2.mem ((c.tc : Thread nD τ).loc main_v25) = val14 (m ((c.tc : Thread nD τ).loc main_arg0)) (m ((c.tc : Thread nD τ).loc main_arg1)) (m ((c.tc : Thread nD τ).loc main_arg2))
      ∧ r.2.mem ((c.tc : Thread nD τ).loc main_v26) = val15 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run _ _ _).mono (fun r h c => by
    obtain ⟨h7, h8, h9, h10, h11, h12, h13, h14, h15, hargs⟩ := h c
    exact ⟨h7.trans (result7 m c), h8.trans (result8 m c), h9.trans (result9 m c), h10.trans (result10 m c), h11.trans (by rw [proj]; funext i; idx_vars i; unfold val11; pointwise <;> rfl), h12.trans (result12 m c), h13.trans (by rw [proj]; funext i; idx_vars i; unfold val13; pointwise <;> rfl), h14.trans (by rw [proj]; funext i; idx_vars i; unfold val14; pointwise <;> rfl), h15.trans (by rw [proj]; funext i; idx_vars i; unfold val15; pointwise <;> rfl), hargs⟩) (run m g)

end Cert.InprojReferenceIdeal.Inproj

end
-- ==== Proof.InprojPair.lean ====
/-
  The input projection at equal arguments: the kernel's nine arrays are the reference's nine results.
-/
module

public import proofs.«01_k».proof.Proof.InprojRef

@[expose] public section

set_option maxRecDepth 16384

noncomputable section

namespace Cert.InprojIdeal.Inproj

open Idealize.ShloMosaic Idealize.ShloMosaic.TcCoe Idealize.SL.Sem

variable (m : (ℓ : Loc Cert.InprojIdeal.nD Cert.InprojIdeal.τ Cert.InprojIdeal.sig) → Buf (Elt Ideal) ℓ) (m' : (ℓ : Loc Cert.InprojReferenceIdeal.nD Cert.InprojReferenceIdeal.τ Cert.InprojReferenceIdeal.sig) → Buf (Elt Ideal) ℓ) (c : Dev Cert.InprojIdeal.nD)

/-- Window 7's array is the function of the reference's arguments. -/
theorem pair7 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) (h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) (h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) (h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) :
    val7 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = (Gen.dats m 0 c).arrAt 7 cfg0.N := by
  rw [h0, h1, h2, h3, h4, h5]
  exact (final7 m c).symm

/-- Window 8's array is the function of the reference's arguments. -/
theorem pair8 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) (h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) (h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) (h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) :
    val8 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = (Gen.dats m 0 c).arrAt 8 cfg0.N := by
  rw [h0, h1, h2, h3, h4, h5]
  exact (final8 m c).symm

/-- Window 9's array is the function of the reference's arguments. -/
theorem pair9 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) (h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) (h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) (h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) :
    val9 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = (Gen.dats m 0 c).arrAt 9 cfg0.N := by
  rw [h0, h1, h2, h3, h4, h5]
  exact (final9 m c).symm

/-- Window 10's array is the function of the reference's arguments. -/
theorem pair10 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) (h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) (h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) (h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) (h6 : m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) :
    val10 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) (m' ((c.tc : Thread Cert.InprojReferenceIdeal.nD Cert.InprojReferenceIdeal.τ).loc Cert.InprojReferenceIdeal.main_arg6)) = (Gen.dats m 0 c).arrAt 10 cfg0.N := by
  rw [h0, h1, h2, h3, h4, h5, h6]
  exact (final10 m c).symm

/-- Window 11's array is the function of the reference's arguments. -/
theorem pair11 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) :
    val11 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) = (Gen.dats m 0 c).arrAt 11 cfg0.N := by
  rw [h0, h1, h2]
  exact (final11 m c).symm

/-- Window 12's array is the function of the reference's arguments. -/
theorem pair12 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) (h3 : m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) (h4 : m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) (h5 : m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) :
    val12 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = (Gen.dats m 0 c).arrAt 12 cfg0.N := by
  rw [h0, h1, h2, h3, h4, h5]
  exact (final12 m c).symm

/-- Window 13's array is the function of the reference's arguments. -/
theorem pair13 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) :
    val13 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) = (Gen.dats m 0 c).arrAt 13 cfg0.N := by
  rw [h0, h1, h2]
  exact (final13 m c).symm

/-- Window 14's array is the function of the reference's arguments. -/
theorem pair14 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) :
    val14 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) = (Gen.dats m 0 c).arrAt 14 cfg0.N := by
  rw [h0, h1, h2]
  exact (final14 m c).symm

/-- Window 15's array is the function of the reference's arguments. -/
theorem pair15 (h0 : m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)) (h1 : m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) (h2 : m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) :
    val15 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) = (Gen.dats m 0 c).arrAt 15 cfg0.N := by
  rw [h0, h1, h2]
  exact (final15 m c).symm

end Cert.InprojIdeal.Inproj

end
-- ==== Proof.OutprojPair.lean ====
/-
  The output projection: the kernel multiplies the two halves of a row by the two halves of the weight and adds the two
  products; the reference multiplies the joined row by the whole weight. Both add the normed product to the residual row.
-/
module

public import proofs.«01_k».proof.Proof.Rows
public import proofs.«01_k».proof.Proof.Gen.OutprojReferenceIdeal.Run
public import proofs.«01_k».proof.Proof.Gen.OutprojIdeal.Value
public import Idealize.ShloMosaic.Lib.Pipeline.ValueKit

@[expose] public section

set_option maxRecDepth 16384

noncomputable section

namespace Cert.OutprojIdeal.Outproj

open Idealize.ShloMosaic Idealize.ShloMosaic.TcCoe Idealize.SL.Sem Cert.Rows
open Cert.OutprojIdeal Cert.OutprojIdeal.Gen

/-- The result as one function of the arguments: the residual row plus the normed product of the joined row with the
    layer's weight, the first 512 terms of each dot product and the last 512 written as two sums. -/
def val (X : S16384x1024.Idx → EReal) (A B : S16384x512.Idx → EReal) (W : S4x1024x1024.Idx → EReal) (D : S4x8x1x1024.Idx → EReal) : S16384x1024.Idx → EReal := fun i =>
  X (ix2 (i 0) (i 1)) + rms (fun n => (∑ k : Fin 512, A (ix2 (i 0) k) * W (ix3 3 ⟨k.val, by omega⟩ n)) + ∑ k : Fin 512, B (ix2 (i 0) k) * W (ix3 3 ⟨512 + k.val, by omega⟩ n)) (fun n => D (ix4 3 3 0 n)) (i 1)

section kernel

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 3, 0, 0] ∧ win0_5.index t = ![t.val, 0] :=
  (by decide +kernel : ∀ t : Fin grid0.N, _)

/-- What grid point `t` leaves at an entry of its block is the result at the place the entry has in the array. -/
theorem point (c : Dev nD) (t : Fin cfg0.N) (y : S512x1024.Idx) :
    out0_5 (iblk m c 0 t) (iblk m c 1 t) (iblk m c 2 t) (iblk m c 3 t) (iblk m c 4 t) y = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 5).blk t).view.emb y) := by
  idx_vars y
  unfold val rms
  frame_out
  pointwise [k0_pay1]
  blk_point [iblk, V, idx t]

/-- The kernel's result array after the run. -/
theorem final (c : Dev nD) : (dats m 0 c).arrAt 5 cfg0.N = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  exact point m c t y

end kernel

/-- The reference's run leaves the same function of its arguments, and its arguments as they were. -/
theorem reference_run (m' : (ℓ : Loc Cert.OutprojReferenceIdeal.nD Cert.OutprojReferenceIdeal.τ Cert.OutprojReferenceIdeal.sig) → Buf (Elt Ideal) ℓ) (g' : Dev Cert.OutprojReferenceIdeal.nD → PrngReg) :
    θ_run (Cert.OutprojReferenceIdeal.defs (F := Ideal)) (onTc (τ := Cert.OutprojReferenceIdeal.τ) (Cert.OutprojReferenceIdeal.main (F := Ideal))) ⟨m', fun _ => 0, g'⟩ fun r => ∀ c : Dev Cert.OutprojReferenceIdeal.nD,
      r.2.mem ((c.tc : Thread Cert.OutprojReferenceIdeal.nD Cert.OutprojReferenceIdeal.τ).loc Cert.OutprojReferenceIdeal.main_v19) = val (m' ((c.tc : Thread Cert.OutprojReferenceIdeal.nD Cert.OutprojReferenceIdeal.τ).loc Cert.OutprojReferenceIdeal.main_arg0)) (m' ((c.tc : Thread Cert.OutprojReferenceIdeal.nD Cert.OutprojReferenceIdeal.τ).loc Cert.OutprojReferenceIdeal.main_arg1)) (m' ((c.tc : Thread Cert.OutprojReferenceIdeal.nD Cert.OutprojReferenceIdeal.τ).loc Cert.OutprojReferenceIdeal.main_arg2)) (m' ((c.tc : Thread Cert.OutprojReferenceIdeal.nD Cert.OutprojReferenceIdeal.τ).loc Cert.OutprojReferenceIdeal.main_arg3)) (m' ((c.tc : Thread Cert.OutprojReferenceIdeal.nD Cert.OutprojReferenceIdeal.τ).loc Cert.OutprojReferenceIdeal.main_arg4))
      ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4) :=
  (θ_run _ _ _).mono (fun r h c => ⟨(h c).1.trans (by
    funext i
    idx_vars i
    pointwise
    rfl), (h c).2⟩) (Cert.OutprojReferenceIdeal.Value.run m' g')

end Cert.OutprojIdeal.Outproj

end
-- ==== Proof.MemRows.lean ====
/-
  The row arithmetic of the memory attention: scaled scores of a query against a head's keys, their softmax, and the
  weighted sum of the head's values.
-/
module

public import proofs.«01_k».proof.Proof.Rows

@[expose] public section

noncomputable section

namespace Cert.MemRows

open Idealize.ShloMosaic Cert.Rows

/-- The largest of 256 scores, no less than the start value of the maximum. -/
def top (s : Fin 256 → EReal) : EReal := Finset.univ.fold max (Ideal.ofBits .f32 0xFF800000#32) s

/-- Softmax weight `j` of a row of scores. -/
def soft (s : Fin 256 → EReal) (j : Fin 256) : EReal := Ideal.div (Ideal.exp (s j - top s)) (∑ a, Ideal.exp (s a - top s))

/-- The normed row's query, entry `k`. -/
def query (x g : Fin 1024 → EReal) (w : Fin 1024 → Fin 256 → EReal) (k : Fin 256) : EReal := ∑ j, rms x g j * w j k

/-- Head `h`'s score of a query against memory row `j`, scaled by an eighth. -/
def score (q : Fin 256 → EReal) (kv : Fin 256 → Fin 512 → EReal) (h : Fin 4) (j : Fin 256) : EReal :=
  (∑ d : Fin 64, q ⟨64 * h.val + d.val, by omega⟩ * kv j ⟨64 * h.val + d.val, by omega⟩) * Ideal.ofBits .f32 0x3E000000#32

/-- Column `x` of the attention's row: its head's weights times the memory's values. -/
def att (q : Fin 256 → EReal) (kv : Fin 256 → Fin 512 → EReal) (x : Fin 256) : EReal :=
  ∑ j, soft (score q kv ⟨x.val / 64, by omega⟩) j * kv j ⟨256 + x.val, by omega⟩

/-- The block's row: the row plus the normed product of its attention with the output weight. -/
def row (x g0 g1 : Fin 1024 → EReal) (wq : Fin 1024 → Fin 256 → EReal) (wo : Fin 256 → Fin 1024 → EReal) (kv : Fin 256 → Fin 512 → EReal) (n : Fin 1024) : EReal :=
  x n + rms (fun n => ∑ k, att (query x g0 wq) kv k * wo k n) g1 n

/-- The scale applied to the query before the products is the scale applied to their sum. -/
theorem scale_sum (f g : Fin 64 → EReal) :
    ∑ d, f d * Ideal.ofBits .f32 0x3E000000#32 * g d = (∑ d, f d * g d) * Ideal.ofBits .f32 0x3E000000#32 := by
  have hc : Ideal.ofBits .f32 0x3E000000#32 = ((1/8 : ℝ) : EReal) := by simp [Ideal.ofBits, Ideal.ieee, -EReal.coe_mul]; norm_num
  rw [hc]
  have key : ∀ s : Finset (Fin 64), ∑ d ∈ s, f d * ((1/8 : ℝ) : EReal) * g d = (∑ d ∈ s, f d * g d) * ((1/8 : ℝ) : EReal) := by
    intro s
    induction s using Finset.induction_on with
    | empty => simp
    | insert a s ha ih =>
      rw [Finset.sum_insert ha, Finset.sum_insert ha, ih, EReal.right_distrib_of_nonneg_of_ne_top (by exact_mod_cast (by norm_num : (0:ℝ) ≤ 1/8)) (EReal.coe_ne_top _), mul_right_comm]
  exact key _

/-- Taking the start value into the maximum once more changes nothing. -/
theorem max_top (s : Fin 256 → EReal) : max (Ideal.ofBits .f32 0xFF800000#32) (top s) = top s := by
  unfold top
  exact max_eq_right ((Finset.le_fold_max _).2 (Or.inl le_rfl))

/-- Four pieces of 64 columns, one after another, are the whole row. -/
theorem pieces (f : Fin 256 → EReal) (x : Fin 256) :
    (if h : x.val < 64 then f ⟨x.val, by omega⟩ else if h : x.val - 64 < 64 then f ⟨64 + (x.val - 64), by omega⟩
      else if h : x.val - 64 - 64 < 64 then f ⟨128 + (x.val - 64 - 64), by omega⟩ else f ⟨192 + (x.val - 64 - 64 - 64), by omega⟩) = f x := by
  split
  · rfl
  split
  · exact congrArg f (Fin.ext (by simp only []; omega))
  split
  · exact congrArg f (Fin.ext (by simp only []; omega))
  · exact congrArg f (Fin.ext (by simp only []; omega))

/-- Column `64 h + d` of the attention's row, from head `h`. -/
theorem att_head (q : Fin 256 → EReal) (kv : Fin 256 → Fin 512 → EReal) (h : Fin 4) (d : Fin 64) (x : Fin 256) (hx : x.val = 64 * h.val + d.val) :
    att q kv x = ∑ j, soft (score q kv h) j * kv j ⟨256 + 64 * h.val + d.val, by omega⟩ := by
  unfold att
  have e : (⟨x.val / 64, by omega⟩ : Fin 4) = h := Fin.ext (by simp only []; omega)
  rw [e]
  exact Finset.sum_congr rfl fun j _ => congrArg (fun a => soft (score q kv h) j * kv j a) (Fin.ext (by simp only []; omega))

/-- The attention's row with the factors of its terms exchanged. -/
theorem att_swap (q : Fin 256 → EReal) (kv : Fin 256 → Fin 512 → EReal) (x : Fin 256) :
    att q kv x = ∑ j, kv j ⟨256 + x.val, by omega⟩ * soft (score q kv ⟨x.val / 64, by omega⟩) j :=
  Finset.sum_congr rfl fun j _ => mul_comm _ _

end Cert.MemRows

end
-- ==== Proof.MemPoint.lean ====
/-
  A grid point of the memory attention, read at a place of its block.
-/
module

public import proofs.«01_k».proof.Proof.MemRows
public import proofs.«01_k».proof.Proof.Gen.MemIdeal.Value
public import Idealize.ShloMosaic.Lib.Pipeline.ValueKit

@[expose] public section

set_option maxRecDepth 16384

noncomputable section

namespace Cert.MemIdeal.Mem

open Idealize.ShloMosaic Idealize.ShloMosaic.TcCoe Idealize.SL.Sem Cert.Rows Cert.MemRows
open Cert.MemIdeal Cert.MemIdeal.Gen

/-- The scaled queries of a block. -/
theorem queries (v0 : FVec Ideal S512x1024 .f32) (v1 : FVec Ideal S1x1x1x1024 .f32) (v16 : FVec Ideal S1x1024x256 .bf16) (r : Fin 512) (k : Fin 256) :
    k0_pay2 (F := Ideal) v0 v1 v16 (ix2 r k) = query (fun k => v0 (ix2 r k)) (fun k => v1 (ix4 0 0 0 k)) (fun j k => v16 (ix3 0 j k)) k * Ideal.ofBits .f32 0x3E000000#32 := by
  unfold query rms
  pointwise [k0_pay2]

/-- The memory's keys and values of a block, unchanged by the cast. -/
theorem memory (v21 : FVec Ideal S256x512 .f32) (j : Fin 256) (n : Fin 512) : k0_pay3 (F := Ideal) v21 (ix2 j n) = v21 (ix2 j n) := by
  pointwise [k0_pay3]

/-- Head 0's scores of a block. -/
theorem scores0 (v0 : FVec Ideal S512x1024 .f32) (v1 : FVec Ideal S1x1x1x1024 .f32) (v16 : FVec Ideal S1x1024x256 .bf16) (v21 : FVec Ideal S256x512 .f32) (r : Fin 512) (j : Fin 256) :
    k0_pay4 (F := Ideal) v0 v1 v16 v21 (ix2 r j) = score (query (fun k => v0 (ix2 r k)) (fun k => v1 (ix4 0 0 0 k)) (fun j k => v16 (ix3 0 j k))) (fun j n => v21 (ix2 j n)) 0 j := by
  unfold score
  rw [← scale_sum]
  pointwise [k0_pay4]
  simp only [queries, memory]

/-- Head 0's rows of a block from its scores. -/
theorem head0 (V : FVec Ideal S256x512 .bf16) (S : FVec Ideal S512x256 .f32) (r : Fin 512) (d : Fin 64) :
    k0_pay8 (F := Ideal) V S (ix2 r d) = ∑ j, soft (fun a => S (ix2 r a)) j * V (ix2 j ⟨256 + d.val, by omega⟩) := by
  unfold soft top
  pointwise [k0_pay8]

/-- Head 1's scores of a block. -/
theorem scores1 (v0 : FVec Ideal S512x1024 .f32) (v1 : FVec Ideal S1x1x1x1024 .f32) (v16 : FVec Ideal S1x1024x256 .bf16) (v21 : FVec Ideal S256x512 .f32) (r : Fin 512) (j : Fin 256) :
    k0_pay5 (F := Ideal) v0 v1 v16 v21 (ix2 r j) = score (query (fun k => v0 (ix2 r k)) (fun k => v1 (ix4 0 0 0 k)) (fun j k => v16 (ix3 0 j k))) (fun j n => v21 (ix2 j n)) 1 j := by
  unfold score
  rw [← scale_sum]
  pointwise [k0_pay5]
  simp only [queries, memory]

/-- Head 1's rows of a block from its scores. -/
theorem head1 (V : FVec Ideal S256x512 .bf16) (S : FVec Ideal S512x256 .f32) (r : Fin 512) (d : Fin 64) :
    k0_pay9 (F := Ideal) V S (ix2 r d) = ∑ j, soft (fun a => S (ix2 r a)) j * V (ix2 j ⟨320 + d.val, by omega⟩) := by
  unfold soft top
  pointwise [k0_pay9]

/-- Head 2's scores of a block. -/
theorem scores2 (v0 : FVec Ideal S512x1024 .f32) (v1 : FVec Ideal S1x1x1x1024 .f32) (v16 : FVec Ideal S1x1024x256 .bf16) (v21 : FVec Ideal S256x512 .f32) (r : Fin 512) (j : Fin 256) :
    k0_pay6 (F := Ideal) v0 v1 v16 v21 (ix2 r j) = score (query (fun k => v0 (ix2 r k)) (fun k => v1 (ix4 0 0 0 k)) (fun j k => v16 (ix3 0 j k))) (fun j n => v21 (ix2 j n)) 2 j := by
  unfold score
  rw [← scale_sum]
  pointwise [k0_pay6]
  simp only [queries, memory]

/-- Head 2's rows of a block from its scores. -/
theorem head2 (V : FVec Ideal S256x512 .bf16) (S : FVec Ideal S512x256 .f32) (r : Fin 512) (d : Fin 64) :
    k0_pay10 (F := Ideal) V S (ix2 r d) = ∑ j, soft (fun a => S (ix2 r a)) j * V (ix2 j ⟨384 + d.val, by omega⟩) := by
  unfold soft top
  pointwise [k0_pay10]

/-- Head 3's scores of a block. -/
theorem scores3 (v0 : FVec Ideal S512x1024 .f32) (v1 : FVec Ideal S1x1x1x1024 .f32) (v16 : FVec Ideal S1x1024x256 .bf16) (v21 : FVec Ideal S256x512 .f32) (r : Fin 512) (j : Fin 256) :
    k0_pay7 (F := Ideal) v0 v1 v16 v21 (ix2 r j) = score (query (fun k => v0 (ix2 r k)) (fun k => v1 (ix4 0 0 0 k)) (fun j k => v16 (ix3 0 j k))) (fun j n => v21 (ix2 j n)) 3 j := by
  unfold score
  rw [← scale_sum]
  pointwise [k0_pay7]
  simp only [queries, memory]

/-- Head 3's rows of a block from its scores. -/
theorem head3 (V : FVec Ideal S256x512 .bf16) (S : FVec Ideal S512x256 .f32) (r : Fin 512) (d : Fin 64) :
    k0_pay11 (F := Ideal) V S (ix2 r d) = ∑ j, soft (fun a => S (ix2 r a)) j * V (ix2 j ⟨448 + d.val, by omega⟩) := by
  unfold soft top
  pointwise [k0_pay11]

/-- The block's row from the four heads' rows. -/
theorem last (v0 : FVec Ideal S512x1024 .f32) (a b d e : FVec Ideal S512x64 .f32) (wo : FVec Ideal S1x256x1024 .bf16) (g : FVec Ideal S1x1x1x1024 .f32)
    (o : Fin 512 → Fin 256 → EReal) (ha : ∀ r x, a (ix2 r x) = o r ⟨x.val, by omega⟩) (hb : ∀ r x, b (ix2 r x) = o r ⟨64 + x.val, by omega⟩)
    (hd : ∀ r x, d (ix2 r x) = o r ⟨128 + x.val, by omega⟩) (he : ∀ r x, e (ix2 r x) = o r ⟨192 + x.val, by omega⟩) (r : Fin 512) (n : Fin 1024) :
    k0_pay1 (F := Ideal) v0 a b d e wo g (ix2 r n) = v0 (ix2 r n) + rms (fun n => ∑ k, o r k * wo (ix3 0 k n)) (fun k => g (ix4 0 0 0 k)) n := by
  unfold rms
  pointwise [k0_pay1]
  simp only [ha, hb, hd, he, pieces]

/-- What a grid point leaves in its block, from the blocks of the arguments. -/
theorem whole (A : FVec Ideal S512x1024 .f32) (B C : FVec Ideal S1x1x1x1024 .f32) (D : FVec Ideal S1x1024x256 .bf16) (E : FVec Ideal S1x256x1024 .bf16) (G : FVec Ideal S256x512 .f32) (r : Fin 512) (n : Fin 1024) :
    out0_6 (F := Ideal) A B C D E G (ix2 r n) = row (fun k => A (ix2 r k)) (fun k => B (ix4 0 0 0 k)) (fun k => C (ix4 0 0 0 k)) (fun j k => D (ix3 0 j k)) (fun k n => E (ix3 0 k n)) (fun j n => G (ix2 j n)) n := by
  frame_out
  have hm : ∀ j n, k0_pay12 (F := Ideal) A B C D E G (ix2 j n) = G (ix2 j n) := fun j n => by
    unfold k0_pay12
    pointwise [memory]
  refine (last _ _ _ _ _ _ _ (fun r => att (query (fun k => A (ix2 r k)) (fun k => B (ix4 0 0 0 k)) (fun j k => D (ix3 0 j k))) (fun j n => G (ix2 j n))) ?_ ?_ ?_ ?_ r n).trans ?_
  · intro r x
    rw [head0]
    simp only [scores0, hm]
    exact (att_head _ _ 0 x _ (by simp)).symm
  · intro r x
    rw [head1]
    simp only [scores1, hm]
    exact (att_head _ _ 1 x _ (by simp)).symm
  · intro r x
    rw [head2]
    simp only [scores2, hm]
    exact (att_head _ _ 2 x _ (by simp)).symm
  · intro r x
    rw [head3]
    simp only [scores3, hm]
    exact (att_head _ _ 3 x _ (by simp)).symm
  · rfl

end Cert.MemIdeal.Mem

end
-- ==== Proof.MemRef.lean ====
/-
  The reference memory attention read at a place: every step as a function of the arrays before it.
-/
module

public import proofs.«01_k».proof.Proof.MemRows
public import proofs.«01_k».proof.Proof.Gen.MemReferenceIdeal.Run
public import Idealize.ShloMosaic.Lib.Pipeline.ValueKit

@[expose] public section

set_option maxRecDepth 16384

noncomputable section

namespace Cert.MemReferenceIdeal.Mem

open Cert.MemReferenceIdeal Cert.MemReferenceIdeal.Gen Cert.MemReferenceIdeal.Value Idealize.ShloMosaic Idealize.ShloMosaic.TcCoe Idealize.SL.Sem Cert.Rows Cert.MemRows

/-- The queries of all rows. -/
theorem proj (X : FVec Ideal S16384x1024 .f32) (D : FVec Ideal S4x8x1x1024 .f32) (W : FVec Ideal S4x1024x256 .bf16) :
    (Host.dotGeneral (F := Ideal) dot_S16384x1024_S1024x256_S16384x256_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (shapeCast _ (extractStridedSlice S1x1x1x1024 ![3, 4, 0, 0] D slices_S4x8x1x1024_S1x1x1x1024_3_4_0_0) shapeCasts_S1x1x1x1024_S1x1024))) (extf .f32 (shapeCast _ (extractStridedSlice S1x1024x256 ![3, 0, 0] W slices_S4x1024x256_S1x1024x256_3_0_0) shapeCasts_S1x1024x256_S1024x256) bitsLt_bf16_f32) : FVec Ideal S16384x256 .f32)
      = fun i => query (fun k => X (ix2 (i 0) k)) (fun k => D (ix4 3 4 0 k)) (fun j k => W (ix3 3 j k)) (i 1) := by
  funext i
  idx_vars i
  unfold query rms
  pointwise

/-- The queries by sequence and head. -/
theorem heads (V : FVec Ideal S16384x256 .f32) :
    shapeCast S4x4096x4x64 V shapeCasts_S16384x256_S4x4096x4x64
      = fun i => V (ix2 ⟨4096 * (i 0).val + (i 1).val, by have h0 : (i 0).val < 4 := (i 0).isLt; have h1 : (i 1).val < 4096 := (i 1).isLt; omega⟩ ⟨64 * (i 2).val + (i 3).val, by have h2 : (i 2).val < 4 := (i 2).isLt; have h3 : (i 3).val < 64 := (i 3).isLt; omega⟩) := by
  funext i
  idx_vars i
  pointwise
  exact congrArg₂ (fun a b => V (ix2 a b)) (Fin.ext (by simp only []; omega)) (Fin.ext (by simp only []; omega))

/-- The keys by sequence and head. -/
theorem keys (K : FVec Ideal S1024x512 .f32) :
    shapeCast S4x256x4x64 (extractStridedSlice S4x256x1x4x64 ![0, 0, 0, 0, 0] (shapeCast S4x256x2x4x64 K shapeCasts_S1024x512_S4x256x2x4x64) slices_S4x256x2x4x64_S4x256x1x4x64_0_0_0_0_0) shapeCasts_S4x256x1x4x64_S4x256x4x64
      = fun i => K (ix2 ⟨256 * (i 0).val + (i 1).val, by have h0 : (i 0).val < 4 := (i 0).isLt; have h1 : (i 1).val < 256 := (i 1).isLt; omega⟩ ⟨64 * (i 2).val + (i 3).val, by have h2 : (i 2).val < 4 := (i 2).isLt; have h3 : (i 3).val < 64 := (i 3).isLt; omega⟩) := by
  funext i
  idx_vars i
  pointwise
  exact congrArg₂ (fun a b => K (ix2 a b)) (Fin.ext (by simp only []; omega)) (Fin.ext (by simp only []; omega))

/-- The values by sequence and head. -/
theorem values (K : FVec Ideal S1024x512 .f32) :
    shapeCast S4x256x4x64 (extractStridedSlice S4x256x1x4x64 ![0, 0, 1, 0, 0] (shapeCast S4x256x2x4x64 K shapeCasts_S1024x512_S4x256x2x4x64) slices_S4x256x2x4x64_S4x256x1x4x64_0_0_1_0_0) shapeCasts_S4x256x1x4x64_S4x256x4x64
      = fun i => K (ix2 ⟨256 * (i 0).val + (i 1).val, by have h0 : (i 0).val < 4 := (i 0).isLt; have h1 : (i 1).val < 256 := (i 1).isLt; omega⟩ ⟨256 + (64 * (i 2).val + (i 3).val), by have h2 : (i 2).val < 4 := (i 2).isLt; have h3 : (i 3).val < 64 := (i 3).isLt; omega⟩) := by
  funext i
  idx_vars i
  pointwise
  exact congrArg₂ (fun a b => K (ix2 a b)) (Fin.ext (by simp only []; omega)) (Fin.ext (by simp only []; omega))

/-- The scaled scores. -/
theorem scores (A : FVec Ideal S4x4096x4x64 .f32) (B : FVec Ideal S4x256x4x64 .f32) :
    mulf (Host.dotGeneral (F := Ideal) dot_S4x4096x4x64_S4x256x4x64_S4x4x4096x256_3_3_1_1_02_02 none A B : FVec Ideal S4x4x4096x256 .f32) (broadcastInDim S4x4x4096x256 ![] bcast_S_S4x4x4096x256 (constant S_ .f32 0x3E000000#32))
      = fun i => (∑ d : Fin 64, A (ix4 (i 0) (i 2) (i 1) d) * B (ix4 (i 0) (i 3) (i 1) d)) * Ideal.ofBits .f32 0x3E000000#32 := by
  funext i
  idx_vars i
  pointwise

/-- The largest score of each row. -/
theorem tops (S : FVec Ideal S4x4x4096x256 .f32) :
    ((Host.reduce FloatOps.maximumf S (constant S_ .f32 0xFF800000#32) reducesTo_S4x4x4096x256_S4x4x4096_d3 h_S_) : FVec Ideal S4x4x4096 .f32) = fun i => top (fun j => S (ix4 (i 0) (i 1) (i 2) j)) := by
  funext i
  idx_vars i
  unfold top
  pointwise

/-- The start value taken into each row's maximum once more. -/
theorem lift (T : FVec Ideal S4x4x4096 .f32) :
    maximumf (broadcastInDim S4x4x4096 ![] bcast_S_S4x4x4096 (constant S_ .f32 0xFF800000#32)) T = fun i => max (Ideal.ofBits .f32 0xFF800000#32) (T i) := by
  funext i
  idx_vars i
  pointwise

/-- A number of each row, spread over the row. -/
theorem spread (T : FVec Ideal S4x4x4096 .f32) :
    broadcastInDim S4x4x4096x256 ![0, 1, 2, 3] bcast_S4x4x4096x1_S4x4x4096x256_0_1_2_3 (broadcastInDim S4x4x4096x1 ![0, 1, 2] bcast_S4x4x4096_S4x4x4096x1_0_1_2 T) = fun i => T (ix3 (i 0) (i 1) (i 2)) := by
  funext i
  idx_vars i
  pointwise

/-- The exponentials of the differences. -/
theorem exps (S T : FVec Ideal S4x4x4096x256 .f32) : Host.exp (subf S T) = fun i => Ideal.exp (S i - T i) := by
  funext i
  idx_vars i
  pointwise

/-- The sum of each row. -/
theorem sums (E : FVec Ideal S4x4x4096x256 .f32) :
    ((Host.reduceAdd E (constant S_ .f32 0x00000000#32) reducesTo_S4x4x4096x256_S4x4x4096_d3 h_S_) : FVec Ideal S4x4x4096 .f32) = fun i => ∑ j, E (ix4 (i 0) (i 1) (i 2) j) := by
  funext i
  idx_vars i
  pointwise

/-- The quotients. -/
theorem quots (E T : FVec Ideal S4x4x4096x256 .f32) : Host.divf E T = fun i => Ideal.div (E i) (T i) := by
  funext i
  idx_vars i
  pointwise

/-- The softmax over a row of scores. -/
theorem softmax (S : FVec Ideal S4x4x4096x256 .f32) :
    Host.divf (Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) (Host.reduce FloatOps.maximumf S (constant S_ .f32 0xFF800000#32) reducesTo_S4x4x4096x256_S4x4x4096_d3 h_S_)))))) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) (Host.reduce FloatOps.maximumf S (constant S_ .f32 0xFF800000#32) reducesTo_S4x4x4096x256_S4x4x4096_d3 h_S_)))))) (constant S_ .f32 0x00000000#32) reducesTo_S4x4x4096x256_S4x4x4096_d3 h_S_)))
      = fun i => soft (fun j => S (ix4 (i 0) (i 1) (i 2) j)) (i 3) := by
  rw [tops, lift, spread, exps, sums, spread, quots]
  funext i
  idx_vars i
  simp only [max_top]
  rfl

/-- The weighted sums of the values. -/
theorem weighted (V : FVec Ideal S4x256x4x64 .f32) (P : FVec Ideal S4x4x4096x256 .f32) :
    (Host.dotGeneral (F := Ideal) dot_S4x256x4x64_S4x4x4096x256_S4x4x64x4096_1_3_3_2_02_01 none V P : FVec Ideal S4x4x64x4096 .f32)
      = fun i => ∑ j : Fin 256, V (ix4 (i 0) j (i 1) (i 2)) * P (ix4 (i 0) (i 1) (i 3) j) := by
  funext i
  idx_vars i
  pointwise

/-- The heads joined into rows. -/
theorem joined (O : FVec Ideal S4x4x64x4096 .f32) :
    shapeCast S16384x256 (transpose S4x4096x4x64 [0, 3, 1, 2] O transposes_S4x4x64x4096_S4x4096x4x64_0_3_1_2) shapeCasts_S4x4096x4x64_S16384x256
      = fun i => O (ix4 ⟨(i 0).val / 4096, by have h0 : (i 0).val < 16384 := (i 0).isLt; omega⟩ ⟨(i 1).val / 64, by have h1 : (i 1).val < 256 := (i 1).isLt; omega⟩ ⟨(i 1).val % 64, Nat.mod_lt _ (by decide)⟩ ⟨(i 0).val % 4096, Nat.mod_lt _ (by decide)⟩) := by
  funext i
  idx_vars i
  pointwise

end Cert.MemReferenceIdeal.Mem

end
-- ==== Proof.MemPair.lean ====
/-
  The memory attention: the kernel works tile by tile and head by head, the reference on all rows and heads at once. Both
  add to each row the normed product of its attention over the memory.
-/
module

public import proofs.«01_k».proof.Proof.MemPoint
public import proofs.«01_k».proof.Proof.MemRef
public import proofs.«01_k».proof.Proof.Gen.MemReferenceIdeal.Run
public import proofs.«01_k».proof.Proof.Gen.MemIdeal.Value
public import Idealize.ShloMosaic.Lib.Pipeline.ValueKit

@[expose] public section

set_option maxRecDepth 16384

noncomputable section

namespace Cert.MemIdeal.Mem

open Idealize.ShloMosaic Idealize.ShloMosaic.TcCoe Idealize.SL.Sem Cert.Rows Cert.MemRows
open Cert.MemIdeal Cert.MemIdeal.Gen

/-- The result as one function of the arguments. Row `r` belongs to the sequence `r / 4096` and attends to that sequence's
    256 rows of the memory. -/
def val (X : S16384x1024.Idx → EReal) (D : S4x8x1x1024.Idx → EReal) (Wq : S4x1024x256.Idx → EReal) (Wo : S4x256x1024.Idx → EReal) (KV : S1024x512.Idx → EReal) : S16384x1024.Idx → EReal := fun i =>
  row (fun k => X (ix2 (i 0) k)) (fun k => D (ix4 3 4 0 k)) (fun k => D (ix4 3 5 0 k)) (fun j k => Wq (ix3 3 j k)) (fun k n => Wo (ix3 3 k n))
    (fun j n => KV (ix2 ⟨256 * ((i 0).val / 4096) + j.val, by have h0 : (i 0).val < 16384 := (i 0).isLt; omega⟩ n)) (i 1)

section kernel

variable (m : (ℓ : Loc nD τ sig) → Buf (Elt Ideal) ℓ)

/-- Which block each window holds at grid point `t`. -/
theorem idx : ∀ t : Fin cfg0.N, win0_0.index t = ![t.val, 0] ∧ win0_1.index t = ![3, 4, 0, 0] ∧ win0_2.index t = ![3, 5, 0, 0]
    ∧ win0_3.index t = ![3, 0, 0] ∧ win0_4.index t = ![3, 0, 0] ∧ win0_5.index t = ![t.val / 8, 0] ∧ win0_6.index t = ![t.val, 0] :=
  (by decide +kernel : ∀ t : Fin grid0.N, _)

/-- What grid point `t` leaves at an entry of its block is the result at the place the entry has in the array. -/
theorem point (c : Dev nD) (t : Fin cfg0.N) (y : S512x1024.Idx) :
    out0_6 (iblk m c 0 t) (iblk m c 1 t) (iblk m c 2 t) (iblk m c 3 t) (iblk m c 4 t) (iblk m c 5 t) y = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 6).blk t).view.emb y) := by
  idx_vars y
  refine (whole _ _ _ _ _ _ y0 y1).trans ?_
  unfold val
  blk_point [iblk, V, idx t]

/-- The kernel's result array after the run. -/
theorem final (c : Dev nD) : (dats m 0 c).arrAt 6 cfg0.N = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  blk_simp
  rw [after0_6]
  exact point m c t y

end kernel

open Cert.MemReferenceIdeal.Mem in
/-- The reference's result is the same function of its arguments. -/
theorem result (m' : (ℓ : Loc Cert.MemReferenceIdeal.nD Cert.MemReferenceIdeal.τ Cert.MemReferenceIdeal.sig) → Buf (Elt Ideal) ℓ) (c : Dev Cert.MemReferenceIdeal.nD) :
    Cert.MemReferenceIdeal.Value.res_main_v59 m' c = val (m' ((c.tc : Thread Cert.MemReferenceIdeal.nD Cert.MemReferenceIdeal.τ).loc Cert.MemReferenceIdeal.main_arg0)) (m' ((c.tc : Thread Cert.MemReferenceIdeal.nD Cert.MemReferenceIdeal.τ).loc Cert.MemReferenceIdeal.main_arg1)) (m' ((c.tc : Thread Cert.MemReferenceIdeal.nD Cert.MemReferenceIdeal.τ).loc Cert.MemReferenceIdeal.main_arg2)) (m' ((c.tc : Thread Cert.MemReferenceIdeal.nD Cert.MemReferenceIdeal.τ).loc Cert.MemReferenceIdeal.main_arg3)) (m' ((c.tc : Thread Cert.MemReferenceIdeal.nD Cert.MemReferenceIdeal.τ).loc Cert.MemReferenceIdeal.main_arg4)) := by
  unfold Cert.MemReferenceIdeal.Value.res_main_v59
  rw [proj, heads, keys, values, scores, softmax, weighted, joined]
  funext i
  idx_vars i
  unfold val row rms
  pointwise
  have hr : (⟨4096 * (i0.val / 4096) + i0.val % 4096, by omega⟩ : Fin 16384) = i0 := Fin.ext (by simp only []; omega)
  have hx : ∀ x : Fin 256, (⟨256 + (64 * (x.val / 64) + x.val % 64), by omega⟩ : Fin 512) = ⟨256 + x.val, by omega⟩ := fun x => Fin.ext (by simp only []; omega)
  simp only [hr, hx, att_swap]
  rfl

/-- The reference's run leaves the same function of its arguments, and its arguments as they were. -/
theorem reference_run (m' : (ℓ : Loc Cert.MemReferenceIdeal.nD Cert.MemReferenceIdeal.τ Cert.MemReferenceIdeal.sig) → Buf (Elt Ideal) ℓ) (g' : Dev Cert.MemReferenceIdeal.nD → PrngReg) :
    θ_run (Cert.MemReferenceIdeal.defs (F := Ideal)) (onTc (τ := Cert.MemReferenceIdeal.τ) (Cert.MemReferenceIdeal.main (F := Ideal))) ⟨m', fun _ => 0, g'⟩ fun r => ∀ c : Dev Cert.MemReferenceIdeal.nD,
      r.2.mem ((c.tc : Thread Cert.MemReferenceIdeal.nD Cert.MemReferenceIdeal.τ).loc Cert.MemReferenceIdeal.main_v59) = val (m' ((c.tc : Thread Cert.MemReferenceIdeal.nD Cert.MemReferenceIdeal.τ).loc Cert.MemReferenceIdeal.main_arg0)) (m' ((c.tc : Thread Cert.MemReferenceIdeal.nD Cert.MemReferenceIdeal.τ).loc Cert.MemReferenceIdeal.main_arg1)) (m' ((c.tc : Thread Cert.MemReferenceIdeal.nD Cert.MemReferenceIdeal.τ).loc Cert.MemReferenceIdeal.main_arg2)) (m' ((c.tc : Thread Cert.MemReferenceIdeal.nD Cert.MemReferenceIdeal.τ).loc Cert.MemReferenceIdeal.main_arg3)) (m' ((c.tc : Thread Cert.MemReferenceIdeal.nD Cert.MemReferenceIdeal.τ).loc Cert.MemReferenceIdeal.main_arg4))
      ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4) :=
  (θ_run _ _ _).mono (fun r h c => ⟨(h c).1.trans (result m' c), (h c).2⟩) (Cert.MemReferenceIdeal.Value.run m' g')

end Cert.MemIdeal.Mem

end
-- ==== Proof.MemKvPair.lean ====
/-
  The memory's key/value kernel: its result array is the normed rows through the layer's weight, and the reference's
  result is the same function of the arguments.
-/
module

public import proofs.«01_k».proof.Proof.Rows
public import proofs.«01_k».proof.Proof.Gen.MemKvReferenceIdeal.Run
public import proofs.«01_k».proof.Proof.Gen.MemKvIdeal.Value
public import Idealize.ShloMosaic.Lib.Pipeline.ValueKit

@[expose] public section

set_option maxRecDepth 16384

noncomputable section

namespace Cert.MemKvIdeal.MemKv

open Idealize.ShloMosaic Idealize.ShloMosaic.TcCoe Idealize.SL.Sem Cert.Rows
open Cert.MemKvIdeal Cert.MemKvIdeal.Gen

/-- The result as one function of the arguments: a row, normed, through the layer's weight. -/
def val (X : S1024x1024.Idx → EReal) (A : S4x1x1024.Idx → EReal) (W : S4x1024x512.Idx → EReal) : S1024x512.Idx → EReal := fun i =>
  ∑ k, rms (fun k => X (ix2 (i 0) k)) (fun k => A (ix3 3 0 k)) k * W (ix3 3 k (i 1))

section kernel

variable (m : (ℓ : Loc nD τ sig) → Buf (Elt Ideal) ℓ)

/-- Which block each window holds at grid point `t`. -/
theorem idx : ∀ t : Fin cfg0.N, win0_0.index t = ![t.val, 0] ∧ win0_1.index t = ![3, 0, 0] ∧ win0_2.index t = ![3, 0, 0] ∧ win0_3.index t = ![t.val, 0] :=
  (by decide +kernel : ∀ t : Fin grid0.N, _)

/-- What grid point `t` leaves at an entry of its block is the result at the place the entry has in the array. -/
theorem point (c : Dev nD) (t : Fin cfg0.N) (y : S256x512.Idx) :
    k0_pay1 (iblk m c 0 t) (iblk m c 1 t) (iblk m c 2 t) y = val (m ((c.tc : Thread nD τ).loc main_arg0)) (m ((c.tc : Thread nD τ).loc main_arg1)) (m ((c.tc : Thread nD τ).loc main_arg2)) (((cfg0.win 3).blk t).view.emb y) := by
  idx_vars y
  unfold val rms
  pointwise [k0_pay1]
  blk_point [iblk, V, idx t]

/-- The kernel's result array after the run. -/
theorem final (c : Dev nD) : (dats m 0 c).arrAt 3 cfg0.N = val (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  exact point m c t y

end kernel

/-- The reference's run leaves the same function of its arguments, and its arguments as they were. -/
theorem reference_run (m' : (ℓ : Loc Cert.MemKvReferenceIdeal.nD Cert.MemKvReferenceIdeal.τ Cert.MemKvReferenceIdeal.sig) → Buf (Elt Ideal) ℓ) (g' : Dev Cert.MemKvReferenceIdeal.nD → PrngReg) :
    θ_run (Cert.MemKvReferenceIdeal.defs (F := Ideal)) (onTc (τ := Cert.MemKvReferenceIdeal.τ) (Cert.MemKvReferenceIdeal.main (F := Ideal))) ⟨m', fun _ => 0, g'⟩ fun r => ∀ c : Dev Cert.MemKvReferenceIdeal.nD,
      r.2.mem ((c.tc : Thread Cert.MemKvReferenceIdeal.nD Cert.MemKvReferenceIdeal.τ).loc Cert.MemKvReferenceIdeal.main_v17) = val (m' ((c.tc : Thread Cert.MemKvReferenceIdeal.nD Cert.MemKvReferenceIdeal.τ).loc Cert.MemKvReferenceIdeal.main_arg0)) (m' ((c.tc : Thread Cert.MemKvReferenceIdeal.nD Cert.MemKvReferenceIdeal.τ).loc Cert.MemKvReferenceIdeal.main_arg1)) (m' ((c.tc : Thread Cert.MemKvReferenceIdeal.nD Cert.MemKvReferenceIdeal.τ).loc Cert.MemKvReferenceIdeal.main_arg2))
      ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2) :=
  (θ_run _ _ _).mono (fun r h c => ⟨(h c).1.trans (by
    funext i
    idx_vars i
    pointwise
    rfl), (h c).2⟩) (Cert.MemKvReferenceIdeal.Value.run m' g')

end Cert.MemKvIdeal.MemKv

end
-- ==== Proof.FfnSamplePoint.lean ====
/-
  What the feed-forward kernel's body leaves in its output block: it keeps the second product's running sum in a scratch
  buffer, one chunk of 256 hidden columns after another, and each store is read back whole by the next chunk.
-/
module

public import proofs.«01_k».proof.Proof.Rows
public import proofs.«01_k».proof.Proof.Gen.FfnSampleIdeal.Frame
public import Idealize.ShloMosaic.Lib.Pipeline.ValueKit
public import Idealize.ShloMosaic.Lib.WritesUnit

@[expose] public section

set_option maxRecDepth 16384

noncomputable section

namespace Cert.FfnSampleIdeal.Ffn

open Cert.FfnSampleIdeal Cert.FfnSampleIdeal.Gen Idealize.ShloMosaic Idealize.ShloMosaic.TcCoe Idealize.SL.Sem Cert.Rows

section chunks

variable (c : Dev nD) (arg1 : Memref sig .tc .vmem S128x1024 .f32) (harg1 : arg1.IsWhole) (arg2 : Memref sig .tc .vmem S1x1x1x1024 .f32) (harg2 : arg2.IsWhole)
  (arg4 : Memref sig .tc .vmem S1x1x1024x5632 .bf16) (harg4 : arg4.IsWhole) (arg5 : Memref sig .tc .vmem S1x1x2816x1024 .bf16) (harg5 : arg5.IsWhole)
  (arg7 : Memref sig .tc .vmem S128x1024 .f32)
  (x0 : Vec Ideal S128x1024 .f32) (x1 : Vec Ideal S1x1x1x1024 .f32) (x3 : Vec Ideal S1x1x1024x5632 .bf16) (x4 : Vec Ideal S1x1x2816x1024 .bf16)

/-- The normed row of the input block. -/
abbrev hrow (r : Fin 128) : Fin 1024 → EReal := rms (fun k => x0 (ix2 r k)) (fun k => x1 (ix4 0 0 0 k))

/-- What the hidden columns `o, …, o + 255` add to row `r`, column `n`. -/
abbrev piece (r : Fin 128) (n : Fin 1024) (o p : ℕ) (hp : p = 2816 + o ∧ o + 256 ≤ 2816) : EReal :=
  part (hrow x0 x1 r) (fun k u => x3 (ix4 0 0 k u)) (fun u k => x4 (ix4 0 0 u k)) o p hp n

/-- The sum after the first chunk. -/
theorem chunk0 (r : Fin 128) (n : Fin 1024) :
    kernelRun0_A.sl.v45 (F := Ideal) c arg1 harg1 arg2 harg2 arg4 harg4 arg5 harg5 arg7 x0 x1 x3 x4 (ix2 r n) = piece x0 x1 x3 x4 r n 0 2816 (by omega) := by
  unfold kernelRun0_A.sl.v45 kernelRun0_A.sl.HS0_1
  rw [View.readCov_cons_toLoadRect]
  skip
  simp only [View.readAt_eq_ld, harg1.read_unread, harg2.read_unread, harg4.read_unread, harg5.read_unread]
  pointwise [k0_pay4, k0_pay3]
  rfl

/-- The sum after the second chunk is the sum before it and that chunk's part. -/
theorem chunk1 (r : Fin 128) (n : Fin 1024) :
    kernelRun0_A.sl.v63 (F := Ideal) c arg1 harg1 arg2 harg2 arg4 harg4 arg5 harg5 arg7 x0 x1 x3 x4 (ix2 r n) = kernelRun0_A.sl.v45 (F := Ideal) c arg1 harg1 arg2 harg2 arg4 harg4 arg5 harg5 arg7 x0 x1 x3 x4 (ix2 r n) + piece x0 x1 x3 x4 r n 256 3072 (by omega) := by
  unfold kernelRun0_A.sl.v63 kernelRun0_A.sl.HS0_2
  rw [View.readCov_cons_toLoadRect]
  unfold kernelRun0_A.sl.r_1
  simp only [View.readAt_eq_ld, harg1.read_unread, harg2.read_unread, harg4.read_unread, harg5.read_unread]
  pointwise [k0_pay5, k0_pay3]
  rfl

/-- The sum after the third chunk is the sum before it and that chunk's part. -/
theorem chunk2 (r : Fin 128) (n : Fin 1024) :
    kernelRun0_A.sl.v81 (F := Ideal) c arg1 harg1 arg2 harg2 arg4 harg4 arg5 harg5 arg7 x0 x1 x3 x4 (ix2 r n) = kernelRun0_A.sl.v63 (F := Ideal) c arg1 harg1 arg2 harg2 arg4 harg4 arg5 harg5 arg7 x0 x1 x3 x4 (ix2 r n) + piece x0 x1 x3 x4 r n 512 3328 (by omega) := by
  unfold kernelRun0_A.sl.v81 kernelRun0_A.sl.HS0_3
  rw [View.readCov_cons_toLoadRect]
  unfold kernelRun0_A.sl.r_2 kernelRun0_A.sl.r_1
  simp only [View.readAt_eq_ld, harg1.read_unread, harg2.read_unread, harg4.read_unread, harg5.read_unread]
  pointwise [k0_pay7, k0_pay6, k0_pay3]
  rfl

/-- The sum after the fourth chunk is the sum before it and that chunk's part. -/
theorem chunk3 (r : Fin 128) (n : Fin 1024) :
    kernelRun0_A.sl.v99 (F := Ideal) c arg1 harg1 arg2 harg2 arg4 harg4 arg5 harg5 arg7 x0 x1 x3 x4 (ix2 r n) = kernelRun0_A.sl.v81 (F := Ideal) c arg1 harg1 arg2 harg2 arg4 harg4 arg5 harg5 arg7 x0 x1 x3 x4 (ix2 r n) + piece x0 x1 x3 x4 r n 768 3584 (by omega) := by
  unfold kernelRun0_A.sl.v99 kernelRun0_A.sl.HS0_4
  rw [View.readCov_cons_toLoadRect]
  unfold kernelRun0_A.sl.r_1
  simp only [View.readAt_eq_ld, harg1.read_unread, harg2.read_unread, harg4.read_unread, harg5.read_unread]
  pointwise [k0_pay8, k0_pay3]
  rfl

/-- The sum after the fifth chunk is the sum before it and that chunk's part. -/
theorem chunk4 (r : Fin 128) (n : Fin 1024) :
    kernelRun0_A.sl.v117 (F := Ideal) c arg1 harg1 arg2 harg2 arg4 harg4 arg5 harg5 arg7 x0 x1 x3 x4 (ix2 r n) = kernelRun0_A.sl.v99 (F := Ideal) c arg1 harg1 arg2 harg2 arg4 harg4 arg5 harg5 arg7 x0 x1 x3 x4 (ix2 r n) + piece x0 x1 x3 x4 r n 1024 3840 (by omega) := by
  unfold kernelRun0_A.sl.v117 kernelRun0_A.sl.HS0_5
  rw [View.readCov_cons_toLoadRect]
  unfold kernelRun0_A.sl.r_3 kernelRun0_A.sl.r_1
  simp only [View.readAt_eq_ld, harg1.read_unread, harg2.read_unread, harg4.read_unread, harg5.read_unread]
  pointwise [k0_pay10, k0_pay9, k0_pay3]
  rfl

/-- The sum after the sixth chunk is the sum before it and that chunk's part. -/
theorem chunk5 (r : Fin 128) (n : Fin 1024) :
    kernelRun0_A.sl.v135 (F := Ideal) c arg1 harg1 arg2 harg2 arg4 harg4 arg5 harg5 arg7 x0 x1 x3 x4 (ix2 r n) = kernelRun0_A.sl.v117 (F := Ideal) c arg1 harg1 arg2 harg2 arg4 harg4 arg5 harg5 arg7 x0 x1 x3 x4 (ix2 r n) + piece x0 x1 x3 x4 r n 1280 4096 (by omega) := by
  unfold kernelRun0_A.sl.v135 kernelRun0_A.sl.HS0_6
  rw [View.readCov_cons_toLoadRect]
  unfold kernelRun0_A.sl.r_4 kernelRun0_A.sl.r_1
  simp only [View.readAt_eq_ld, harg1.read_unread, harg2.read_unread, harg4.read_unread, harg5.read_unread]
  pointwise [k0_pay12, k0_pay11, k0_pay3]
  rfl

/-- The sum after the seventh chunk is the sum before it and that chunk's part. -/
theorem chunk6 (r : Fin 128) (n : Fin 1024) :
    kernelRun0_A.sl.v153 (F := Ideal) c arg1 harg1 arg2 harg2 arg4 harg4 arg5 harg5 arg7 x0 x1 x3 x4 (ix2 r n) = kernelRun0_A.sl.v135 (F := Ideal) c arg1 harg1 arg2 harg2 arg4 harg4 arg5 harg5 arg7 x0 x1 x3 x4 (ix2 r n) + piece x0 x1 x3 x4 r n 1536 4352 (by omega) := by
  unfold kernelRun0_A.sl.v153 kernelRun0_A.sl.HS0_7
  rw [View.readCov_cons_toLoadRect]
  unfold kernelRun0_A.sl.r_1
  simp only [View.readAt_eq_ld, harg1.read_unread, harg2.read_unread, harg4.read_unread, harg5.read_unread]
  pointwise [k0_pay13, k0_pay3]
  rfl

/-- The sum after the eighth chunk is the sum before it and that chunk's part. -/
theorem chunk7 (r : Fin 128) (n : Fin 1024) :
    kernelRun0_A.sl.v171 (F := Ideal) c arg1 harg1 arg2 harg2 arg4 harg4 arg5 harg5 arg7 x0 x1 x3 x4 (ix2 r n) = kernelRun0_A.sl.v153 (F := Ideal) c arg1 harg1 arg2 harg2 arg4 harg4 arg5 harg5 arg7 x0 x1 x3 x4 (ix2 r n) + piece x0 x1 x3 x4 r n 1792 4608 (by omega) := by
  unfold kernelRun0_A.sl.v171 kernelRun0_A.sl.HS0_8
  rw [View.readCov_cons_toLoadRect]
  unfold kernelRun0_A.sl.r_5 kernelRun0_A.sl.r_1
  simp only [View.readAt_eq_ld, harg1.read_unread, harg2.read_unread, harg4.read_unread, harg5.read_unread]
  pointwise [k0_pay15, k0_pay14, k0_pay3]
  rfl

/-- The sum after the ninth chunk is the sum before it and that chunk's part. -/
theorem chunk8 (r : Fin 128) (n : Fin 1024) :
    kernelRun0_A.sl.v189 (F := Ideal) c arg1 harg1 arg2 harg2 arg4 harg4 arg5 harg5 arg7 x0 x1 x3 x4 (ix2 r n) = kernelRun0_A.sl.v171 (F := Ideal) c arg1 harg1 arg2 harg2 arg4 harg4 arg5 harg5 arg7 x0 x1 x3 x4 (ix2 r n) + piece x0 x1 x3 x4 r n 2048 4864 (by omega) := by
  unfold kernelRun0_A.sl.v189 kernelRun0_A.sl.HS0_9
  rw [View.readCov_cons_toLoadRect]
  unfold kernelRun0_A.sl.r_6 kernelRun0_A.sl.r_1
  simp only [View.readAt_eq_ld, harg1.read_unread, harg2.read_unread, harg4.read_unread, harg5.read_unread]
  pointwise [k0_pay17, k0_pay16, k0_pay3]
  rfl

/-- The sum after the tenth chunk is the sum before it and that chunk's part. -/
theorem chunk9 (r : Fin 128) (n : Fin 1024) :
    kernelRun0_A.sl.v207 (F := Ideal) c arg1 harg1 arg2 harg2 arg4 harg4 arg5 harg5 arg7 x0 x1 x3 x4 (ix2 r n) = kernelRun0_A.sl.v189 (F := Ideal) c arg1 harg1 arg2 harg2 arg4 harg4 arg5 harg5 arg7 x0 x1 x3 x4 (ix2 r n) + piece x0 x1 x3 x4 r n 2304 5120 (by omega) := by
  unfold kernelRun0_A.sl.v207 kernelRun0_A.sl.HS0_10
  rw [View.readCov_cons_toLoadRect]
  unfold kernelRun0_A.sl.r_1
  simp only [View.readAt_eq_ld, harg1.read_unread, harg2.read_unread, harg4.read_unread, harg5.read_unread]
  pointwise [k0_pay18, k0_pay3]
  rfl

/-- The sum after the last chunk is the sum before it and that chunk's part. -/
theorem chunk10 (r : Fin 128) (n : Fin 1024) :
    kernelRun0_A.sl.v212 (F := Ideal) c arg1 harg1 arg2 harg2 arg4 harg4 arg5 harg5 arg7 x0 x1 x3 x4 (ix2 r n) = kernelRun0_A.sl.v207 (F := Ideal) c arg1 harg1 arg2 harg2 arg4 harg4 arg5 harg5 arg7 x0 x1 x3 x4 (ix2 r n) + piece x0 x1 x3 x4 r n 2560 5376 (by omega) := by
  unfold kernelRun0_A.sl.v212 kernelRun0_A.sl.HS0_11
  rw [View.readCov_cons_toLoadRect]
  unfold kernelRun0_A.sl.r_7 kernelRun0_A.sl.r_8 kernelRun0_A.sl.v204 kernelRun0_A.sl.r_1
  simp only [View.readAt_eq_ld, harg1.read_unread, harg2.read_unread, harg4.read_unread, harg5.read_unread]
  pointwise [k0_pay1, k0_pay19, k0_pay20, k0_pay3]
  rfl

/-- The sum after all eleven chunks is the feed-forward row. -/
theorem total (r : Fin 128) (n : Fin 1024) :
    kernelRun0_A.sl.v212 (F := Ideal) c arg1 harg1 arg2 harg2 arg4 harg4 arg5 harg5 arg7 x0 x1 x3 x4 (ix2 r n)
      = down (hrow x0 x1 r) (fun k u => x3 (ix4 0 0 k u)) (fun u k => x4 (ix4 0 0 u k)) n := by
  rw [down_eq, chunk10, chunk9, chunk8, chunk7, chunk6, chunk5, chunk4, chunk3, chunk2, chunk1, chunk0]

end chunks

/-- The output block's entry is the feed-forward block's row of the input blocks. -/
theorem block (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1x1x1024 .f32) (harg3 : arg3.IsWhole) (arg4 : Memref sig .tc .vmem S1x1x1024x5632 .bf16) (harg4 : arg4.IsWhole) (arg5 : Memref sig .tc .vmem S1x1x2816x1024 .bf16) (harg5 : arg5.IsWhole) (arg6 : Memref sig .tc .vmem S128x1024 .f32) (harg6 : arg6.IsWhole) (arg7 : Memref sig .tc .vmem S128x1024 .f32) (harg7 : arg7.IsWhole) (x0 : Vec Ideal S128x1024 .f32) (x1 : Vec Ideal S1x1x1x1024 .f32) (x2 : Vec Ideal S1x1x1x1024 .f32) (x3 : Vec Ideal S1x1x1024x5632 .bf16) (x4 : Vec Ideal S1x1x2816x1024 .bf16) (r : Fin 128) (n : Fin 1024) :
    out0_A_5 c i arg1 harg1 arg2 harg2 arg3 harg3 arg4 harg4 arg5 harg5 arg6 harg6 arg7 harg7 x0 x1 x2 x3 x4 (ix2 r n)
      = ffn (fun k => x0 (ix2 r k)) (fun k => x1 (ix4 0 0 0 k)) (fun k => x2 (ix4 0 0 0 k)) (fun k u => x3 (ix4 0 0 k u)) (fun u k => x4 (ix4 0 0 u k)) n := by
  unfold out0_A_5
  rw [View.read_writes_of_cover VO0_5 _ arg6.view arg6.view.junk _ (cover0_A_5 c i arg1 harg1 arg2 harg2 arg3 harg3 arg4 harg4 arg5 harg5 arg6 harg6 arg7 harg7 x0 x1 x2 x3 x4)]
  unfold kernelRun0_A
  dsimp only
  refine (View.read_writes_cons_unit_of_mem _ _ _ _ _ (ix2 r n) (ix2 r n) rfl (by intro a; match a with | ⟨0, _⟩ => exact (Nat.zero_add _).symm | ⟨1, _⟩ => exact (Nat.zero_add _).symm)).trans ?_
  unfold kernelRun0_A.sl.r kernelRun0_A.sl.v213
  simp only [View.readAt_eq_ld, harg1.read_unread, harg3.read_unread]
  pointwise [k0_pay2]
  simp only [total c arg1 harg1 arg2 harg2 arg4 harg4 arg5 harg5 arg7 x0 x1 x3 x4]
  rfl

end Cert.FfnSampleIdeal.Ffn

end
-- ==== Proof.FfnSampleRef.lean ====
/-
  The feed-forward reference's result, entry by entry.
-/
module

public import proofs.«01_k».proof.Proof.Rows
public import proofs.«01_k».proof.Proof.Gen.FfnSampleReferenceIdeal.Run

@[expose] public section

set_option maxRecDepth 16384

noncomputable section

namespace Cert.FfnSampleReferenceIdeal.Ffn

open Idealize.ShloMosaic Idealize.ShloMosaic.TcCoe Idealize.SL.Sem
open Cert.FfnSampleReferenceIdeal Cert.FfnSampleReferenceIdeal.Value Cert.Rows

variable (m : (ℓ : Loc nD τ sig) → Buf (Elt Ideal) ℓ)

/-- The reference's result at row `r`, column `n` is the feed-forward block's row of the arguments. -/
theorem result (c : Dev nD) (r : Fin 128) (n : Fin 1024) :
    res_main_v42 m c (ix2 r n)
      = ffn (fun k => m ((c.tc : Thread nD τ).loc main_arg0) (ix2 r k)) (fun k => m ((c.tc : Thread nD τ).loc main_arg1) (ix4 3 6 0 k))
          (fun k => m ((c.tc : Thread nD τ).loc main_arg1) (ix4 3 7 0 k)) (fun k u => m ((c.tc : Thread nD τ).loc main_arg2) (ix4 3 1 k u))
          (fun u k => m ((c.tc : Thread nD τ).loc main_arg3) (ix4 3 1 u k)) n := by
  pointwise [res_main_v42]
  rfl

end Cert.FfnSampleReferenceIdeal.Ffn

end
-- ==== Proof.FfnSamplePair.lean ====
/-
  The feed-forward kernel's result array is the feed-forward block's row of its arguments at every row, and so, at equal
  arguments, the reference's result.
-/
module

public import proofs.«01_k».proof.Proof.FfnSamplePoint
public import proofs.«01_k».proof.Proof.FfnSampleRef
public import proofs.«01_k».proof.Proof.Gen.FfnSampleIdeal.Value

@[expose] public section

set_option maxRecDepth 16384

noncomputable section

namespace Cert.FfnSampleIdeal.Ffn

open Idealize.ShloMosaic Idealize.ShloMosaic.TcCoe Idealize.SL.Sem Cert.Rows
open Cert.FfnSampleIdeal Cert.FfnSampleIdeal.Gen

variable (m : (ℓ : Loc nD τ sig) → Buf (Elt Ideal) ℓ)

/-- Which block each window holds at grid point `t`: all rows of the input and of the output, the two gains and the
    two weights of the one layer. -/
theorem idx : ∀ t : Fin cfg0.N, win0_0.index t = ![t.val, 0] ∧ win0_1.index t = ![3, 6, 0, 0] ∧ win0_2.index t = ![3, 7, 0, 0]
    ∧ win0_3.index t = ![3, 1, 0, 0] ∧ win0_4.index t = ![3, 1, 0, 0] ∧ win0_5.index t = ![t.val, 0] :=
  (by decide +kernel : ∀ t : Fin grid0.N, _)

/-- The result array as one function of the argument arrays. -/
def G (c : Dev nD) : S128x1024.Idx → EReal := fun i =>
  ffn (fun k => m ((c.tc : Thread nD τ).loc main_arg0) (ix2 (i 0) k)) (fun k => m ((c.tc : Thread nD τ).loc main_arg1) (ix4 3 6 0 k))
    (fun k => m ((c.tc : Thread nD τ).loc main_arg1) (ix4 3 7 0 k)) (fun k u => m ((c.tc : Thread nD τ).loc main_arg2) (ix4 3 1 k u))
    (fun u k => m ((c.tc : Thread nD τ).loc main_arg3) (ix4 3 1 u k)) (i 1)

/-- The feed-forward row is determined by the entries it reads. -/
theorem ffn_congr {x x' g0 g0' g1 g1' : Fin 1024 → EReal} {w w' : Fin 1024 → Fin 5632 → EReal} {d d' : Fin 2816 → Fin 1024 → EReal} {n n' : Fin 1024}
    (hx : ∀ k, x k = x' k) (h0 : ∀ k, g0 k = g0' k) (h1 : ∀ k, g1 k = g1' k) (hw : ∀ k u, w k u = w' k u) (hd : ∀ u k, d u k = d' u k) (hn : n = n') :
    ffn x g0 g1 w d n = ffn x' g0' g1' w' d' n' := by
  rw [funext hx, funext h0, funext h1, (funext fun k => funext (hw k) : w = w'), (funext fun u => funext (hd u) : d = d'), hn]

/-- What grid point `t` leaves at an entry of its block is `G` at the place the entry has in the array. -/
theorem point (c : Dev nD) (t : Fin cfg0.N) (y : S128x1024.Idx) :
    outsAt0 m c t y = G m c (((cfg0.win 5).blk t).view.emb y) := by
  idx_vars y
  rw [outsAt0]
  refine (block c _ _ _ _ _ _ _ _ _ _ _ _ _ _ _ _ _ _ _ _ y0 y1).trans ?_
  unfold G
  refine ffn_congr (fun k => ?_) (fun k => ?_) (fun k => ?_) (fun k u => ?_) (fun u k => ?_) ?_
  · blk_ext [iblk, V, idx t]
  · blk_ext [iblk, V, idx t]
  · blk_ext [iblk, V, idx t]
  · blk_ext [iblk, V, idx t]
  · blk_ext [iblk, V, idx t]
  · refine Fin.ext ?_
    blk_simp [idx t]

/-- After the run the output array is `G`. -/
theorem final (c : Dev nD) : (dats m 0 c).arrAt 5 cfg0.N = G m c := by
  refine (dats m 0 c).arrAt_eq_of_covers 5 _ (by decide +kernel) fun t _ y => ?_
  blk_simp
  rw [after0_5]
  exact point m c t y

/-- At equal arguments the kernel's array is the reference's result. -/
theorem pair (m' : (ℓ : Loc Cert.FfnSampleReferenceIdeal.nD Cert.FfnSampleReferenceIdeal.τ Cert.FfnSampleReferenceIdeal.sig) → Buf (Elt Ideal) ℓ) (c : Dev nD)
    (h0 : m' ((c.tc : Thread Cert.FfnSampleReferenceIdeal.nD Cert.FfnSampleReferenceIdeal.τ).loc Cert.FfnSampleReferenceIdeal.main_arg0) = m ((c.tc : Thread nD τ).loc main_arg0))
    (h1 : m' ((c.tc : Thread Cert.FfnSampleReferenceIdeal.nD Cert.FfnSampleReferenceIdeal.τ).loc Cert.FfnSampleReferenceIdeal.main_arg1) = m ((c.tc : Thread nD τ).loc main_arg1))
    (h2 : m' ((c.tc : Thread Cert.FfnSampleReferenceIdeal.nD Cert.FfnSampleReferenceIdeal.τ).loc Cert.FfnSampleReferenceIdeal.main_arg2) = m ((c.tc : Thread nD τ).loc main_arg2))
    (h3 : m' ((c.tc : Thread Cert.FfnSampleReferenceIdeal.nD Cert.FfnSampleReferenceIdeal.τ).loc Cert.FfnSampleReferenceIdeal.main_arg3) = m ((c.tc : Thread nD τ).loc main_arg3)) :
    Cert.FfnSampleReferenceIdeal.Value.res_main_v42 m' c = (dats m 0 c).arrAt 5 cfg0.N := by
  rw [final]
  funext i
  idx_vars i
  refine (Cert.FfnSampleReferenceIdeal.Ffn.result m' c i0 i1).trans ?_
  rw [h0, h1, h2, h3]
  rfl

end Cert.FfnSampleIdeal.Ffn

end
-- ==== Proof.InprojSamplePoint.lean ====
/-
  What the input projection's body leaves in its nine output blocks.
-/
module

public import proofs.«01_k».proof.Proof.InprojRows
public import proofs.«01_k».proof.Proof.Gen.InprojSampleIdeal.Frame
public import Idealize.ShloMosaic.Lib.Pipeline.ValueKit
public import Idealize.ShloMosaic.Lib.WritesUnit

@[expose] public section

set_option maxRecDepth 16384

noncomputable section

namespace Cert.InprojSampleIdeal.Inproj

open Cert.InprojSampleIdeal Cert.InprojSampleIdeal.Gen Idealize.ShloMosaic Idealize.ShloMosaic.TcCoe Idealize.SL.Sem Cert.Rows Cert.InprojRows

/-- Eight copies of a table side by side, read at a place. -/
theorem eight (T : S128x128.Idx → EReal) :
    concatenate S128x1024 1 [⟨S128x128, T⟩, ⟨S128x128, T⟩, ⟨S128x128, T⟩, ⟨S128x128, T⟩, ⟨S128x128, T⟩, ⟨S128x128, T⟩, ⟨S128x128, T⟩, ⟨S128x128, T⟩] concatenates_S128x128_S128x128_S128x128_S128x128_S128x128_S128x128_S128x128_S128x128_S128x1024_d1
      = fun i => T (ix2 (i 0) ⟨(i 1).val % 128, Nat.mod_lt _ (by decide)⟩) := by
  funext i
  exact concatenate_replicate_apply 1 8 T concatenates_S128x128_S128x128_S128x128_S128x128_S128x128_S128x128_S128x128_S128x128_S128x1024_d1 rfl i (ix2 (i 0) ⟨(i 1).val % 128, Nat.mod_lt _ (by decide)⟩) rfl (fun b hb => match b, hb with
    | ⟨0, _⟩, _ => rfl
    | ⟨1, _⟩, hb => absurd rfl hb)

/-- The gates are their columns of the projected row. -/
theorem block13 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨3840 + n.val, by omega⟩ := by
  unfold out0_A_13
  rw [View.read_writes_of_cover VO0_13 _ arg14.view arg14.view.junk _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_11 kernelRun0_A.sl.r
  simp only [View.readAt_eq_ld, harg1.read_unread, harg2.read_unread, harg3.read_unread]
  pointwise [k0_pay18, k0_pay1]
  rfl

/-- The recurrence's gating columns, as they are. -/
theorem block15 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨3328 + n.val, by omega⟩ := by
  unfold out0_A_15
  rw [View.read_writes_of_cover VO0_15 _ arg16.view arg16.view.junk _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay17, k0_pay1]
  rfl

/-- The recurrence's query, key and value columns, as they are. -/
theorem block14 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 1536) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨1792 + n.val, by omega⟩ := by
  unfold out0_A_14
  rw [View.read_writes_of_cover VO0_14 _ arg15.view arg15.view.junk _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay16, k0_pay1]
  rfl

/-- The selected value, as it is. -/
theorem block11 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = (pr (fun k => x0 (ix2 r k)) (fun k => x1 (ix4 0 0 0 k)) (fun k u => x2 (ix3 0 k u))) ⟨1408 + n.val, by omega⟩ := by
  unfold out0_A_11
  rw [View.read_writes_of_cover VO0_11 _ arg12.view arg12.view.junk _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_6 kernelRun0_A.sl.r
  simp only [View.readAt_eq_ld, harg1.read_unread, harg2.read_unread, harg3.read_unread]
  pointwise [k0_pay13, k0_pay5, k0_pay3, k0_pay1]
  unfold pr rms
  simp only [← Nat.add_assoc, Nat.reduceAdd] <;> rfl

/-- The window row begins with the turned window key. -/
theorem block9a (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1536 (by omega) n := by
  unfold out0_A_9
  rw [View.read_writes_of_cover VO0_9 _ arg10.view arg10.view.junk _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay6, k0_pay3, k0_pay1]
  unfold turn
  unfold pr rms
  simp only [← Nat.add_assoc, Nat.reduceAdd] <;> rfl

/-- The window row ends with the window value. -/
theorem block9b (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = (pr (fun k => x0 (ix2 r k)) (fun k => x1 (ix4 0 0 0 k)) (fun k u => x2 (ix3 0 k u))) ⟨1664 + n.val, by omega⟩ := by
  unfold out0_A_9
  rw [View.read_writes_of_cover VO0_9 _ arg10.view arg10.view.junk _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r
  simp only [View.readAt_eq_ld, harg1.read_unread, harg2.read_unread, harg3.read_unread]
  pointwise [k0_pay7, k0_pay3, k0_pay1]
  unfold pr rms
  simp only [← Nat.add_assoc, Nat.reduceAdd] <;> rfl

/-- The rounded window row begins with the turned window key. -/
theorem block12a (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1536 (by omega) n := by
  unfold out0_A_12
  rw [View.read_writes_of_cover VO0_12 _ arg13.view arg13.view.junk _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_7 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay14, k0_pay6, k0_pay3, k0_pay1]
  unfold turn
  unfold pr rms
  simp only [← Nat.add_assoc, Nat.reduceAdd] <;> rfl

/-- The rounded window row ends with the window value. -/
theorem block12b (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = (pr (fun k => x0 (ix2 r k)) (fun k => x1 (ix4 0 0 0 k)) (fun k u => x2 (ix3 0 k u))) ⟨1664 + n.val, by omega⟩ := by
  unfold out0_A_12
  rw [View.read_writes_of_cover VO0_12 _ arg13.view arg13.view.junk _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r_8 kernelRun0_A.sl.r
  simp only [View.readAt_eq_ld, harg1.read_unread, harg2.read_unread, harg3.read_unread]
  pointwise [k0_pay15, k0_pay7, k0_pay3, k0_pay1]
  unfold pr rms
  simp only [← Nat.add_assoc, Nat.reduceAdd] <;> rfl

/-- The cached row begins with the two heads to compress. -/
theorem block8a (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 256) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = (pr (fun k => x0 (ix2 r k)) (fun k => x1 (ix4 0 0 0 k)) (fun k u => x2 (ix3 0 k u))) ⟨1024 + n.val, by omega⟩ := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 384 by omega))).trans ?_
  refine (View.read_writes_cons_unit_of_not_mem _ _ _ _ _ _ rfl 1 (Or.inl (show n.val < 256 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r
  simp only [View.readAt_eq_ld, harg1.read_unread, harg2.read_unread, harg3.read_unread]
  pointwise [k0_pay8, k0_pay3, k0_pay1]
  unfold pr rms
  simp only [← Nat.add_assoc, Nat.reduceAdd] <;> rfl

/-- Then the turned selected key. -/
theorem block8b (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨256 + n.val, by omega⟩) = turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show 256 + n.val < 384 by omega))).trans ?_
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread]
  pointwise [k0_pay4, k0_pay3, k0_pay1]
  unfold turn
  unfold pr rms
  simp only [← Nat.add_assoc, Nat.reduceAdd] <;> rfl

/-- Then the selected value. -/
theorem block8c (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨384 + n.val, by omega⟩) = (pr (fun k => x0 (ix2 r k)) (fun k => x1 (ix4 0 0 0 k)) (fun k u => x2 (ix3 0 k u))) ⟨1408 + n.val, by omega⟩ := by
  unfold out0_A_8
  rw [View.read_writes_of_cover VO0_8 _ arg9.view arg9.view.junk _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r
  simp only [View.readAt_eq_ld, harg1.read_unread, harg2.read_unread, harg3.read_unread]
  pointwise [k0_pay5, k0_pay3, k0_pay1]
  unfold pr rms
  simp only [← Nat.add_assoc, Nat.reduceAdd] <;> rfl

/-- The first half of the widened key row: the turned selected key below column 64, the table from there on. -/
theorem block10a (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨n.val, by omega⟩) = Scalar.select (IntOp.cmpi CmpIPredicate.slt (BitVec.ofNat 32 n.val) 64#32) (turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n) (x6 (ix2 r n)) := by
  unfold out0_A_10
  rw [View.read_writes_of_cover VO0_10 _ arg11.view arg11.view.junk _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_not_mem _ _ _ _ _ _ rfl 1 (Or.inl (show n.val < 128 by omega))).trans ?_
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_10 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread, harg7.read_unread]
  pointwise [k0_pay11, k0_pay10, k0_pay9, k0_pay4, k0_pay3, k0_pay1]
  unfold turn
  unfold pr rms
  simp only [← Nat.add_assoc, Nat.reduceAdd] <;> rfl

/-- The second half: the table below column 64, the turned selected key from there on. -/
theorem block10b (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r ⟨128 + n.val, by omega⟩) = Scalar.select (IntOp.cmpi CmpIPredicate.slt (BitVec.ofNat 32 n.val) 64#32) (x6 (ix2 r n)) (turn (pr (fun k => x0 (ix2 r k)) (fun k => x1 (ix4 0 0 0 k)) (fun k u => x2 (ix3 0 k u))) (fun u => x3 (ix2 r u)) (fun u => x4 (ix2 r u)) (fun u => x5 (ix2 r u)) 1280 (by omega) n) := by
  unfold out0_A_10
  rw [View.read_writes_of_cover VO0_10 _ arg11.view arg11.view.junk _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact rfl)).trans ?_
  unfold kernelRun0_A.sl.r_5 kernelRun0_A.sl.r_9 kernelRun0_A.sl.r kernelRun0_A.sl.r_1 kernelRun0_A.sl.r_2 kernelRun0_A.sl.r_3
  simp only [View.readAt_eq_ld, harg1.read_unread, harg2.read_unread, harg3.read_unread, harg4.read_unread, harg5.read_unread, harg6.read_unread, harg7.read_unread]
  pointwise [k0_pay12, k0_pay9, k0_pay4, k0_pay3, k0_pay1]
  unfold turn
  unfold pr rms
  simp only [← Nat.add_assoc, Nat.reduceAdd] <;> rfl

/-- The query row. -/
theorem block7 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 1024) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = qrow (pr (fun k => x0 (ix2 r k)) (fun k => x1 (ix4 0 0 0 k)) (fun k u => x2 (ix3 0 k u))) (fun u => x3 (ix2 r u)) (fun u => x4 (ix2 r u)) (fun u => x5 (ix2 r u)) n := by
  unfold out0_A_7
  rw [View.read_writes_of_cover VO0_7 _ arg8.view arg8.view.junk _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.read_writes_cons_unit_of_mem _ _ _ _ _ _ (ix2 r n) rfl (by intro a; match a with | ⟨0, _⟩ => exact (Nat.zero_add _).symm | ⟨1, _⟩ => exact (Nat.zero_add _).symm)).trans ?_
  unfold kernelRun0_A.sl.r_4
  simp only [View.readAt_eq_ld, harg1.read_unread, harg2.read_unread, harg3.read_unread, harg4.read_unread, harg5.read_unread, harg6.read_unread]
  unfold k0_pay2
  dsimp only
  rw [eight, eight, eight]
  pointwise [k0_pay1]
  unfold qrow pr rms
  rfl

end Cert.InprojSampleIdeal.Inproj

end
-- ==== Proof.InprojSampleFinal.lean ====
/-
  The input projection's nine result arrays as functions of its argument arrays, on the kernel's side.
-/
module

public import proofs.«01_k».proof.Proof.InprojSamplePoint
public import proofs.«01_k».proof.Proof.Gen.InprojSampleIdeal.Value
public import Idealize.ShloMosaic.Lib.Pipeline.ValueKit

@[expose] public section

set_option maxRecDepth 16384

noncomputable section

namespace Cert.InprojSampleIdeal.Inproj

open Cert.InprojSampleIdeal Cert.InprojSampleIdeal.Gen Idealize.ShloMosaic Idealize.ShloMosaic.TcCoe Idealize.SL.Sem Cert.Rows Cert.InprojRows

/-- The whole window row. -/
theorem block9 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 256) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = winrow (pr (fun k => x0 (ix2 r k)) (fun k => x1 (ix4 0 0 0 k)) (fun k u => x2 (ix3 0 k u))) (fun u => x3 (ix2 r u)) (fun u => x4 (ix2 r u)) (fun u => x5 (ix2 r u)) n := by
  unfold winrow
  by_cases h : n.val < 128
  · rw [dif_pos h]
    exact block9a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [dif_neg h]
    refine (congrArg (fun v => out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block9b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    exact congrArg _ (Fin.ext (by show 1664 + (n.val - 128) = 1536 + n.val; omega))

/-- The whole rounded window row. -/
theorem block12 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 256) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = winrow (pr (fun k => x0 (ix2 r k)) (fun k => x1 (ix4 0 0 0 k)) (fun k u => x2 (ix3 0 k u))) (fun u => x3 (ix2 r u)) (fun u => x4 (ix2 r u)) (fun u => x5 (ix2 r u)) n := by
  unfold winrow
  by_cases h : n.val < 128
  · rw [dif_pos h]
    exact block12a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [dif_neg h]
    refine (congrArg (fun v => out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block12b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    exact congrArg _ (Fin.ext (by show 1664 + (n.val - 128) = 1536 + n.val; omega))

/-- The whole cached row. -/
theorem block8 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 512) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = rowsrow (pr (fun k => x0 (ix2 r k)) (fun k => x1 (ix4 0 0 0 k)) (fun k u => x2 (ix3 0 k u))) (fun u => x3 (ix2 r u)) (fun u => x4 (ix2 r u)) (fun u => x5 (ix2 r u)) n := by
  unfold rowsrow
  by_cases h : n.val < 256
  · rw [if_pos h]
    exact block8a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩
  · rw [if_neg h]
    by_cases h' : n.val < 384
    · rw [dif_pos h']
      refine (congrArg (fun v => out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 256 + (n.val - 256); omega) : n = ⟨256 + (n.val - 256), by omega⟩)).trans ((block8b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 256, by omega⟩).trans ?_)
      rfl
    · rw [dif_neg h']
      refine (congrArg (fun v => out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 384 + (n.val - 384); omega) : n = ⟨384 + (n.val - 384), by omega⟩)).trans ((block8c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 384, by omega⟩).trans ?_)
      exact congrArg _ (Fin.ext (by show 1408 + (n.val - 384) = 1024 + n.val; omega))

/-- Below column 64 the first value, from there on the second. -/
theorem pick (n : Fin 128) (a b : EReal) :
    Scalar.select (IntOp.cmpi CmpIPredicate.slt (BitVec.ofNat 32 n.val) 64#32) a b = if n.val < 64 then a else b := by
  have h : ∀ n : Fin 128, IntOp.cmpi CmpIPredicate.slt (BitVec.ofNat 32 n.val) 64#32 = if n.val < 64 then 1#1 else 0#1 := by decide +kernel
  rw [h n]
  by_cases g : n.val < 64
  · rw [if_pos g, if_pos g]
    rfl
  · rw [if_neg g, if_neg g]
    rfl

/-- The whole widened key row. -/
theorem block10 (c : Dev nD) (i : grid0.Coords) (arg1 : Memref sig .tc .vmem S128x1024 .f32) (harg1 : arg1.IsWhole) (arg2 : Memref sig .tc .vmem S1x1x1x1024 .f32) (harg2 : arg2.IsWhole) (arg3 : Memref sig .tc .vmem S1x1024x3968 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S128x512 .f32) (harg9 : arg9.IsWhole) (arg10 : Memref sig .tc .vmem S128x256 .f32) (harg10 : arg10.IsWhole) (arg11 : Memref sig .tc .vmem S128x256 .bf16) (harg11 : arg11.IsWhole) (arg12 : Memref sig .tc .vmem S128x128 .bf16) (harg12 : arg12.IsWhole) (arg13 : Memref sig .tc .vmem S128x256 .bf16) (harg13 : arg13.IsWhole) (arg14 : Memref sig .tc .vmem S128x128 .f32) (harg14 : arg14.IsWhole) (arg15 : Memref sig .tc .vmem S128x1536 .f32) (harg15 : arg15.IsWhole) (arg16 : Memref sig .tc .vmem S128x512 .f32) (harg16 : arg16.IsWhole) (x0 : Vec Ideal S128x1024 .f32) (x1 : Vec Ideal S1x1x1x1024 .f32) (x2 : Vec Ideal S1x1024x3968 .bf16) (x3 : Vec Ideal S128x128 .f32) (x4 : Vec Ideal S128x128 .f32) (x5 : Vec Ideal S128x128 .f32) (x6 : Vec Ideal S128x128 .f32) (r : Fin 128) (n : Fin 256) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r n) = kaugrow (pr (fun k => x0 (ix2 r k)) (fun k => x1 (ix4 0 0 0 k)) (fun k u => x2 (ix3 0 k u))) (fun u => x3 (ix2 r u)) (fun u => x4 (ix2 r u)) (fun u => x5 (ix2 r u)) (fun u => x6 (ix2 r u)) n := by
  unfold kaugrow
  by_cases h : n.val < 128
  · refine (block10a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val, h⟩).trans ((pick _ _ _).trans ?_)
    by_cases g : n.val < 64
    · rw [if_pos g, dif_pos g]
    · rw [if_neg g, dif_neg g, dif_pos h]
  · refine (congrArg (fun v => out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 r v)) (Fin.ext (by show n.val = 128 + (n.val - 128); omega) : n = ⟨128 + (n.val - 128), by omega⟩)).trans ((block10b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 r ⟨n.val - 128, by omega⟩).trans ?_)
    refine (pick _ _ _).trans ?_
    rw [dif_neg (by omega), dif_neg h]
    by_cases g : n.val < 192
    · rw [if_pos (by show n.val - 128 < 64; omega), dif_pos g]
    · rw [if_neg (by show ¬ n.val - 128 < 64; omega), dif_neg g]

/-- The projected row `r` of the arguments. -/
def prow (X : S128x1024.Idx → EReal) (D : S4x8x1x1024.Idx → EReal) (W : S4x1024x3968.Idx → EReal) (r : Fin 128) : Fin 3968 → EReal :=
  pr (fun k => X (ix2 r k)) (fun k => D (ix4 3 2 0 k)) (fun k u => W (ix3 3 k u))

/-- A table's row at the position of row `r`. -/
def tab (T : S128x128.Idx → EReal) (r : Fin 128) : Fin 128 → EReal := fun u => T (ix2 ⟨r.val % 128, Nat.mod_lt _ (by decide)⟩ u)

section vals

variable (X : S128x1024.Idx → EReal) (D : S4x8x1x1024.Idx → EReal) (W : S4x1024x3968.Idx → EReal) (C S T E : S128x128.Idx → EReal)

/-- The queries. -/
def val7 : S128x1024.Idx → EReal := fun i => qrow (prow X D W (i 0)) (tab C (i 0)) (tab S (i 0)) (tab T (i 0)) (i 1)

/-- The cached rows. -/
def val8 : S128x512.Idx → EReal := fun i => rowsrow (prow X D W (i 0)) (tab C (i 0)) (tab S (i 0)) (tab T (i 0)) (i 1)

/-- The window rows. -/
def val9 : S128x256.Idx → EReal := fun i => winrow (prow X D W (i 0)) (tab C (i 0)) (tab S (i 0)) (tab T (i 0)) (i 1)

/-- The widened keys. -/
def val10 : S128x256.Idx → EReal := fun i => kaugrow (prow X D W (i 0)) (tab C (i 0)) (tab S (i 0)) (tab T (i 0)) (tab E (i 0)) (i 1)

/-- The selected values. -/
def val11 : S128x128.Idx → EReal := fun i => prow X D W (i 0) ⟨1408 + (i 1).val, Nat.lt_of_lt_of_le (Nat.add_lt_add_left (i 1).isLt _) (by decide)⟩

/-- The window rows, rounded. -/
def val12 : S128x256.Idx → EReal := fun i => winrow (prow X D W (i 0)) (tab C (i 0)) (tab S (i 0)) (tab T (i 0)) (i 1)

/-- The gates. -/
def val13 : S128x128.Idx → EReal := fun i => prow X D W (i 0) ⟨3840 + (i 1).val, Nat.lt_of_lt_of_le (Nat.add_lt_add_left (i 1).isLt _) (by decide)⟩

/-- The recurrence's query, key and value columns. -/
def val14 : S128x1536.Idx → EReal := fun i => prow X D W (i 0) ⟨1792 + (i 1).val, Nat.lt_of_lt_of_le (Nat.add_lt_add_left (i 1).isLt _) (by decide)⟩

/-- The recurrence's gating columns. -/
def val15 : S128x512.Idx → EReal := fun i => prow X D W (i 0) ⟨3328 + (i 1).val, Nat.lt_of_lt_of_le (Nat.add_lt_add_left (i 1).isLt _) (by decide)⟩

end vals

variable (m : (ℓ : Loc nD τ sig) → Buf (Elt Ideal) ℓ)

/-- Which block each window holds at grid point `t`: all rows of the input and the outputs, the layer's gain and
    weight, and the tables' rows at the positions of those rows in their sequence. -/
theorem idx : ∀ t : Fin cfg0.N, win0_0.index t = ![t.val, 0] ∧ win0_1.index t = ![3, 2, 0, 0] ∧ win0_2.index t = ![3, 0, 0]
    ∧ win0_3.index t = ![t.val % 8, 0] ∧ win0_4.index t = ![t.val % 8, 0] ∧ win0_5.index t = ![t.val % 8, 0] ∧ win0_6.index t = ![t.val % 8, 0]
    ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- Row `r` of block `t` in the arrays. -/
def row (t : Fin cfg0.N) (r : Fin 128) : Fin 128 := ⟨128 * t.val + r.val, by have h : t.val < 1 := N_0 ▸ t.isLt; omega⟩

/-- The projected row of the blocks at point `t` is the arrays'. -/
theorem prow_blk (c : Dev nD) (t : Fin cfg0.N) (r : Fin 128) :
    pr (fun k => iblk m c 0 t (ix2 r k)) (fun k => iblk m c 1 t (ix4 0 0 0 k)) (fun k u => iblk m c 2 t (ix3 0 k u)) = prow (m ((c.tc : Thread nD τ).loc main_arg0)) (m ((c.tc : Thread nD τ).loc main_arg1)) (m ((c.tc : Thread nD τ).loc main_arg2)) (row t r) := by
  unfold prow
  refine congr (congr (congrArg pr (funext fun k => ?_)) (funext fun k => ?_)) (funext fun k => funext fun u => ?_)
  · unfold row
    blk_ext [iblk, V, idx t]
  · blk_ext [iblk, V, idx t]
  · blk_ext [iblk, V, idx t]

/-- A table's row of the block at point `t` is the array's at the row's position. -/
theorem tab_blk3 (c : Dev nD) (t : Fin cfg0.N) (r : Fin 128) : (fun u => iblk m c 3 t (ix2 r u)) = tab (m ((c.tc : Thread nD τ).loc main_arg3)) (row t r) := by
  funext u
  have h1 : t.val < 1 := N_0 ▸ t.isLt
  have e : (128 * t.val + r.val) % 128 = 128 * (t.val % 8) + r.val := by omega
  have p : ∀ h, (ix2 ⟨(128 * t.val + r.val) % 128, h⟩ u : S128x128.Idx) = ix2 ⟨128 * (t.val % 8) + r.val, e ▸ h⟩ u := fun h => by congr 1; exact Fin.ext e
  unfold tab row
  rw [p]
  blk_ext [iblk, V, idx t]

/-- A table's row of the block at point `t` is the array's at the row's position. -/
theorem tab_blk4 (c : Dev nD) (t : Fin cfg0.N) (r : Fin 128) : (fun u => iblk m c 4 t (ix2 r u)) = tab (m ((c.tc : Thread nD τ).loc main_arg4)) (row t r) := by
  funext u
  have h1 : t.val < 1 := N_0 ▸ t.isLt
  have e : (128 * t.val + r.val) % 128 = 128 * (t.val % 8) + r.val := by omega
  have p : ∀ h, (ix2 ⟨(128 * t.val + r.val) % 128, h⟩ u : S128x128.Idx) = ix2 ⟨128 * (t.val % 8) + r.val, e ▸ h⟩ u := fun h => by congr 1; exact Fin.ext e
  unfold tab row
  rw [p]
  blk_ext [iblk, V, idx t]

/-- A table's row of the block at point `t` is the array's at the row's position. -/
theorem tab_blk5 (c : Dev nD) (t : Fin cfg0.N) (r : Fin 128) : (fun u => iblk m c 5 t (ix2 r u)) = tab (m ((c.tc : Thread nD τ).loc main_arg5)) (row t r) := by
  funext u
  have h1 : t.val < 1 := N_0 ▸ t.isLt
  have e : (128 * t.val + r.val) % 128 = 128 * (t.val % 8) + r.val := by omega
  have p : ∀ h, (ix2 ⟨(128 * t.val + r.val) % 128, h⟩ u : S128x128.Idx) = ix2 ⟨128 * (t.val % 8) + r.val, e ▸ h⟩ u := fun h => by congr 1; exact Fin.ext e
  unfold tab row
  rw [p]
  blk_ext [iblk, V, idx t]

/-- A table's row of the block at point `t` is the array's at the row's position. -/
theorem tab_blk6 (c : Dev nD) (t : Fin cfg0.N) (r : Fin 128) : (fun u => iblk m c 6 t (ix2 r u)) = tab (m ((c.tc : Thread nD τ).loc main_arg6)) (row t r) := by
  funext u
  have h1 : t.val < 1 := N_0 ▸ t.isLt
  have e : (128 * t.val + r.val) % 128 = 128 * (t.val % 8) + r.val := by omega
  have p : ∀ h, (ix2 ⟨(128 * t.val + r.val) % 128, h⟩ u : S128x128.Idx) = ix2 ⟨128 * (t.val % 8) + r.val, e ▸ h⟩ u := fun h => by congr 1; exact Fin.ext e
  unfold tab row
  rw [p]
  blk_ext [iblk, V, idx t]

/-- What point `t` leaves at an entry of its block. -/
theorem point7 (c : Dev nD) (t : Fin cfg0.N) (y : S128x1024.Idx) :
    (outsAt0 m c t).1 y = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 7).blk t).view.emb y) := by
  idx_vars y
  have e : ((cfg0.win 7).blk t).view.emb (ix2 y0 y1) = ix2 (row t y0) y1 := by
    unfold row
    blk_ext [iblk, V, idx t]
  rw [e, outsAt0]
  dsimp only
  refine (block7 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final7 (c : Dev nD) : (dats m 0 c).arrAt 7 cfg0.N = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  blk_simp
  rw [after0_7]
  exact point7 m c t y

/-- What point `t` leaves at an entry of its block. -/
theorem point8 (c : Dev nD) (t : Fin cfg0.N) (y : S128x512.Idx) :
    (outsAt0 m c t).2.1 y = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 8).blk t).view.emb y) := by
  idx_vars y
  have e : ((cfg0.win 8).blk t).view.emb (ix2 y0 y1) = ix2 (row t y0) y1 := by
    unfold row
    blk_ext [iblk, V, idx t]
  rw [e, outsAt0]
  dsimp only
  refine (block8 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final8 (c : Dev nD) : (dats m 0 c).arrAt 8 cfg0.N = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t _ y => ?_
  blk_simp
  rw [after0_8]
  exact point8 m c t y

/-- What point `t` leaves at an entry of its block. -/
theorem point9 (c : Dev nD) (t : Fin cfg0.N) (y : S128x256.Idx) :
    (outsAt0 m c t).2.2.1 y = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 9).blk t).view.emb y) := by
  idx_vars y
  have e : ((cfg0.win 9).blk t).view.emb (ix2 y0 y1) = ix2 (row t y0) y1 := by
    unfold row
    blk_ext [iblk, V, idx t]
  rw [e, outsAt0]
  dsimp only
  refine (block9 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final9 (c : Dev nD) : (dats m 0 c).arrAt 9 cfg0.N = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t _ y => ?_
  blk_simp
  rw [after0_9]
  exact point9 m c t y

/-- What point `t` leaves at an entry of its block. -/
theorem point10 (c : Dev nD) (t : Fin cfg0.N) (y : S128x256.Idx) :
    (outsAt0 m c t).2.2.2.1 y = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 10).blk t).view.emb y) := by
  idx_vars y
  have e : ((cfg0.win 10).blk t).view.emb (ix2 y0 y1) = ix2 (row t y0) y1 := by
    unfold row
    blk_ext [iblk, V, idx t]
  rw [e, outsAt0]
  dsimp only
  refine (block10 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0, tab_blk6 m c t y0]
  rfl

/-- The array after the run. -/
theorem final10 (c : Dev nD) : (dats m 0 c).arrAt 10 cfg0.N = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t _ y => ?_
  blk_simp
  rw [after0_10]
  exact point10 m c t y

/-- What point `t` leaves at an entry of its block. -/
theorem point11 (c : Dev nD) (t : Fin cfg0.N) (y : S128x128.Idx) :
    (outsAt0 m c t).2.2.2.2.1 y = val11 (m ((c.tc : Thread nD τ).loc main_arg0)) (m ((c.tc : Thread nD τ).loc main_arg1)) (m ((c.tc : Thread nD τ).loc main_arg2)) (((cfg0.win 11).blk t).view.emb y) := by
  idx_vars y
  have e : ((cfg0.win 11).blk t).view.emb (ix2 y0 y1) = ix2 (row t y0) y1 := by
    unfold row
    blk_ext [iblk, V, idx t]
  rw [e, outsAt0]
  dsimp only
  refine (block11 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final11 (c : Dev nD) : (dats m 0 c).arrAt 11 cfg0.N = val11 (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  blk_simp
  rw [after0_11]
  exact point11 m c t y

/-- What point `t` leaves at an entry of its block. -/
theorem point12 (c : Dev nD) (t : Fin cfg0.N) (y : S128x256.Idx) :
    (outsAt0 m c t).2.2.2.2.2.1 y = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 12).blk t).view.emb y) := by
  idx_vars y
  have e : ((cfg0.win 12).blk t).view.emb (ix2 y0 y1) = ix2 (row t y0) y1 := by
    unfold row
    blk_ext [iblk, V, idx t]
  rw [e, outsAt0]
  dsimp only
  refine (block12 c _ _ _ _ _ _ _ _ _ _ _ _ _ _ _ _ _ _ _ _ _ _ _ _ _ _ _ _ _ _ _ _ _ _ _ _ _ _ _ _ y0 y1).trans ?_
  rw [prow_blk m c t y0, tab_blk3 m c t y0, tab_blk4 m c t y0, tab_blk5 m c t y0]
  rfl

/-- The array after the run. -/
theorem final12 (c : Dev nD) : (dats m 0 c).arrAt 12 cfg0.N = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 12 _ (by decide +kernel) fun t _ y => ?_
  blk_simp
  rw [after0_12]
  exact point12 m c t y

/-- What point `t` leaves at an entry of its block. -/
theorem point13 (c : Dev nD) (t : Fin cfg0.N) (y : S128x128.Idx) :
    (outsAt0 m c t).2.2.2.2.2.2.1 y = val13 (m ((c.tc : Thread nD τ).loc main_arg0)) (m ((c.tc : Thread nD τ).loc main_arg1)) (m ((c.tc : Thread nD τ).loc main_arg2)) (((cfg0.win 13).blk t).view.emb y) := by
  idx_vars y
  have e : ((cfg0.win 13).blk t).view.emb (ix2 y0 y1) = ix2 (row t y0) y1 := by
    unfold row
    blk_ext [iblk, V, idx t]
  rw [e, outsAt0]
  dsimp only
  refine (block13 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final13 (c : Dev nD) : (dats m 0 c).arrAt 13 cfg0.N = val13 (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  exact point13 m c t y

/-- What point `t` leaves at an entry of its block. -/
theorem point14 (c : Dev nD) (t : Fin cfg0.N) (y : S128x1536.Idx) :
    (outsAt0 m c t).2.2.2.2.2.2.2.1 y = val14 (m ((c.tc : Thread nD τ).loc main_arg0)) (m ((c.tc : Thread nD τ).loc main_arg1)) (m ((c.tc : Thread nD τ).loc main_arg2)) (((cfg0.win 14).blk t).view.emb y) := by
  idx_vars y
  have e : ((cfg0.win 14).blk t).view.emb (ix2 y0 y1) = ix2 (row t y0) y1 := by
    unfold row
    blk_ext [iblk, V, idx t]
  rw [e, outsAt0]
  dsimp only
  refine (block14 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final14 (c : Dev nD) : (dats m 0 c).arrAt 14 cfg0.N = val14 (m ((c.tc : Thread nD τ).loc main_arg0)) (m ((c.tc : Thread nD τ).loc main_arg1)) (m ((c.tc : Thread nD τ).loc main_arg2)) := by
  refine (dats m 0 c).arrAt_eq_of_covers 14 _ (by decide +kernel) fun t _ y => ?_
  blk_simp
  rw [after0_14]
  exact point14 m c t y

/-- What point `t` leaves at an entry of its block. -/
theorem point15 (c : Dev nD) (t : Fin cfg0.N) (y : S128x512.Idx) :
    (outsAt0 m c t).2.2.2.2.2.2.2.2 y = val15 (m ((c.tc : Thread nD τ).loc main_arg0)) (m ((c.tc : Thread nD τ).loc main_arg1)) (m ((c.tc : Thread nD τ).loc main_arg2)) (((cfg0.win 15).blk t).view.emb y) := by
  idx_vars y
  have e : ((cfg0.win 15).blk t).view.emb (ix2 y0 y1) = ix2 (row t y0) y1 := by
    unfold row
    blk_ext [iblk, V, idx t]
  rw [e, outsAt0]
  dsimp only
  refine (block15 c _ _ _ _ _ _ _ _ _ _ _ _ _ _ _ _ _ _ _ _ _ _ _ _ _ _ _ _ _ _ _ _ _ _ _ _ _ _ _ _ y0 y1).trans ?_
  rw [prow_blk m c t y0]
  rfl

/-- The array after the run. -/
theorem final15 (c : Dev nD) : (dats m 0 c).arrAt 15 cfg0.N = val15 (m ((c.tc : Thread nD τ).loc main_arg0)) (m ((c.tc : Thread nD τ).loc main_arg1)) (m ((c.tc : Thread nD τ).loc main_arg2)) := by
  refine (dats m 0 c).arrAt_eq_of_covers 15 _ (by decide +kernel) fun t _ y => ?_
  blk_simp
  rw [after0_15]
  exact point15 m c t y

end Cert.InprojSampleIdeal.Inproj

end
-- ==== Proof.InprojSampleRef.lean ====
/-
  The reference input projection's nine results are the same functions of its arguments.
-/
module

public import proofs.«01_k».proof.Proof.InprojSampleFinal
public import proofs.«01_k».proof.Proof.Gen.InprojSampleReferenceIdeal.Run
public import Idealize.ShloMosaic.Lib.Pipeline.ValueKit

@[expose] public section

set_option maxRecDepth 16384

noncomputable section

namespace Cert.InprojSampleReferenceIdeal.Inproj

open Cert.InprojSampleReferenceIdeal Cert.InprojSampleReferenceIdeal.Gen Cert.InprojSampleReferenceIdeal.Value Idealize.ShloMosaic Idealize.ShloMosaic.TcCoe Idealize.SL.Sem Cert.Rows Cert.InprojRows
open Cert.InprojSampleIdeal.Inproj (prow tab val7 val8 val9 val10 val11 val12 val13 val14 val15)

/-- The normed input times the weight, read at a place. -/
theorem proj (X : FVec Ideal S128x1024 .f32) (D : FVec Ideal S4x8x1x1024 .f32) (W : FVec Ideal S4x1024x3968 .bf16) :
    (Host.dotGeneral (F := Ideal) dot_S128x1024_S1024x3968_S128x3968_1_0_0_1_n_n none (mulf (mulf X (broadcastInDim S128x1024 ![0, 1] bcast_S128x1_S128x1024_0_1 (Host.rsqrt (addf (Host.divf (broadcastInDim S128x1 ![0] bcast_S128_S128x1_0 (Host.reduceAdd (mulf X X) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (shapeCast _ (extractStridedSlice S1x1x1x1024 ![3, 2, 0, 0] D slices_S4x8x1x1024_S1x1x1x1024_3_2_0_0) shapeCasts_S1x1x1x1024_S1x1024))) (extf .f32 (shapeCast _ (extractStridedSlice S1x1024x3968 ![3, 0, 0] W slices_S4x1024x3968_S1x1024x3968_3_0_0) shapeCasts_S1x1024x3968_S1024x3968) bitsLt_bf16_f32) : FVec Ideal S128x3968 .f32)
      = fun i => prow X D W (i 0) (i 1) := by
  funext i
  idx_vars i
  unfold prow pr rms
  pointwise

/-- A table repeated eight times along the row, read at a place. -/
theorem wide (T : FVec Ideal S128x128 .f32) :
    shapeCast S128x1024 (broadcastInDim S1x128x8x128 ![0, 1, 2, 3] bcast_S1x128x1x128_S1x128x8x128_0_1_2_3 (shapeCast S1x128x1x128 T shapeCasts_S128x128_S1x128x1x128)) shapeCasts_S1x128x8x128_S128x1024
      = fun i => T (ix2 ⟨(i 0).val % 128, Nat.mod_lt _ (by decide)⟩ ⟨(i 1).val % 128, Nat.mod_lt _ (by decide)⟩) := by
  funext i
  idx_vars i
  pointwise
  exact congrArg (fun v => T (ix2 v ⟨i1.val % 128, Nat.mod_lt _ (by decide)⟩)) (Fin.ext (Nat.mod_eq_of_lt i0.isLt).symm)

/-- A table, read at a place. -/
theorem narrow (T : FVec Ideal S128x128 .f32) :
    shapeCast S128x128 (broadcastInDim S1x128x1x128 ![0, 1, 2, 3] bcast_S1x128x1x128_S1x128x1x128_0_1_2_3 (shapeCast S1x128x1x128 T shapeCasts_S128x128_S1x128x1x128)) shapeCasts_S1x128x1x128_S128x128
      = fun i => T (ix2 ⟨(i 0).val % 128, Nat.mod_lt _ (by decide)⟩ (i 1)) := by
  funext i
  idx_vars i
  pointwise
  exact congrArg (fun v => T (ix2 v i1)) (Fin.ext (Nat.mod_eq_of_lt i0.isLt).symm)

/-- The row moved eight to the left, around its end. -/
theorem left1024 (V : FVec Ideal S128x1024 .f32) :
    concatenate S128x1024 1 [⟨S128x1016, extractStridedSlice S128x1016 ![0, 8] V slices_S128x1024_S128x1016_0_8⟩, ⟨S128x8, extractStridedSlice S128x8 ![0, 0] V slices_S128x1024_S128x8_0_0⟩] concatenates_S128x1016_S128x8_S128x1024_d1
      = fun i => V (ix2 (i 0) ⟨((i 1).val + 1024 - 1016) % 1024, Nat.mod_lt _ (by decide)⟩) := by
  funext i
  idx_vars i
  pointwise
  split <;> exact congrArg V (congrArg (ix2 i0) (Fin.ext (by simp only []; omega)))

/-- The row moved eight to the right, around its end. -/
theorem right1024 (V : FVec Ideal S128x1024 .f32) :
    concatenate S128x1024 1 [⟨S128x8, extractStridedSlice S128x8 ![0, 1016] V slices_S128x1024_S128x8_0_1016⟩, ⟨S128x1016, extractStridedSlice S128x1016 ![0, 0] V slices_S128x1024_S128x1016_0_0⟩] concatenates_S128x8_S128x1016_S128x1024_d1
      = fun i => V (ix2 (i 0) ⟨((i 1).val + 1024 - 8) % 1024, Nat.mod_lt _ (by decide)⟩) := by
  funext i
  idx_vars i
  pointwise
  split <;> exact congrArg V (congrArg (ix2 i0) (Fin.ext (by simp only []; omega)))

/-- The row moved eight to the left, around its end. -/
theorem left128 (V : FVec Ideal S128x128 .f32) :
    concatenate S128x128 1 [⟨S128x120, extractStridedSlice S128x120 ![0, 8] V slices_S128x128_S128x120_0_8⟩, ⟨S128x8, extractStridedSlice S128x8 ![0, 0] V slices_S128x128_S128x8_0_0⟩] concatenates_S128x120_S128x8_S128x128_d1
      = fun i => V (ix2 (i 0) ⟨((i 1).val + 128 - 120) % 128, Nat.mod_lt _ (by decide)⟩) := by
  funext i
  idx_vars i
  pointwise
  split <;> exact congrArg V (congrArg (ix2 i0) (Fin.ext (by simp only []; omega)))

/-- The row moved eight to the right, around its end. -/
theorem right128 (V : FVec Ideal S128x128 .f32) :
    concatenate S128x128 1 [⟨S128x8, extractStridedSlice S128x8 ![0, 120] V slices_S128x128_S128x8_0_120⟩, ⟨S128x120, extractStridedSlice S128x120 ![0, 0] V slices_S128x128_S128x120_0_0⟩] concatenates_S128x8_S128x120_S128x128_d1
      = fun i => V (ix2 (i 0) ⟨((i 1).val + 128 - 8) % 128, Nat.mod_lt _ (by decide)⟩) := by
  funext i
  idx_vars i
  pointwise
  split <;> exact congrArg V (congrArg (ix2 i0) (Fin.ext (by simp only []; omega)))

/-- The 128 columns from 1280 on, turned. -/
theorem turned1280 (P : FVec Ideal S128x3968 .f32) (C S T : FVec Ideal S128x128 .f32) :
    addf (addf (mulf (extractStridedSlice S128x128 ![0, 1280] P slices_S128x3968_S128x128_0_1280) (shapeCast S128x128 (broadcastInDim S1x128x1x128 ![0, 1, 2, 3] bcast_S1x128x1x128_S1x128x1x128_0_1_2_3 (shapeCast S1x128x1x128 C shapeCasts_S128x128_S1x128x1x128)) shapeCasts_S1x128x1x128_S128x128)) (mulf (concatenate S128x128 1 [⟨S128x120, extractStridedSlice S128x120 ![0, 8] (extractStridedSlice S128x128 ![0, 1280] P slices_S128x3968_S128x128_0_1280) slices_S128x128_S128x120_0_8⟩, ⟨S128x8, extractStridedSlice S128x8 ![0, 0] (extractStridedSlice S128x128 ![0, 1280] P slices_S128x3968_S128x128_0_1280) slices_S128x128_S128x8_0_0⟩] concatenates_S128x120_S128x8_S128x128_d1) (shapeCast S128x128 (broadcastInDim S1x128x1x128 ![0, 1, 2, 3] bcast_S1x128x1x128_S1x128x1x128_0_1_2_3 (shapeCast S1x128x1x128 S shapeCasts_S128x128_S1x128x1x128)) shapeCasts_S1x128x1x128_S128x128))) (mulf (concatenate S128x128 1 [⟨S128x8, extractStridedSlice S128x8 ![0, 120] (extractStridedSlice S128x128 ![0, 1280] P slices_S128x3968_S128x128_0_1280) slices_S128x128_S128x8_0_120⟩, ⟨S128x120, extractStridedSlice S128x120 ![0, 0] (extractStridedSlice S128x128 ![0, 1280] P slices_S128x3968_S128x128_0_1280) slices_S128x128_S128x120_0_0⟩] concatenates_S128x8_S128x120_S128x128_d1) (shapeCast S128x128 (broadcastInDim S1x128x1x128 ![0, 1, 2, 3] bcast_S1x128x1x128_S1x128x1x128_0_1_2_3 (shapeCast S1x128x1x128 T shapeCasts_S128x128_S1x128x1x128)) shapeCasts_S1x128x1x128_S128x128))
      = fun i => turn (fun u => P (ix2 (i 0) u)) (tab C (i 0)) (tab S (i 0)) (tab T (i 0)) 1280 (by omega) (i 1) := by
  rw [narrow, narrow, narrow, left128, right128]
  funext i
  idx_vars i
  unfold turn tab
  pointwise

/-- The 128 columns from 1536 on, turned. -/
theorem turned1536 (P : FVec Ideal S128x3968 .f32) (C S T : FVec Ideal S128x128 .f32) :
    addf (addf (mulf (extractStridedSlice S128x128 ![0, 1536] P slices_S128x3968_S128x128_0_1536) (shapeCast S128x128 (broadcastInDim S1x128x1x128 ![0, 1, 2, 3] bcast_S1x128x1x128_S1x128x1x128_0_1_2_3 (shapeCast S1x128x1x128 C shapeCasts_S128x128_S1x128x1x128)) shapeCasts_S1x128x1x128_S128x128)) (mulf (concatenate S128x128 1 [⟨S128x120, extractStridedSlice S128x120 ![0, 8] (extractStridedSlice S128x128 ![0, 1536] P slices_S128x3968_S128x128_0_1536) slices_S128x128_S128x120_0_8⟩, ⟨S128x8, extractStridedSlice S128x8 ![0, 0] (extractStridedSlice S128x128 ![0, 1536] P slices_S128x3968_S128x128_0_1536) slices_S128x128_S128x8_0_0⟩] concatenates_S128x120_S128x8_S128x128_d1) (shapeCast S128x128 (broadcastInDim S1x128x1x128 ![0, 1, 2, 3] bcast_S1x128x1x128_S1x128x1x128_0_1_2_3 (shapeCast S1x128x1x128 S shapeCasts_S128x128_S1x128x1x128)) shapeCasts_S1x128x1x128_S128x128))) (mulf (concatenate S128x128 1 [⟨S128x8, extractStridedSlice S128x8 ![0, 120] (extractStridedSlice S128x128 ![0, 1536] P slices_S128x3968_S128x128_0_1536) slices_S128x128_S128x8_0_120⟩, ⟨S128x120, extractStridedSlice S128x120 ![0, 0] (extractStridedSlice S128x128 ![0, 1536] P slices_S128x3968_S128x128_0_1536) slices_S128x128_S128x120_0_0⟩] concatenates_S128x8_S128x120_S128x128_d1) (shapeCast S128x128 (broadcastInDim S1x128x1x128 ![0, 1, 2, 3] bcast_S1x128x1x128_S1x128x1x128_0_1_2_3 (shapeCast S1x128x1x128 T shapeCasts_S128x128_S1x128x1x128)) shapeCasts_S1x128x1x128_S128x128))
      = fun i => turn (fun u => P (ix2 (i 0) u)) (tab C (i 0)) (tab S (i 0)) (tab T (i 0)) 1536 (by omega) (i 1) := by
  rw [narrow, narrow, narrow, left128, right128]
  funext i
  idx_vars i
  unfold turn tab
  pointwise

/-- The query columns, turned and scaled. -/
theorem turnedq (P : FVec Ideal S128x3968 .f32) (C S T : FVec Ideal S128x128 .f32) :
    truncf .bf16 (mulf (addf (addf (mulf (extractStridedSlice S128x1024 ![0, 0] P slices_S128x3968_S128x1024_0_0) (shapeCast S128x1024 (broadcastInDim S1x128x8x128 ![0, 1, 2, 3] bcast_S1x128x1x128_S1x128x8x128_0_1_2_3 (shapeCast S1x128x1x128 C shapeCasts_S128x128_S1x128x1x128)) shapeCasts_S1x128x8x128_S128x1024)) (mulf (concatenate S128x1024 1 [⟨S128x1016, extractStridedSlice S128x1016 ![0, 8] (extractStridedSlice S128x1024 ![0, 0] P slices_S128x3968_S128x1024_0_0) slices_S128x1024_S128x1016_0_8⟩, ⟨S128x8, extractStridedSlice S128x8 ![0, 0] (extractStridedSlice S128x1024 ![0, 0] P slices_S128x3968_S128x1024_0_0) slices_S128x1024_S128x8_0_0⟩] concatenates_S128x1016_S128x8_S128x1024_d1) (shapeCast S128x1024 (broadcastInDim S1x128x8x128 ![0, 1, 2, 3] bcast_S1x128x1x128_S1x128x8x128_0_1_2_3 (shapeCast S1x128x1x128 S shapeCasts_S128x128_S1x128x1x128)) shapeCasts_S1x128x8x128_S128x1024))) (mulf (concatenate S128x1024 1 [⟨S128x8, extractStridedSlice S128x8 ![0, 1016] (extractStridedSlice S128x1024 ![0, 0] P slices_S128x3968_S128x1024_0_0) slices_S128x1024_S128x8_0_1016⟩, ⟨S128x1016, extractStridedSlice S128x1016 ![0, 0] (extractStridedSlice S128x1024 ![0, 0] P slices_S128x3968_S128x1024_0_0) slices_S128x1024_S128x1016_0_0⟩] concatenates_S128x8_S128x1016_S128x1024_d1) (shapeCast S128x1024 (broadcastInDim S1x128x8x128 ![0, 1, 2, 3] bcast_S1x128x1x128_S1x128x8x128_0_1_2_3 (shapeCast S1x128x1x128 T shapeCasts_S128x128_S1x128x1x128)) shapeCasts_S1x128x8x128_S128x1024))) (broadcastInDim S128x1024 ![] bcast_S_S128x1024 (constant S_ .f32 0x3E000000#32))) bitsLt_bf16_f32
      = fun i => qrow (fun u => P (ix2 (i 0) u)) (tab C (i 0)) (tab S (i 0)) (tab T (i 0)) (i 1) := by
  rw [wide, wide, wide, left1024, right1024]
  funext i
  idx_vars i
  unfold qrow tab
  pointwise

/-- The queries. -/
theorem result7 (m : (ℓ : Loc nD τ sig) → Buf (Elt Ideal) ℓ) (c : Dev nD) : res_main_v86 m c = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v86
  rw [proj]
  exact turnedq (fun i => prow (m ((c.tc : Thread nD τ).loc main_arg0)) (m ((c.tc : Thread nD τ).loc main_arg1)) (m ((c.tc : Thread nD τ).loc main_arg2)) (i 0) (i 1)) (m ((c.tc : Thread nD τ).loc main_arg3)) (m ((c.tc : Thread nD τ).loc main_arg4)) (m ((c.tc : Thread nD τ).loc main_arg5))

/-- The cached rows. -/
theorem result8 (m : (ℓ : Loc nD τ sig) → Buf (Elt Ideal) ℓ) (c : Dev nD) : res_main_v87 m c = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v87
  rw [proj, turned1280]
  funext i
  idx_vars i
  unfold val8 rowsrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, if_pos (show i1.val < 256 by omega)]
  · rw [dif_neg a]
    by_cases b : i1.val - 128 < 128
    · rw [dif_pos b, if_pos (show i1.val < 256 by omega)]
      exact congrArg p (Fin.ext (by (try simp only []); omega))
    · rw [dif_neg b, if_neg (show ¬ i1.val < 256 by omega)]
      by_cases d : i1.val - 128 - 128 < 128
      · rw [dif_pos d, dif_pos (show i1.val < 384 by omega)]
        exact congrArg (turn p _ _ _ _ _) (Fin.ext (by (try simp only []); omega))
      · rw [dif_neg d, dif_neg (show ¬ i1.val < 384 by omega)]
        exact congrArg p (Fin.ext (by (try simp only []); omega))

/-- The window rows. -/
theorem result9 (m : (ℓ : Loc nD τ sig) → Buf (Elt Ideal) ℓ) (c : Dev nD) : res_main_v88 m c = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v88
  rw [proj, turned1536]
  funext i
  idx_vars i
  unfold val9 winrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, dif_pos a]
  · rw [dif_neg a, dif_neg a]
    exact congrArg p (Fin.ext (by (try simp only []); omega))

/-- The window rows, rounded. -/
theorem result12 (m : (ℓ : Loc nD τ sig) → Buf (Elt Ideal) ℓ) (c : Dev nD) : res_main_v92 m c = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v92
  rw [proj, turned1536]
  funext i
  idx_vars i
  unfold val12 winrow
  pointwise
  generalize prow (m ((c.tc : Thread nD τ).loc main_arg0)) (m ((c.tc : Thread nD τ).loc main_arg1)) (m ((c.tc : Thread nD τ).loc main_arg2)) i0 = p
  by_cases a : i1.val < 128
  · rw [dif_pos a, dif_pos a]
  · rw [dif_neg a, dif_neg a]
    exact congrArg p (Fin.ext (by (try simp only []); omega))

/-- The block table is its row at each row's position. -/
theorem table (T : FVec Ideal S128x128 .f32) :
    shapeCast S128x128 (broadcastInDim S1x128x1x128 ![0, 1, 2, 3] bcast_S1x128x1x128_S1x128x1x128_0_1_2_3 (shapeCast S1x128x1x128 T shapeCasts_S128x128_S1x128x1x128)) shapeCasts_S1x128x1x128_S128x128 = fun i => tab T (i 0) (i 1) := narrow T

set_option maxHeartbeats 1000000 in
/-- The widened keys. -/
theorem result10 (m : (ℓ : Loc nD τ sig) → Buf (Elt Ideal) ℓ) (c : Dev nD) : res_main_v89 m c = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v89
  rw [proj, turned1280, table]
  funext i
  idx_vars i
  unfold val10 kaugrow
  pointwise
  generalize prow (m ((c.tc : Thread nD τ).loc main_arg0)) (m ((c.tc : Thread nD τ).loc main_arg1)) (m ((c.tc : Thread nD τ).loc main_arg2)) i0 = p
  by_cases a : i1.val < 64
  · rw [dif_pos a, dif_pos a]
  · rw [dif_neg a, dif_neg a]
    by_cases b : i1.val - 64 < 64
    · rw [dif_pos b, dif_pos (show i1.val < 128 by omega)]
      exact congrArg (fun v => tab (m ((c.tc : Thread nD τ).loc main_arg6)) i0 v) (Fin.ext (by (try simp only []); omega))
    · rw [dif_neg b, dif_neg (show ¬ i1.val < 128 by omega)]
      by_cases d : i1.val - 64 - 64 < 64
      · rw [dif_pos d, dif_pos (show i1.val < 192 by omega)]
        exact congrArg (fun v => tab (m ((c.tc : Thread nD τ).loc main_arg6)) i0 v) (Fin.ext (by (try simp only []); omega))
      · rw [dif_neg d, dif_neg (show ¬ i1.val < 192 by omega)]
        exact congrArg (turn p _ _ _ _ _) (Fin.ext (by (try simp only []); omega))

/-- The reference's run leaves these functions of its arguments, and its arguments as they were. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v86) = val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v87) = val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v88) = val9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v89) = val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v90) = val11 (m ((c.tc : Thread nD τ).loc main_arg0)) (m ((c.tc : Thread nD τ).loc main_arg1)) (m ((c.tc : Thread nD τ).loc main_arg2))
      ∧ r.2.mem ((c.tc : Thread nD τ).loc main_v92) = val12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v27) = val13 (m ((c.tc : Thread nD τ).loc main_arg0)) (m ((c.tc : Thread nD τ).loc main_arg1)) (m ((c.tc : Thread nD τ).loc main_arg2))
      ∧ r.2.mem ((c.tc : Thread nD τ).loc main_v25) = val14 (m ((c.tc : Thread nD τ).loc main_arg0)) (m ((c.tc : Thread nD τ).loc main_arg1)) (m ((c.tc : Thread nD τ).loc main_arg2))
      ∧ r.2.mem ((c.tc : Thread nD τ).loc main_v26) = val15 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run _ _ _).mono (fun r h c => by
    obtain ⟨h7, h8, h9, h10, h11, h12, h13, h14, h15, hargs⟩ := h c
    exact ⟨h7.trans (result7 m c), h8.trans (result8 m c), h9.trans (result9 m c), h10.trans (result10 m c), h11.trans (by rw [proj]; funext i; idx_vars i; unfold val11; pointwise <;> rfl), h12.trans (result12 m c), h13.trans (by rw [proj]; funext i; idx_vars i; unfold val13; pointwise <;> rfl), h14.trans (by rw [proj]; funext i; idx_vars i; unfold val14; pointwise <;> rfl), h15.trans (by rw [proj]; funext i; idx_vars i; unfold val15; pointwise <;> rfl), hargs⟩) (run m g)

end Cert.InprojSampleReferenceIdeal.Inproj

end
-- ==== Proof.InprojSamplePair.lean ====
/-
  The input projection at equal arguments: the kernel's nine arrays are the reference's nine results.
-/
module

public import proofs.«01_k».proof.Proof.InprojSampleRef

@[expose] public section

set_option maxRecDepth 16384

noncomputable section

namespace Cert.InprojSampleIdeal.Inproj

open Idealize.ShloMosaic Idealize.ShloMosaic.TcCoe Idealize.SL.Sem

variable (m : (ℓ : Loc Cert.InprojSampleIdeal.nD Cert.InprojSampleIdeal.τ Cert.InprojSampleIdeal.sig) → Buf (Elt Ideal) ℓ) (m' : (ℓ : Loc Cert.InprojSampleReferenceIdeal.nD Cert.InprojSampleReferenceIdeal.τ Cert.InprojSampleReferenceIdeal.sig) → Buf (Elt Ideal) ℓ) (c : Dev Cert.InprojSampleIdeal.nD)

/-- Window 7's array is the function of the reference's arguments. -/
theorem pair7 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) (h3 : m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)) (h4 : m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) (h5 : m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)) :
    val7 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) (m' ((c.tc : Thread Cert.InprojSampleReferenceIdeal.nD Cert.InprojSampleReferenceIdeal.τ).loc Cert.InprojSampleReferenceIdeal.main_arg3)) (m' ((c.tc : Thread Cert.InprojSampleReferenceIdeal.nD Cert.InprojSampleReferenceIdeal.τ).loc Cert.InprojSampleReferenceIdeal.main_arg4)) (m' ((c.tc : Thread Cert.InprojSampleReferenceIdeal.nD Cert.InprojSampleReferenceIdeal.τ).loc Cert.InprojSampleReferenceIdeal.main_arg5)) = (Gen.dats m 0 c).arrAt 7 cfg0.N := by
  rw [h0, h1, h2, h3, h4, h5]
  exact (final7 m c).symm

/-- Window 8's array is the function of the reference's arguments. -/
theorem pair8 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) (h3 : m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)) (h4 : m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) (h5 : m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)) :
    val8 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) (m' ((c.tc : Thread Cert.InprojSampleReferenceIdeal.nD Cert.InprojSampleReferenceIdeal.τ).loc Cert.InprojSampleReferenceIdeal.main_arg3)) (m' ((c.tc : Thread Cert.InprojSampleReferenceIdeal.nD Cert.InprojSampleReferenceIdeal.τ).loc Cert.InprojSampleReferenceIdeal.main_arg4)) (m' ((c.tc : Thread Cert.InprojSampleReferenceIdeal.nD Cert.InprojSampleReferenceIdeal.τ).loc Cert.InprojSampleReferenceIdeal.main_arg5)) = (Gen.dats m 0 c).arrAt 8 cfg0.N := by
  rw [h0, h1, h2, h3, h4, h5]
  exact (final8 m c).symm

/-- Window 9's array is the function of the reference's arguments. -/
theorem pair9 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) (h3 : m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)) (h4 : m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) (h5 : m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)) :
    val9 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) (m' ((c.tc : Thread Cert.InprojSampleReferenceIdeal.nD Cert.InprojSampleReferenceIdeal.τ).loc Cert.InprojSampleReferenceIdeal.main_arg3)) (m' ((c.tc : Thread Cert.InprojSampleReferenceIdeal.nD Cert.InprojSampleReferenceIdeal.τ).loc Cert.InprojSampleReferenceIdeal.main_arg4)) (m' ((c.tc : Thread Cert.InprojSampleReferenceIdeal.nD Cert.InprojSampleReferenceIdeal.τ).loc Cert.InprojSampleReferenceIdeal.main_arg5)) = (Gen.dats m 0 c).arrAt 9 cfg0.N := by
  rw [h0, h1, h2, h3, h4, h5]
  exact (final9 m c).symm

/-- Window 10's array is the function of the reference's arguments. -/
theorem pair10 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) (h3 : m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)) (h4 : m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) (h5 : m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)) (h6 : m' ((c.tc : Thread Cert.InprojSampleReferenceIdeal.nD Cert.InprojSampleReferenceIdeal.τ).loc Cert.InprojSampleReferenceIdeal.main_arg6) = m ((c.tc : Thread Cert.InprojSampleIdeal.nD Cert.InprojSampleIdeal.τ).loc Cert.InprojSampleIdeal.main_arg6)) :
    val10 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) (m' ((c.tc : Thread Cert.InprojSampleReferenceIdeal.nD Cert.InprojSampleReferenceIdeal.τ).loc Cert.InprojSampleReferenceIdeal.main_arg3)) (m' ((c.tc : Thread Cert.InprojSampleReferenceIdeal.nD Cert.InprojSampleReferenceIdeal.τ).loc Cert.InprojSampleReferenceIdeal.main_arg4)) (m' ((c.tc : Thread Cert.InprojSampleReferenceIdeal.nD Cert.InprojSampleReferenceIdeal.τ).loc Cert.InprojSampleReferenceIdeal.main_arg5)) (m' ((c.tc : Thread Cert.InprojSampleReferenceIdeal.nD Cert.InprojSampleReferenceIdeal.τ).loc Cert.InprojSampleReferenceIdeal.main_arg6)) = (Gen.dats m 0 c).arrAt 10 cfg0.N := by
  rw [h0, h1, h2, h3, h4, h5, h6]
  exact (final10 m c).symm

/-- Window 11's array is the function of the reference's arguments. -/
theorem pair11 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) :
    val11 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) = (Gen.dats m 0 c).arrAt 11 cfg0.N := by
  rw [h0, h1, h2]
  exact (final11 m c).symm

/-- Window 12's array is the function of the reference's arguments. -/
theorem pair12 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) (h3 : m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)) (h4 : m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) (h5 : m' ((c.tc : Thread Cert.InprojSampleReferenceIdeal.nD Cert.InprojSampleReferenceIdeal.τ).loc Cert.InprojSampleReferenceIdeal.main_arg5) = m ((c.tc : Thread Cert.InprojSampleIdeal.nD Cert.InprojSampleIdeal.τ).loc Cert.InprojSampleIdeal.main_arg5)) :
    val12 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) (m' ((c.tc : Thread Cert.InprojSampleReferenceIdeal.nD Cert.InprojSampleReferenceIdeal.τ).loc Cert.InprojSampleReferenceIdeal.main_arg3)) (m' ((c.tc : Thread Cert.InprojSampleReferenceIdeal.nD Cert.InprojSampleReferenceIdeal.τ).loc Cert.InprojSampleReferenceIdeal.main_arg4)) (m' ((c.tc : Thread Cert.InprojSampleReferenceIdeal.nD Cert.InprojSampleReferenceIdeal.τ).loc Cert.InprojSampleReferenceIdeal.main_arg5)) = (Gen.dats m 0 c).arrAt 12 cfg0.N := by
  rw [h0, h1, h2, h3, h4, h5]
  exact (final12 m c).symm

/-- Window 13's array is the function of the reference's arguments. -/
theorem pair13 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) :
    val13 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) = (Gen.dats m 0 c).arrAt 13 cfg0.N := by
  rw [h0, h1, h2]
  exact (final13 m c).symm

/-- Window 14's array is the function of the reference's arguments. -/
theorem pair14 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) :
    val14 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) = (Gen.dats m 0 c).arrAt 14 cfg0.N := by
  rw [h0, h1, h2]
  exact (final14 m c).symm

/-- Window 15's array is the function of the reference's arguments. -/
theorem pair15 (h0 : m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)) (h1 : m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)) (h2 : m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)) :
    val15 (m' ((c.tc : Thread Cert.InprojSampleReferenceIdeal.nD Cert.InprojSampleReferenceIdeal.τ).loc Cert.InprojSampleReferenceIdeal.main_arg0)) (m' ((c.tc : Thread Cert.InprojSampleReferenceIdeal.nD Cert.InprojSampleReferenceIdeal.τ).loc Cert.InprojSampleReferenceIdeal.main_arg1)) (m' ((c.tc : Thread Cert.InprojSampleReferenceIdeal.nD Cert.InprojSampleReferenceIdeal.τ).loc Cert.InprojSampleReferenceIdeal.main_arg2)) = (Gen.dats m 0 c).arrAt 15 cfg0.N := by
  rw [h0, h1, h2]
  exact (final15 m c).symm

end Cert.InprojSampleIdeal.Inproj

end
-- ==== Proof.GdnStepRows.lean ====
/-
  One step of the gated delta rule on one sequence's row, over the extended reals, and the facts that its keys, its
  weighted keys and its decayed queries are always finite.
-/
module

public import Idealize.ShloMosaic.Lib.Pipeline.ValueKit

@[expose] public section

noncomputable section

namespace Cert.GdnStep

open Idealize.ShloMosaic

/-- The causal convolution of width four at one column: the newest entry `x` and the three before it, under `silu`. -/
def conv (x b0 b1 b2 w0 w1 w2 w3 : EReal) : EReal :=
  (x * w3 + b0 * w0 + b1 * w1 + b2 * w2) * Ideal.logistic (x * w3 + b0 * w0 + b1 * w1 + b2 * w2)

/-- A row scaled to unit length. -/
def unit (c : Fin 128 → EReal) (k : Fin 128) : EReal :=
  c k * Ideal.rsqrt ((∑ j, c j * c j) + Ideal.ofBits .f32 0x358637BD#32)

/-- The step's decay of one head from its gate `g`, the rate `a` and the offset `d`. -/
def decay (g a d : EReal) : EReal :=
  Ideal.exp ((0 - Ideal.exp a) * (max (g + d) 0 + Ideal.log (1 + Ideal.exp (0 - (max (g + d) (-(g + d)))))))

/-- The scaled query of one head. -/
def qry (q : Fin 128 → EReal) (k : Fin 128) : EReal := unit q k * Ideal.ofBits .f32 0x3DB504F3#32

/-- The corrected value: the gated value less what the old state answers to the gated, decayed key. -/
def corr (kk vv : Fin 128 → EReal) (e b : EReal) (S : Fin 128 → Fin 128 → EReal) (v : Fin 128) : EReal :=
  vv v * b - ∑ k, (unit kk k * b * e) * S k v

/-- The next state: the old one decayed plus the key against the corrected value. -/
def next (kk vv : Fin 128 → EReal) (e b : EReal) (S : Fin 128 → Fin 128 → EReal) (k v : Fin 128) : EReal :=
  S k v * e + unit kk k * corr kk vv e b S v

/-- The output: the decayed query on the old state plus the query's score of the key on the corrected value. -/
def out (q kk vv : Fin 128 → EReal) (e b : EReal) (S : Fin 128 → Fin 128 → EReal) (v : Fin 128) : EReal :=
  (∑ k, (qry q k * e) * S k v) + (∑ k, qry q k * unit kk k) * corr kk vv e b S v

/-- The output scaled to unit mean square, weighted by `g` and gated by `z` times the logistic of `z`. -/
def fin (o g z : Fin 128 → EReal) (v : Fin 128) : EReal :=
  o v * Ideal.rsqrt (Ideal.div (∑ x, o x * o x) (Ideal.ofBits .f32 0x43000000#32) + Ideal.ofBits .f32 0x358637BD#32) * g v
    * (z v * Ideal.logistic (z v))

/-- A row's convolved columns: entry `u` of the newest row `x` and of the three before it in `b`, weighted by `w`. -/
def conved (x : Fin 1536 → EReal) (b : Fin 4608 → EReal) (w : Fin 4 → Fin 1536 → EReal) (u : Fin 1536) : EReal :=
  conv (x u) (b ⟨u.val, by omega⟩) (b ⟨1536 + u.val, by omega⟩) (b ⟨3072 + u.val, by omega⟩) (w 0 u) (w 1 u) (w 2 u) (w 3 u)

/-- A head's query columns. -/
def hq (x : Fin 1536 → EReal) (b : Fin 4608 → EReal) (w : Fin 4 → Fin 1536 → EReal) (h : Fin 4) (k : Fin 128) : EReal :=
  conved x b w ⟨128 * h.val + k.val, by omega⟩

/-- A head's key columns. -/
def hk (x : Fin 1536 → EReal) (b : Fin 4608 → EReal) (w : Fin 4 → Fin 1536 → EReal) (h : Fin 4) (k : Fin 128) : EReal :=
  conved x b w ⟨512 + 128 * h.val + k.val, by omega⟩

/-- A head's value columns. -/
def hv (x : Fin 1536 → EReal) (b : Fin 4608 → EReal) (w : Fin 4 → Fin 1536 → EReal) (h : Fin 4) (k : Fin 128) : EReal :=
  conved x b w ⟨1024 + 128 * h.val + k.val, by omega⟩

/-- A head's decay, from the row's gating columns. -/
def he (g a d : Fin 128 → EReal) (h : Fin 4) : EReal :=
  decay (g ⟨24 + h.val, by omega⟩) (a ⟨24 + h.val, by omega⟩) (d ⟨24 + h.val, by omega⟩)

/-- A head's gate on its value, from the row's gating columns. -/
def hb (g : Fin 128 → EReal) (h : Fin 4) : EReal := Ideal.logistic (g ⟨28 + h.val, by omega⟩)

/-- A head's next state. -/
def snew (x : Fin 1536 → EReal) (b : Fin 4608 → EReal) (w : Fin 4 → Fin 1536 → EReal) (g a d : Fin 128 → EReal) (h : Fin 4)
    (S : Fin 128 → Fin 128 → EReal) (k v : Fin 128) : EReal :=
  next (hk x b w h) (hv x b w h) (he g a d h) (hb g h) S k v

/-- A head's output, before its norm. -/
def hout (x : Fin 1536 → EReal) (b : Fin 4608 → EReal) (w : Fin 4 → Fin 1536 → EReal) (g a d : Fin 128 → EReal) (h : Fin 4)
    (S : Fin 128 → Fin 128 → EReal) (v : Fin 128) : EReal :=
  out (hq x b w h) (hk x b w h) (hv x b w h) (he g a d h) (hb g h) S v

/-- A head's gated output. -/
def ynew (x : Fin 1536 → EReal) (b : Fin 4608 → EReal) (w : Fin 4 → Fin 1536 → EReal) (g a d : Fin 128 → EReal) (n : Fin 128 → EReal)
    (z : Fin 512 → EReal) (h : Fin 4) (S : Fin 128 → Fin 128 → EReal) (v : Fin 128) : EReal :=
  fin (hout x b w g a d h S) n (fun k => z ⟨128 * h.val + k.val, by omega⟩) v

/-- Neither of the infinities. -/
def Real' (x : EReal) : Prop := x ≠ ⊤ ∧ x ≠ ⊥

/-- A real number is neither of the infinities. -/
theorem Real'.coe (r : ℝ) : Real' (r : EReal) := ⟨EReal.coe_ne_top r, EReal.coe_ne_bot r⟩

/-- A number that is neither of the infinities is a real number. -/
theorem Real'.out {x : EReal} (h : Real' x) : ∃ r : ℝ, x = r := ⟨x.toReal, (EReal.coe_toReal h.1 h.2).symm⟩

/-- The product of two finite numbers is finite. -/
theorem Real'.mul {x y : EReal} (hx : Real' x) (hy : Real' y) : Real' (x * y) := by
  obtain ⟨a, rfl⟩ := hx.out
  obtain ⟨b, rfl⟩ := hy.out
  rw [← EReal.coe_mul]
  exact Real'.coe _

/-- A finite number less itself is zero. -/
theorem Real'.sub {x : EReal} (hx : Real' x) : x - x = 0 := EReal.sub_self hx.1 hx.2

/-- A number between zero and one is finite. -/
theorem Real'.of_mem {x : EReal} (h0 : 0 ≤ x) (h1 : x ≤ 1) : Real' x :=
  ⟨fun h => by subst h; exact absurd h1 (by decide), fun h => by subst h; exact absurd h0 (by decide)⟩

/-- The exponential is not negative. -/
theorem exp_nonneg (x : EReal) : 0 ≤ Ideal.exp x := by
  induction x with
  | bot => exact le_refl _
  | top => exact le_top
  | coe r => exact EReal.coe_nonneg.mpr (Real.exp_pos r).le

/-- The exponential of a number that is not positive is at most one. -/
theorem exp_le_one {x : EReal} (h : x ≤ 0) : Ideal.exp x ≤ 1 := by
  induction x with
  | bot => exact zero_le_one
  | top => exact absurd h (by decide)
  | coe r =>
    show ((Real.exp r : ℝ) : EReal) ≤ 1
    exact_mod_cast Real.exp_le_one_iff.mpr (by exact_mod_cast h)

/-- The logistic is finite. -/
theorem logistic_real (x : EReal) : Real' (Ideal.logistic x) := by
  unfold Ideal.logistic Ideal.div
  have h : 0 ≤ Ideal.exp (-x) := exp_nonneg _
  generalize Ideal.exp (-x) = y at h
  induction y with
  | bot => exact absurd h (by decide)
  | top =>
    rw [EReal.add_top_of_ne_bot (by decide), if_neg (by decide), EReal.inv_top, mul_zero]
    exact Real'.coe 0
  | coe r =>
    have hr : 0 ≤ r := by exact_mod_cast h
    have e : (1 : EReal) + (r : EReal) = ((1 + r : ℝ) : EReal) := by push_cast; rfl
    rw [e, if_neg (by exact_mod_cast (by positivity : (1 + r : ℝ) ≠ 0)), one_mul, ← EReal.coe_inv]
    exact Real'.coe _

/-- The logarithm of one plus a number that is not negative is not negative. -/
theorem log_nonneg {x : EReal} (h : 0 ≤ x) : 0 ≤ Ideal.log (1 + x) := by
  induction x with
  | bot => exact absurd h (by decide)
  | top =>
    rw [EReal.add_top_of_ne_bot (by decide)]
    exact le_top
  | coe r =>
    have hr : 0 ≤ r := by exact_mod_cast h
    have e : (1 : EReal) + (r : EReal) = ((1 + r : ℝ) : EReal) := by push_cast; rfl
    rw [e]
    show (0 : EReal) ≤ if (1 + r : ℝ) ≤ 0 then ⊥ else ((Real.log (1 + r) : ℝ) : EReal)
    rw [if_neg (by linarith)]
    exact_mod_cast Real.log_nonneg (by linarith)

/-- The decay is finite. -/
theorem decay_real (g a d : EReal) : Real' (decay g a d) := by
  unfold decay
  refine Real'.of_mem (exp_nonneg _) (exp_le_one ?_)
  have h1 : 0 - Ideal.exp a ≤ 0 := by
    rw [zero_sub, EReal.neg_le, neg_zero]
    exact exp_nonneg a
  have h2 : 0 ≤ max (g + d) 0 + Ideal.log (1 + Ideal.exp (0 - (max (g + d) (-(g + d))))) :=
    add_nonneg (le_max_right _ _) (log_nonneg (exp_nonneg _))
  exact mul_nonpos_of_nonpos_of_nonneg h1 h2

/-- The small constant under the square root is a positive real number. -/
theorem eps_pos : ∃ r : ℝ, 0 < r ∧ Ideal.ofBits .f32 0x358637BD#32 = (r : EReal) := by
  refine ⟨8796093 / 8796093022208, by norm_num, ?_⟩
  simp [Ideal.ofBits, Ideal.ieee, -EReal.coe_mul]
  norm_num

/-- The query's scale is finite. -/
theorem scale_real : Real' (Ideal.ofBits .f32 0x3DB504F3#32) := by
  have h : Ideal.ofBits .f32 0x3DB504F3#32 = ((11863283 / 134217728 : ℝ) : EReal) := by
    simp [Ideal.ofBits, Ideal.ieee, -EReal.coe_mul]
    norm_num
  rw [h]
  exact Real'.coe _

/-- A row scaled to unit length is finite, whatever the row. -/
theorem unit_real (c : Fin 128 → EReal) (k : Fin 128) : Real' (unit c k) := by
  unfold unit
  obtain ⟨ε, hε, e⟩ := eps_pos
  rw [e]
  by_cases h : ∀ j, Real' (c j)
  · choose r hr using fun j => (h j).out
    have hs : (∑ j, c j * c j) + (ε : EReal) = (((∑ j, r j * r j) + ε : ℝ) : EReal) := by
      simp only [hr, ← EReal.coe_mul]
      rw [EReal.coe_add]
      refine congrArg (· + (ε : EReal)) ?_
      exact (map_sum (⟨⟨Real.toEReal, EReal.coe_zero⟩, EReal.coe_add⟩ : ℝ →+ EReal) (fun j => r j * r j) Finset.univ).symm
    rw [hs, hr k]
    have hp : 0 < (∑ j, r j * r j) + ε := add_pos_of_nonneg_of_pos (Finset.sum_nonneg fun j _ => mul_self_nonneg _) hε
    refine Real'.mul (Real'.coe _) ?_
    show Real' (if _ < (0 : ℝ) then ⊥ else if _ = (0 : ℝ) then ⊤ else _)
    rw [if_neg (not_lt.mpr hp.le), if_neg hp.ne']
    exact Real'.coe _
  · push Not at h
    obtain ⟨j, hj⟩ := h
    have ht : c j * c j = ⊤ := by
      by_cases h1 : c j = ⊤
      · rw [h1]; rfl
      · by_cases h2 : c j = ⊥
        · rw [h2]; rfl
        · exact absurd ⟨h1, h2⟩ hj
    have hn : ∀ x : EReal, 0 ≤ x * x := fun x => by
      induction x with
      | bot => exact le_top
      | top => exact le_top
      | coe r => exact_mod_cast mul_self_nonneg r
    have hs : (∑ j, c j * c j) = ⊤ := by
      refine top_le_iff.mp ?_
      rw [← ht]
      exact Finset.single_le_sum (f := fun j => c j * c j) (fun i _ => hn _) (Finset.mem_univ j)
    rw [hs, EReal.top_add_of_ne_bot (EReal.coe_ne_bot _)]
    show Real' (c k * (0 : EReal))
    rw [mul_zero]
    exact Real'.coe 0

/-- A finite number is what its copy and the two remainders of its splitting into three parts select through a row of
    ones and zeros. -/
theorem three (f : Fin 128 → EReal) (hf : ∀ k, Real' (f k)) (i : Fin 128) :
    (∑ k, (if i = k then (1 : EReal) else 0) * f k) + (∑ k, (if i = k then (1 : EReal) else 0) * (f k - f k))
      + (∑ k, (if i = k then (1 : EReal) else 0) * ((f k - f k) - (f k - f k))) = f i := by
  simp only [(hf _).sub, sub_zero, mul_zero, Finset.sum_const_zero, add_zero, ite_mul, one_mul, zero_mul,
    Finset.sum_ite_eq, Finset.mem_univ, if_true]

/-- Whether two column numbers are equal, as the choice of one or zero. -/
theorem eye (i j : Fin 128) :
    Scalar.select (IntOp.cmpi CmpIPredicate.eq (BitVec.ofNat 32 i.val) (BitVec.ofNat 32 j.val)) (1 : EReal) 0 = if i = j then 1 else 0 := by
  have h : ∀ i j : Fin 128, IntOp.cmpi CmpIPredicate.eq (BitVec.ofNat 32 i.val) (BitVec.ofNat 32 j.val) = if i = j then 1#1 else 0#1 := by decide +kernel
  rw [h]
  split <;> rfl

/-- Rows that agree give the same next state. -/
theorem snew_congr {x x' : Fin 1536 → EReal} {b b' : Fin 4608 → EReal} {w w' : Fin 4 → Fin 1536 → EReal} {g g' a a' d d' : Fin 128 → EReal}
    {S S' : Fin 128 → Fin 128 → EReal} (hx : ∀ u, x u = x' u) (hb : ∀ u, b u = b' u) (hw : ∀ j u, w j u = w' j u) (hg : ∀ u, g u = g' u)
    (ha : ∀ u, a u = a' u) (hd : ∀ u, d u = d' u) (hS : ∀ k v, S k v = S' k v) (h : Fin 4) (k v : Fin 128) :
    snew x b w g a d h S k v = snew x' b' w' g' a' d' h S' k v := by
  obtain rfl := funext hx; obtain rfl := funext hb; obtain rfl := funext fun j => funext (hw j); obtain rfl := funext hg
  obtain rfl := funext ha; obtain rfl := funext hd; obtain rfl := funext fun k => funext (hS k); rfl

/-- Rows that agree give the same gated output. -/
theorem ynew_congr {x x' : Fin 1536 → EReal} {b b' : Fin 4608 → EReal} {w w' : Fin 4 → Fin 1536 → EReal} {g g' a a' d d' n n' : Fin 128 → EReal}
    {z z' : Fin 512 → EReal} {S S' : Fin 128 → Fin 128 → EReal} (hx : ∀ u, x u = x' u) (hb : ∀ u, b u = b' u) (hw : ∀ j u, w j u = w' j u)
    (hg : ∀ u, g u = g' u) (ha : ∀ u, a u = a' u) (hd : ∀ u, d u = d' u) (hn : ∀ u, n u = n' u) (hz : ∀ u, z u = z' u)
    (hS : ∀ k v, S k v = S' k v) (h : Fin 4) (v : Fin 128) :
    ynew x b w g a d n z h S v = ynew x' b' w' g' a' d' n' z' h S' v := by
  obtain rfl := funext hx; obtain rfl := funext hb; obtain rfl := funext fun j => funext (hw j); obtain rfl := funext hg
  obtain rfl := funext ha; obtain rfl := funext hd; obtain rfl := funext hn; obtain rfl := funext hz
  obtain rfl := funext fun k => funext (hS k); rfl

/-- The four taps of the convolution, in either order. -/
theorem taps (a b c d : EReal) : a + b + c + d = d + a + b + c := by
  rw [add_comm (a + b + c) d, ← add_assoc, ← add_assoc]

end Cert.GdnStep

end
-- ==== Proof.GdnStepShared.lean ====
/-
  What the heads' shared arrays of the recurrence step's body are: the convolved row, the decays, the gates, the
  transposed keys, weighted keys and decayed queries, and the scores of a query against its own key.
-/
module

public import proofs.«01_k».proof.Proof.Gen.GdnSampleIdeal.Frame
public import proofs.«01_k».proof.Proof.GdnStepRows
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- The convolved columns. -/
theorem t255 : k0_pay255 x0 x1 x2 x3 x4 x5 x6 x7 x8 = fun i => conved (fun u => x0 (ix2 (i 0) u)) (fun u => x1 (ix3 0 (i 0) u)) (fun j u => x5 (ix3 0 j u)) (i 1) := by
  funext i
  idx_vars i
  unfold k0_pay255
  pointwise [k0_pay3]
  rfl

/-- The decays, one per gating column. -/
theorem t256 : k0_pay256 x0 x1 x2 x3 x4 x5 x6 x7 x8 = fun i => decay (x2 (ix2 (i 0) (i 1))) (x6 (ix3 0 0 (i 1))) (x7 (ix3 0 0 (i 1))) := by
  funext i
  idx_vars i
  unfold k0_pay256
  pointwise [k0_pay5, k0_pay4]
  rfl

/-- The gates, one per gating column. -/
theorem t257 : k0_pay257 x0 x1 x2 x3 x4 x5 x6 x7 x8 = fun i => Ideal.logistic (x2 (ix2 (i 0) (i 1))) := by
  funext i
  idx_vars i
  unfold k0_pay257
  pointwise [k0_pay6]

/-- The identity matrix. -/
theorem t258 : k0_pay258 x0 x1 x2 x3 x4 x5 x6 x7 x8 = fun i => if (i 0 : Fin 128) = (i 1 : Fin 128) then (1 : EReal) else 0 := by
  funext i
  idx_vars i
  unfold k0_pay258
  pointwise [k0_pay7]
  exact eye i0 i1

/-- The norm's weights. -/
theorem t259 : k0_pay259 x0 x1 x2 x3 x4 x5 x6 x7 x8 = fun i => x8 (ix3 0 0 (i 1)) := by
  funext i
  idx_vars i
  unfold k0_pay259
  pointwise [k0_pay8]

/-- Head 0's decay, along its row. -/
theorem t264 : k0_pay264 x0 x1 x2 x3 x4 x5 x6 x7 x8 = fun i => he (fun u => x2 (ix2 (i 0) u)) (fun u => x6 (ix3 0 0 u)) (fun u => x7 (ix3 0 0 u)) 0 := by
  funext i
  idx_vars i
  unfold k0_pay264
  simp only [t256]
  pointwise [k0_pay14]
  rfl

/-- Head 0's gated values. -/
theorem t272 : k0_pay272 x0 x1 x2 x3 x4 x5 x6 x7 x8 = fun i => hv (fun u => x0 (ix2 (i 0) u)) (fun u => x1 (ix3 0 (i 0) u)) (fun j u => x5 (ix3 0 j u)) 0 (i 1) * hb (fun u => x2 (ix2 (i 0) u)) 0 := by
  funext i
  idx_vars i
  unfold k0_pay272 k0_pay263 k0_pay265
  simp only [t255, t257]
  pointwise [k0_pay23, k0_pay13, k0_pay15]
  rfl

/-- Head 0's score of its query against its key. -/
theorem t266 : k0_pay266 x0 x1 x2 x3 x4 x5 x6 x7 x8 = fun i => ∑ k, qry (hq (fun u => x0 (ix2 (i 0) u)) (fun u => x1 (ix3 0 (i 0) u)) (fun j u => x5 (ix3 0 j u)) 0) k * unit (hk (fun u => x0 (ix2 (i 0) u)) (fun u => x1 (ix3 0 (i 0) u)) (fun j u => x5 (ix3 0 j u)) 0) k := by
  funext i
  idx_vars i
  unfold k0_pay266 k0_pay260 k0_pay261 k0_pay262
  simp only [t255]
  pointwise [k0_pay16, k0_pay12, k0_pay9, k0_pay10, k0_pay11]
  unfold hq
  simp only [Fin.val_zero, Nat.mul_zero, Nat.zero_add]
  rfl

/-- Head 0's keys, transposed. -/
theorem t267 : k0_pay267 x0 x1 x2 x3 x4 x5 x6 x7 x8 = fun i => unit (hk (fun u => x0 (ix2 (i 1) u)) (fun u => x1 (ix3 0 (i 1) u)) (fun j u => x5 (ix3 0 j u)) 0) (i 0) := by
  funext i
  idx_vars i
  unfold k0_pay267 k0_pay261 k0_pay262
  simp only [t255, t258]
  pointwise [k0_pay17, k0_pay12, k0_pay10, k0_pay11]
  exact three (unit (hk (fun u => x0 (ix2 i1 u)) (fun u => x1 (ix3 0 i1 u)) (fun j u => x5 (ix3 0 j u)) 0)) (fun k => unit_real _ _) i0

/-- Head 0's gated, decayed keys, transposed. -/
theorem t268 : k0_pay268 x0 x1 x2 x3 x4 x5 x6 x7 x8 = fun i => unit (hk (fun u => x0 (ix2 (i 1) u)) (fun u => x1 (ix3 0 (i 1) u)) (fun j u => x5 (ix3 0 j u)) 0) (i 0) * hb (fun u => x2 (ix2 (i 1) u)) 0 * he (fun u => x2 (ix2 (i 1) u)) (fun u => x6 (ix3 0 0 u)) (fun u => x7 (ix3 0 0 u)) 0 := by
  funext i
  idx_vars i
  unfold k0_pay268 k0_pay261 k0_pay262
  simp only [t255, t256, t257, t258]
  pointwise [k0_pay18, k0_pay12, k0_pay15, k0_pay14, k0_pay10, k0_pay11]
  exact three (fun k => unit (hk (fun u => x0 (ix2 i1 u)) (fun u => x1 (ix3 0 i1 u)) (fun j u => x5 (ix3 0 j u)) 0) k * hb (fun u => x2 (ix2 i1 u)) 0 * he (fun u => x2 (ix2 i1 u)) (fun u => x6 (ix3 0 0 u)) (fun u => x7 (ix3 0 0 u)) 0) (fun k => ((unit_real _ _).mul (logistic_real _)).mul (decay_real _ _ _)) i0

/-- Head 0's decayed queries, transposed. -/
theorem t271 : k0_pay271 x0 x1 x2 x3 x4 x5 x6 x7 x8 = fun i => qry (hq (fun u => x0 (ix2 (i 1) u)) (fun u => x1 (ix3 0 (i 1) u)) (fun j u => x5 (ix3 0 j u)) 0) (i 0) * he (fun u => x2 (ix2 (i 1) u)) (fun u => x6 (ix3 0 0 u)) (fun u => x7 (ix3 0 0 u)) 0 := by
  funext i
  idx_vars i
  unfold k0_pay271 k0_pay269 k0_pay270 k0_pay260
  simp only [t255, t256, t258]
  pointwise [k0_pay22, k0_pay20, k0_pay21, k0_pay19, k0_pay9, k0_pay14]
  refine Eq.trans ?_ (three (fun k => qry (hq (fun u => x0 (ix2 i1 u)) (fun u => x1 (ix3 0 i1 u)) (fun j u => x5 (ix3 0 j u)) 0) k * he (fun u => x2 (ix2 i1 u)) (fun u => x6 (ix3 0 0 u)) (fun u => x7 (ix3 0 0 u)) 0) (fun k => ((unit_real _ _).mul scale_real).mul (decay_real _ _ _)) i0)
  unfold hq
  simp only [Fin.val_zero, Nat.mul_zero, Nat.zero_add]
  rfl

/-- Head 1's decay, along its row. -/
theorem t279 : k0_pay279 x0 x1 x2 x3 x4 x5 x6 x7 x8 = fun i => he (fun u => x2 (ix2 (i 0) u)) (fun u => x6 (ix3 0 0 u)) (fun u => x7 (ix3 0 0 u)) 1 := by
  funext i
  idx_vars i
  unfold k0_pay279
  simp only [t256]
  pointwise [k0_pay77]
  rfl

/-- Head 1's gated values. -/
theorem t288 : k0_pay288 x0 x1 x2 x3 x4 x5 x6 x7 x8 = fun i => hv (fun u => x0 (ix2 (i 0) u)) (fun u => x1 (ix3 0 (i 0) u)) (fun j u => x5 (ix3 0 j u)) 1 (i 1) * hb (fun u => x2 (ix2 (i 0) u)) 1 := by
  funext i
  idx_vars i
  unfold k0_pay288 k0_pay278 k0_pay280
  simp only [t255, t257]
  pointwise [k0_pay86, k0_pay76, k0_pay78]
  rfl

/-- Head 1's score of its query against its key. -/
theorem t281 : k0_pay281 x0 x1 x2 x3 x4 x5 x6 x7 x8 = fun i => ∑ k, qry (hq (fun u => x0 (ix2 (i 0) u)) (fun u => x1 (ix3 0 (i 0) u)) (fun j u => x5 (ix3 0 j u)) 1) k * unit (hk (fun u => x0 (ix2 (i 0) u)) (fun u => x1 (ix3 0 (i 0) u)) (fun j u => x5 (ix3 0 j u)) 1) k := by
  funext i
  idx_vars i
  unfold k0_pay281 k0_pay275 k0_pay276 k0_pay277
  simp only [t255]
  pointwise [k0_pay79, k0_pay75, k0_pay72, k0_pay73, k0_pay74]
  rfl

/-- Head 1's keys, transposed. -/
theorem t282 : k0_pay282 x0 x1 x2 x3 x4 x5 x6 x7 x8 = fun i => unit (hk (fun u => x0 (ix2 (i 1) u)) (fun u => x1 (ix3 0 (i 1) u)) (fun j u => x5 (ix3 0 j u)) 1) (i 0) := by
  funext i
  idx_vars i
  unfold k0_pay282 k0_pay276 k0_pay277
  simp only [t255, t258]
  pointwise [k0_pay80, k0_pay75, k0_pay73, k0_pay74]
  exact three (unit (hk (fun u => x0 (ix2 i1 u)) (fun u => x1 (ix3 0 i1 u)) (fun j u => x5 (ix3 0 j u)) 1)) (fun k => unit_real _ _) i0

/-- Head 1's gated, decayed keys, transposed. -/
theorem t283 : k0_pay283 x0 x1 x2 x3 x4 x5 x6 x7 x8 = fun i => unit (hk (fun u => x0 (ix2 (i 1) u)) (fun u => x1 (ix3 0 (i 1) u)) (fun j u => x5 (ix3 0 j u)) 1) (i 0) * hb (fun u => x2 (ix2 (i 1) u)) 1 * he (fun u => x2 (ix2 (i 1) u)) (fun u => x6 (ix3 0 0 u)) (fun u => x7 (ix3 0 0 u)) 1 := by
  funext i
  idx_vars i
  unfold k0_pay283 k0_pay276 k0_pay277
  simp only [t255, t256, t257, t258]
  pointwise [k0_pay81, k0_pay75, k0_pay78, k0_pay77, k0_pay73, k0_pay74]
  exact three (fun k => unit (hk (fun u => x0 (ix2 i1 u)) (fun u => x1 (ix3 0 i1 u)) (fun j u => x5 (ix3 0 j u)) 1) k * hb (fun u => x2 (ix2 i1 u)) 1 * he (fun u => x2 (ix2 i1 u)) (fun u => x6 (ix3 0 0 u)) (fun u => x7 (ix3 0 0 u)) 1) (fun k => ((unit_real _ _).mul (logistic_real _)).mul (decay_real _ _ _)) i0

/-- Head 1's decayed queries, transposed. -/
theorem t287 : k0_pay287 x0 x1 x2 x3 x4 x5 x6 x7 x8 = fun i => qry (hq (fun u => x0 (ix2 (i 1) u)) (fun u => x1 (ix3 0 (i 1) u)) (fun j u => x5 (ix3 0 j u)) 1) (i 0) * he (fun u => x2 (ix2 (i 1) u)) (fun u => x6 (ix3 0 0 u)) (fun u => x7 (ix3 0 0 u)) 1 := by
  funext i
  idx_vars i
  unfold k0_pay287 k0_pay284 k0_pay285 k0_pay286 k0_pay275
  simp only [t255, t256, t258]
  pointwise [k0_pay85, k0_pay82, k0_pay83, k0_pay84, k0_pay77, k0_pay72]
  exact three (fun k => qry (hq (fun u => x0 (ix2 i1 u)) (fun u => x1 (ix3 0 i1 u)) (fun j u => x5 (ix3 0 j u)) 1) k * he (fun u => x2 (ix2 i1 u)) (fun u => x6 (ix3 0 0 u)) (fun u => x7 (ix3 0 0 u)) 1) (fun k => ((unit_real _ _).mul scale_real).mul (decay_real _ _ _)) i0

/-- Head 2's decay, along its row. -/
theorem t295 : k0_pay295 x0 x1 x2 x3 x4 x5 x6 x7 x8 = fun i => he (fun u => x2 (ix2 (i 0) u)) (fun u => x6 (ix3 0 0 u)) (fun u => x7 (ix3 0 0 u)) 2 := by
  funext i
  idx_vars i
  unfold k0_pay295
  simp only [t256]
  pointwise [k0_pay139]
  rfl

/-- Head 2's gated values. -/
theorem t303 : k0_pay303 x0 x1 x2 x3 x4 x5 x6 x7 x8 = fun i => hv (fun u => x0 (ix2 (i 0) u)) (fun u => x1 (ix3 0 (i 0) u)) (fun j u => x5 (ix3 0 j u)) 2 (i 1) * hb (fun u => x2 (ix2 (i 0) u)) 2 := by
  funext i
  idx_vars i
  unfold k0_pay303 k0_pay294 k0_pay296
  simp only [t255, t257]
  pointwise [k0_pay147, k0_pay138, k0_pay140]
  rfl

/-- Head 2's score of its query against its key. -/
theorem t297 : k0_pay297 x0 x1 x2 x3 x4 x5 x6 x7 x8 = fun i => ∑ k, qry (hq (fun u => x0 (ix2 (i 0) u)) (fun u => x1 (ix3 0 (i 0) u)) (fun j u => x5 (ix3 0 j u)) 2) k * unit (hk (fun u => x0 (ix2 (i 0) u)) (fun u => x1 (ix3 0 (i 0) u)) (fun j u => x5 (ix3 0 j u)) 2) k := by
  funext i
  idx_vars i
  unfold k0_pay297 k0_pay291 k0_pay292 k0_pay293
  simp only [t255]
  pointwise [k0_pay141, k0_pay137, k0_pay134, k0_pay135, k0_pay136]
  rfl

/-- Head 2's keys, transposed. -/
theorem t298 : k0_pay298 x0 x1 x2 x3 x4 x5 x6 x7 x8 = fun i => unit (hk (fun u => x0 (ix2 (i 1) u)) (fun u => x1 (ix3 0 (i 1) u)) (fun j u => x5 (ix3 0 j u)) 2) (i 0) := by
  funext i
  idx_vars i
  unfold k0_pay298 k0_pay292 k0_pay293
  simp only [t255, t258]
  pointwise [k0_pay142, k0_pay137, k0_pay135, k0_pay136]
  exact three (unit (hk (fun u => x0 (ix2 i1 u)) (fun u => x1 (ix3 0 i1 u)) (fun j u => x5 (ix3 0 j u)) 2)) (fun k => unit_real _ _) i0

/-- Head 2's gated, decayed keys, transposed. -/
theorem t299 : k0_pay299 x0 x1 x2 x3 x4 x5 x6 x7 x8 = fun i => unit (hk (fun u => x0 (ix2 (i 1) u)) (fun u => x1 (ix3 0 (i 1) u)) (fun j u => x5 (ix3 0 j u)) 2) (i 0) * hb (fun u => x2 (ix2 (i 1) u)) 2 * he (fun u => x2 (ix2 (i 1) u)) (fun u => x6 (ix3 0 0 u)) (fun u => x7 (ix3 0 0 u)) 2 := by
  funext i
  idx_vars i
  unfold k0_pay299 k0_pay292 k0_pay293
  simp only [t255, t256, t257, t258]
  pointwise [k0_pay143, k0_pay137, k0_pay140, k0_pay139, k0_pay135, k0_pay136]
  exact three (fun k => unit (hk (fun u => x0 (ix2 i1 u)) (fun u => x1 (ix3 0 i1 u)) (fun j u => x5 (ix3 0 j u)) 2) k * hb (fun u => x2 (ix2 i1 u)) 2 * he (fun u => x2 (ix2 i1 u)) (fun u => x6 (ix3 0 0 u)) (fun u => x7 (ix3 0 0 u)) 2) (fun k => ((unit_real _ _).mul (logistic_real _)).mul (decay_real _ _ _)) i0

/-- Head 2's decayed queries, transposed. -/
theorem t302 : k0_pay302 x0 x1 x2 x3 x4 x5 x6 x7 x8 = fun i => qry (hq (fun u => x0 (ix2 (i 1) u)) (fun u => x1 (ix3 0 (i 1) u)) (fun j u => x5 (ix3 0 j u)) 2) (i 0) * he (fun u => x2 (ix2 (i 1) u)) (fun u => x6 (ix3 0 0 u)) (fun u => x7 (ix3 0 0 u)) 2 := by
  funext i
  idx_vars i
  unfold k0_pay302 k0_pay300 k0_pay301 k0_pay291
  simp only [t255, t256, t258]
  pointwise [k0_pay146, k0_pay144, k0_pay145, k0_pay139, k0_pay134]
  exact three (fun k => qry (hq (fun u => x0 (ix2 i1 u)) (fun u => x1 (ix3 0 i1 u)) (fun j u => x5 (ix3 0 j u)) 2) k * he (fun u => x2 (ix2 i1 u)) (fun u => x6 (ix3 0 0 u)) (fun u => x7 (ix3 0 0 u)) 2) (fun k => ((unit_real _ _).mul scale_real).mul (decay_real _ _ _)) i0

/-- Head 3's decay, along its row. -/
theorem t309 : k0_pay309 x0 x1 x2 x3 x4 x5 x6 x7 x8 = fun i => he (fun u => x2 (ix2 (i 0) u)) (fun u => x6 (ix3 0 0 u)) (fun u => x7 (ix3 0 0 u)) 3 := by
  funext i
  idx_vars i
  unfold k0_pay309
  simp only [t256]
  pointwise [k0_pay199]
  rfl

/-- Head 3's gated values. -/
theorem t316 : k0_pay316 x0 x1 x2 x3 x4 x5 x6 x7 x8 = fun i => hv (fun u => x0 (ix2 (i 0) u)) (fun u => x1 (ix3 0 (i 0) u)) (fun j u => x5 (ix3 0 j u)) 3 (i 1) * hb (fun u => x2 (ix2 (i 0) u)) 3 := by
  funext i
  idx_vars i
  unfold k0_pay316 k0_pay308 k0_pay310
  simp only [t255, t257]
  pointwise [k0_pay206, k0_pay198, k0_pay200]
  rfl

/-- Head 3's score of its query against its key. -/
theorem t311 : k0_pay311 x0 x1 x2 x3 x4 x5 x6 x7 x8 = fun i => ∑ k, qry (hq (fun u => x0 (ix2 (i 0) u)) (fun u => x1 (ix3 0 (i 0) u)) (fun j u => x5 (ix3 0 j u)) 3) k * unit (hk (fun u => x0 (ix2 (i 0) u)) (fun u => x1 (ix3 0 (i 0) u)) (fun j u => x5 (ix3 0 j u)) 3) k := by
  funext i
  idx_vars i
  unfold k0_pay311 k0_pay306 k0_pay307
  simp only [t255]
  pointwise [k0_pay201, k0_pay197, k0_pay195, k0_pay196]
  rfl

/-- Head 3's keys, transposed. -/
theorem t312 : k0_pay312 x0 x1 x2 x3 x4 x5 x6 x7 x8 = fun i => unit (hk (fun u => x0 (ix2 (i 1) u)) (fun u => x1 (ix3 0 (i 1) u)) (fun j u => x5 (ix3 0 j u)) 3) (i 0) := by
  funext i
  idx_vars i
  unfold k0_pay312 k0_pay307
  simp only [t255, t258]
  pointwise [k0_pay202, k0_pay197, k0_pay196]
  exact three (unit (hk (fun u => x0 (ix2 i1 u)) (fun u => x1 (ix3 0 i1 u)) (fun j u => x5 (ix3 0 j u)) 3)) (fun k => unit_real _ _) i0

/-- Head 3's gated, decayed keys, transposed. -/
theorem t313 : k0_pay313 x0 x1 x2 x3 x4 x5 x6 x7 x8 = fun i => unit (hk (fun u => x0 (ix2 (i 1) u)) (fun u => x1 (ix3 0 (i 1) u)) (fun j u => x5 (ix3 0 j u)) 3) (i 0) * hb (fun u => x2 (ix2 (i 1) u)) 3 * he (fun u => x2 (ix2 (i 1) u)) (fun u => x6 (ix3 0 0 u)) (fun u => x7 (ix3 0 0 u)) 3 := by
  funext i
  idx_vars i
  unfold k0_pay313 k0_pay307
  simp only [t255, t256, t257, t258]
  pointwise [k0_pay203, k0_pay197, k0_pay200, k0_pay199, k0_pay196]
  exact three (fun k => unit (hk (fun u => x0 (ix2 i1 u)) (fun u => x1 (ix3 0 i1 u)) (fun j u => x5 (ix3 0 j u)) 3) k * hb (fun u => x2 (ix2 i1 u)) 3 * he (fun u => x2 (ix2 i1 u)) (fun u => x6 (ix3 0 0 u)) (fun u => x7 (ix3 0 0 u)) 3) (fun k => ((unit_real _ _).mul (logistic_real _)).mul (decay_real _ _ _)) i0

/-- Head 3's decayed queries, transposed. -/
theorem t315 : k0_pay315 x0 x1 x2 x3 x4 x5 x6 x7 x8 = fun i => qry (hq (fun u => x0 (ix2 (i 1) u)) (fun u => x1 (ix3 0 (i 1) u)) (fun j u => x5 (ix3 0 j u)) 3) (i 0) * he (fun u => x2 (ix2 (i 1) u)) (fun u => x6 (ix3 0 0 u)) (fun u => x7 (ix3 0 0 u)) 3 := by
  funext i
  idx_vars i
  unfold k0_pay315 k0_pay314 k0_pay306
  simp only [t255, t256, t258]
  pointwise [k0_pay205, k0_pay204, k0_pay199, k0_pay195]
  exact three (fun k => qry (hq (fun u => x0 (ix2 i1 u)) (fun u => x1 (ix3 0 i1 u)) (fun j u => x5 (ix3 0 j u)) 3) k * he (fun u => x2 (ix2 i1 u)) (fun u => x6 (ix3 0 0 u)) (fun u => x7 (ix3 0 0 u)) 3) (fun k => ((unit_real _ _).mul scale_real).mul (decay_real _ _ _)) i0

end Cert.GdnSampleIdeal.Step

end
-- ==== Proof.GdnStepGoal.lean ====
/-
  What the recurrence step's two output blocks are to hold.
-/
module

public import proofs.«01_k».proof.Proof.Gen.GdnSampleIdeal.Frame
public import proofs.«01_k».proof.Proof.GdnStepShared
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- The next state of every row and head of a block. -/
def G10 : S8x4x128x128.Idx → EReal := fun i =>
  snew (fun u => x0 (ix2 (i 0) u)) (fun u => x1 (ix3 0 (i 0) u)) (fun j u => x5 (ix3 0 j u)) (fun u => x2 (ix2 (i 0) u)) (fun u => x6 (ix3 0 0 u)) (fun u => x7 (ix3 0 0 u)) (i 1) (fun k v => x4 (ix5 0 (i 0) (i 1) k v)) (i 2) (i 3)

/-- The output of every row and head of a block, before the heads are laid side by side. -/
def g9 (r : Fin 8) (h : Fin 4) (v : Fin 128) : EReal :=
  ynew (fun u => x0 (ix2 r u)) (fun u => x1 (ix3 0 r u)) (fun j u => x5 (ix3 0 j u)) (fun u => x2 (ix2 r u)) (fun u => x6 (ix3 0 0 u)) (fun u => x7 (ix3 0 0 u)) (fun u => x8 (ix3 0 0 u)) (fun u => x3 (ix2 r u)) h (fun k v => x4 (ix5 0 r h k v)) v

/-- The output of every row of a block. -/
def G9 : S8x512.Idx → EReal := fun i =>
  g9 x0 x1 x2 x3 x4 x5 x6 x7 x8 (i 0) ⟨(i 1).val / 128, Nat.div_lt_of_lt_mul (i 1).isLt⟩ ⟨(i 1).val % 128, Nat.mod_lt _ (by decide)⟩

/-- The output of a head's column. -/
theorem G9_at (r : Fin 8) (h : Fin 4) (v : Fin 128) (n : Fin 512) (hn : n.val = 128 * h.val + v.val) :
    G9 x0 x1 x2 x3 x4 x5 x6 x7 x8 (ix2 r n) = g9 x0 x1 x2 x3 x4 x5 x6 x7 x8 r h v := by
  unfold G9
  have e1 : (⟨n.val / 128, Nat.div_lt_of_lt_mul n.isLt⟩ : Fin 4) = h := Fin.ext (by simp only []; omega)
  have e2 : (⟨n.val % 128, Nat.mod_lt _ (by decide)⟩ : Fin 128) = v := Fin.ext (by simp only []; omega)
  exact congrArg₂ (g9 x0 x1 x2 x3 x4 x5 x6 x7 x8 r) e1 e2

/-- Head 0: the decayed queries, transposed, as the first row's products take them. -/
theorem r271 : k0_pay22 (k0_pay258 x0 x1 x2 x3 x4 x5 x6 x7 x8) (k0_pay269 x0 x1 x2 x3 x4 x5 x6 x7 x8) (k0_pay270 x0 x1 x2 x3 x4 x5 x6 x7 x8) = fun i => qry (hq (fun u => x0 (ix2 (i 1) u)) (fun u => x1 (ix3 0 (i 1) u)) (fun j u => x5 (ix3 0 j u)) 0) (i 0) * he (fun u => x2 (ix2 (i 1) u)) (fun u => x6 (ix3 0 0 u)) (fun u => x7 (ix3 0 0 u)) 0 := t271 x0 x1 x2 x3 x4 x5 x6 x7 x8

/-- Head 0: the gated values, as the first row's products take them. -/
theorem r272 : k0_pay23 (k0_pay263 x0 x1 x2 x3 x4 x5 x6 x7 x8) (k0_pay265 x0 x1 x2 x3 x4 x5 x6 x7 x8) = fun i => hv (fun u => x0 (ix2 (i 0) u)) (fun u => x1 (ix3 0 (i 0) u)) (fun j u => x5 (ix3 0 j u)) 0 (i 1) * hb (fun u => x2 (ix2 (i 0) u)) 0 := t272 x0 x1 x2 x3 x4 x5 x6 x7 x8

/-- Head 1: the decayed queries, transposed, as the first row's products take them. -/
theorem r287 : k0_pay85 (k0_pay258 x0 x1 x2 x3 x4 x5 x6 x7 x8) (k0_pay284 x0 x1 x2 x3 x4 x5 x6 x7 x8) (k0_pay285 x0 x1 x2 x3 x4 x5 x6 x7 x8) (k0_pay286 x0 x1 x2 x3 x4 x5 x6 x7 x8) = fun i => qry (hq (fun u => x0 (ix2 (i 1) u)) (fun u => x1 (ix3 0 (i 1) u)) (fun j u => x5 (ix3 0 j u)) 1) (i 0) * he (fun u => x2 (ix2 (i 1) u)) (fun u => x6 (ix3 0 0 u)) (fun u => x7 (ix3 0 0 u)) 1 := t287 x0 x1 x2 x3 x4 x5 x6 x7 x8

/-- Head 1: the gated values, as the first row's products take them. -/
theorem r288 : k0_pay86 (k0_pay278 x0 x1 x2 x3 x4 x5 x6 x7 x8) (k0_pay280 x0 x1 x2 x3 x4 x5 x6 x7 x8) = fun i => hv (fun u => x0 (ix2 (i 0) u)) (fun u => x1 (ix3 0 (i 0) u)) (fun j u => x5 (ix3 0 j u)) 1 (i 1) * hb (fun u => x2 (ix2 (i 0) u)) 1 := t288 x0 x1 x2 x3 x4 x5 x6 x7 x8

/-- Head 2: the decayed queries, transposed, as the first row's products take them. -/
theorem r302 : k0_pay146 (k0_pay258 x0 x1 x2 x3 x4 x5 x6 x7 x8) (k0_pay300 x0 x1 x2 x3 x4 x5 x6 x7 x8) (k0_pay301 x0 x1 x2 x3 x4 x5 x6 x7 x8) = fun i => qry (hq (fun u => x0 (ix2 (i 1) u)) (fun u => x1 (ix3 0 (i 1) u)) (fun j u => x5 (ix3 0 j u)) 2) (i 0) * he (fun u => x2 (ix2 (i 1) u)) (fun u => x6 (ix3 0 0 u)) (fun u => x7 (ix3 0 0 u)) 2 := t302 x0 x1 x2 x3 x4 x5 x6 x7 x8

/-- Head 2: the gated values, as the first row's products take them. -/
theorem r303 : k0_pay147 (k0_pay294 x0 x1 x2 x3 x4 x5 x6 x7 x8) (k0_pay296 x0 x1 x2 x3 x4 x5 x6 x7 x8) = fun i => hv (fun u => x0 (ix2 (i 0) u)) (fun u => x1 (ix3 0 (i 0) u)) (fun j u => x5 (ix3 0 j u)) 2 (i 1) * hb (fun u => x2 (ix2 (i 0) u)) 2 := t303 x0 x1 x2 x3 x4 x5 x6 x7 x8

/-- Head 3: the decayed queries, transposed, as the first row's products take them. -/
theorem r315 : k0_pay205 (k0_pay258 x0 x1 x2 x3 x4 x5 x6 x7 x8) (k0_pay314 x0 x1 x2 x3 x4 x5 x6 x7 x8) = fun i => qry (hq (fun u => x0 (ix2 (i 1) u)) (fun u => x1 (ix3 0 (i 1) u)) (fun j u => x5 (ix3 0 j u)) 3) (i 0) * he (fun u => x2 (ix2 (i 1) u)) (fun u => x6 (ix3 0 0 u)) (fun u => x7 (ix3 0 0 u)) 3 := t315 x0 x1 x2 x3 x4 x5 x6 x7 x8

/-- Head 3: the gated values, as the first row's products take them. -/
theorem r316 : k0_pay206 (k0_pay308 x0 x1 x2 x3 x4 x5 x6 x7 x8) (k0_pay310 x0 x1 x2 x3 x4 x5 x6 x7 x8) = fun i => hv (fun u => x0 (ix2 (i 0) u)) (fun u => x1 (ix3 0 (i 0) u)) (fun j u => x5 (ix3 0 j u)) 3 (i 1) * hb (fun u => x2 (ix2 (i 0) u)) 3 := t316 x0 x1 x2 x3 x4 x5 x6 x7 x8

end Cert.GdnSampleIdeal.Step

end
-- ==== Proof.GdnStepHead0.lean ====
/-
  The stores of head 0, row by row.
-/
module

public import proofs.«01_k».proof.Proof.Gen.GdnSampleIdeal.Frame
public import proofs.«01_k».proof.Proof.GdnStepGoal
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- Row 0, head 0: the stored state. -/
theorem s0_0 (y : S1x1x128x128.Idx) : (k0_pay27 (k0_pay263 x0 x1 x2 x3 x4 x5 x6 x7 x8) (k0_pay264 x0 x1 x2 x3 x4 x5 x6 x7 x8) (k0_pay265 x0 x1 x2 x3 x4 x5 x6 x7 x8) (k0_pay267 x0 x1 x2 x3 x4 x5 x6 x7 x8) (k0_pay268 x0 x1 x2 x3 x4 x5 x6 x7 x8) (View.ld x4 r0_11)) y = G10 x0 x1 x2 x4 x5 x6 x7 (r0_12.emb y) := by
  idx_vars y
  have e : r0_12.emb (ix4 y0 y1 y2 y3) = ix4 0 0 y2 y3 := by
    funext a
    apply Fin.ext
    rw [Rect.emb_apply]
    match a with
    | ⟨0, _⟩ => show 0 + 1 * y0.val = 0; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268]
  pointwise [k0_pay27, k0_pay24, k0_pay25, r271 x0 x1 x2 x3 x4 x5 x6 x7 x8, r272 x0 x1 x2 x3 x4 x5 x6 x7 x8]
  rfl

/-- Row 1, head 0: the stored state. -/
theorem s0_1 (y : S1x1x128x128.Idx) : (k0_pay33 (k0_pay32 (k0_pay264 x0 x1 x2 x3 x4 x5 x6 x7 x8) (k0_pay267 x0 x1 x2 x3 x4 x5 x6 x7 x8) (k0_pay268 x0 x1 x2 x3 x4 x5 x6 x7 x8) (k0_pay272 x0 x1 x2 x3 x4 x5 x6 x7 x8) (View.ld x4 r0_14))) y = G10 x0 x1 x2 x4 x5 x6 x7 (r0_15.emb y) := by
  idx_vars y
  have e : r0_15.emb (ix4 y0 y1 y2 y3) = ix4 1 0 y2 y3 := by
    funext a
    apply Fin.ext
    rw [Rect.emb_apply]
    match a with
    | ⟨0, _⟩ => show 1 + 1 * y0.val = 1; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268, t272]
  pointwise [k0_pay33, k0_pay32, k0_pay29, k0_pay30]
  rfl

/-- Row 2, head 0: the stored state. -/
theorem s0_2 (y : S1x1x128x128.Idx) : (k0_pay39 (k0_pay38 (k0_pay264 x0 x1 x2 x3 x4 x5 x6 x7 x8) (k0_pay267 x0 x1 x2 x3 x4 x5 x6 x7 x8) (k0_pay268 x0 x1 x2 x3 x4 x5 x6 x7 x8) (k0_pay272 x0 x1 x2 x3 x4 x5 x6 x7 x8) (View.ld x4 r0_17))) y = G10 x0 x1 x2 x4 x5 x6 x7 (r0_18.emb y) := by
  idx_vars y
  have e : r0_18.emb (ix4 y0 y1 y2 y3) = ix4 2 0 y2 y3 := by
    funext a
    apply Fin.ext
    rw [Rect.emb_apply]
    match a with
    | ⟨0, _⟩ => show 2 + 1 * y0.val = 2; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268, t272]
  pointwise [k0_pay39, k0_pay38, k0_pay35, k0_pay36]
  rfl

/-- Row 3, head 0: the stored state. -/
theorem s0_3 (y : S1x1x128x128.Idx) : (k0_pay46 (k0_pay44 (k0_pay264 x0 x1 x2 x3 x4 x5 x6 x7 x8) (View.ld x4 r0_20)) (k0_pay45 (k0_pay267 x0 x1 x2 x3 x4 x5 x6 x7 x8) (k0_pay268 x0 x1 x2 x3 x4 x5 x6 x7 x8) (k0_pay272 x0 x1 x2 x3 x4 x5 x6 x7 x8) (View.ld x4 r0_20))) y = G10 x0 x1 x2 x4 x5 x6 x7 (r0_21.emb y) := by
  idx_vars y
  have e : r0_21.emb (ix4 y0 y1 y2 y3) = ix4 3 0 y2 y3 := by
    funext a
    apply Fin.ext
    rw [Rect.emb_apply]
    match a with
    | ⟨0, _⟩ => show 3 + 1 * y0.val = 3; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268, t272]
  pointwise [k0_pay46, k0_pay44, k0_pay45, k0_pay41, k0_pay42]
  rfl

/-- Row 4, head 0: the stored state. -/
theorem s0_4 (y : S1x1x128x128.Idx) : (k0_pay53 (k0_pay49 (k0_pay268 x0 x1 x2 x3 x4 x5 x6 x7 x8) (k0_pay272 x0 x1 x2 x3 x4 x5 x6 x7 x8) (View.ld x4 r0_23)) (k0_pay51 (k0_pay264 x0 x1 x2 x3 x4 x5 x6 x7 x8) (View.ld x4 r0_23)) (k0_pay52 (k0_pay267 x0 x1 x2 x3 x4 x5 x6 x7 x8))) y = G10 x0 x1 x2 x4 x5 x6 x7 (r0_24.emb y) := by
  idx_vars y
  have e : r0_24.emb (ix4 y0 y1 y2 y3) = ix4 4 0 y2 y3 := by
    funext a
    apply Fin.ext
    rw [Rect.emb_apply]
    match a with
    | ⟨0, _⟩ => show 4 + 1 * y0.val = 4; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268, t272]
  pointwise [k0_pay53, k0_pay49, k0_pay51, k0_pay52, k0_pay48]
  rfl

/-- Row 5, head 0: the stored state. -/
theorem s0_5 (y : S1x1x128x128.Idx) : (k0_pay59 (k0_pay267 x0 x1 x2 x3 x4 x5 x6 x7 x8) (k0_pay55 (View.ld x4 r0_26)) (k0_pay56 (k0_pay268 x0 x1 x2 x3 x4 x5 x6 x7 x8) (k0_pay272 x0 x1 x2 x3 x4 x5 x6 x7 x8) (View.ld x4 r0_26)) (k0_pay58 (k0_pay264 x0 x1 x2 x3 x4 x5 x6 x7 x8))) y = G10 x0 x1 x2 x4 x5 x6 x7 (r0_27.emb y) := by
  idx_vars y
  have e : r0_27.emb (ix4 y0 y1 y2 y3) = ix4 5 0 y2 y3 := by
    funext a
    apply Fin.ext
    rw [Rect.emb_apply]
    match a with
    | ⟨0, _⟩ => show 5 + 1 * y0.val = 5; omega
    | ⟨1, _⟩ => show 0 + 1 * y1.val = 0; omega
    | ⟨2, _⟩ => show 0 + 1 * y2.val = y2.val; omega
    | ⟨3, _⟩ => show 0 + 1 * y3.val = y3.val; omega
  rw [e]
  simp only [t264, t267, t268, t272]
  pointwise [k0_pay59, k0_pay55, k0_pay56, k0_pay58]
  rfl

/-- Row 6, head 0: the stored state. -/
theorem s0_6 (y : S1x1x128x128.Idx) : (k0_pay65 (k0_pay264 x0 x1 x2 x3 x4 x5 x6 x7 x8) (k0_pay267 x0 x1 x2 x3 x4 x5 x6 x7 x8) (k0_pay61 (View.ld x4 r0_29)) (k0_pay273 x0 x1 x2 x3 x4 x5 x6 x7 x8)) y = G10 x0 x1 x2 x4 x5 x6 x7 (r0_30.emb y) := by
  idx_vars y
  have e : r0_30.emb (ix4 y0 y1 y2 y3) = ix4 6 0 y2 y3 := by
    funext a
    apply Fin.ext
    rw [Rect.emb_apply]
    match a with
    | ⟨0, _⟩ => show 6 + 1 * y0.val = 6; omega
    | ⟨1, _⟩ => show 0 + 1 * y1.val = 0; omega
    | ⟨2, _⟩ => show 0 + 1 * y2.val = y2.val; omega
    | ⟨3, _⟩ => show 0 + 1 * y3.val = y3.val; omega
  rw [e]
  unfold k0_pay273
  simp only [t264, t267, t268, t272]
  pointwise [k0_pay65, k0_pay61, k0_pay62]
  rfl

/-- Row 7, head 0: the stored state. -/
theorem s0_7 (y : S1x1x128x128.Idx) : (k0_pay70 (k0_pay264 x0 x1 x2 x3 x4 x5 x6 x7 x8) (k0_pay267 x0 x1 x2 x3 x4 x5 x6 x7 x8) (k0_pay67 (View.ld x4 r0_32)) (k0_pay274 x0 x1 x2 x3 x4 x5 x6 x7 x8)) y = G10 x0 x1 x2 x4 x5 x6 x7 (r0_33.emb y) := by
  idx_vars y
  have e : r0_33.emb (ix4 y0 y1 y2 y3) = ix4 7 0 y2 y3 := by
    funext a
    apply Fin.ext
    rw [Rect.emb_apply]
    match a with
    | ⟨0, _⟩ => show 7 + 1 * y0.val = 7; omega
    | ⟨1, _⟩ => show 0 + 1 * y1.val = 0; omega
    | ⟨2, _⟩ => show 0 + 1 * y2.val = y2.val; omega
    | ⟨3, _⟩ => show 0 + 1 * y3.val = y3.val; omega
  rw [e]
  unfold k0_pay274
  simp only [t264, t267, t268, t272]
  pointwise [k0_pay70, k0_pay67, k0_pay68]
  rfl

/-- Row 0, head 0: the stored output. -/
theorem o0_0 (y : S1x128.Idx) : (k0_pay28 (k0_pay259 x0 x1 x2 x3 x4 x5 x6 x7 x8) (View.ld x3 r0_10) (k0_pay26 (k0_pay258 x0 x1 x2 x3 x4 x5 x6 x7 x8) (k0_pay263 x0 x1 x2 x3 x4 x5 x6 x7 x8) (k0_pay265 x0 x1 x2 x3 x4 x5 x6 x7 x8) (k0_pay266 x0 x1 x2 x3 x4 x5 x6 x7 x8) (k0_pay268 x0 x1 x2 x3 x4 x5 x6 x7 x8) (k0_pay269 x0 x1 x2 x3 x4 x5 x6 x7 x8) (k0_pay270 x0 x1 x2 x3 x4 x5 x6 x7 x8) (View.ld x4 r0_11))) y = G9 x0 x1 x2 x3 x4 x5 x6 x7 x8 (r0_13.emb y) := by
  idx_vars y
  have e : r0_13.emb (ix2 y0 y1) = ix2 0 ⟨128 * 0 + y1.val, by omega⟩ := by
    funext a
    apply Fin.ext
    rw [Rect.emb_apply]
    match a with
    | ⟨0, _⟩ => show 0 + 1 * y0.val = 0; omega
    | ⟨1, _⟩ => show 0 + 1 * y1.val = 128 * 0 + y1.val; omega
  rw [e, G9_at x0 x1 x2 x3 x4 x5 x6 x7 x8 0 0 y1 _ rfl]
  simp only [t259, t266, t268]
  pointwise [k0_pay28, k0_pay26, k0_pay24, k0_pay25, r271 x0 x1 x2 x3 x4 x5 x6 x7 x8, r272 x0 x1 x2 x3 x4 x5 x6 x7 x8]
  unfold g9 ynew Cert.GdnStep.fin
  simp only [Fin.val_zero, Nat.mul_zero, Nat.zero_add]
  rfl

/-- Row 1, head 0: the stored output. -/
theorem o0_1 (y : S1x128.Idx) : (k0_pay34 (k0_pay259 x0 x1 x2 x3 x4 x5 x6 x7 x8) (View.ld x3 r0_10) (k0_pay31 (k0_pay266 x0 x1 x2 x3 x4 x5 x6 x7 x8) (k0_pay268 x0 x1 x2 x3 x4 x5 x6 x7 x8) (k0_pay271 x0 x1 x2 x3 x4 x5 x6 x7 x8) (k0_pay272 x0 x1 x2 x3 x4 x5 x6 x7 x8) (View.ld x4 r0_14))) y = G9 x0 x1 x2 x3 x4 x5 x6 x7 x8 (r0_16.emb y) := by
  idx_vars y
  have e : r0_16.emb (ix2 y0 y1) = ix2 1 ⟨128 * 0 + y1.val, by omega⟩ := by
    funext a
    apply Fin.ext
    rw [Rect.emb_apply]
    match a with
    | ⟨0, _⟩ => show 1 + 1 * y0.val = 1; omega
    | ⟨1, _⟩ => show 0 + 1 * y1.val = 128 * 0 + y1.val; omega
  rw [e, G9_at x0 x1 x2 x3 x4 x5 x6 x7 x8 1 0 y1 _ rfl]
  simp only [t259, t266, t268, t271, t272]
  pointwise [k0_pay34, k0_pay31, k0_pay29, k0_pay30]
  unfold g9 ynew Cert.GdnStep.fin
  simp only [Fin.val_zero, Nat.mul_zero, Nat.zero_add]
  rfl

/-- Row 2, head 0: the stored output. -/
theorem o0_2 (y : S1x128.Idx) : (k0_pay40 (k0_pay259 x0 x1 x2 x3 x4 x5 x6 x7 x8) (View.ld x3 r0_10) (k0_pay37 (k0_pay266 x0 x1 x2 x3 x4 x5 x6 x7 x8) (k0_pay268 x0 x1 x2 x3 x4 x5 x6 x7 x8) (k0_pay271 x0 x1 x2 x3 x4 x5 x6 x7 x8) (k0_pay272 x0 x1 x2 x3 x4 x5 x6 x7 x8) (View.ld x4 r0_17))) y = G9 x0 x1 x2 x3 x4 x5 x6 x7 x8 (r0_19.emb y) := by
  idx_vars y
  have e : r0_19.emb (ix2 y0 y1) = ix2 2 ⟨128 * 0 + y1.val, by omega⟩ := by
    funext a
    apply Fin.ext
    rw [Rect.emb_apply]
    match a with
    | ⟨0, _⟩ => show 2 + 1 * y0.val = 2; omega
    | ⟨1, _⟩ => show 0 + 1 * y1.val = 128 * 0 + y1.val; omega
  rw [e, G9_at x0 x1 x2 x3 x4 x5 x6 x7 x8 2 0 y1 _ rfl]
  simp only [t259, t266, t268, t271, t272]
  pointwise [k0_pay40, k0_pay37, k0_pay35, k0_pay36]
  unfold g9 ynew Cert.GdnStep.fin
  simp only [Fin.val_zero, Nat.mul_zero, Nat.zero_add]
  rfl

/-- Row 3, head 0: the stored output. -/
theorem o0_3 (y : S1x128.Idx) : (k0_pay47 (k0_pay259 x0 x1 x2 x3 x4 x5 x6 x7 x8) (View.ld x3 r0_10) (k0_pay43 (k0_pay266 x0 x1 x2 x3 x4 x5 x6 x7 x8) (k0_pay268 x0 x1 x2 x3 x4 x5 x6 x7 x8) (k0_pay271 x0 x1 x2 x3 x4 x5 x6 x7 x8) (k0_pay272 x0 x1 x2 x3 x4 x5 x6 x7 x8) (View.ld x4 r0_20))) y = G9 x0 x1 x2 x3 x4 x5 x6 x7 x8 (r0_22.emb y) := by
  idx_vars y
  have e : r0_22.emb (ix2 y0 y1) = ix2 3 ⟨128 * 0 + y1.val, by omega⟩ := by
    funext a
    apply Fin.ext
    rw [Rect.emb_apply]
    match a with
    | ⟨0, _⟩ => show 3 + 1 * y0.val = 3; omega
    | ⟨1, _⟩ => show 0 + 1 * y1.val = 128 * 0 + y1.val; omega
  rw [e, G9_at x0 x1 x2 x3 x4 x5 x6 x7 x8 3 0 y1 _ rfl]
  simp only [t259, t266, t268, t271, t272]
  pointwise [k0_pay47, k0_pay43, k0_pay41, k0_pay42]
  unfold g9 ynew Cert.GdnStep.fin
  simp only [Fin.val_zero, Nat.mul_zero, Nat.zero_add]
  rfl

/-- Row 4, head 0: the stored output. -/
theorem o0_4 (y : S1x128.Idx) : (k0_pay54 (k0_pay259 x0 x1 x2 x3 x4 x5 x6 x7 x8) (View.ld x3 r0_10) (k0_pay50 (k0_pay266 x0 x1 x2 x3 x4 x5 x6 x7 x8) (k0_pay268 x0 x1 x2 x3 x4 x5 x6 x7 x8) (k0_pay271 x0 x1 x2 x3 x4 x5 x6 x7 x8) (k0_pay272 x0 x1 x2 x3 x4 x5 x6 x7 x8) (View.ld x4 r0_23))) y = G9 x0 x1 x2 x3 x4 x5 x6 x7 x8 (r0_25.emb y) := by
  idx_vars y
  have e : r0_25.emb (ix2 y0 y1) = ix2 4 ⟨128 * 0 + y1.val, by omega⟩ := by
    funext a
    apply Fin.ext
    rw [Rect.emb_apply]
    match a with
    | ⟨0, _⟩ => show 4 + 1 * y0.val = 4; omega
    | ⟨1, _⟩ => show 0 + 1 * y1.val = 128 * 0 + y1.val; omega
  rw [e, G9_at x0 x1 x2 x3 x4 x5 x6 x7 x8 4 0 y1 _ rfl]
  simp only [t259, t266, t268, t271, t272]
  pointwise [k0_pay54, k0_pay50, k0_pay48, k0_pay49]
  unfold g9 ynew Cert.GdnStep.fin
  simp only [Fin.val_zero, Nat.mul_zero, Nat.zero_add]
  rfl

/-- Row 5, head 0: the stored output. -/
theorem o0_5 (y : S1x128.Idx) : (k0_pay60 (k0_pay259 x0 x1 x2 x3 x4 x5 x6 x7 x8) (View.ld x3 r0_10) (k0_pay57 (k0_pay266 x0 x1 x2 x3 x4 x5 x6 x7 x8) (k0_pay268 x0 x1 x2 x3 x4 x5 x6 x7 x8) (k0_pay271 x0 x1 x2 x3 x4 x5 x6 x7 x8) (k0_pay272 x0 x1 x2 x3 x4 x5 x6 x7 x8) (View.ld x4 r0_26))) y = G9 x0 x1 x2 x3 x4 x5 x6 x7 x8 (r0_28.emb y) := by
  idx_vars y
  have e : r0_28.emb (ix2 y0 y1) = ix2 5 ⟨128 * 0 + y1.val, by omega⟩ := by
    funext a
    apply Fin.ext
    rw [Rect.emb_apply]
    match a with
    | ⟨0, _⟩ => show 5 + 1 * y0.val = 5; omega
    | ⟨1, _⟩ => show 0 + 1 * y1.val = 128 * 0 + y1.val; omega
  rw [e, G9_at x0 x1 x2 x3 x4 x5 x6 x7 x8 5 0 y1 _ rfl]
  simp only [t259, t266, t268, t271, t272]
  pointwise [k0_pay60, k0_pay57, k0_pay55, k0_pay56]
  unfold g9 ynew Cert.GdnStep.fin
  simp only [Fin.val_zero, Nat.mul_zero, Nat.zero_add]
  rfl

/-- Row 6, head 0: the stored output. -/
theorem o0_6 (y : S1x128.Idx) : (k0_pay66 (k0_pay259 x0 x1 x2 x3 x4 x5 x6 x7 x8) (View.ld x3 r0_10) (k0_pay273 x0 x1 x2 x3 x4 x5 x6 x7 x8) (k0_pay63 (k0_pay271 x0 x1 x2 x3 x4 x5 x6 x7 x8) (View.ld x4 r0_29)) (k0_pay64 (k0_pay266 x0 x1 x2 x3 x4 x5 x6 x7 x8))) y = G9 x0 x1 x2 x3 x4 x5 x6 x7 x8 (r0_31.emb y) := by
  idx_vars y
  have e : r0_31.emb (ix2 y0 y1) = ix2 6 ⟨128 * 0 + y1.val, by omega⟩ := by
    funext a
    apply Fin.ext
    rw [Rect.emb_apply]
    match a with
    | ⟨0, _⟩ => show 6 + 1 * y0.val = 6; omega
    | ⟨1, _⟩ => show 0 + 1 * y1.val = 128 * 0 + y1.val; omega
  rw [e, G9_at x0 x1 x2 x3 x4 x5 x6 x7 x8 6 0 y1 _ rfl]
  unfold k0_pay273
  simp only [t259, t266, t268, t271, t272]
  pointwise [k0_pay66, k0_pay63, k0_pay64, k0_pay62, k0_pay61]
  unfold g9 ynew Cert.GdnStep.fin
  simp only [Fin.val_zero, Nat.mul_zero, Nat.zero_add]
  rfl

/-- Row 7, head 0: the stored output. -/
theorem o0_7 (y : S1x128.Idx) : (k0_pay71 (k0_pay259 x0 x1 x2 x3 x4 x5 x6 x7 x8) (k0_pay266 x0 x1 x2 x3 x4 x5 x6 x7 x8) (View.ld x3 r0_10) (k0_pay274 x0 x1 x2 x3 x4 x5 x6 x7 x8) (k0_pay69 (k0_pay271 x0 x1 x2 x3 x4 x5 x6 x7 x8) (View.ld x4 r0_32))) y = G9 x0 x1 x2 x3 x4 x5 x6 x7 x8 (r0_34.emb y) := by
  idx_vars y
  have e : r0_34.emb (ix2 y0 y1) = ix2 7 ⟨128 * 0 + y1.val, by omega⟩ := by
    funext a
    apply Fin.ext
    rw [Rect.emb_apply]
    match a with
    | ⟨0, _⟩ => show 7 + 1 * y0.val = 7; omega
    | ⟨1, _⟩ => show 0 + 1 * y1.val = 128 * 0 + y1.val; omega
  rw [e, G9_at x0 x1 x2 x3 x4 x5 x6 x7 x8 7 0 y1 _ rfl]
  unfold k0_pay274
  simp only [t259, t266, t268, t271, t272]
  pointwise [k0_pay71, k0_pay69, k0_pay68, k0_pay67]
  unfold g9 ynew Cert.GdnStep.fin
  simp only [Fin.val_zero, Nat.mul_zero, Nat.zero_add]
  rfl

end Cert.GdnSampleIdeal.Step

end
-- ==== Proof.GdnStepHead1.lean ====
/-
  The stores of head 1, row by row.
-/
module

public import proofs.«01_k».proof.Proof.Gen.GdnSampleIdeal.Frame
public import proofs.«01_k».proof.Proof.GdnStepGoal
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- Row 0, head 1: the stored state. -/
theorem s1_0 (y : S1x1x128x128.Idx) : (k0_pay90 (k0_pay278 x0 x1 x2 x3 x4 x5 x6 x7 x8) (k0_pay279 x0 x1 x2 x3 x4 x5 x6 x7 x8) (k0_pay280 x0 x1 x2 x3 x4 x5 x6 x7 x8) (k0_pay282 x0 x1 x2 x3 x4 x5 x6 x7 x8) (k0_pay283 x0 x1 x2 x3 x4 x5 x6 x7 x8) (View.ld x4 r0_36)) y = G10 x0 x1 x2 x4 x5 x6 x7 (r0_37.emb y) := by
  idx_vars y
  have e : r0_37.emb (ix4 y0 y1 y2 y3) = ix4 0 1 y2 y3 := by
    funext a
    apply Fin.ext
    rw [Rect.emb_apply]
    match a with
    | ⟨0, _⟩ => show 0 + 1 * y0.val = 0; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283]
  pointwise [k0_pay90, k0_pay87, k0_pay88, r287 x0 x1 x2 x3 x4 x5 x6 x7 x8, r288 x0 x1 x2 x3 x4 x5 x6 x7 x8]
  rfl

/-- Row 1, head 1: the stored state. -/
theorem s1_1 (y : S1x1x128x128.Idx) : (k0_pay96 (k0_pay95 (k0_pay279 x0 x1 x2 x3 x4 x5 x6 x7 x8) (k0_pay282 x0 x1 x2 x3 x4 x5 x6 x7 x8) (k0_pay283 x0 x1 x2 x3 x4 x5 x6 x7 x8) (k0_pay288 x0 x1 x2 x3 x4 x5 x6 x7 x8) (View.ld x4 r0_39))) y = G10 x0 x1 x2 x4 x5 x6 x7 (r0_40.emb y) := by
  idx_vars y
  have e : r0_40.emb (ix4 y0 y1 y2 y3) = ix4 1 1 y2 y3 := by
    funext a
    apply Fin.ext
    rw [Rect.emb_apply]
    match a with
    | ⟨0, _⟩ => show 1 + 1 * y0.val = 1; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283, t288]
  pointwise [k0_pay96, k0_pay95, k0_pay92, k0_pay93]
  rfl

/-- Row 2, head 1: the stored state. -/
theorem s1_2 (y : S1x1x128x128.Idx) : (k0_pay102 (k0_pay101 (k0_pay279 x0 x1 x2 x3 x4 x5 x6 x7 x8) (k0_pay282 x0 x1 x2 x3 x4 x5 x6 x7 x8) (k0_pay283 x0 x1 x2 x3 x4 x5 x6 x7 x8) (k0_pay288 x0 x1 x2 x3 x4 x5 x6 x7 x8) (View.ld x4 r0_42))) y = G10 x0 x1 x2 x4 x5 x6 x7 (r0_43.emb y) := by
  idx_vars y
  have e : r0_43.emb (ix4 y0 y1 y2 y3) = ix4 2 1 y2 y3 := by
    funext a
    apply Fin.ext
    rw [Rect.emb_apply]
    match a with
    | ⟨0, _⟩ => show 2 + 1 * y0.val = 2; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283, t288]
  pointwise [k0_pay102, k0_pay101, k0_pay98, k0_pay99]
  rfl

/-- Row 3, head 1: the stored state. -/
theorem s1_3 (y : S1x1x128x128.Idx) : (k0_pay110 (k0_pay107 (k0_pay279 x0 x1 x2 x3 x4 x5 x6 x7 x8) (View.ld x4 r0_45)) (k0_pay108 (k0_pay282 x0 x1 x2 x3 x4 x5 x6 x7 x8)) (k0_pay109 (k0_pay283 x0 x1 x2 x3 x4 x5 x6 x7 x8) (k0_pay288 x0 x1 x2 x3 x4 x5 x6 x7 x8) (View.ld x4 r0_45))) y = G10 x0 x1 x2 x4 x5 x6 x7 (r0_46.emb y) := by
  idx_vars y
  have e : r0_46.emb (ix4 y0 y1 y2 y3) = ix4 3 1 y2 y3 := by
    funext a
    apply Fin.ext
    rw [Rect.emb_apply]
    match a with
    | ⟨0, _⟩ => show 3 + 1 * y0.val = 3; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283, t288]
  pointwise [k0_pay110, k0_pay107, k0_pay108, k0_pay109, k0_pay104, k0_pay105]
  rfl

/-- Row 4, head 1: the stored state. -/
theorem s1_4 (y : S1x1x128x128.Idx) : (k0_pay116 (k0_pay282 x0 x1 x2 x3 x4 x5 x6 x7 x8) (k0_pay113 (k0_pay283 x0 x1 x2 x3 x4 x5 x6 x7 x8) (k0_pay288 x0 x1 x2 x3 x4 x5 x6 x7 x8) (View.ld x4 r0_48)) (k0_pay115 (k0_pay279 x0 x1 x2 x3 x4 x5 x6 x7 x8) (View.ld x4 r0_48))) y = G10 x0 x1 x2 x4 x5 x6 x7 (r0_49.emb y) := by
  idx_vars y
  have e : r0_49.emb (ix4 y0 y1 y2 y3) = ix4 4 1 y2 y3 := by
    funext a
    apply Fin.ext
    rw [Rect.emb_apply]
    match a with
    | ⟨0, _⟩ => show 4 + 1 * y0.val = 4; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283, t288]
  pointwise [k0_pay116, k0_pay113, k0_pay115, k0_pay112]
  rfl

/-- Row 5, head 1: the stored state. -/
theorem s1_5 (y : S1x1x128x128.Idx) : (k0_pay121 (k0_pay279 x0 x1 x2 x3 x4 x5 x6 x7 x8) (k0_pay282 x0 x1 x2 x3 x4 x5 x6 x7 x8) (k0_pay118 (View.ld x4 r0_51)) (k0_pay119 (k0_pay283 x0 x1 x2 x3 x4 x5 x6 x7 x8) (k0_pay288 x0 x1 x2 x3 x4 x5 x6 x7 x8) (View.ld x4 r0_51))) y = G10 x0 x1 x2 x4 x5 x6 x7 (r0_52.emb y) := by
  idx_vars y
  have e : r0_52.emb (ix4 y0 y1 y2 y3) = ix4 5 1 y2 y3 := by
    funext a
    apply Fin.ext
    rw [Rect.emb_apply]
    match a with
    | ⟨0, _⟩ => show 5 + 1 * y0.val = 5; omega
    | ⟨1, _⟩ => show 1 + 1 * y1.val = 1; omega
    | ⟨2, _⟩ => show 0 + 1 * y2.val = y2.val; omega
    | ⟨3, _⟩ => show 0 + 1 * y3.val = y3.val; omega
  rw [e]
  simp only [t279, t282, t283, t288]
  pointwise [k0_pay121, k0_pay118, k0_pay119]
  rfl

/-- Row 6, head 1: the stored state. -/
theorem s1_6 (y : S1x1x128x128.Idx) : (k0_pay127 (k0_pay279 x0 x1 x2 x3 x4 x5 x6 x7 x8) (k0_pay282 x0 x1 x2 x3 x4 x5 x6 x7 x8) (k0_pay123 (View.ld x4 r0_54)) (k0_pay289 x0 x1 x2 x3 x4 x5 x6 x7 x8)) y = G10 x0 x1 x2 x4 x5 x6 x7 (r0_55.emb y) := by
  idx_vars y
  have e : r0_55.emb (ix4 y0 y1 y2 y3) = ix4 6 1 y2 y3 := by
    funext a
    apply Fin.ext
    rw [Rect.emb_apply]
    match a with
    | ⟨0, _⟩ => show 6 + 1 * y0.val = 6; omega
    | ⟨1, _⟩ => show 1 + 1 * y1.val = 1; omega
    | ⟨2, _⟩ => show 0 + 1 * y2.val = y2.val; omega
    | ⟨3, _⟩ => show 0 + 1 * y3.val = y3.val; omega
  rw [e]
  unfold k0_pay289
  simp only [t279, t282, t283, t288]
  pointwise [k0_pay127, k0_pay123, k0_pay124]
  rfl

/-- Row 7, head 1: the stored state. -/
theorem s1_7 (y : S1x1x128x128.Idx) : (k0_pay132 (k0_pay279 x0 x1 x2 x3 x4 x5 x6 x7 x8) (k0_pay282 x0 x1 x2 x3 x4 x5 x6 x7 x8) (k0_pay129 (View.ld x4 r0_57)) (k0_pay290 x0 x1 x2 x3 x4 x5 x6 x7 x8)) y = G10 x0 x1 x2 x4 x5 x6 x7 (r0_58.emb y) := by
  idx_vars y
  have e : r0_58.emb (ix4 y0 y1 y2 y3) = ix4 7 1 y2 y3 := by
    funext a
    apply Fin.ext
    rw [Rect.emb_apply]
    match a with
    | ⟨0, _⟩ => show 7 + 1 * y0.val = 7; omega
    | ⟨1, _⟩ => show 1 + 1 * y1.val = 1; omega
    | ⟨2, _⟩ => show 0 + 1 * y2.val = y2.val; omega
    | ⟨3, _⟩ => show 0 + 1 * y3.val = y3.val; omega
  rw [e]
  unfold k0_pay290
  simp only [t279, t282, t283, t288]
  pointwise [k0_pay132, k0_pay129, k0_pay130]
  rfl

/-- Row 0, head 1: the stored output. -/
theorem o1_0 (y : S1x128.Idx) : (k0_pay91 (k0_pay259 x0 x1 x2 x3 x4 x5 x6 x7 x8) (View.ld x3 r0_35) (k0_pay89 (k0_pay258 x0 x1 x2 x3 x4 x5 x6 x7 x8) (k0_pay278 x0 x1 x2 x3 x4 x5 x6 x7 x8) (k0_pay280 x0 x1 x2 x3 x4 x5 x6 x7 x8) (k0_pay281 x0 x1 x2 x3 x4 x5 x6 x7 x8) (k0_pay283 x0 x1 x2 x3 x4 x5 x6 x7 x8) (k0_pay284 x0 x1 x2 x3 x4 x5 x6 x7 x8) (k0_pay285 x0 x1 x2 x3 x4 x5 x6 x7 x8) (k0_pay286 x0 x1 x2 x3 x4 x5 x6 x7 x8) (View.ld x4 r0_36))) y = G9 x0 x1 x2 x3 x4 x5 x6 x7 x8 (r0_38.emb y) := by
  idx_vars y
  have e : r0_38.emb (ix2 y0 y1) = ix2 0 ⟨128 * 1 + y1.val, by omega⟩ := by
    funext a
    apply Fin.ext
    rw [Rect.emb_apply]
    match a with
    | ⟨0, _⟩ => show 0 + 1 * y0.val = 0; omega
    | ⟨1, _⟩ => show 128 + 1 * y1.val = 128 * 1 + y1.val; omega
  rw [e, G9_at x0 x1 x2 x3 x4 x5 x6 x7 x8 0 1 y1 _ rfl]
  simp only [t259, t281, t283]
  pointwise [k0_pay91, k0_pay89, k0_pay87, k0_pay88, r287 x0 x1 x2 x3 x4 x5 x6 x7 x8, r288 x0 x1 x2 x3 x4 x5 x6 x7 x8]
  rfl

/-- Row 1, head 1: the stored output. -/
theorem o1_1 (y : S1x128.Idx) : (k0_pay97 (k0_pay259 x0 x1 x2 x3 x4 x5 x6 x7 x8) (View.ld x3 r0_35) (k0_pay94 (k0_pay281 x0 x1 x2 x3 x4 x5 x6 x7 x8) (k0_pay283 x0 x1 x2 x3 x4 x5 x6 x7 x8) (k0_pay287 x0 x1 x2 x3 x4 x5 x6 x7 x8) (k0_pay288 x0 x1 x2 x3 x4 x5 x6 x7 x8) (View.ld x4 r0_39))) y = G9 x0 x1 x2 x3 x4 x5 x6 x7 x8 (r0_41.emb y) := by
  idx_vars y
  have e : r0_41.emb (ix2 y0 y1) = ix2 1 ⟨128 * 1 + y1.val, by omega⟩ := by
    funext a
    apply Fin.ext
    rw [Rect.emb_apply]
    match a with
    | ⟨0, _⟩ => show 1 + 1 * y0.val = 1; omega
    | ⟨1, _⟩ => show 128 + 1 * y1.val = 128 * 1 + y1.val; omega
  rw [e, G9_at x0 x1 x2 x3 x4 x5 x6 x7 x8 1 1 y1 _ rfl]
  simp only [t259, t281, t283, t287, t288]
  pointwise [k0_pay97, k0_pay94, k0_pay92, k0_pay93]
  rfl

/-- Row 2, head 1: the stored output. -/
theorem o1_2 (y : S1x128.Idx) : (k0_pay103 (k0_pay259 x0 x1 x2 x3 x4 x5 x6 x7 x8) (View.ld x3 r0_35) (k0_pay100 (k0_pay281 x0 x1 x2 x3 x4 x5 x6 x7 x8) (k0_pay283 x0 x1 x2 x3 x4 x5 x6 x7 x8) (k0_pay287 x0 x1 x2 x3 x4 x5 x6 x7 x8) (k0_pay288 x0 x1 x2 x3 x4 x5 x6 x7 x8) (View.ld x4 r0_42))) y = G9 x0 x1 x2 x3 x4 x5 x6 x7 x8 (r0_44.emb y) := by
  idx_vars y
  have e : r0_44.emb (ix2 y0 y1) = ix2 2 ⟨128 * 1 + y1.val, by omega⟩ := by
    funext a
    apply Fin.ext
    rw [Rect.emb_apply]
    match a with
    | ⟨0, _⟩ => show 2 + 1 * y0.val = 2; omega
    | ⟨1, _⟩ => show 128 + 1 * y1.val = 128 * 1 + y1.val; omega
  rw [e, G9_at x0 x1 x2 x3 x4 x5 x6 x7 x8 2 1 y1 _ rfl]
  simp only [t259, t281, t283, t287, t288]
  pointwise [k0_pay103, k0_pay100, k0_pay98, k0_pay99]
  rfl

/-- Row 3, head 1: the stored output. -/
theorem o1_3 (y : S1x128.Idx) : (k0_pay111 (k0_pay259 x0 x1 x2 x3 x4 x5 x6 x7 x8) (View.ld x3 r0_35) (k0_pay106 (k0_pay281 x0 x1 x2 x3 x4 x5 x6 x7 x8) (k0_pay283 x0 x1 x2 x3 x4 x5 x6 x7 x8) (k0_pay287 x0 x1 x2 x3 x4 x5 x6 x7 x8) (k0_pay288 x0 x1 x2 x3 x4 x5 x6 x7 x8) (View.ld x4 r0_45))) y = G9 x0 x1 x2 x3 x4 x5 x6 x7 x8 (r0_47.emb y) := by
  idx_vars y
  have e : r0_47.emb (ix2 y0 y1) = ix2 3 ⟨128 * 1 + y1.val, by omega⟩ := by
    funext a
    apply Fin.ext
    rw [Rect.emb_apply]
    match a with
    | ⟨0, _⟩ => show 3 + 1 * y0.val = 3; omega
    | ⟨1, _⟩ => show 128 + 1 * y1.val = 128 * 1 + y1.val; omega
  rw [e, G9_at x0 x1 x2 x3 x4 x5 x6 x7 x8 3 1 y1 _ rfl]
  simp only [t259, t281, t283, t287, t288]
  pointwise [k0_pay111, k0_pay106, k0_pay104, k0_pay105]
  rfl

/-- Row 4, head 1: the stored output. -/
theorem o1_4 (y : S1x128.Idx) : (k0_pay117 (k0_pay259 x0 x1 x2 x3 x4 x5 x6 x7 x8) (View.ld x3 r0_35) (k0_pay114 (k0_pay281 x0 x1 x2 x3 x4 x5 x6 x7 x8) (k0_pay283 x0 x1 x2 x3 x4 x5 x6 x7 x8) (k0_pay287 x0 x1 x2 x3 x4 x5 x6 x7 x8) (k0_pay288 x0 x1 x2 x3 x4 x5 x6 x7 x8) (View.ld x4 r0_48))) y = G9 x0 x1 x2 x3 x4 x5 x6 x7 x8 (r0_50.emb y) := by
  idx_vars y
  have e : r0_50.emb (ix2 y0 y1) = ix2 4 ⟨128 * 1 + y1.val, by omega⟩ := by
    funext a
    apply Fin.ext
    rw [Rect.emb_apply]
    match a with
    | ⟨0, _⟩ => show 4 + 1 * y0.val = 4; omega
    | ⟨1, _⟩ => show 128 + 1 * y1.val = 128 * 1 + y1.val; omega
  rw [e, G9_at x0 x1 x2 x3 x4 x5 x6 x7 x8 4 1 y1 _ rfl]
  simp only [t259, t281, t283, t287, t288]
  pointwise [k0_pay117, k0_pay114, k0_pay112, k0_pay113]
  rfl

/-- Row 5, head 1: the stored output. -/
theorem o1_5 (y : S1x128.Idx) : (k0_pay122 (k0_pay259 x0 x1 x2 x3 x4 x5 x6 x7 x8) (View.ld x3 r0_35) (k0_pay120 (k0_pay281 x0 x1 x2 x3 x4 x5 x6 x7 x8) (k0_pay283 x0 x1 x2 x3 x4 x5 x6 x7 x8) (k0_pay287 x0 x1 x2 x3 x4 x5 x6 x7 x8) (k0_pay288 x0 x1 x2 x3 x4 x5 x6 x7 x8) (View.ld x4 r0_51))) y = G9 x0 x1 x2 x3 x4 x5 x6 x7 x8 (r0_53.emb y) := by
  idx_vars y
  have e : r0_53.emb (ix2 y0 y1) = ix2 5 ⟨128 * 1 + y1.val, by omega⟩ := by
    funext a
    apply Fin.ext
    rw [Rect.emb_apply]
    match a with
    | ⟨0, _⟩ => show 5 + 1 * y0.val = 5; omega
    | ⟨1, _⟩ => show 128 + 1 * y1.val = 128 * 1 + y1.val; omega
  rw [e, G9_at x0 x1 x2 x3 x4 x5 x6 x7 x8 5 1 y1 _ rfl]
  simp only [t259, t281, t283, t287, t288]
  pointwise [k0_pay122, k0_pay120, k0_pay118, k0_pay119]
  rfl

/-- Row 6, head 1: the stored output. -/
theorem o1_6 (y : S1x128.Idx) : (k0_pay128 (k0_pay259 x0 x1 x2 x3 x4 x5 x6 x7 x8) (View.ld x3 r0_35) (k0_pay289 x0 x1 x2 x3 x4 x5 x6 x7 x8) (k0_pay125 (k0_pay287 x0 x1 x2 x3 x4 x5 x6 x7 x8) (View.ld x4 r0_54)) (k0_pay126 (k0_pay281 x0 x1 x2 x3 x4 x5 x6 x7 x8))) y = G9 x0 x1 x2 x3 x4 x5 x6 x7 x8 (r0_56.emb y) := by
  idx_vars y
  have e : r0_56.emb (ix2 y0 y1) = ix2 6 ⟨128 * 1 + y1.val, by omega⟩ := by
    funext a
    apply Fin.ext
    rw [Rect.emb_apply]
    match a with
    | ⟨0, _⟩ => show 6 + 1 * y0.val = 6; omega
    | ⟨1, _⟩ => show 128 + 1 * y1.val = 128 * 1 + y1.val; omega
  rw [e, G9_at x0 x1 x2 x3 x4 x5 x6 x7 x8 6 1 y1 _ rfl]
  unfold k0_pay289
  simp only [t259, t281, t283, t287, t288]
  pointwise [k0_pay128, k0_pay125, k0_pay126, k0_pay124, k0_pay123]
  rfl

/-- Row 7, head 1: the stored output. -/
theorem o1_7 (y : S1x128.Idx) : (k0_pay133 (k0_pay259 x0 x1 x2 x3 x4 x5 x6 x7 x8) (k0_pay281 x0 x1 x2 x3 x4 x5 x6 x7 x8) (View.ld x3 r0_35) (k0_pay290 x0 x1 x2 x3 x4 x5 x6 x7 x8) (k0_pay131 (k0_pay287 x0 x1 x2 x3 x4 x5 x6 x7 x8) (View.ld x4 r0_57))) y = G9 x0 x1 x2 x3 x4 x5 x6 x7 x8 (r0_59.emb y) := by
  idx_vars y
  have e : r0_59.emb (ix2 y0 y1) = ix2 7 ⟨128 * 1 + y1.val, by omega⟩ := by
    funext a
    apply Fin.ext
    rw [Rect.emb_apply]
    match a with
    | ⟨0, _⟩ => show 7 + 1 * y0.val = 7; omega
    | ⟨1, _⟩ => show 128 + 1 * y1.val = 128 * 1 + y1.val; omega
  rw [e, G9_at x0 x1 x2 x3 x4 x5 x6 x7 x8 7 1 y1 _ rfl]
  unfold k0_pay290
  simp only [t259, t281, t283, t287, t288]
  pointwise [k0_pay133, k0_pay131, k0_pay130, k0_pay129]
  rfl

end Cert.GdnSampleIdeal.Step

end
-- ==== Proof.GdnStepHead2.lean ====
/-
  The stores of head 2, row by row.
-/
module

public import proofs.«01_k».proof.Proof.Gen.GdnSampleIdeal.Frame
public import proofs.«01_k».proof.Proof.GdnStepGoal
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- Row 0, head 2: the stored state. -/
theorem s2_0 (y : S1x1x128x128.Idx) : (k0_pay152 (k0_pay151 (k0_pay294 x0 x1 x2 x3 x4 x5 x6 x7 x8) (k0_pay295 x0 x1 x2 x3 x4 x5 x6 x7 x8) (k0_pay296 x0 x1 x2 x3 x4 x5 x6 x7 x8) (k0_pay298 x0 x1 x2 x3 x4 x5 x6 x7 x8) (k0_pay299 x0 x1 x2 x3 x4 x5 x6 x7 x8) (View.ld x4 r0_61))) y = G10 x0 x1 x2 x4 x5 x6 x7 (r0_62.emb y) := by
  idx_vars y
  have e : r0_62.emb (ix4 y0 y1 y2 y3) = ix4 0 2 y2 y3 := by
    funext a
    apply Fin.ext
    rw [Rect.emb_apply]
    match a with
    | ⟨0, _⟩ => show 0 + 1 * y0.val = 0; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299]
  pointwise [k0_pay152, k0_pay151, k0_pay148, k0_pay149, r302 x0 x1 x2 x3 x4 x5 x6 x7 x8, r303 x0 x1 x2 x3 x4 x5 x6 x7 x8]
  rfl

/-- Row 1, head 2: the stored state. -/
theorem s2_1 (y : S1x1x128x128.Idx) : (k0_pay158 (k0_pay157 (k0_pay295 x0 x1 x2 x3 x4 x5 x6 x7 x8) (k0_pay298 x0 x1 x2 x3 x4 x5 x6 x7 x8) (k0_pay299 x0 x1 x2 x3 x4 x5 x6 x7 x8) (k0_pay303 x0 x1 x2 x3 x4 x5 x6 x7 x8) (View.ld x4 r0_64))) y = G10 x0 x1 x2 x4 x5 x6 x7 (r0_65.emb y) := by
  idx_vars y
  have e : r0_65.emb (ix4 y0 y1 y2 y3) = ix4 1 2 y2 y3 := by
    funext a
    apply Fin.ext
    rw [Rect.emb_apply]
    match a with
    | ⟨0, _⟩ => show 1 + 1 * y0.val = 1; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299, t303]
  pointwise [k0_pay158, k0_pay157, k0_pay154, k0_pay155]
  rfl

/-- Row 2, head 2: the stored state. -/
theorem s2_2 (y : S1x1x128x128.Idx) : (k0_pay164 (k0_pay163 (k0_pay295 x0 x1 x2 x3 x4 x5 x6 x7 x8) (k0_pay298 x0 x1 x2 x3 x4 x5 x6 x7 x8) (k0_pay299 x0 x1 x2 x3 x4 x5 x6 x7 x8) (k0_pay303 x0 x1 x2 x3 x4 x5 x6 x7 x8) (View.ld x4 r0_67))) y = G10 x0 x1 x2 x4 x5 x6 x7 (r0_68.emb y) := by
  idx_vars y
  have e : r0_68.emb (ix4 y0 y1 y2 y3) = ix4 2 2 y2 y3 := by
    funext a
    apply Fin.ext
    rw [Rect.emb_apply]
    match a with
    | ⟨0, _⟩ => show 2 + 1 * y0.val = 2; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299, t303]
  pointwise [k0_pay164, k0_pay163, k0_pay160, k0_pay161]
  rfl

/-- Row 3, head 2: the stored state. -/
theorem s2_3 (y : S1x1x128x128.Idx) : (k0_pay171 (k0_pay167 (k0_pay299 x0 x1 x2 x3 x4 x5 x6 x7 x8) (k0_pay303 x0 x1 x2 x3 x4 x5 x6 x7 x8) (View.ld x4 r0_70)) (k0_pay169 (k0_pay295 x0 x1 x2 x3 x4 x5 x6 x7 x8) (View.ld x4 r0_70)) (k0_pay170 (k0_pay298 x0 x1 x2 x3 x4 x5 x6 x7 x8))) y = G10 x0 x1 x2 x4 x5 x6 x7 (r0_71.emb y) := by
  idx_vars y
  have e : r0_71.emb (ix4 y0 y1 y2 y3) = ix4 3 2 y2 y3 := by
    funext a
    apply Fin.ext
    rw [Rect.emb_apply]
    match a with
    | ⟨0, _⟩ => show 3 + 1 * y0.val = 3; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299, t303]
  pointwise [k0_pay171, k0_pay167, k0_pay169, k0_pay170, k0_pay166]
  rfl

/-- Row 4, head 2: the stored state. -/
theorem s2_4 (y : S1x1x128x128.Idx) : (k0_pay177 (k0_pay298 x0 x1 x2 x3 x4 x5 x6 x7 x8) (k0_pay173 (View.ld x4 r0_73)) (k0_pay174 (k0_pay299 x0 x1 x2 x3 x4 x5 x6 x7 x8) (k0_pay303 x0 x1 x2 x3 x4 x5 x6 x7 x8) (View.ld x4 r0_73)) (k0_pay176 (k0_pay295 x0 x1 x2 x3 x4 x5 x6 x7 x8))) y = G10 x0 x1 x2 x4 x5 x6 x7 (r0_74.emb y) := by
  idx_vars y
  have e : r0_74.emb (ix4 y0 y1 y2 y3) = ix4 4 2 y2 y3 := by
    funext a
    apply Fin.ext
    rw [Rect.emb_apply]
    match a with
    | ⟨0, _⟩ => show 4 + 1 * y0.val = 4; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299, t303]
  pointwise [k0_pay177, k0_pay173, k0_pay174, k0_pay176]
  rfl

/-- Row 5, head 2: the stored state. -/
theorem s2_5 (y : S1x1x128x128.Idx) : (k0_pay183 (k0_pay295 x0 x1 x2 x3 x4 x5 x6 x7 x8) (k0_pay298 x0 x1 x2 x3 x4 x5 x6 x7 x8) (k0_pay179 (View.ld x4 r0_76)) (k0_pay180 (k0_pay299 x0 x1 x2 x3 x4 x5 x6 x7 x8) (k0_pay303 x0 x1 x2 x3 x4 x5 x6 x7 x8) (View.ld x4 r0_76))) y = G10 x0 x1 x2 x4 x5 x6 x7 (r0_77.emb y) := by
  idx_vars y
  have e : r0_77.emb (ix4 y0 y1 y2 y3) = ix4 5 2 y2 y3 := by
    funext a
    apply Fin.ext
    rw [Rect.emb_apply]
    match a with
    | ⟨0, _⟩ => show 5 + 1 * y0.val = 5; omega
    | ⟨1, _⟩ => show 2 + 1 * y1.val = 2; omega
    | ⟨2, _⟩ => show 0 + 1 * y2.val = y2.val; omega
    | ⟨3, _⟩ => show 0 + 1 * y3.val = y3.val; omega
  rw [e]
  simp only [t295, t298, t299, t303]
  pointwise [k0_pay183, k0_pay179, k0_pay180]
  rfl

/-- Row 6, head 2: the stored state. -/
theorem s2_6 (y : S1x1x128x128.Idx) : (k0_pay188 (k0_pay295 x0 x1 x2 x3 x4 x5 x6 x7 x8) (k0_pay298 x0 x1 x2 x3 x4 x5 x6 x7 x8) (k0_pay185 (View.ld x4 r0_79)) (k0_pay304 x0 x1 x2 x3 x4 x5 x6 x7 x8)) y = G10 x0 x1 x2 x4 x5 x6 x7 (r0_80.emb y) := by
  idx_vars y
  have e : r0_80.emb (ix4 y0 y1 y2 y3) = ix4 6 2 y2 y3 := by
    funext a
    apply Fin.ext
    rw [Rect.emb_apply]
    match a with
    | ⟨0, _⟩ => show 6 + 1 * y0.val = 6; omega
    | ⟨1, _⟩ => show 2 + 1 * y1.val = 2; omega
    | ⟨2, _⟩ => show 0 + 1 * y2.val = y2.val; omega
    | ⟨3, _⟩ => show 0 + 1 * y3.val = y3.val; omega
  rw [e]
  unfold k0_pay304
  simp only [t295, t298, t299, t303]
  pointwise [k0_pay188, k0_pay185, k0_pay186]
  rfl

/-- Row 7, head 2: the stored state. -/
theorem s2_7 (y : S1x1x128x128.Idx) : (k0_pay193 (k0_pay295 x0 x1 x2 x3 x4 x5 x6 x7 x8) (k0_pay298 x0 x1 x2 x3 x4 x5 x6 x7 x8) (k0_pay190 (View.ld x4 r0_82)) (k0_pay305 x0 x1 x2 x3 x4 x5 x6 x7 x8)) y = G10 x0 x1 x2 x4 x5 x6 x7 (r0_83.emb y) := by
  idx_vars y
  have e : r0_83.emb (ix4 y0 y1 y2 y3) = ix4 7 2 y2 y3 := by
    funext a
    apply Fin.ext
    rw [Rect.emb_apply]
    match a with
    | ⟨0, _⟩ => show 7 + 1 * y0.val = 7; omega
    | ⟨1, _⟩ => show 2 + 1 * y1.val = 2; omega
    | ⟨2, _⟩ => show 0 + 1 * y2.val = y2.val; omega
    | ⟨3, _⟩ => show 0 + 1 * y3.val = y3.val; omega
  rw [e]
  unfold k0_pay305
  simp only [t295, t298, t299, t303]
  pointwise [k0_pay193, k0_pay190, k0_pay191]
  rfl

/-- Row 0, head 2: the stored output. -/
theorem o2_0 (y : S1x128.Idx) : (k0_pay153 (k0_pay259 x0 x1 x2 x3 x4 x5 x6 x7 x8) (View.ld x3 r0_60) (k0_pay150 (k0_pay258 x0 x1 x2 x3 x4 x5 x6 x7 x8) (k0_pay294 x0 x1 x2 x3 x4 x5 x6 x7 x8) (k0_pay296 x0 x1 x2 x3 x4 x5 x6 x7 x8) (k0_pay297 x0 x1 x2 x3 x4 x5 x6 x7 x8) (k0_pay299 x0 x1 x2 x3 x4 x5 x6 x7 x8) (k0_pay300 x0 x1 x2 x3 x4 x5 x6 x7 x8) (k0_pay301 x0 x1 x2 x3 x4 x5 x6 x7 x8) (View.ld x4 r0_61))) y = G9 x0 x1 x2 x3 x4 x5 x6 x7 x8 (r0_63.emb y) := by
  idx_vars y
  have e : r0_63.emb (ix2 y0 y1) = ix2 0 ⟨128 * 2 + y1.val, by omega⟩ := by
    funext a
    apply Fin.ext
    rw [Rect.emb_apply]
    match a with
    | ⟨0, _⟩ => show 0 + 1 * y0.val = 0; omega
    | ⟨1, _⟩ => show 256 + 1 * y1.val = 128 * 2 + y1.val; omega
  rw [e, G9_at x0 x1 x2 x3 x4 x5 x6 x7 x8 0 2 y1 _ rfl]
  simp only [t259, t297, t299]
  pointwise [k0_pay153, k0_pay150, k0_pay148, k0_pay149, r302 x0 x1 x2 x3 x4 x5 x6 x7 x8, r303 x0 x1 x2 x3 x4 x5 x6 x7 x8]
  rfl

/-- Row 1, head 2: the stored output. -/
theorem o2_1 (y : S1x128.Idx) : (k0_pay159 (k0_pay259 x0 x1 x2 x3 x4 x5 x6 x7 x8) (View.ld x3 r0_60) (k0_pay156 (k0_pay297 x0 x1 x2 x3 x4 x5 x6 x7 x8) (k0_pay299 x0 x1 x2 x3 x4 x5 x6 x7 x8) (k0_pay302 x0 x1 x2 x3 x4 x5 x6 x7 x8) (k0_pay303 x0 x1 x2 x3 x4 x5 x6 x7 x8) (View.ld x4 r0_64))) y = G9 x0 x1 x2 x3 x4 x5 x6 x7 x8 (r0_66.emb y) := by
  idx_vars y
  have e : r0_66.emb (ix2 y0 y1) = ix2 1 ⟨128 * 2 + y1.val, by omega⟩ := by
    funext a
    apply Fin.ext
    rw [Rect.emb_apply]
    match a with
    | ⟨0, _⟩ => show 1 + 1 * y0.val = 1; omega
    | ⟨1, _⟩ => show 256 + 1 * y1.val = 128 * 2 + y1.val; omega
  rw [e, G9_at x0 x1 x2 x3 x4 x5 x6 x7 x8 1 2 y1 _ rfl]
  simp only [t259, t297, t299, t302, t303]
  pointwise [k0_pay159, k0_pay156, k0_pay154, k0_pay155]
  rfl

/-- Row 2, head 2: the stored output. -/
theorem o2_2 (y : S1x128.Idx) : (k0_pay165 (k0_pay259 x0 x1 x2 x3 x4 x5 x6 x7 x8) (View.ld x3 r0_60) (k0_pay162 (k0_pay297 x0 x1 x2 x3 x4 x5 x6 x7 x8) (k0_pay299 x0 x1 x2 x3 x4 x5 x6 x7 x8) (k0_pay302 x0 x1 x2 x3 x4 x5 x6 x7 x8) (k0_pay303 x0 x1 x2 x3 x4 x5 x6 x7 x8) (View.ld x4 r0_67))) y = G9 x0 x1 x2 x3 x4 x5 x6 x7 x8 (r0_69.emb y) := by
  idx_vars y
  have e : r0_69.emb (ix2 y0 y1) = ix2 2 ⟨128 * 2 + y1.val, by omega⟩ := by
    funext a
    apply Fin.ext
    rw [Rect.emb_apply]
    match a with
    | ⟨0, _⟩ => show 2 + 1 * y0.val = 2; omega
    | ⟨1, _⟩ => show 256 + 1 * y1.val = 128 * 2 + y1.val; omega
  rw [e, G9_at x0 x1 x2 x3 x4 x5 x6 x7 x8 2 2 y1 _ rfl]
  simp only [t259, t297, t299, t302, t303]
  pointwise [k0_pay165, k0_pay162, k0_pay160, k0_pay161]
  rfl

/-- Row 3, head 2: the stored output. -/
theorem o2_3 (y : S1x128.Idx) : (k0_pay172 (k0_pay259 x0 x1 x2 x3 x4 x5 x6 x7 x8) (View.ld x3 r0_60) (k0_pay168 (k0_pay297 x0 x1 x2 x3 x4 x5 x6 x7 x8) (k0_pay299 x0 x1 x2 x3 x4 x5 x6 x7 x8) (k0_pay302 x0 x1 x2 x3 x4 x5 x6 x7 x8) (k0_pay303 x0 x1 x2 x3 x4 x5 x6 x7 x8) (View.ld x4 r0_70))) y = G9 x0 x1 x2 x3 x4 x5 x6 x7 x8 (r0_72.emb y) := by
  idx_vars y
  have e : r0_72.emb (ix2 y0 y1) = ix2 3 ⟨128 * 2 + y1.val, by omega⟩ := by
    funext a
    apply Fin.ext
    rw [Rect.emb_apply]
    match a with
    | ⟨0, _⟩ => show 3 + 1 * y0.val = 3; omega
    | ⟨1, _⟩ => show 256 + 1 * y1.val = 128 * 2 + y1.val; omega
  rw [e, G9_at x0 x1 x2 x3 x4 x5 x6 x7 x8 3 2 y1 _ rfl]
  simp only [t259, t297, t299, t302, t303]
  pointwise [k0_pay172, k0_pay168, k0_pay166, k0_pay167]
  rfl

/-- Row 4, head 2: the stored output. -/
theorem o2_4 (y : S1x128.Idx) : (k0_pay178 (k0_pay259 x0 x1 x2 x3 x4 x5 x6 x7 x8) (View.ld x3 r0_60) (k0_pay175 (k0_pay297 x0 x1 x2 x3 x4 x5 x6 x7 x8) (k0_pay299 x0 x1 x2 x3 x4 x5 x6 x7 x8) (k0_pay302 x0 x1 x2 x3 x4 x5 x6 x7 x8) (k0_pay303 x0 x1 x2 x3 x4 x5 x6 x7 x8) (View.ld x4 r0_73))) y = G9 x0 x1 x2 x3 x4 x5 x6 x7 x8 (r0_75.emb y) := by
  idx_vars y
  have e : r0_75.emb (ix2 y0 y1) = ix2 4 ⟨128 * 2 + y1.val, by omega⟩ := by
    funext a
    apply Fin.ext
    rw [Rect.emb_apply]
    match a with
    | ⟨0, _⟩ => show 4 + 1 * y0.val = 4; omega
    | ⟨1, _⟩ => show 256 + 1 * y1.val = 128 * 2 + y1.val; omega
  rw [e, G9_at x0 x1 x2 x3 x4 x5 x6 x7 x8 4 2 y1 _ rfl]
  simp only [t259, t297, t299, t302, t303]
  pointwise [k0_pay178, k0_pay175, k0_pay173, k0_pay174]
  rfl

/-- Row 5, head 2: the stored output. -/
theorem o2_5 (y : S1x128.Idx) : (k0_pay184 (k0_pay259 x0 x1 x2 x3 x4 x5 x6 x7 x8) (View.ld x3 r0_60) (k0_pay181 (k0_pay302 x0 x1 x2 x3 x4 x5 x6 x7 x8) (View.ld x4 r0_76)) (k0_pay182 (k0_pay297 x0 x1 x2 x3 x4 x5 x6 x7 x8) (k0_pay299 x0 x1 x2 x3 x4 x5 x6 x7 x8) (k0_pay303 x0 x1 x2 x3 x4 x5 x6 x7 x8) (View.ld x4 r0_76))) y = G9 x0 x1 x2 x3 x4 x5 x6 x7 x8 (r0_78.emb y) := by
  idx_vars y
  have e : r0_78.emb (ix2 y0 y1) = ix2 5 ⟨128 * 2 + y1.val, by omega⟩ := by
    funext a
    apply Fin.ext
    rw [Rect.emb_apply]
    match a with
    | ⟨0, _⟩ => show 5 + 1 * y0.val = 5; omega
    | ⟨1, _⟩ => show 256 + 1 * y1.val = 128 * 2 + y1.val; omega
  rw [e, G9_at x0 x1 x2 x3 x4 x5 x6 x7 x8 5 2 y1 _ rfl]
  simp only [t259, t297, t299, t302, t303]
  pointwise [k0_pay184, k0_pay181, k0_pay182, k0_pay179, k0_pay180]
  rfl

/-- Row 6, head 2: the stored output. -/
theorem o2_6 (y : S1x128.Idx) : (k0_pay189 (k0_pay259 x0 x1 x2 x3 x4 x5 x6 x7 x8) (k0_pay297 x0 x1 x2 x3 x4 x5 x6 x7 x8) (View.ld x3 r0_60) (k0_pay304 x0 x1 x2 x3 x4 x5 x6 x7 x8) (k0_pay187 (k0_pay302 x0 x1 x2 x3 x4 x5 x6 x7 x8) (View.ld x4 r0_79))) y = G9 x0 x1 x2 x3 x4 x5 x6 x7 x8 (r0_81.emb y) := by
  idx_vars y
  have e : r0_81.emb (ix2 y0 y1) = ix2 6 ⟨128 * 2 + y1.val, by omega⟩ := by
    funext a
    apply Fin.ext
    rw [Rect.emb_apply]
    match a with
    | ⟨0, _⟩ => show 6 + 1 * y0.val = 6; omega
    | ⟨1, _⟩ => show 256 + 1 * y1.val = 128 * 2 + y1.val; omega
  rw [e, G9_at x0 x1 x2 x3 x4 x5 x6 x7 x8 6 2 y1 _ rfl]
  unfold k0_pay304
  simp only [t259, t297, t299, t302, t303]
  pointwise [k0_pay189, k0_pay187, k0_pay186, k0_pay185]
  rfl

/-- Row 7, head 2: the stored output. -/
theorem o2_7 (y : S1x128.Idx) : (k0_pay194 (k0_pay259 x0 x1 x2 x3 x4 x5 x6 x7 x8) (k0_pay297 x0 x1 x2 x3 x4 x5 x6 x7 x8) (View.ld x3 r0_60) (k0_pay305 x0 x1 x2 x3 x4 x5 x6 x7 x8) (k0_pay192 (k0_pay302 x0 x1 x2 x3 x4 x5 x6 x7 x8) (View.ld x4 r0_82))) y = G9 x0 x1 x2 x3 x4 x5 x6 x7 x8 (r0_84.emb y) := by
  idx_vars y
  have e : r0_84.emb (ix2 y0 y1) = ix2 7 ⟨128 * 2 + y1.val, by omega⟩ := by
    funext a
    apply Fin.ext
    rw [Rect.emb_apply]
    match a with
    | ⟨0, _⟩ => show 7 + 1 * y0.val = 7; omega
    | ⟨1, _⟩ => show 256 + 1 * y1.val = 128 * 2 + y1.val; omega
  rw [e, G9_at x0 x1 x2 x3 x4 x5 x6 x7 x8 7 2 y1 _ rfl]
  unfold k0_pay305
  simp only [t259, t297, t299, t302, t303]
  pointwise [k0_pay194, k0_pay192, k0_pay191, k0_pay190]
  rfl

end Cert.GdnSampleIdeal.Step

end
-- ==== Proof.GdnStepHead3.lean ====
/-
  The stores of head 3, row by row.
-/
module

public import proofs.«01_k».proof.Proof.Gen.GdnSampleIdeal.Frame
public import proofs.«01_k».proof.Proof.GdnStepGoal
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- Row 0, head 3: the stored state. -/
theorem s3_0 (y : S1x1x128x128.Idx) : (k0_pay211 (k0_pay210 (k0_pay308 x0 x1 x2 x3 x4 x5 x6 x7 x8) (k0_pay309 x0 x1 x2 x3 x4 x5 x6 x7 x8) (k0_pay310 x0 x1 x2 x3 x4 x5 x6 x7 x8) (k0_pay312 x0 x1 x2 x3 x4 x5 x6 x7 x8) (k0_pay313 x0 x1 x2 x3 x4 x5 x6 x7 x8) (View.ld x4 r0_86))) y = G10 x0 x1 x2 x4 x5 x6 x7 (r0_87.emb y) := by
  idx_vars y
  have e : r0_87.emb (ix4 y0 y1 y2 y3) = ix4 0 3 y2 y3 := by
    funext a
    apply Fin.ext
    rw [Rect.emb_apply]
    match a with
    | ⟨0, _⟩ => show 0 + 1 * y0.val = 0; omega
    | ⟨1, _⟩ => show 3 + 1 * y1.val = 3; omega
    | ⟨2, _⟩ => show 0 + 1 * y2.val = y2.val; omega
    | ⟨3, _⟩ => show 0 + 1 * y3.val = y3.val; omega
  rw [e]
  simp only [t309, t312, t313]
  pointwise [k0_pay211, k0_pay210, k0_pay207, k0_pay208, r315 x0 x1 x2 x3 x4 x5 x6 x7 x8, r316 x0 x1 x2 x3 x4 x5 x6 x7 x8]
  rfl

/-- Row 1, head 3: the stored state. -/
theorem s3_1 (y : S1x1x128x128.Idx) : (k0_pay217 (k0_pay216 (k0_pay309 x0 x1 x2 x3 x4 x5 x6 x7 x8) (k0_pay312 x0 x1 x2 x3 x4 x5 x6 x7 x8) (k0_pay313 x0 x1 x2 x3 x4 x5 x6 x7 x8) (k0_pay316 x0 x1 x2 x3 x4 x5 x6 x7 x8) (View.ld x4 r0_89))) y = G10 x0 x1 x2 x4 x5 x6 x7 (r0_90.emb y) := by
  idx_vars y
  have e : r0_90.emb (ix4 y0 y1 y2 y3) = ix4 1 3 y2 y3 := by
    funext a
    apply Fin.ext
    rw [Rect.emb_apply]
    match a with
    | ⟨0, _⟩ => show 1 + 1 * y0.val = 1; omega
    | ⟨1, _⟩ => show 3 + 1 * y1.val = 3; omega
    | ⟨2, _⟩ => show 0 + 1 * y2.val = y2.val; omega
    | ⟨3, _⟩ => show 0 + 1 * y3.val = y3.val; omega
  rw [e]
  simp only [t309, t312, t313, t316]
  pointwise [k0_pay217, k0_pay216, k0_pay213, k0_pay214]
  rfl

/-- Row 2, head 3: the stored state. -/
theorem s3_2 (y : S1x1x128x128.Idx) : (k0_pay224 (k0_pay222 (k0_pay309 x0 x1 x2 x3 x4 x5 x6 x7 x8) (View.ld x4 r0_92)) (k0_pay223 (k0_pay312 x0 x1 x2 x3 x4 x5 x6 x7 x8) (k0_pay313 x0 x1 x2 x3 x4 x5 x6 x7 x8) (k0_pay316 x0 x1 x2 x3 x4 x5 x6 x7 x8) (View.ld x4 r0_92))) y = G10 x0 x1 x2 x4 x5 x6 x7 (r0_93.emb y) := by
  idx_vars y
  have e : r0_93.emb (ix4 y0 y1 y2 y3) = ix4 2 3 y2 y3 := by
    funext a
    apply Fin.ext
    rw [Rect.emb_apply]
    match a with
    | ⟨0, _⟩ => show 2 + 1 * y0.val = 2; omega
    | ⟨1, _⟩ => show 3 + 1 * y1.val = 3; omega
    | ⟨2, _⟩ => show 0 + 1 * y2.val = y2.val; omega
    | ⟨3, _⟩ => show 0 + 1 * y3.val = y3.val; omega
  rw [e]
  simp only [t309, t312, t313, t316]
  pointwise [k0_pay224, k0_pay222, k0_pay223, k0_pay219, k0_pay220]
  rfl

/-- Row 3, head 3: the stored state. -/
theorem s3_3 (y : S1x1x128x128.Idx) : (k0_pay231 (k0_pay227 (k0_pay313 x0 x1 x2 x3 x4 x5 x6 x7 x8) (k0_pay316 x0 x1 x2 x3 x4 x5 x6 x7 x8) (View.ld x4 r0_95)) (k0_pay229 (k0_pay309 x0 x1 x2 x3 x4 x5 x6 x7 x8) (View.ld x4 r0_95)) (k0_pay230 (k0_pay312 x0 x1 x2 x3 x4 x5 x6 x7 x8))) y = G10 x0 x1 x2 x4 x5 x6 x7 (r0_96.emb y) := by
  idx_vars y
  have e : r0_96.emb (ix4 y0 y1 y2 y3) = ix4 3 3 y2 y3 := by
    funext a
    apply Fin.ext
    rw [Rect.emb_apply]
    match a with
    | ⟨0, _⟩ => show 3 + 1 * y0.val = 3; omega
    | ⟨1, _⟩ => show 3 + 1 * y1.val = 3; omega
    | ⟨2, _⟩ => show 0 + 1 * y2.val = y2.val; omega
    | ⟨3, _⟩ => show 0 + 1 * y3.val = y3.val; omega
  rw [e]
  simp only [t309, t312, t313, t316]
  pointwise [k0_pay231, k0_pay227, k0_pay229, k0_pay230, k0_pay226]
  rfl

/-- Row 4, head 3: the stored state. -/
theorem s3_4 (y : S1x1x128x128.Idx) : (k0_pay237 (k0_pay312 x0 x1 x2 x3 x4 x5 x6 x7 x8) (k0_pay233 (View.ld x4 r0_98)) (k0_pay234 (k0_pay313 x0 x1 x2 x3 x4 x5 x6 x7 x8) (k0_pay316 x0 x1 x2 x3 x4 x5 x6 x7 x8) (View.ld x4 r0_98)) (k0_pay236 (k0_pay309 x0 x1 x2 x3 x4 x5 x6 x7 x8))) y = G10 x0 x1 x2 x4 x5 x6 x7 (r0_99.emb y) := by
  idx_vars y
  have e : r0_99.emb (ix4 y0 y1 y2 y3) = ix4 4 3 y2 y3 := by
    funext a
    apply Fin.ext
    rw [Rect.emb_apply]
    match a with
    | ⟨0, _⟩ => show 4 + 1 * y0.val = 4; omega
    | ⟨1, _⟩ => show 3 + 1 * y1.val = 3; omega
    | ⟨2, _⟩ => show 0 + 1 * y2.val = y2.val; omega
    | ⟨3, _⟩ => show 0 + 1 * y3.val = y3.val; omega
  rw [e]
  simp only [t309, t312, t313, t316]
  pointwise [k0_pay237, k0_pay233, k0_pay234, k0_pay236]
  rfl

/-- Row 5, head 3: the stored state. -/
theorem s3_5 (y : S1x1x128x128.Idx) : (k0_pay243 (k0_pay309 x0 x1 x2 x3 x4 x5 x6 x7 x8) (k0_pay312 x0 x1 x2 x3 x4 x5 x6 x7 x8) (k0_pay239 (View.ld x4 r0_101)) (k0_pay317 x0 x1 x2 x3 x4 x5 x6 x7 x8)) y = G10 x0 x1 x2 x4 x5 x6 x7 (r0_102.emb y) := by
  idx_vars y
  have e : r0_102.emb (ix4 y0 y1 y2 y3) = ix4 5 3 y2 y3 := by
    funext a
    apply Fin.ext
    rw [Rect.emb_apply]
    match a with
    | ⟨0, _⟩ => show 5 + 1 * y0.val = 5; omega
    | ⟨1, _⟩ => show 3 + 1 * y1.val = 3; omega
    | ⟨2, _⟩ => show 0 + 1 * y2.val = y2.val; omega
    | ⟨3, _⟩ => show 0 + 1 * y3.val = y3.val; omega
  rw [e]
  unfold k0_pay317
  simp only [t309, t312, t313, t316]
  pointwise [k0_pay243, k0_pay239, k0_pay240]
  rfl

/-- Row 6, head 3: the stored state. -/
theorem s3_6 (y : S1x1x128x128.Idx) : (k0_pay248 (k0_pay309 x0 x1 x2 x3 x4 x5 x6 x7 x8) (k0_pay312 x0 x1 x2 x3 x4 x5 x6 x7 x8) (k0_pay245 (View.ld x4 r0_104)) (k0_pay318 x0 x1 x2 x3 x4 x5 x6 x7 x8)) y = G10 x0 x1 x2 x4 x5 x6 x7 (r0_105.emb y) := by
  idx_vars y
  have e : r0_105.emb (ix4 y0 y1 y2 y3) = ix4 6 3 y2 y3 := by
    funext a
    apply Fin.ext
    rw [Rect.emb_apply]
    match a with
    | ⟨0, _⟩ => show 6 + 1 * y0.val = 6; omega
    | ⟨1, _⟩ => show 3 + 1 * y1.val = 3; omega
    | ⟨2, _⟩ => show 0 + 1 * y2.val = y2.val; omega
    | ⟨3, _⟩ => show 0 + 1 * y3.val = y3.val; omega
  rw [e]
  unfold k0_pay318
  simp only [t309, t312, t313, t316]
  pointwise [k0_pay248, k0_pay245, k0_pay246]
  rfl

/-- Row 7, head 3: the stored state. -/
theorem s3_7 (y : S1x1x128x128.Idx) : (k0_pay1 (k0_pay254 (k0_pay309 x0 x1 x2 x3 x4 x5 x6 x7 x8) (k0_pay312 x0 x1 x2 x3 x4 x5 x6 x7 x8) (k0_pay319 x0 x1 x2 x3 x4 x5 x6 x7 x8) (k0_pay320 x0 x1 x2 x3 x4 x5 x6 x7 x8))) y = G10 x0 x1 x2 x4 x5 x6 x7 (r0_108.emb y) := by
  idx_vars y
  have e : r0_108.emb (ix4 y0 y1 y2 y3) = ix4 7 3 y2 y3 := by
    funext a
    apply Fin.ext
    rw [Rect.emb_apply]
    match a with
    | ⟨0, _⟩ => show 7 + 1 * y0.val = 7; omega
    | ⟨1, _⟩ => show 3 + 1 * y1.val = 3; omega
    | ⟨2, _⟩ => show 0 + 1 * y2.val = y2.val; omega
    | ⟨3, _⟩ => show 0 + 1 * y3.val = y3.val; omega
  rw [e]
  unfold k0_pay319 k0_pay320
  simp only [t309, t312, t313, t316]
  pointwise [k0_pay1, k0_pay254, k0_pay250, k0_pay251]
  rfl

/-- Row 0, head 3: the stored output. -/
theorem o3_0 (y : S1x128.Idx) : (k0_pay212 (k0_pay259 x0 x1 x2 x3 x4 x5 x6 x7 x8) (View.ld x3 r0_85) (k0_pay209 (k0_pay258 x0 x1 x2 x3 x4 x5 x6 x7 x8) (k0_pay308 x0 x1 x2 x3 x4 x5 x6 x7 x8) (k0_pay310 x0 x1 x2 x3 x4 x5 x6 x7 x8) (k0_pay311 x0 x1 x2 x3 x4 x5 x6 x7 x8) (k0_pay313 x0 x1 x2 x3 x4 x5 x6 x7 x8) (k0_pay314 x0 x1 x2 x3 x4 x5 x6 x7 x8) (View.ld x4 r0_86))) y = G9 x0 x1 x2 x3 x4 x5 x6 x7 x8 (r0_88.emb y) := by
  idx_vars y
  have e : r0_88.emb (ix2 y0 y1) = ix2 0 ⟨128 * 3 + y1.val, by omega⟩ := by
    funext a
    apply Fin.ext
    rw [Rect.emb_apply]
    match a with
    | ⟨0, _⟩ => show 0 + 1 * y0.val = 0; omega
    | ⟨1, _⟩ => show 384 + 1 * y1.val = 128 * 3 + y1.val; omega
  rw [e, G9_at x0 x1 x2 x3 x4 x5 x6 x7 x8 0 3 y1 _ rfl]
  simp only [t259, t311, t313]
  pointwise [k0_pay212, k0_pay209, k0_pay207, k0_pay208, r315 x0 x1 x2 x3 x4 x5 x6 x7 x8, r316 x0 x1 x2 x3 x4 x5 x6 x7 x8]
  rfl

/-- Row 1, head 3: the stored output. -/
theorem o3_1 (y : S1x128.Idx) : (k0_pay218 (k0_pay259 x0 x1 x2 x3 x4 x5 x6 x7 x8) (View.ld x3 r0_85) (k0_pay215 (k0_pay311 x0 x1 x2 x3 x4 x5 x6 x7 x8) (k0_pay313 x0 x1 x2 x3 x4 x5 x6 x7 x8) (k0_pay315 x0 x1 x2 x3 x4 x5 x6 x7 x8) (k0_pay316 x0 x1 x2 x3 x4 x5 x6 x7 x8) (View.ld x4 r0_89))) y = G9 x0 x1 x2 x3 x4 x5 x6 x7 x8 (r0_91.emb y) := by
  idx_vars y
  have e : r0_91.emb (ix2 y0 y1) = ix2 1 ⟨128 * 3 + y1.val, by omega⟩ := by
    funext a
    apply Fin.ext
    rw [Rect.emb_apply]
    match a with
    | ⟨0, _⟩ => show 1 + 1 * y0.val = 1; omega
    | ⟨1, _⟩ => show 384 + 1 * y1.val = 128 * 3 + y1.val; omega
  rw [e, G9_at x0 x1 x2 x3 x4 x5 x6 x7 x8 1 3 y1 _ rfl]
  simp only [t259, t311, t313, t315, t316]
  pointwise [k0_pay218, k0_pay215, k0_pay213, k0_pay214]
  rfl

/-- Row 2, head 3: the stored output. -/
theorem o3_2 (y : S1x128.Idx) : (k0_pay225 (k0_pay259 x0 x1 x2 x3 x4 x5 x6 x7 x8) (View.ld x3 r0_85) (k0_pay221 (k0_pay311 x0 x1 x2 x3 x4 x5 x6 x7 x8) (k0_pay313 x0 x1 x2 x3 x4 x5 x6 x7 x8) (k0_pay315 x0 x1 x2 x3 x4 x5 x6 x7 x8) (k0_pay316 x0 x1 x2 x3 x4 x5 x6 x7 x8) (View.ld x4 r0_92))) y = G9 x0 x1 x2 x3 x4 x5 x6 x7 x8 (r0_94.emb y) := by
  idx_vars y
  have e : r0_94.emb (ix2 y0 y1) = ix2 2 ⟨128 * 3 + y1.val, by omega⟩ := by
    funext a
    apply Fin.ext
    rw [Rect.emb_apply]
    match a with
    | ⟨0, _⟩ => show 2 + 1 * y0.val = 2; omega
    | ⟨1, _⟩ => show 384 + 1 * y1.val = 128 * 3 + y1.val; omega
  rw [e, G9_at x0 x1 x2 x3 x4 x5 x6 x7 x8 2 3 y1 _ rfl]
  simp only [t259, t311, t313, t315, t316]
  pointwise [k0_pay225, k0_pay221, k0_pay219, k0_pay220]
  rfl

/-- Row 3, head 3: the stored output. -/
theorem o3_3 (y : S1x128.Idx) : (k0_pay232 (k0_pay259 x0 x1 x2 x3 x4 x5 x6 x7 x8) (View.ld x3 r0_85) (k0_pay228 (k0_pay311 x0 x1 x2 x3 x4 x5 x6 x7 x8) (k0_pay313 x0 x1 x2 x3 x4 x5 x6 x7 x8) (k0_pay315 x0 x1 x2 x3 x4 x5 x6 x7 x8) (k0_pay316 x0 x1 x2 x3 x4 x5 x6 x7 x8) (View.ld x4 r0_95))) y = G9 x0 x1 x2 x3 x4 x5 x6 x7 x8 (r0_97.emb y) := by
  idx_vars y
  have e : r0_97.emb (ix2 y0 y1) = ix2 3 ⟨128 * 3 + y1.val, by omega⟩ := by
    funext a
    apply Fin.ext
    rw [Rect.emb_apply]
    match a with
    | ⟨0, _⟩ => show 3 + 1 * y0.val = 3; omega
    | ⟨1, _⟩ => show 384 + 1 * y1.val = 128 * 3 + y1.val; omega
  rw [e, G9_at x0 x1 x2 x3 x4 x5 x6 x7 x8 3 3 y1 _ rfl]
  simp only [t259, t311, t313, t315, t316]
  pointwise [k0_pay232, k0_pay228, k0_pay226, k0_pay227]
  rfl

/-- Row 4, head 3: the stored output. -/
theorem o3_4 (y : S1x128.Idx) : (k0_pay238 (k0_pay259 x0 x1 x2 x3 x4 x5 x6 x7 x8) (View.ld x3 r0_85) (k0_pay235 (k0_pay311 x0 x1 x2 x3 x4 x5 x6 x7 x8) (k0_pay313 x0 x1 x2 x3 x4 x5 x6 x7 x8) (k0_pay315 x0 x1 x2 x3 x4 x5 x6 x7 x8) (k0_pay316 x0 x1 x2 x3 x4 x5 x6 x7 x8) (View.ld x4 r0_98))) y = G9 x0 x1 x2 x3 x4 x5 x6 x7 x8 (r0_100.emb y) := by
  idx_vars y
  have e : r0_100.emb (ix2 y0 y1) = ix2 4 ⟨128 * 3 + y1.val, by omega⟩ := by
    funext a
    apply Fin.ext
    rw [Rect.emb_apply]
    match a with
    | ⟨0, _⟩ => show 4 + 1 * y0.val = 4; omega
    | ⟨1, _⟩ => show 384 + 1 * y1.val = 128 * 3 + y1.val; omega
  rw [e, G9_at x0 x1 x2 x3 x4 x5 x6 x7 x8 4 3 y1 _ rfl]
  simp only [t259, t311, t313, t315, t316]
  pointwise [k0_pay238, k0_pay235, k0_pay233, k0_pay234]
  rfl

/-- Row 5, head 3: the stored output. -/
theorem o3_5 (y : S1x128.Idx) : (k0_pay244 (k0_pay259 x0 x1 x2 x3 x4 x5 x6 x7 x8) (View.ld x3 r0_85) (k0_pay317 x0 x1 x2 x3 x4 x5 x6 x7 x8) (k0_pay241 (k0_pay315 x0 x1 x2 x3 x4 x5 x6 x7 x8) (View.ld x4 r0_101)) (k0_pay242 (k0_pay311 x0 x1 x2 x3 x4 x5 x6 x7 x8))) y = G9 x0 x1 x2 x3 x4 x5 x6 x7 x8 (r0_103.emb y) := by
  idx_vars y
  have e : r0_103.emb (ix2 y0 y1) = ix2 5 ⟨128 * 3 + y1.val, by omega⟩ := by
    funext a
    apply Fin.ext
    rw [Rect.emb_apply]
    match a with
    | ⟨0, _⟩ => show 5 + 1 * y0.val = 5; omega
    | ⟨1, _⟩ => show 384 + 1 * y1.val = 128 * 3 + y1.val; omega
  rw [e, G9_at x0 x1 x2 x3 x4 x5 x6 x7 x8 5 3 y1 _ rfl]
  unfold k0_pay317
  simp only [t259, t311, t313, t315, t316]
  pointwise [k0_pay244, k0_pay241, k0_pay242, k0_pay240, k0_pay239]
  rfl

/-- Row 6, head 3: the stored output. -/
theorem o3_6 (y : S1x128.Idx) : (k0_pay249 (k0_pay259 x0 x1 x2 x3 x4 x5 x6 x7 x8) (k0_pay311 x0 x1 x2 x3 x4 x5 x6 x7 x8) (View.ld x3 r0_85) (k0_pay318 x0 x1 x2 x3 x4 x5 x6 x7 x8) (k0_pay247 (k0_pay315 x0 x1 x2 x3 x4 x5 x6 x7 x8) (View.ld x4 r0_104))) y = G9 x0 x1 x2 x3 x4 x5 x6 x7 x8 (r0_106.emb y) := by
  idx_vars y
  have e : r0_106.emb (ix2 y0 y1) = ix2 6 ⟨128 * 3 + y1.val, by omega⟩ := by
    funext a
    apply Fin.ext
    rw [Rect.emb_apply]
    match a with
    | ⟨0, _⟩ => show 6 + 1 * y0.val = 6; omega
    | ⟨1, _⟩ => show 384 + 1 * y1.val = 128 * 3 + y1.val; omega
  rw [e, G9_at x0 x1 x2 x3 x4 x5 x6 x7 x8 6 3 y1 _ rfl]
  unfold k0_pay318
  simp only [t259, t311, t313, t315, t316]
  pointwise [k0_pay249, k0_pay247, k0_pay246, k0_pay245]
  rfl

/-- Row 7, head 3: the stored output. -/
theorem o3_7 (y : S1x128.Idx) : (k0_pay2 (k0_pay259 x0 x1 x2 x3 x4 x5 x6 x7 x8) (View.ld x3 r0_85) (k0_pay253 (k0_pay311 x0 x1 x2 x3 x4 x5 x6 x7 x8) (k0_pay319 x0 x1 x2 x3 x4 x5 x6 x7 x8) (k0_pay320 x0 x1 x2 x3 x4 x5 x6 x7 x8) (k0_pay252 (k0_pay315 x0 x1 x2 x3 x4 x5 x6 x7 x8)))) y = G9 x0 x1 x2 x3 x4 x5 x6 x7 x8 (r0_109.emb y) := by
  idx_vars y
  have e : r0_109.emb (ix2 y0 y1) = ix2 7 ⟨128 * 3 + y1.val, by omega⟩ := by
    funext a
    apply Fin.ext
    rw [Rect.emb_apply]
    match a with
    | ⟨0, _⟩ => show 7 + 1 * y0.val = 7; omega
    | ⟨1, _⟩ => show 384 + 1 * y1.val = 128 * 3 + y1.val; omega
  rw [e, G9_at x0 x1 x2 x3 x4 x5 x6 x7 x8 7 3 y1 _ rfl]
  unfold k0_pay319 k0_pay320
  simp only [t259, t311, t313, t315, t316]
  pointwise [k0_pay2, k0_pay253, k0_pay252, k0_pay250, k0_pay251]
  rfl

end Cert.GdnSampleIdeal.Step

end
-- ==== Proof.GdnStepBlock.lean ====
/-
  What the recurrence step's two output blocks hold.
-/
module

public import proofs.«01_k».proof.Proof.Gen.GdnSampleIdeal.Frame
public import proofs.«01_k».proof.Proof.GdnStepHead0
public import proofs.«01_k».proof.Proof.GdnStepHead1
public import proofs.«01_k».proof.Proof.GdnStepHead2
public import proofs.«01_k».proof.Proof.GdnStepHead3
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Cert.GdnStep

variable (x0 : Vec Ideal S8x1536 .f32) (x1 : Vec Ideal S1x8x4608 .f32) (x2 : Vec Ideal S8x128 .f32) (x3 : Vec Ideal S8x512 .f32) (x4 : Vec Ideal S1x8x4x128x128 .f32) (x5 : Vec Ideal S1x4x1536 .f32) (x6 : Vec Ideal S1x1x128 .f32) (x7 : Vec Ideal S1x1x128 .f32) (x8 : Vec Ideal S1x1x128 .f32)

/-- The block of states. -/
theorem block10 : out0_10 x0 x1 x2 x3 x4 x5 x6 x7 x8 = G10 x0 x1 x2 x4 x5 x6 x7 := by
  funext y
  unfold out0_10
  refine View.canon_apply_of_pieces (Val := Elt Ideal) (G10 x0 x1 x2 x4 x5 x6 x7) _ ?_ y (cover0_10 _ _ _ _ _ _ _ _ _ _ _ _ _ _ _ _ _ _ _ _ _ _ _ _ _ _ _ _ _ _ _ _ y)
  simp only [List.forall_mem_cons]
  exact ⟨s3_7 x0 x1 x2 x3 x4 x5 x6 x7 x8, s3_6 x0 x1 x2 x3 x4 x5 x6 x7 x8, s3_5 x0 x1 x2 x3 x4 x5 x6 x7 x8, s3_4 x0 x1 x2 x3 x4 x5 x6 x7 x8, s3_3 x0 x1 x2 x3 x4 x5 x6 x7 x8, s3_2 x0 x1 x2 x3 x4 x5 x6 x7 x8, s3_1 x0 x1 x2 x3 x4 x5 x6 x7 x8, s3_0 x0 x1 x2 x3 x4 x5 x6 x7 x8, s2_7 x0 x1 x2 x3 x4 x5 x6 x7 x8, s2_6 x0 x1 x2 x3 x4 x5 x6 x7 x8, s2_5 x0 x1 x2 x3 x4 x5 x6 x7 x8, s2_4 x0 x1 x2 x3 x4 x5 x6 x7 x8, s2_3 x0 x1 x2 x3 x4 x5 x6 x7 x8, s2_2 x0 x1 x2 x3 x4 x5 x6 x7 x8, s2_1 x0 x1 x2 x3 x4 x5 x6 x7 x8, s2_0 x0 x1 x2 x3 x4 x5 x6 x7 x8, s1_7 x0 x1 x2 x3 x4 x5 x6 x7 x8, s1_6 x0 x1 x2 x3 x4 x5 x6 x7 x8, s1_5 x0 x1 x2 x3 x4 x5 x6 x7 x8, s1_4 x0 x1 x2 x3 x4 x5 x6 x7 x8, s1_3 x0 x1 x2 x3 x4 x5 x6 x7 x8, s1_2 x0 x1 x2 x3 x4 x5 x6 x7 x8, s1_1 x0 x1 x2 x3 x4 x5 x6 x7 x8, s1_0 x0 x1 x2 x3 x4 x5 x6 x7 x8, s0_7 x0 x1 x2 x3 x4 x5 x6 x7 x8, s0_6 x0 x1 x2 x3 x4 x5 x6 x7 x8, s0_5 x0 x1 x2 x3 x4 x5 x6 x7 x8, s0_4 x0 x1 x2 x3 x4 x5 x6 x7 x8, s0_3 x0 x1 x2 x3 x4 x5 x6 x7 x8, s0_2 x0 x1 x2 x3 x4 x5 x6 x7 x8, s0_1 x0 x1 x2 x3 x4 x5 x6 x7 x8, s0_0 x0 x1 x2 x3 x4 x5 x6 x7 x8, fun _ h => absurd h (List.not_mem_nil)⟩

/-- The block of outputs. -/
theorem block9 : out0_9 x0 x1 x2 x3 x4 x5 x6 x7 x8 = G9 x0 x1 x2 x3 x4 x5 x6 x7 x8 := by
  funext y
  unfold out0_9
  refine View.canon_apply_of_pieces (Val := Elt Ideal) (G9 x0 x1 x2 x3 x4 x5 x6 x7 x8) _ ?_ y (cover0_9 _ _ _ _ _ _ _ _ _ _ _ _ _ _ _ _ _ _ _ _ _ _ _ _ _ _ _ _ _ _ _ _ y)
  simp only [List.forall_mem_cons]
  exact ⟨o3_7 x0 x1 x2 x3 x4 x5 x6 x7 x8, o3_6 x0 x1 x2 x3 x4 x5 x6 x7 x8, o3_5 x0 x1 x2 x3 x4 x5 x6 x7 x8, o3_4 x0 x1 x2 x3 x4 x5 x6 x7 x8, o3_3 x0 x1 x2 x3 x4 x5 x6 x7 x8, o3_2 x0 x1 x2 x3 x4 x5 x6 x7 x8, o3_1 x0 x1 x2 x3 x4 x5 x6 x7 x8, o3_0 x0 x1 x2 x3 x4 x5 x6 x7 x8, o2_7 x0 x1 x2 x3 x4 x5 x6 x7 x8, o2_6 x0 x1 x2 x3 x4 x5 x6 x7 x8, o2_5 x0 x1 x2 x3 x4 x5 x6 x7 x8, o2_4 x0 x1 x2 x3 x4 x5 x6 x7 x8, o2_3 x0 x1 x2 x3 x4 x5 x6 x7 x8, o2_2 x0 x1 x2 x3 x4 x5 x6 x7 x8, o2_1 x0 x1 x2 x3 x4 x5 x6 x7 x8, o2_0 x0 x1 x2 x3 x4 x5 x6 x7 x8, o1_7 x0 x1 x2 x3 x4 x5 x6 x7 x8, o1_6 x0 x1 x2 x3 x4 x5 x6 x7 x8, o1_5 x0 x1 x2 x3 x4 x5 x6 x7 x8, o1_4 x0 x1 x2 x3 x4 x5 x6 x7 x8, o1_3 x0 x1 x2 x3 x4 x5 x6 x7 x8, o1_2 x0 x1 x2 x3 x4 x5 x6 x7 x8, o1_1 x0 x1 x2 x3 x4 x5 x6 x7 x8, o1_0 x0 x1 x2 x3 x4 x5 x6 x7 x8, o0_7 x0 x1 x2 x3 x4 x5 x6 x7 x8, o0_6 x0 x1 x2 x3 x4 x5 x6 x7 x8, o0_5 x0 x1 x2 x3 x4 x5 x6 x7 x8, o0_4 x0 x1 x2 x3 x4 x5 x6 x7 x8, o0_3 x0 x1 x2 x3 x4 x5 x6 x7 x8, o0_2 x0 x1 x2 x3 x4 x5 x6 x7 x8, o0_1 x0 x1 x2 x3 x4 x5 x6 x7 x8, o0_0 x0 x1 x2 x3 x4 x5 x6 x7 x8, fun _ h => absurd h (List.not_mem_nil)⟩

end Cert.GdnSampleIdeal.Step

end
-- ==== Proof.GdnStepFinal.lean ====
/-
  The recurrence step's two result arrays as functions of its argument arrays, on the kernel's side.
-/
module

public import proofs.«01_k».proof.Proof.GdnStepBlock
public import proofs.«01_k».proof.Proof.Gen.GdnSampleIdeal.Value
public import Idealize.ShloMosaic.Lib.Pipeline.ValueKit

@[expose] public section

set_option maxRecDepth 16384

noncomputable section

namespace Cert.GdnSampleIdeal.Step

open Cert.GdnSampleIdeal Cert.GdnSampleIdeal.Gen Idealize.ShloMosaic Idealize.ShloMosaic.TcCoe Idealize.SL.Sem Cert.GdnStep

/-- The states after the step, as one function of the arguments. -/
def valS (X : S128x1536.Idx → EReal) (B : S4x128x4608.Idx → EReal) (G : S128x128.Idx → EReal) (S : S4x128x4x128x128.Idx → EReal)
    (W : S4x4x1536.Idx → EReal) (A D : S4x1x128.Idx → EReal) : S128x4x128x128.Idx → EReal := fun i =>
  snew (fun u => X (ix2 (i 0) u)) (fun u => B (ix3 3 (i 0) u)) (fun j u => W (ix3 3 j u)) (fun u => G (ix2 (i 0) u))
    (fun u => A (ix3 3 0 u)) (fun u => D (ix3 3 0 u)) (i 1) (fun k v => S (ix5 3 (i 0) (i 1) k v)) (i 2) (i 3)

/-- The outputs of the step, one sequence, head and column at a time. -/
def yv (X : S128x1536.Idx → EReal) (B : S4x128x4608.Idx → EReal) (G : S128x128.Idx → EReal) (Z : S128x512.Idx → EReal)
    (S : S4x128x4x128x128.Idx → EReal) (W : S4x4x1536.Idx → EReal) (A D N : S4x1x128.Idx → EReal) (r : Fin 128) (h : Fin 4) (v : Fin 128) : EReal :=
  ynew (fun u => X (ix2 r u)) (fun u => B (ix3 3 r u)) (fun j u => W (ix3 3 j u)) (fun u => G (ix2 r u))
    (fun u => A (ix3 3 0 u)) (fun u => D (ix3 3 0 u)) (fun u => N (ix3 3 0 u)) (fun u => Z (ix2 r u)) h (fun k v => S (ix5 3 r h k v)) v

/-- The outputs of the step, as one function of the arguments. -/
def valY (X : S128x1536.Idx → EReal) (B : S4x128x4608.Idx → EReal) (G : S128x128.Idx → EReal) (Z : S128x512.Idx → EReal)
    (S : S4x128x4x128x128.Idx → EReal) (W : S4x4x1536.Idx → EReal) (A D N : S4x1x128.Idx → EReal) : S128x512.Idx → EReal := fun i =>
  yv X B G Z S W A D N (i 0) ⟨(i 1).val / 128, Nat.div_lt_of_lt_mul (i 1).isLt⟩ ⟨(i 1).val % 128, Nat.mod_lt _ (by decide)⟩

variable (m : (ℓ : Loc nD τ sig) → Buf (Elt Ideal) ℓ)

/-- Which block each window holds at grid point `t`. -/
theorem idx : ∀ t : Fin cfg0.N, win0_0.index t = ![t.val, 0] ∧ win0_1.index t = ![3, t.val, 0] ∧ win0_2.index t = ![t.val, 0]
    ∧ win0_3.index t = ![t.val, 0] ∧ win0_4.index t = ![3, t.val, 0, 0, 0] ∧ win0_5.index t = ![3, 0, 0] ∧ win0_6.index t = ![3, 0, 0]
    ∧ win0_7.index t = ![3, 0, 0] ∧ win0_8.index t = ![3, 0, 0] ∧ win0_9.index t = ![t.val, 0] ∧ win0_10.index t = ![t.val, 0, 0, 0] :=
  (by decide +kernel : ∀ t : Fin grid0.N, _)

/-- The sequence row `r` of block `t` belongs to. -/
def row (t : Fin cfg0.N) (r : Fin 8) : Fin 128 := ⟨8 * t.val + r.val, by have h : t.val < 16 := t.isLt; omega⟩

/-- What window 0 holds at grid point `t`. -/
theorem read0 (c : Dev nD) (t : Fin cfg0.N) (r : Fin 8) (u : Fin 1536) : iblk m c 0 t (ix2 r u) = (m ((c.tc : Thread nD τ).loc main_arg0)) (ix2 (row t r) u) := by
  unfold row
  blk_ext [iblk, V, idx t]

/-- What window 1 holds at grid point `t`. -/
theorem read1 (c : Dev nD) (t : Fin cfg0.N) (r : Fin 8) (u : Fin 4608) : iblk m c 1 t (ix3 0 r u) = (m ((c.tc : Thread nD τ).loc main_arg1)) (ix3 3 (row t r) u) := by
  unfold row
  blk_ext [iblk, V, idx t]

/-- What window 2 holds at grid point `t`. -/
theorem read2 (c : Dev nD) (t : Fin cfg0.N) (r : Fin 8) (u : Fin 128) : iblk m c 2 t (ix2 r u) = (m ((c.tc : Thread nD τ).loc main_arg2)) (ix2 (row t r) u) := by
  unfold row
  blk_ext [iblk, V, idx t]

/-- What window 3 holds at grid point `t`. -/
theorem read3 (c : Dev nD) (t : Fin cfg0.N) (r : Fin 8) (u : Fin 512) : iblk m c 3 t (ix2 r u) = (m ((c.tc : Thread nD τ).loc main_arg3)) (ix2 (row t r) u) := by
  unfold row
  blk_ext [iblk, V, idx t]

/-- What window 4 holds at grid point `t`. -/
theorem read4 (c : Dev nD) (t : Fin cfg0.N) (r : Fin 8) (h : Fin 4) (k v : Fin 128) : iblk m c 4 t (ix5 0 r h k v) = (m ((c.tc : Thread nD τ).loc main_arg4)) (ix5 3 (row t r) h k v) := by
  unfold row
  blk_ext [iblk, V, idx t]

/-- What window 5 holds at grid point `t`. -/
theorem read5 (c : Dev nD) (t : Fin cfg0.N) (j : Fin 4) (u : Fin 1536) : iblk m c 5 t (ix3 0 j u) = (m ((c.tc : Thread nD τ).loc main_arg5)) (ix3 3 j u) := by
  skip
  blk_ext [iblk, V, idx t]

/-- What window 6 holds at grid point `t`. -/
theorem read6 (c : Dev nD) (t : Fin cfg0.N) (u : Fin 128) : iblk m c 6 t (ix3 0 0 u) = (m ((c.tc : Thread nD τ).loc main_arg6)) (ix3 3 0 u) := by
  skip
  blk_ext [iblk, V, idx t]

/-- What window 7 holds at grid point `t`. -/
theorem read7 (c : Dev nD) (t : Fin cfg0.N) (u : Fin 128) : iblk m c 7 t (ix3 0 0 u) = (m ((c.tc : Thread nD τ).loc main_arg7)) (ix3 3 0 u) := by
  skip
  blk_ext [iblk, V, idx t]

/-- What window 8 holds at grid point `t`. -/
theorem read8 (c : Dev nD) (t : Fin cfg0.N) (u : Fin 128) : iblk m c 8 t (ix3 0 0 u) = (m ((c.tc : Thread nD τ).loc main_arg8)) (ix3 3 0 u) := by
  skip
  blk_ext [iblk, V, idx t]

/-- What grid point `t` leaves at an entry of its block of states. -/
theorem point10 (c : Dev nD) (t : Fin cfg0.N) (y : S8x4x128x128.Idx) :
    out0_10 (iblk m c 0 t) (iblk m c 1 t) (iblk m c 2 t) (iblk m c 3 t) (iblk m c 4 t) (iblk m c 5 t) (iblk m c 6 t) (iblk m c 7 t) (iblk m c 8 t) y = valS (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (((cfg0.win 10).blk t).view.emb y) := by
  rw [block10]
  idx_vars y
  have e : ((cfg0.win 10).blk t).view.emb (ix4 y0 y1 y2 y3) = ix4 (row t y0) y1 y2 y3 := by
    unfold row
    blk_ext [iblk, V, idx t]
  rw [e]
  exact snew_congr (read0 m c t y0) (read1 m c t y0) (read5 m c t) (read2 m c t y0) (read6 m c t) (read7 m c t) (read4 m c t y0 y1) y1 y2 y3

/-- The array of states after the run. -/
theorem final10 (c : Dev nD) : (dats m 0 c).arrAt 10 cfg0.N = valS (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 10 _ (by decide +kernel) fun t _ y => ?_
  blk_simp
  rw [after0_10]
  exact point10 m c t y

/-- What grid point `t` leaves at an entry of its block of outputs. -/
theorem point9 (c : Dev nD) (t : Fin cfg0.N) (y : S8x512.Idx) :
    out0_9 (iblk m c 0 t) (iblk m c 1 t) (iblk m c 2 t) (iblk m c 3 t) (iblk m c 4 t) (iblk m c 5 t) (iblk m c 6 t) (iblk m c 7 t) (iblk m c 8 t) y = valY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (((cfg0.win 9).blk t).view.emb y) := by
  rw [block9]
  idx_vars y
  have e : ((cfg0.win 9).blk t).view.emb (ix2 y0 y1) = ix2 (row t y0) y1 := by
    unfold row
    blk_ext [iblk, V, idx t]
  rw [e]
  exact ynew_congr (read0 m c t y0) (read1 m c t y0) (read5 m c t) (read2 m c t y0) (read6 m c t) (read7 m c t) (read8 m c t) (read3 m c t y0) (fun k v => read4 m c t y0 ⟨y1.val / 128, by omega⟩ k v) ⟨y1.val / 128, by omega⟩ ⟨y1.val % 128, by omega⟩

/-- The array of outputs after the run. -/
theorem final9 (c : Dev nD) : (dats m 0 c).arrAt 9 cfg0.N = valY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 9 _ (by decide +kernel) fun t _ y => ?_
  blk_simp
  rw [after0_9]
  exact point9 m c t y

end Cert.GdnSampleIdeal.Step

end
-- ==== Proof.GdnStepRef.lean ====
/-
  The recurrence step's reference, array by array: the convolved columns, the unit keys and queries, the decays, the
  gates, the corrected values, the outputs and the states.
-/
module

public import proofs.«01_k».proof.Proof.GdnStepRows
public import proofs.«01_k».proof.Proof.Gen.GdnSampleReferenceIdeal.Run
public import Idealize.ShloMosaic.Lib.Pipeline.ValueKit

@[expose] public section

set_option maxRecDepth 16384

noncomputable section

namespace Cert.GdnSampleReferenceIdeal.Step

open Cert.GdnSampleReferenceIdeal Cert.GdnSampleReferenceIdeal.Gen Cert.GdnSampleReferenceIdeal.Value
open Idealize.ShloMosaic Idealize.ShloMosaic.TcCoe Idealize.SL.Sem Idealize.ShloMosaic.StableHlo Cert.GdnStep

variable (V0 : Valuation τ sig (Elt Ideal)) (X : S128x1536.Idx → EReal) (B : S4x128x4608.Idx → EReal) (G : S128x128.Idx → EReal)
  (S : S4x128x4x128x128.Idx → EReal) (W : S4x4x1536.Idx → EReal) (A D : S4x1x128.Idx → EReal)
  (hX : V0 (Proc.devRef .tc main_arg0) = X) (hB : V0 (Proc.devRef .tc main_arg1) = B) (hG : V0 (Proc.devRef .tc main_arg2) = G)
  (hS : V0 (Proc.devRef .tc main_arg4) = S) (hW : V0 (Proc.devRef .tc main_arg5) = W) (hA : V0 (Proc.devRef .tc main_arg6) = A)
  (hD : V0 (Proc.devRef .tc main_arg7) = D)

include hX hB hW in
/-- The convolved columns, before `silu`. -/
theorem c35 : res_main_v35 V0 = fun i => X (ix2 (i 0) (i 1)) * W (ix3 3 3 (i 1)) + B (ix3 3 (i 0) ⟨(i 1).val, by have h : (i 1).val < 1536 := (i 1).isLt; omega⟩) * W (ix3 3 0 (i 1))
    + B (ix3 3 (i 0) ⟨1536 + (i 1).val, by have h : (i 1).val < 1536 := (i 1).isLt; omega⟩) * W (ix3 3 1 (i 1))
    + B (ix3 3 (i 0) ⟨3072 + (i 1).val, by have h : (i 1).val < 1536 := (i 1).isLt; omega⟩) * W (ix3 3 2 (i 1)) := by
  funext i
  idx_vars i
  unfold res_main_v35 res_main_v4
  rw [hX, hB, hW]
  pointwise
  exact taps _ _ _ _

include hX hB hW in
/-- The convolved columns, head by head. -/
theorem c37 : res_main_v37 V0 = fun i => conved (fun u => X (ix2 (i 0) u)) (fun u => B (ix3 3 (i 0) u)) (fun j u => W (ix3 3 j u))
    ⟨128 * (i 1).val + (i 2).val, by have h : (i 1).val < 12 := (i 1).isLt; have h' : (i 2).val < 128 := (i 2).isLt; omega⟩ := by
  funext i
  idx_vars i
  unfold res_main_v37
  rw [c35 V0 X B W hX hB hW]
  pointwise
  have e : i1.val * 128 + i2.val = 128 * i1.val + i2.val := by omega
  simp only [e]
  rfl

include hX hB hW in
/-- The unit keys. -/
theorem c58 : res_main_v58 V0 = fun i => unit (hk (fun u => X (ix2 (i 0) u)) (fun u => B (ix3 3 (i 0) u)) (fun j u => W (ix3 3 j u)) (i 1)) (i 2) := by
  funext i
  idx_vars i
  unfold res_main_v58 res_main_v39
  rw [c37 V0 X B W hX hB hW]
  pointwise
  have e : 128 * (4 + i1.val) = 512 + 128 * i1.val := by omega
  simp only [e]
  rfl

include hX hB hW in
/-- The scaled unit queries. -/
theorem c50 : res_main_v50 V0 = fun i => qry (hq (fun u => X (ix2 (i 0) u)) (fun u => B (ix3 3 (i 0) u)) (fun j u => W (ix3 3 j u)) (i 1)) (i 2) := by
  funext i
  idx_vars i
  unfold res_main_v50 res_main_v38
  rw [c37 V0 X B W hX hB hW]
  pointwise
  rfl

include hG hA hD in
/-- The decays. -/
theorem c74 : res_main_v74 V0 = fun i => he (fun u => G (ix2 (i 0) u)) (fun u => A (ix3 3 0 u)) (fun u => D (ix3 3 0 u)) (i 1) := by
  funext i
  idx_vars i
  unfold res_main_v74 res_main_call1_v3 res_main_v68 res_main_call1_cst
  rw [hG, hA, hD]
  pointwise
  rw [if_neg (not_not.mpr rfl)]
  unfold he decay
  rw [zero_sub, zero_sub]
  rfl

include hG in
/-- The gates. -/
theorem c82 : res_main_v82 V0 = fun i => hb (fun u => G (ix2 (i 0) u)) (i 1) := by
  funext i
  idx_vars i
  unfold res_main_v82
  rw [hG]
  pointwise
  rfl

include hX hB hG hS hW hA hD in
/-- The corrected values. -/
theorem c92 : res_main_v92 V0 = fun i => corr (hk (fun u => X (ix2 (i 0) u)) (fun u => B (ix3 3 (i 0) u)) (fun j u => W (ix3 3 j u)) (i 1))
    (hv (fun u => X (ix2 (i 0) u)) (fun u => B (ix3 3 (i 0) u)) (fun j u => W (ix3 3 j u)) (i 1))
    (he (fun u => G (ix2 (i 0) u)) (fun u => A (ix3 3 0 u)) (fun u => D (ix3 3 0 u)) (i 1)) (hb (fun u => G (ix2 (i 0) u)) (i 1))
    (fun k v => S (ix5 3 (i 0) (i 1) k v)) (i 2) := by
  funext i
  idx_vars i
  unfold res_main_v92
  rw [c37 V0 X B W hX hB hW, c58 V0 X B W hX hB hW, c74 V0 G A D hG hA hD, c82 V0 G hG, hS]
  pointwise
  have e : 128 * (8 + i1.val) = 1024 + 128 * i1.val := by omega
  simp only [e]
  rfl

include hX hB hG hS hW hA hD in
/-- The outputs, before their norm. -/
theorem c103 : res_main_v103 V0 = fun i => hout (fun u => X (ix2 (i 0) u)) (fun u => B (ix3 3 (i 0) u)) (fun j u => W (ix3 3 j u))
    (fun u => G (ix2 (i 0) u)) (fun u => A (ix3 3 0 u)) (fun u => D (ix3 3 0 u)) (i 1) (fun k v => S (ix5 3 (i 0) (i 1) k v)) (i 2) := by
  funext i
  idx_vars i
  unfold res_main_v103
  rw [c92 V0 X B G S W A D hX hB hG hS hW hA hD, c58 V0 X B W hX hB hW, c50 V0 X B W hX hB hW, c74 V0 G A D hG hA hD, hS]
  pointwise
  rfl

end Cert.GdnSampleReferenceIdeal.Step

end
-- ==== Proof.GdnStepPair.lean ====
/-
  The recurrence step: the kernel works eight rows and one head at a time, the reference on all rows and heads at once.
  Both leave the same next states and the same gated outputs.
-/
module

public import proofs.«01_k».proof.Proof.GdnStepFinal
public import proofs.«01_k».proof.Proof.GdnStepRef
public import Idealize.ShloMosaic.Lib.Pipeline.ValueKit

@[expose] public section

set_option maxRecDepth 16384

noncomputable section

namespace Cert.GdnSampleReferenceIdeal.Step

open Cert.GdnSampleReferenceIdeal Cert.GdnSampleReferenceIdeal.Gen Cert.GdnSampleReferenceIdeal.Value
open Idealize.ShloMosaic Idealize.ShloMosaic.TcCoe Idealize.SL.Sem Idealize.ShloMosaic.StableHlo Cert.GdnStep
open Cert.GdnSampleIdeal.Step (valS valY yv)

variable (V0 : Valuation τ sig (Elt Ideal)) (X : S128x1536.Idx → EReal) (B : S4x128x4608.Idx → EReal) (G : S128x128.Idx → EReal)
  (Z : S128x512.Idx → EReal) (S : S4x128x4x128x128.Idx → EReal) (W : S4x4x1536.Idx → EReal) (A D N : S4x1x128.Idx → EReal)
  (hX : V0 (Proc.devRef .tc main_arg0) = X) (hB : V0 (Proc.devRef .tc main_arg1) = B) (hG : V0 (Proc.devRef .tc main_arg2) = G)
  (hZ : V0 (Proc.devRef .tc main_arg3) = Z)
  (hS : V0 (Proc.devRef .tc main_arg4) = S) (hW : V0 (Proc.devRef .tc main_arg5) = W) (hA : V0 (Proc.devRef .tc main_arg6) = A)
  (hD : V0 (Proc.devRef .tc main_arg7) = D) (hN : V0 (Proc.devRef .tc main_arg8) = N)

include hX hB hG hS hW hA hD in
/-- The reference's states are the same function of its arguments. -/
theorem states : (addf (mulf (shapeCast _ (extractStridedSlice S1x128x4x128x128 ![3, 0, 0, 0, 0] (V0 (Proc.devRef .tc main_arg4)) slices_S4x128x4x128x128_S1x128x4x128x128_3_0_0_0_0) shapeCasts_S1x128x4x128x128_S128x4x128x128) (broadcastInDim S128x4x128x128 ![0, 1, 2, 3] bcast_S128x4x1x1_S128x4x128x128_0_1_2_3 (broadcastInDim S128x4x1x1 ![0, 1, 2] bcast_S128x4x1_S128x4x1x1_0_1_2 (res_main_v74 V0)))) (mulf (broadcastInDim S128x4x128x128 ![0, 1, 2, 3] bcast_S128x4x128x1_S128x4x128x128_0_1_2_3 (broadcastInDim S128x4x128x1 ![0, 1, 2] bcast_S128x4x128_S128x4x128x1_0_1_2 (res_main_v58 V0))) (broadcastInDim S128x4x128x128 ![0, 1, 2, 3] bcast_S128x4x1x128_S128x4x128x128_0_1_2_3 (broadcastInDim S128x4x1x128 ![0, 1, 3] bcast_S128x4x128_S128x4x1x128_0_1_3 (res_main_v92 V0)))) : S128x4x128x128.Idx → EReal) = valS X B G S W A D := by
  rw [c92 V0 X B G S W A D hX hB hG hS hW hA hD, c58 V0 X B W hX hB hW, c74 V0 G A D hG hA hD, hS]
  funext i
  idx_vars i
  unfold valS
  pointwise
  rfl

include hX hB hG hZ hS hW hA hD hN in
/-- The reference's outputs are the same function of its arguments. -/
theorem outputs : (shapeCast _ (mulf (mulf (mulf (res_main_v103 V0) (broadcastInDim S128x4x128 ![0, 1, 2] bcast_S128x4x1_S128x4x128_0_1_2 (Host.rsqrt (addf (Host.divf (broadcastInDim S128x4x1 ![0, 1] bcast_S128x4_S128x4x1_0_1 (Host.reduceAdd (mulf (res_main_v103 V0) (res_main_v103 V0)) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![2] bcast_S128_S1x1x128_2 (shapeCast _ (extractStridedSlice S1x1x128 ![3, 0, 0] (V0 (Proc.devRef .tc main_arg8)) slices_S4x1x128_S1x1x128_3_0_0) shapeCasts_S1x1x128_S128)))) (shapeCast _ (mulf (V0 (Proc.devRef .tc main_arg3)) (Host.divf (broadcastInDim S128x512 ![] bcast_S_S128x512 (constant S_ .f32 0x3F800000#32)) (addf (broadcastInDim S128x512 ![] bcast_S_S128x512 (constant S_ .f32 0x3F800000#32)) (Host.exp (Host.negf (V0 (Proc.devRef .tc main_arg3))))))) shapeCasts_S128x512_S128x4x128)) shapeCasts_S128x4x128_S128x512 : S128x512.Idx → EReal) = valY X B G Z S W A D N := by
  rw [c103 V0 X B G S W A D hX hB hG hS hW hA hD, hZ, hN]
  funext i
  idx_vars i
  unfold valY yv ynew fin
  pointwise
  have e : (⟨128 * (i1.val / 128) + i1.val % 128, by omega⟩ : Fin 512) = i1 := Fin.ext (by simp only []; omega)
  simp only [e]
  rfl

end Cert.GdnSampleReferenceIdeal.Step

namespace Cert.GdnSampleIdeal.Step

open Idealize.ShloMosaic Idealize.ShloMosaic.TcCoe Idealize.SL.Sem
open Cert.GdnSampleIdeal Cert.GdnSampleIdeal.Gen

/-- The reference's outputs are the kernel's. -/
theorem pair9 (m : (ℓ : Loc nD τ sig) → Buf (Elt Ideal) ℓ) (m' : (ℓ : Loc Cert.GdnSampleReferenceIdeal.nD Cert.GdnSampleReferenceIdeal.τ Cert.GdnSampleReferenceIdeal.sig) → Buf (Elt Ideal) ℓ) (c : Dev nD)
    (h0 : m' ((c.tc : Thread Cert.GdnSampleReferenceIdeal.nD Cert.GdnSampleReferenceIdeal.τ).loc Cert.GdnSampleReferenceIdeal.main_arg0) = m ((c.tc : Thread nD τ).loc main_arg0))
    (h1 : m' ((c.tc : Thread Cert.GdnSampleReferenceIdeal.nD Cert.GdnSampleReferenceIdeal.τ).loc Cert.GdnSampleReferenceIdeal.main_arg1) = m ((c.tc : Thread nD τ).loc main_arg1))
    (h2 : m' ((c.tc : Thread Cert.GdnSampleReferenceIdeal.nD Cert.GdnSampleReferenceIdeal.τ).loc Cert.GdnSampleReferenceIdeal.main_arg2) = m ((c.tc : Thread nD τ).loc main_arg2))
    (h3 : m' ((c.tc : Thread Cert.GdnSampleReferenceIdeal.nD Cert.GdnSampleReferenceIdeal.τ).loc Cert.GdnSampleReferenceIdeal.main_arg3) = m ((c.tc : Thread nD τ).loc main_arg3))
    (h4 : m' ((c.tc : Thread Cert.GdnSampleReferenceIdeal.nD Cert.GdnSampleReferenceIdeal.τ).loc Cert.GdnSampleReferenceIdeal.main_arg4) = m ((c.tc : Thread nD τ).loc main_arg4))
    (h5 : m' ((c.tc : Thread Cert.GdnSampleReferenceIdeal.nD Cert.GdnSampleReferenceIdeal.τ).loc Cert.GdnSampleReferenceIdeal.main_arg5) = m ((c.tc : Thread nD τ).loc main_arg5))
    (h6 : m' ((c.tc : Thread Cert.GdnSampleReferenceIdeal.nD Cert.GdnSampleReferenceIdeal.τ).loc Cert.GdnSampleReferenceIdeal.main_arg6) = m ((c.tc : Thread nD τ).loc main_arg6))
    (h7 : m' ((c.tc : Thread Cert.GdnSampleReferenceIdeal.nD Cert.GdnSampleReferenceIdeal.τ).loc Cert.GdnSampleReferenceIdeal.main_arg7) = m ((c.tc : Thread nD τ).loc main_arg7))
    (h8 : m' ((c.tc : Thread Cert.GdnSampleReferenceIdeal.nD Cert.GdnSampleReferenceIdeal.τ).loc Cert.GdnSampleReferenceIdeal.main_arg8) = m ((c.tc : Thread nD τ).loc main_arg8)) :
    valY (m' ((c.tc : Thread Cert.GdnSampleReferenceIdeal.nD Cert.GdnSampleReferenceIdeal.τ).loc Cert.GdnSampleReferenceIdeal.main_arg0)) (m' ((c.tc : Thread Cert.GdnSampleReferenceIdeal.nD Cert.GdnSampleReferenceIdeal.τ).loc Cert.GdnSampleReferenceIdeal.main_arg1)) (m' ((c.tc : Thread Cert.GdnSampleReferenceIdeal.nD Cert.GdnSampleReferenceIdeal.τ).loc Cert.GdnSampleReferenceIdeal.main_arg2)) (m' ((c.tc : Thread Cert.GdnSampleReferenceIdeal.nD Cert.GdnSampleReferenceIdeal.τ).loc Cert.GdnSampleReferenceIdeal.main_arg3)) (m' ((c.tc : Thread Cert.GdnSampleReferenceIdeal.nD Cert.GdnSampleReferenceIdeal.τ).loc Cert.GdnSampleReferenceIdeal.main_arg4)) (m' ((c.tc : Thread Cert.GdnSampleReferenceIdeal.nD Cert.GdnSampleReferenceIdeal.τ).loc Cert.GdnSampleReferenceIdeal.main_arg5)) (m' ((c.tc : Thread Cert.GdnSampleReferenceIdeal.nD Cert.GdnSampleReferenceIdeal.τ).loc Cert.GdnSampleReferenceIdeal.main_arg6)) (m' ((c.tc : Thread Cert.GdnSampleReferenceIdeal.nD Cert.GdnSampleReferenceIdeal.τ).loc Cert.GdnSampleReferenceIdeal.main_arg7)) (m' ((c.tc : Thread Cert.GdnSampleReferenceIdeal.nD Cert.GdnSampleReferenceIdeal.τ).loc Cert.GdnSampleReferenceIdeal.main_arg8)) = (dats m 0 c).arrAt 9 cfg0.N := by
  rw [final9 m c, h0, h1, h2, h3, h4, h5, h6, h7, h8]

/-- The reference's states are the kernel's. -/
theorem pair10 (m : (ℓ : Loc nD τ sig) → Buf (Elt Ideal) ℓ) (m' : (ℓ : Loc Cert.GdnSampleReferenceIdeal.nD Cert.GdnSampleReferenceIdeal.τ Cert.GdnSampleReferenceIdeal.sig) → Buf (Elt Ideal) ℓ) (c : Dev nD)
    (h0 : m' ((c.tc : Thread Cert.GdnSampleReferenceIdeal.nD Cert.GdnSampleReferenceIdeal.τ).loc Cert.GdnSampleReferenceIdeal.main_arg0) = m ((c.tc : Thread nD τ).loc main_arg0))
    (h1 : m' ((c.tc : Thread Cert.GdnSampleReferenceIdeal.nD Cert.GdnSampleReferenceIdeal.τ).loc Cert.GdnSampleReferenceIdeal.main_arg1) = m ((c.tc : Thread nD τ).loc main_arg1))
    (h2 : m' ((c.tc : Thread Cert.GdnSampleReferenceIdeal.nD Cert.GdnSampleReferenceIdeal.τ).loc Cert.GdnSampleReferenceIdeal.main_arg2) = m ((c.tc : Thread nD τ).loc main_arg2))
    (h4 : m' ((c.tc : Thread Cert.GdnSampleReferenceIdeal.nD Cert.GdnSampleReferenceIdeal.τ).loc Cert.GdnSampleReferenceIdeal.main_arg4) = m ((c.tc : Thread nD τ).loc main_arg4))
    (h5 : m' ((c.tc : Thread Cert.GdnSampleReferenceIdeal.nD Cert.GdnSampleReferenceIdeal.τ).loc Cert.GdnSampleReferenceIdeal.main_arg5) = m ((c.tc : Thread nD τ).loc main_arg5))
    (h6 : m' ((c.tc : Thread Cert.GdnSampleReferenceIdeal.nD Cert.GdnSampleReferenceIdeal.τ).loc Cert.GdnSampleReferenceIdeal.main_arg6) = m ((c.tc : Thread nD τ).loc main_arg6))
    (h7 : m' ((c.tc : Thread Cert.GdnSampleReferenceIdeal.nD Cert.GdnSampleReferenceIdeal.τ).loc Cert.GdnSampleReferenceIdeal.main_arg7) = m ((c.tc : Thread nD τ).loc main_arg7)) :
    valS (m' ((c.tc : Thread Cert.GdnSampleReferenceIdeal.nD Cert.GdnSampleReferenceIdeal.τ).loc Cert.GdnSampleReferenceIdeal.main_arg0)) (m' ((c.tc : Thread Cert.GdnSampleReferenceIdeal.nD Cert.GdnSampleReferenceIdeal.τ).loc Cert.GdnSampleReferenceIdeal.main_arg1)) (m' ((c.tc : Thread Cert.GdnSampleReferenceIdeal.nD Cert.GdnSampleReferenceIdeal.τ).loc Cert.GdnSampleReferenceIdeal.main_arg2)) (m' ((c.tc : Thread Cert.GdnSampleReferenceIdeal.nD Cert.GdnSampleReferenceIdeal.τ).loc Cert.GdnSampleReferenceIdeal.main_arg4)) (m' ((c.tc : Thread Cert.GdnSampleReferenceIdeal.nD Cert.GdnSampleReferenceIdeal.τ).loc Cert.GdnSampleReferenceIdeal.main_arg5)) (m' ((c.tc : Thread Cert.GdnSampleReferenceIdeal.nD Cert.GdnSampleReferenceIdeal.τ).loc Cert.GdnSampleReferenceIdeal.main_arg6)) (m' ((c.tc : Thread Cert.GdnSampleReferenceIdeal.nD Cert.GdnSampleReferenceIdeal.τ).loc Cert.GdnSampleReferenceIdeal.main_arg7)) = (dats m 0 c).arrAt 10 cfg0.N := by
  rw [final10 m c, h0, h1, h2, h4, h5, h6, h7]

/-- The reference's run leaves the same functions of its arguments, and its arguments as they were. -/
theorem reference_run (m' : (ℓ : Loc Cert.GdnSampleReferenceIdeal.nD Cert.GdnSampleReferenceIdeal.τ Cert.GdnSampleReferenceIdeal.sig) → Buf (Elt Ideal) ℓ) (g' : Dev Cert.GdnSampleReferenceIdeal.nD → PrngReg) :
    θ_run (Cert.GdnSampleReferenceIdeal.defs (F := Ideal)) (onTc (τ := Cert.GdnSampleReferenceIdeal.τ) (Cert.GdnSampleReferenceIdeal.main (F := Ideal))) ⟨m', fun _ => 0, g'⟩ fun r => ∀ c : Dev Cert.GdnSampleReferenceIdeal.nD,
      r.2.mem ((c.tc : Thread Cert.GdnSampleReferenceIdeal.nD Cert.GdnSampleReferenceIdeal.τ).loc Cert.GdnSampleReferenceIdeal.main_v133) = valY (m' ((c.tc : Thread Cert.GdnSampleReferenceIdeal.nD Cert.GdnSampleReferenceIdeal.τ).loc Cert.GdnSampleReferenceIdeal.main_arg0)) (m' ((c.tc : Thread Cert.GdnSampleReferenceIdeal.nD Cert.GdnSampleReferenceIdeal.τ).loc Cert.GdnSampleReferenceIdeal.main_arg1)) (m' ((c.tc : Thread Cert.GdnSampleReferenceIdeal.nD Cert.GdnSampleReferenceIdeal.τ).loc Cert.GdnSampleReferenceIdeal.main_arg2)) (m' ((c.tc : Thread Cert.GdnSampleReferenceIdeal.nD Cert.GdnSampleReferenceIdeal.τ).loc Cert.GdnSampleReferenceIdeal.main_arg3)) (m' ((c.tc : Thread Cert.GdnSampleReferenceIdeal.nD Cert.GdnSampleReferenceIdeal.τ).loc Cert.GdnSampleReferenceIdeal.main_arg4)) (m' ((c.tc : Thread Cert.GdnSampleReferenceIdeal.nD Cert.GdnSampleReferenceIdeal.τ).loc Cert.GdnSampleReferenceIdeal.main_arg5)) (m' ((c.tc : Thread Cert.GdnSampleReferenceIdeal.nD Cert.GdnSampleReferenceIdeal.τ).loc Cert.GdnSampleReferenceIdeal.main_arg6)) (m' ((c.tc : Thread Cert.GdnSampleReferenceIdeal.nD Cert.GdnSampleReferenceIdeal.τ).loc Cert.GdnSampleReferenceIdeal.main_arg7)) (m' ((c.tc : Thread Cert.GdnSampleReferenceIdeal.nD Cert.GdnSampleReferenceIdeal.τ).loc Cert.GdnSampleReferenceIdeal.main_arg8))
      ∧ r.2.mem ((c.tc : Thread Cert.GdnSampleReferenceIdeal.nD Cert.GdnSampleReferenceIdeal.τ).loc Cert.GdnSampleReferenceIdeal.main_v114) = valS (m' ((c.tc : Thread Cert.GdnSampleReferenceIdeal.nD Cert.GdnSampleReferenceIdeal.τ).loc Cert.GdnSampleReferenceIdeal.main_arg0)) (m' ((c.tc : Thread Cert.GdnSampleReferenceIdeal.nD Cert.GdnSampleReferenceIdeal.τ).loc Cert.GdnSampleReferenceIdeal.main_arg1)) (m' ((c.tc : Thread Cert.GdnSampleReferenceIdeal.nD Cert.GdnSampleReferenceIdeal.τ).loc Cert.GdnSampleReferenceIdeal.main_arg2)) (m' ((c.tc : Thread Cert.GdnSampleReferenceIdeal.nD Cert.GdnSampleReferenceIdeal.τ).loc Cert.GdnSampleReferenceIdeal.main_arg4)) (m' ((c.tc : Thread Cert.GdnSampleReferenceIdeal.nD Cert.GdnSampleReferenceIdeal.τ).loc Cert.GdnSampleReferenceIdeal.main_arg5)) (m' ((c.tc : Thread Cert.GdnSampleReferenceIdeal.nD Cert.GdnSampleReferenceIdeal.τ).loc Cert.GdnSampleReferenceIdeal.main_arg6)) (m' ((c.tc : Thread Cert.GdnSampleReferenceIdeal.nD Cert.GdnSampleReferenceIdeal.τ).loc Cert.GdnSampleReferenceIdeal.main_arg7))
      ∧ r.2.mem ((c.tc : Thread Cert.GdnSampleReferenceIdeal.nD Cert.GdnSampleReferenceIdeal.τ).loc Cert.GdnSampleReferenceIdeal.main_arg0) = m' ((c.tc : Thread Cert.GdnSampleReferenceIdeal.nD Cert.GdnSampleReferenceIdeal.τ).loc Cert.GdnSampleReferenceIdeal.main_arg0)
      ∧ r.2.mem ((c.tc : Thread Cert.GdnSampleReferenceIdeal.nD Cert.GdnSampleReferenceIdeal.τ).loc Cert.GdnSampleReferenceIdeal.main_arg1) = m' ((c.tc : Thread Cert.GdnSampleReferenceIdeal.nD Cert.GdnSampleReferenceIdeal.τ).loc Cert.GdnSampleReferenceIdeal.main_arg1)
      ∧ r.2.mem ((c.tc : Thread Cert.GdnSampleReferenceIdeal.nD Cert.GdnSampleReferenceIdeal.τ).loc Cert.GdnSampleReferenceIdeal.main_arg2) = m' ((c.tc : Thread Cert.GdnSampleReferenceIdeal.nD Cert.GdnSampleReferenceIdeal.τ).loc Cert.GdnSampleReferenceIdeal.main_arg2)
      ∧ r.2.mem ((c.tc : Thread Cert.GdnSampleReferenceIdeal.nD Cert.GdnSampleReferenceIdeal.τ).loc Cert.GdnSampleReferenceIdeal.main_arg3) = m' ((c.tc : Thread Cert.GdnSampleReferenceIdeal.nD Cert.GdnSampleReferenceIdeal.τ).loc Cert.GdnSampleReferenceIdeal.main_arg3)
      ∧ r.2.mem ((c.tc : Thread Cert.GdnSampleReferenceIdeal.nD Cert.GdnSampleReferenceIdeal.τ).loc Cert.GdnSampleReferenceIdeal.main_arg4) = m' ((c.tc : Thread Cert.GdnSampleReferenceIdeal.nD Cert.GdnSampleReferenceIdeal.τ).loc Cert.GdnSampleReferenceIdeal.main_arg4)
      ∧ r.2.mem ((c.tc : Thread Cert.GdnSampleReferenceIdeal.nD Cert.GdnSampleReferenceIdeal.τ).loc Cert.GdnSampleReferenceIdeal.main_arg5) = m' ((c.tc : Thread Cert.GdnSampleReferenceIdeal.nD Cert.GdnSampleReferenceIdeal.τ).loc Cert.GdnSampleReferenceIdeal.main_arg5)
      ∧ r.2.mem ((c.tc : Thread Cert.GdnSampleReferenceIdeal.nD Cert.GdnSampleReferenceIdeal.τ).loc Cert.GdnSampleReferenceIdeal.main_arg6) = m' ((c.tc : Thread Cert.GdnSampleReferenceIdeal.nD Cert.GdnSampleReferenceIdeal.τ).loc Cert.GdnSampleReferenceIdeal.main_arg6)
      ∧ r.2.mem ((c.tc : Thread Cert.GdnSampleReferenceIdeal.nD Cert.GdnSampleReferenceIdeal.τ).loc Cert.GdnSampleReferenceIdeal.main_arg7) = m' ((c.tc : Thread Cert.GdnSampleReferenceIdeal.nD Cert.GdnSampleReferenceIdeal.τ).loc Cert.GdnSampleReferenceIdeal.main_arg7)
      ∧ r.2.mem ((c.tc : Thread Cert.GdnSampleReferenceIdeal.nD Cert.GdnSampleReferenceIdeal.τ).loc Cert.GdnSampleReferenceIdeal.main_arg8) = m' ((c.tc : Thread Cert.GdnSampleReferenceIdeal.nD Cert.GdnSampleReferenceIdeal.τ).loc Cert.GdnSampleReferenceIdeal.main_arg8) :=
  (θ_run _ _ _).mono (fun r h c => ⟨(h c).1.trans (Cert.GdnSampleReferenceIdeal.Step.outputs _ _ _ _ _ _ _ _ _ _ rfl rfl rfl rfl rfl rfl rfl rfl rfl),
    (h c).2.1.trans (Cert.GdnSampleReferenceIdeal.Step.states _ _ _ _ _ _ _ _ rfl rfl rfl rfl rfl rfl rfl), (h c).2.2⟩) (Cert.GdnSampleReferenceIdeal.Value.run m' g')

end Cert.GdnSampleIdeal.Step

end
-- ==== Proof.lean ====
/- The claims of the certificate: for each call the frames, the kept text and the equality of its values with its reference's.
   The values are proved in the modules `Proof/…Pair.lean`; the frames are the generated ones. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.GdnPair
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemIdeal.Value
public import proofs.«01_k».proof.Proof.Gen.MemReferenceIdeal
public import proofs.«01_k».proof.Proof.Gen.MemReferenceIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSample.Frame
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleIdeal.Value
public import proofs.«01_k».proof.Proof.Gen.InprojSampleReferenceIdeal
public import proofs.«01_k».proof.Proof.Gen.InprojSampleReferenceIdeal.Run
public import proofs.«01_k».proof.Proof.Gen.GdnSample
public import proofs.«01_k».proof.Proof.Gen.GdnSample.Skeleton
public import proofs.«01_k».proof.Proof.Gen.GdnSample.Launch
public import proofs.«01_k».proof.Proof.Gen.GdnSample.Points
public import proofs.«01_k».proof.Proof.Gen.GdnSample.Frame
public import proofs.«01_k».proof.Proof.Gen.GdnSampleIdeal
public import proofs.«01_k».proof.Proof.Gen.GdnSampleIdeal.Skeleton
public import proofs.«01_k».proof.Proof.Gen.GdnSampleIdeal.Launch
public import proofs.«01_k».proof.Proof.Gen.GdnSampleIdeal.Points
public import proofs.«01_k».proof.Proof.Gen.GdnSampleIdeal.Frame
public import proofs.«01_k».proof.Proof.Gen.GdnSampleIdeal.Value
public import proofs.«01_k».proof.Proof.Gen.GdnSampleReferenceIdeal
public import proofs.«01_k».proof.Proof.Gen.GdnSampleReferenceIdeal.Run
public import proofs.«01_k».proof.Proof.FfnPair
public import proofs.«01_k».proof.Proof.InprojPair
public import proofs.«01_k».proof.Proof.OutprojPair
public import proofs.«01_k».proof.Proof.MemPair
public import proofs.«01_k».proof.Proof.MemKvPair
public import proofs.«01_k».proof.Proof.FfnSamplePair
public import proofs.«01_k».proof.Proof.InprojSamplePair
public import proofs.«01_k».proof.Proof.GdnStepPair
public import Idealize.ShloMosaic.Adequacy
public import Idealize.ShloMosaic.Init

@[expose] public section

noncomputable section

namespace Cert.Proof

open Idealize.ShloMosaic Idealize.SL.Sem Cert.Kernel

/-- The kernel and the reference end with equal arrays. -/
theorem gdn : Cert.algebraic_KernelIdeal_ReferenceIdeal (hKernelIdeal := Cert.KernelIdeal.Gen.facts) (hReferenceIdeal := Cert.ReferenceIdeal.Gen.facts) :=
  fun m g m' g' _ hm =>
    ⟨fun c => Cert.KernelIdeal.Value.G8 m c, fun c => Cert.KernelIdeal.Value.G9 m c, Cert.KernelIdeal.Value.run m g,
      (θ_run _ _ _).mono (fun r h c => by
        obtain ⟨h0, h1, h2, h3, h4, h5, h6, h7⟩ := hm c
        exact ⟨(h c).1.trans (Cert.Gdn.rows_eq m m' c h0 h1 h2 h3 h4 h5 h6 h7), (h c).2.1.trans (Cert.Gdn.states_eq m m' c h0 h1 h2 h3 h4 h5), (h c).2.2⟩)
        (Cert.ReferenceIdeal.Value.run m' g')⟩

/-- The reference leaves its arguments, and it declares no semaphore. -/
theorem gdn_reference : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩) (Cert.ReferenceIdeal.Value.run m ρ)

/-- The feed-forward block: the kernel and the reference end with equal arrays. -/
theorem ffn : Cert.algebraic_FfnIdeal_FfnReferenceIdeal (hFfnIdeal := Cert.FfnIdeal.Gen.facts) (hFfnReferenceIdeal := Cert.FfnReferenceIdeal.Gen.facts) :=
  fun m g m' g' _ hm =>
    ⟨fun c => (Cert.FfnIdeal.Gen.dats m 0 c).arrAt 5 Cert.FfnIdeal.cfg0.N, Cert.FfnIdeal.Value.run_blocks m g,
      (θ_run _ _ _).mono (fun r h c => by
        obtain ⟨h0, h1, h2, h3⟩ := hm c
        exact ⟨(h c).1.trans (Cert.FfnIdeal.Ffn.pair m m' c h0 h1 h2 h3), (h c).2⟩) (Cert.FfnReferenceIdeal.Value.run m' g')⟩

/-- The feed-forward block's reference leaves its arguments, and it declares no semaphore. -/
theorem ffn_reference : Cert.quiescent_FfnReferenceIdeal (hFfnReferenceIdeal := Cert.FfnReferenceIdeal.Gen.facts) :=
  fun m ρ _ => (θ_run _ _ _).mono (fun r h => ⟨fun c => (h c).2, sem_eq_zero_of_no_sems (by decide) r.2⟩) (Cert.FfnReferenceIdeal.Value.run m ρ)

/-- The input projection: the kernel and the reference end with equal arrays. -/
theorem inproj : Cert.algebraic_InprojIdeal_InprojReferenceIdeal (hInprojIdeal := Cert.InprojIdeal.Gen.facts) (hInprojReferenceIdeal := Cert.InprojReferenceIdeal.Gen.facts) :=
  fun m g m' g' _ hm =>
    ⟨fun c => (Cert.InprojIdeal.Gen.dats m 0 c).arrAt 7 Cert.InprojIdeal.cfg0.N, fun c => (Cert.InprojIdeal.Gen.dats m 0 c).arrAt 8 Cert.InprojIdeal.cfg0.N, fun c => (Cert.InprojIdeal.Gen.dats m 0 c).arrAt 9 Cert.InprojIdeal.cfg0.N,
      fun c => (Cert.InprojIdeal.Gen.dats m 0 c).arrAt 10 Cert.InprojIdeal.cfg0.N, fun c => (Cert.InprojIdeal.Gen.dats m 0 c).arrAt 11 Cert.InprojIdeal.cfg0.N, fun c => (Cert.InprojIdeal.Gen.dats m 0 c).arrAt 12 Cert.InprojIdeal.cfg0.N,
      fun c => (Cert.InprojIdeal.Gen.dats m 0 c).arrAt 13 Cert.InprojIdeal.cfg0.N, fun c => (Cert.InprojIdeal.Gen.dats m 0 c).arrAt 14 Cert.InprojIdeal.cfg0.N, fun c => (Cert.InprojIdeal.Gen.dats m 0 c).arrAt 15 Cert.InprojIdeal.cfg0.N,
      Cert.InprojIdeal.Value.run_blocks m g,
      (θ_run _ _ _).mono (fun r h c => by
        obtain ⟨h0, h1, h2, h3, h4, h5, h6⟩ := hm c
        obtain ⟨r7, r8, r9, r10, r11, r12, r13, r14, r15, hk⟩ := h c
        exact ⟨r7.trans (Cert.InprojIdeal.Inproj.pair7 m m' c h0 h1 h2 h3 h4 h5),
          r8.trans (Cert.InprojIdeal.Inproj.pair8 m m' c h0 h1 h2 h3 h4 h5),
          r9.trans (Cert.InprojIdeal.Inproj.pair9 m m' c h0 h1 h2 h3 h4 h5),
          r10.trans (Cert.InprojIdeal.Inproj.pair10 m m' c h0 h1 h2 h3 h4 h5 h6),
          r11.trans (Cert.InprojIdeal.Inproj.pair11 m m' c h0 h1 h2),
          r12.trans (Cert.InprojIdeal.Inproj.pair12 m m' c h0 h1 h2 h3 h4 h5),
          r13.trans (Cert.InprojIdeal.Inproj.pair13 m m' c h0 h1 h2),
          r14.trans (Cert.InprojIdeal.Inproj.pair14 m m' c h0 h1 h2),
          r15.trans (Cert.InprojIdeal.Inproj.pair15 m m' c h0 h1 h2), hk⟩) (Cert.InprojReferenceIdeal.Inproj.reference_run m' g')⟩

/-- The input projection's reference leaves its arguments, and it declares no semaphore. -/
theorem inproj_reference : Cert.quiescent_InprojReferenceIdeal (hInprojReferenceIdeal := Cert.InprojReferenceIdeal.Gen.facts) :=
  fun m ρ _ => (θ_run _ _ _).mono (fun r h => ⟨fun c => (h c).2.2.2.2.2.2.2.2.2, sem_eq_zero_of_no_sems (by decide) r.2⟩) (Cert.InprojReferenceIdeal.Value.run m ρ)

/-- The output projection: the kernel and the reference end with equal arrays. -/
theorem outproj : Cert.algebraic_OutprojIdeal_OutprojReferenceIdeal (hOutprojIdeal := Cert.OutprojIdeal.Gen.facts) (hOutprojReferenceIdeal := Cert.OutprojReferenceIdeal.Gen.facts) :=
  fun m g m' g' _ hm =>
    ⟨fun c => (Cert.OutprojIdeal.Gen.dats m 0 c).arrAt 5 Cert.OutprojIdeal.cfg0.N, Cert.OutprojIdeal.Value.run_blocks m g,
      (θ_run _ _ _).mono (fun r h c => by
        obtain ⟨h0, h1, h2, h3, h4⟩ := hm c
        refine ⟨(h c).1.trans ?_, (h c).2⟩
        rw [h0, h1, h2, h3, h4]
        exact (Cert.OutprojIdeal.Outproj.final m c).symm) (Cert.OutprojIdeal.Outproj.reference_run m' g')⟩

/-- The output projection's reference leaves its arguments, and it declares no semaphore. -/
theorem outproj_reference : Cert.quiescent_OutprojReferenceIdeal (hOutprojReferenceIdeal := Cert.OutprojReferenceIdeal.Gen.facts) :=
  fun m ρ _ => (θ_run _ _ _).mono (fun r h => ⟨fun c => (h c).2, sem_eq_zero_of_no_sems (by decide) r.2⟩) (Cert.OutprojReferenceIdeal.Value.run m ρ)

/-- The memory attention: the kernel and the reference end with equal arrays. -/
theorem mem : Cert.algebraic_MemIdeal_MemReferenceIdeal (hMemIdeal := Cert.MemIdeal.Gen.facts) (hMemReferenceIdeal := Cert.MemReferenceIdeal.Gen.facts) :=
  fun m g m' g' _ hm =>
    ⟨fun c => (Cert.MemIdeal.Gen.dats m 0 c).arrAt 6 Cert.MemIdeal.cfg0.N, Cert.MemIdeal.Value.run_blocks m g,
      (θ_run _ _ _).mono (fun r h c => by
        obtain ⟨h0, h1, h2, h3, h4⟩ := hm c
        refine ⟨(h c).1.trans ?_, (h c).2⟩
        rw [h0, h1, h2, h3, h4]
        exact (Cert.MemIdeal.Mem.final m c).symm) (Cert.MemIdeal.Mem.reference_run m' g')⟩

/-- The memory attention's reference leaves its arguments, and it declares no semaphore. -/
theorem mem_reference : Cert.quiescent_MemReferenceIdeal (hMemReferenceIdeal := Cert.MemReferenceIdeal.Gen.facts) :=
  fun m ρ _ => (θ_run _ _ _).mono (fun r h => ⟨fun c => (h c).2, sem_eq_zero_of_no_sems (by decide) r.2⟩) (Cert.MemReferenceIdeal.Value.run m ρ)

/-- The memory's key/value projection: the kernel and the reference end with equal arrays. -/
theorem memkv : Cert.algebraic_MemKvIdeal_MemKvReferenceIdeal (hMemKvIdeal := Cert.MemKvIdeal.Gen.facts) (hMemKvReferenceIdeal := Cert.MemKvReferenceIdeal.Gen.facts) :=
  fun m g m' g' _ hm =>
    ⟨fun c => (Cert.MemKvIdeal.Gen.dats m 0 c).arrAt 3 Cert.MemKvIdeal.cfg0.N, Cert.MemKvIdeal.Value.run_blocks m g,
      (θ_run _ _ _).mono (fun r h c => by
        obtain ⟨h0, h1, h2⟩ := hm c
        refine ⟨(h c).1.trans ?_, (h c).2⟩
        rw [h0, h1, h2]
        exact (Cert.MemKvIdeal.MemKv.final m c).symm) (Cert.MemKvIdeal.MemKv.reference_run m' g')⟩

/-- The memory's key/value projection's reference leaves its arguments, and it declares no semaphore. -/
theorem memkv_reference : Cert.quiescent_MemKvReferenceIdeal (hMemKvReferenceIdeal := Cert.MemKvReferenceIdeal.Gen.facts) :=
  fun m ρ _ => (θ_run _ _ _).mono (fun r h => ⟨fun c => (h c).2, sem_eq_zero_of_no_sems (by decide) r.2⟩) (Cert.MemKvReferenceIdeal.Value.run m ρ)

/-- The feed-forward block of the sample batch: the kernel and the reference end with equal arrays. -/
theorem ffn_sample : Cert.algebraic_FfnSampleIdeal_FfnSampleReferenceIdeal (hFfnSampleIdeal := Cert.FfnSampleIdeal.Gen.facts) (hFfnSampleReferenceIdeal := Cert.FfnSampleReferenceIdeal.Gen.facts) :=
  fun m g m' g' _ hm =>
    ⟨fun c => (Cert.FfnSampleIdeal.Gen.dats m 0 c).arrAt 5 Cert.FfnSampleIdeal.cfg0.N, Cert.FfnSampleIdeal.Value.run_blocks m g,
      (θ_run _ _ _).mono (fun r h c => by
        obtain ⟨h0, h1, h2, h3⟩ := hm c
        exact ⟨(h c).1.trans (Cert.FfnSampleIdeal.Ffn.pair m m' c h0 h1 h2 h3), (h c).2⟩) (Cert.FfnSampleReferenceIdeal.Value.run m' g')⟩

/-- The feed-forward block of the sample batch's reference leaves its arguments, and it declares no semaphore. -/
theorem ffn_sample_reference : Cert.quiescent_FfnSampleReferenceIdeal (hFfnSampleReferenceIdeal := Cert.FfnSampleReferenceIdeal.Gen.facts) :=
  fun m ρ _ => (θ_run _ _ _).mono (fun r h => ⟨fun c => (h c).2, sem_eq_zero_of_no_sems (by decide) r.2⟩) (Cert.FfnSampleReferenceIdeal.Value.run m ρ)

/-- The input projection of the sample batch: the kernel and the reference end with equal arrays. -/
theorem inproj_sample : Cert.algebraic_InprojSampleIdeal_InprojSampleReferenceIdeal (hInprojSampleIdeal := Cert.InprojSampleIdeal.Gen.facts) (hInprojSampleReferenceIdeal := Cert.InprojSampleReferenceIdeal.Gen.facts) :=
  fun m g m' g' _ hm =>
    ⟨fun c => (Cert.InprojSampleIdeal.Gen.dats m 0 c).arrAt 7 Cert.InprojSampleIdeal.cfg0.N, fun c => (Cert.InprojSampleIdeal.Gen.dats m 0 c).arrAt 8 Cert.InprojSampleIdeal.cfg0.N, fun c => (Cert.InprojSampleIdeal.Gen.dats m 0 c).arrAt 9 Cert.InprojSampleIdeal.cfg0.N,
      fun c => (Cert.InprojSampleIdeal.Gen.dats m 0 c).arrAt 10 Cert.InprojSampleIdeal.cfg0.N, fun c => (Cert.InprojSampleIdeal.Gen.dats m 0 c).arrAt 11 Cert.InprojSampleIdeal.cfg0.N, fun c => (Cert.InprojSampleIdeal.Gen.dats m 0 c).arrAt 12 Cert.InprojSampleIdeal.cfg0.N,
      fun c => (Cert.InprojSampleIdeal.Gen.dats m 0 c).arrAt 13 Cert.InprojSampleIdeal.cfg0.N, fun c => (Cert.InprojSampleIdeal.Gen.dats m 0 c).arrAt 14 Cert.InprojSampleIdeal.cfg0.N, fun c => (Cert.InprojSampleIdeal.Gen.dats m 0 c).arrAt 15 Cert.InprojSampleIdeal.cfg0.N,
      Cert.InprojSampleIdeal.Value.run_blocks m g,
      (θ_run _ _ _).mono (fun r h c => by
        obtain ⟨h0, h1, h2, h3, h4, h5, h6⟩ := hm c
        obtain ⟨r7, r8, r9, r10, r11, r12, r13, r14, r15, hk⟩ := h c
        exact ⟨r7.trans (Cert.InprojSampleIdeal.Inproj.pair7 m m' c h0 h1 h2 h3 h4 h5),
          r8.trans (Cert.InprojSampleIdeal.Inproj.pair8 m m' c h0 h1 h2 h3 h4 h5),
          r9.trans (Cert.InprojSampleIdeal.Inproj.pair9 m m' c h0 h1 h2 h3 h4 h5),
          r10.trans (Cert.InprojSampleIdeal.Inproj.pair10 m m' c h0 h1 h2 h3 h4 h5 h6),
          r11.trans (Cert.InprojSampleIdeal.Inproj.pair11 m m' c h0 h1 h2),
          r12.trans (Cert.InprojSampleIdeal.Inproj.pair12 m m' c h0 h1 h2 h3 h4 h5),
          r13.trans (Cert.InprojSampleIdeal.Inproj.pair13 m m' c h0 h1 h2),
          r14.trans (Cert.InprojSampleIdeal.Inproj.pair14 m m' c h0 h1 h2),
          r15.trans (Cert.InprojSampleIdeal.Inproj.pair15 m m' c h0 h1 h2), hk⟩) (Cert.InprojSampleReferenceIdeal.Inproj.reference_run m' g')⟩

/-- The input projection of the sample batch's reference leaves its arguments, and it declares no semaphore. -/
theorem inproj_sample_reference : Cert.quiescent_InprojSampleReferenceIdeal (hInprojSampleReferenceIdeal := Cert.InprojSampleReferenceIdeal.Gen.facts) :=
  fun m ρ _ => (θ_run _ _ _).mono (fun r h => ⟨fun c => (h c).2.2.2.2.2.2.2.2.2, sem_eq_zero_of_no_sems (by decide) r.2⟩) (Cert.InprojSampleReferenceIdeal.Value.run m ρ)

/-- The recurrence step of the sample batch: the kernel and the reference end with equal states and equal outputs. -/
theorem gdn_sample : Cert.algebraic_GdnSampleIdeal_GdnSampleReferenceIdeal (hGdnSampleIdeal := Cert.GdnSampleIdeal.Gen.facts) (hGdnSampleReferenceIdeal := Cert.GdnSampleReferenceIdeal.Gen.facts) :=
  fun m g m' g' _ hm =>
    ⟨fun c => (Cert.GdnSampleIdeal.Gen.dats m 0 c).arrAt 9 Cert.GdnSampleIdeal.cfg0.N, fun c => (Cert.GdnSampleIdeal.Gen.dats m 0 c).arrAt 10 Cert.GdnSampleIdeal.cfg0.N, Cert.GdnSampleIdeal.Value.run_blocks m g,
      (θ_run _ _ _).mono (fun r h c => by
        obtain ⟨h0, h1, h2, h3, h4, h5, h6, h7, h8⟩ := hm c
        obtain ⟨r9, r10, hk⟩ := h c
        exact ⟨r9.trans (Cert.GdnSampleIdeal.Step.pair9 m m' c h0 h1 h2 h3 h4 h5 h6 h7 h8), r10.trans (Cert.GdnSampleIdeal.Step.pair10 m m' c h0 h1 h2 h4 h5 h6 h7), hk⟩) (Cert.GdnSampleIdeal.Step.reference_run m' g')⟩

/-- The recurrence step of the sample batch's reference leaves its arguments, and it declares no semaphore. -/
theorem gdn_sample_reference : Cert.quiescent_GdnSampleReferenceIdeal (hGdnSampleReferenceIdeal := Cert.GdnSampleReferenceIdeal.Gen.facts) :=
  fun m ρ _ => (θ_run _ _ _).mono (fun r h => ⟨fun c => (h c).2.2, sem_eq_zero_of_no_sems (by decide) r.2⟩) (Cert.GdnSampleReferenceIdeal.Value.run m ρ)

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Inproj.Gen.facts, Cert.InprojIdeal.Gen.facts, Cert.InprojReferenceIdeal.Gen.facts, Cert.Outproj.Gen.facts, Cert.OutprojIdeal.Gen.facts, Cert.OutprojReferenceIdeal.Gen.facts, Cert.Mem.Gen.facts, Cert.MemIdeal.Gen.facts, Cert.MemReferenceIdeal.Gen.facts, Cert.MemKv.Gen.facts, Cert.MemKvIdeal.Gen.facts, Cert.MemKvReferenceIdeal.Gen.facts, Cert.FfnSample.Gen.facts, Cert.FfnSampleIdeal.Gen.facts, Cert.FfnSampleReferenceIdeal.Gen.facts, Cert.InprojSample.Gen.facts, Cert.InprojSampleIdeal.Gen.facts, Cert.InprojSampleReferenceIdeal.Gen.facts, Cert.GdnSample.Gen.facts, Cert.GdnSampleIdeal.Gen.facts, Cert.GdnSampleReferenceIdeal.Gen.facts,
  fun m ρ _ => Cert.Kernel.Gen.frame m ρ, fun m ρ _ => Cert.KernelIdeal.Gen.frame m ρ, gdn_reference,
  fun m ρ _ => Cert.Ffn.Gen.frame m ρ, fun m ρ _ => Cert.FfnIdeal.Gen.frame m ρ, ffn_reference,
  fun m ρ _ => Cert.Inproj.Gen.frame m ρ, fun m ρ _ => Cert.InprojIdeal.Gen.frame m ρ, inproj_reference,
  fun m ρ _ => Cert.Outproj.Gen.frame m ρ, fun m ρ _ => Cert.OutprojIdeal.Gen.frame m ρ, outproj_reference,
  fun m ρ _ => Cert.Mem.Gen.frame m ρ, fun m ρ _ => Cert.MemIdeal.Gen.frame m ρ, mem_reference,
  fun m ρ _ => Cert.MemKv.Gen.frame m ρ, fun m ρ _ => Cert.MemKvIdeal.Gen.frame m ρ, memkv_reference,
  fun m ρ _ => Cert.FfnSample.Gen.frame m ρ, fun m ρ _ => Cert.FfnSampleIdeal.Gen.frame m ρ, ffn_sample_reference,
  fun m ρ _ => Cert.InprojSample.Gen.frame m ρ, fun m ρ _ => Cert.InprojSampleIdeal.Gen.frame m ρ, inproj_sample_reference,
  fun m ρ _ => Cert.GdnSample.Gen.frame m ρ, fun m ρ _ => Cert.GdnSampleIdeal.Gen.frame m ρ, gdn_sample_reference,
  trivial, gdn, trivial, ffn, trivial, inproj, trivial, outproj, trivial, mem, trivial, memkv, trivial, ffn_sample, trivial, inproj_sample, trivial, gdn_sample⟩

end Cert.Proof

end
